-- ==== Defs.lean ====
def Pre_WaKernel (m : (ℓ : Loc Cert.WaKernel.nD Cert.WaKernel.τ Cert.WaKernel.sig) → Buf (Elt Bits) ℓ) : Prop :=
  True

def Pre_WaKernelIdeal (m : (ℓ : Loc Cert.WaKernelIdeal.nD Cert.WaKernelIdeal.τ Cert.WaKernelIdeal.sig) → Buf (Elt Ideal) ℓ) : Prop :=
  True

def Pre_WaKernelIdeal_wa_finite [hPre_wa_finite : Cert.Pre_wa_finite.Facts] (m : (ℓ : Loc Cert.WaKernelIdeal.nD Cert.WaKernelIdeal.τ Cert.WaKernelIdeal.sig) → Buf (Elt Ideal) ℓ) : Prop :=
  ∀ c : Dev Cert.WaKernelIdeal.nD,
    (Cert.Pre_wa_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).1 = (fun _ => 1#1)
    ∧ (Cert.Pre_wa_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).2.1 = (fun _ => 1#1)
    ∧ (Cert.Pre_wa_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).2.2 = (fun _ => 1#1)

def Pre_WaReferenceIdeal (m : (ℓ : Loc Cert.WaReferenceIdeal.nD Cert.WaReferenceIdeal.τ Cert.WaReferenceIdeal.sig) → Buf (Elt Ideal) ℓ) : Prop :=
  True

def Pre_WaReferenceIdeal_wa_finite [hPre_wa_finite : Cert.Pre_wa_finite.Facts] (m : (ℓ : Loc Cert.WaReferenceIdeal.nD Cert.WaReferenceIdeal.τ Cert.WaReferenceIdeal.sig) → Buf (Elt Ideal) ℓ) : Prop :=
  ∀ c : Dev Cert.WaReferenceIdeal.nD,
    (Cert.Pre_wa_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).1 = (fun _ => 1#1)
    ∧ (Cert.Pre_wa_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).2.1 = (fun _ => 1#1)
    ∧ (Cert.Pre_wa_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).2.2 = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_post_finite [hPre_post_finite : Cert.Pre_post_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.2.2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.2.2.2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.2.2.2.2.1 = (fun _ => 1#1)
    ∧ (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7))).2.2.2.2.2.2.2 = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_post_finite [hPre_post_finite : Cert.Pre_post_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.2.2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.2.2.2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.2.2.2.2.1 = (fun _ => 1#1)
    ∧ (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))).2.2.2.2.2.2.2 = (fun _ => 1#1)

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreKernelIdeal_pre_finite [hPre_pre_finite : Cert.Pre_pre_finite.Facts] (m : (ℓ : Loc Cert.PreKernelIdeal.nD Cert.PreKernelIdeal.τ Cert.PreKernelIdeal.sig) → Buf (Elt Ideal) ℓ) : Prop :=
  ∀ c : Dev Cert.PreKernelIdeal.nD,
    (Cert.Pre_pre_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6)) (m ((c.tc : Thread Cert.PreKernelIdeal.nD Cert.PreKernelIdeal.τ).loc Cert.PreKernelIdeal.main_arg7)) (m ((c.tc : Thread Cert.PreKernelIdeal.nD Cert.PreKernelIdeal.τ).loc Cert.PreKernelIdeal.main_arg8)) (m ((c.tc : Thread Cert.PreKernelIdeal.nD Cert.PreKernelIdeal.τ).loc Cert.PreKernelIdeal.main_arg9))).1 = (fun _ => 1#1)
    ∧ (Cert.Pre_pre_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6)) (m ((c.tc : Thread Cert.PreKernelIdeal.nD Cert.PreKernelIdeal.τ).loc Cert.PreKernelIdeal.main_arg7)) (m ((c.tc : Thread Cert.PreKernelIdeal.nD Cert.PreKernelIdeal.τ).loc Cert.PreKernelIdeal.main_arg8)) (m ((c.tc : Thread Cert.PreKernelIdeal.nD Cert.PreKernelIdeal.τ).loc Cert.PreKernelIdeal.main_arg9))).2.1 = (fun _ => 1#1)
    ∧ (Cert.Pre_pre_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6)) (m ((c.tc : Thread Cert.PreKernelIdeal.nD Cert.PreKernelIdeal.τ).loc Cert.PreKernelIdeal.main_arg7)) (m ((c.tc : Thread Cert.PreKernelIdeal.nD Cert.PreKernelIdeal.τ).loc Cert.PreKernelIdeal.main_arg8)) (m ((c.tc : Thread Cert.PreKernelIdeal.nD Cert.PreKernelIdeal.τ).loc Cert.PreKernelIdeal.main_arg9))).2.2.1 = (fun _ => 1#1)
    ∧ (Cert.Pre_pre_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6)) (m ((c.tc : Thread Cert.PreKernelIdeal.nD Cert.PreKernelIdeal.τ).loc Cert.PreKernelIdeal.main_arg7)) (m ((c.tc : Thread Cert.PreKernelIdeal.nD Cert.PreKernelIdeal.τ).loc Cert.PreKernelIdeal.main_arg8)) (m ((c.tc : Thread Cert.PreKernelIdeal.nD Cert.PreKernelIdeal.τ).loc Cert.PreKernelIdeal.main_arg9))).2.2.2 = (fun _ => 1#1)

def Pre_PreReferenceIdeal (m : (ℓ : Loc Cert.PreReferenceIdeal.nD Cert.PreReferenceIdeal.τ Cert.PreReferenceIdeal.sig) → Buf (Elt Ideal) ℓ) : Prop :=
  True

def Pre_PreReferenceIdeal_pre_finite [hPre_pre_finite : Cert.Pre_pre_finite.Facts] (m : (ℓ : Loc Cert.PreReferenceIdeal.nD Cert.PreReferenceIdeal.τ Cert.PreReferenceIdeal.sig) → Buf (Elt Ideal) ℓ) : Prop :=
  ∀ c : Dev Cert.PreReferenceIdeal.nD,
    (Cert.Pre_pre_finite.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4)) (m ((c.tc : Thread Cert.PreReferenceIdeal.nD Cert.PreReferenceIdeal.τ).loc Cert.PreReferenceIdeal.main_arg5)) (m ((c.tc : Thread Cert.PreReferenceIdeal.nD Cert.PreReferenceIdeal.τ).loc Cert.PreReferenceIdeal.main_arg6)) (m ((c.tc : Thread Cert.PreReferenceIdeal.nD Cert.PreReferenceIdeal.τ).loc Cert.PreReferenceIdeal.main_arg7)) (m ((c.tc : Thread Cert.PreReferenceIdeal.nD Cert.PreReferenceIdeal.τ).loc Cert.PreReferenceIdeal.main_arg8)) (m ((c.tc : Thread Cert.PreReferenceIdeal.nD Cert.PreReferenceIdeal.τ).loc Cert.PreReferenceIdeal.main_arg9))).1 = (fun _ => 1#1)
    ∧ (Cert.Pre_pre_finite.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4)) (m ((c.tc : Thread Cert.PreReferenceIdeal.nD Cert.PreReferenceIdeal.τ).loc Cert.PreReferenceIdeal.main_arg5)) (m ((c.tc : Thread Cert.PreReferenceIdeal.nD Cert.PreReferenceIdeal.τ).loc Cert.PreReferenceIdeal.main_arg6)) (m ((c.tc : Thread Cert.PreReferenceIdeal.nD Cert.PreReferenceIdeal.τ).loc Cert.PreReferenceIdeal.main_arg7)) (m ((c.tc : Thread Cert.PreReferenceIdeal.nD Cert.PreReferenceIdeal.τ).loc Cert.PreReferenceIdeal.main_arg8)) (m ((c.tc : Thread Cert.PreReferenceIdeal.nD Cert.PreReferenceIdeal.τ).loc Cert.PreReferenceIdeal.main_arg9))).2.1 = (fun _ => 1#1)
    ∧ (Cert.Pre_pre_finite.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4)) (m ((c.tc : Thread Cert.PreReferenceIdeal.nD Cert.PreReferenceIdeal.τ).loc Cert.PreReferenceIdeal.main_arg5)) (m ((c.tc : Thread Cert.PreReferenceIdeal.nD Cert.PreReferenceIdeal.τ).loc Cert.PreReferenceIdeal.main_arg6)) (m ((c.tc : Thread Cert.PreReferenceIdeal.nD Cert.PreReferenceIdeal.τ).loc Cert.PreReferenceIdeal.main_arg7)) (m ((c.tc : Thread Cert.PreReferenceIdeal.nD Cert.PreReferenceIdeal.τ).loc Cert.PreReferenceIdeal.main_arg8)) (m ((c.tc : Thread Cert.PreReferenceIdeal.nD Cert.PreReferenceIdeal.τ).loc Cert.PreReferenceIdeal.main_arg9))).2.2.1 = (fun _ => 1#1)
    ∧ (Cert.Pre_pre_finite.fn (F := Ideal) (m ((c.tc : Thread Cert.PreReferenceIdeal.nD Cert.PreReferenceIdeal.τ).loc Cert.PreReferenceIdeal.main_arg0)) (m ((c.tc : Thread Cert.PreReferenceIdeal.nD Cert.PreReferenceIdeal.τ).loc Cert.PreReferenceIdeal.main_arg1)) (m ((c.tc : Thread Cert.PreReferenceIdeal.nD Cert.PreReferenceIdeal.τ).loc Cert.PreReferenceIdeal.main_arg2)) (m ((c.tc : Thread Cert.PreReferenceIdeal.nD Cert.PreReferenceIdeal.τ).loc Cert.PreReferenceIdeal.main_arg3)) (m ((c.tc : Thread Cert.PreReferenceIdeal.nD Cert.PreReferenceIdeal.τ).loc Cert.PreReferenceIdeal.main_arg4)) (m ((c.tc : Thread Cert.PreReferenceIdeal.nD Cert.PreReferenceIdeal.τ).loc Cert.PreReferenceIdeal.main_arg5)) (m ((c.tc : Thread Cert.PreReferenceIdeal.nD Cert.PreReferenceIdeal.τ).loc Cert.PreReferenceIdeal.main_arg6)) (m ((c.tc : Thread Cert.PreReferenceIdeal.nD Cert.PreReferenceIdeal.τ).loc Cert.PreReferenceIdeal.main_arg7)) (m ((c.tc : Thread Cert.PreReferenceIdeal.nD Cert.PreReferenceIdeal.τ).loc Cert.PreReferenceIdeal.main_arg8)) (m ((c.tc : Thread Cert.PreReferenceIdeal.nD Cert.PreReferenceIdeal.τ).loc Cert.PreReferenceIdeal.main_arg9))).2.2.2 = (fun _ => 1#1)

def Pre_PostFirstKernel (m : (ℓ : Loc Cert.PostFirstKernel.nD Cert.PostFirstKernel.τ Cert.PostFirstKernel.sig) → Buf (Elt Bits) ℓ) : Prop :=
  True

def Pre_PostFirstKernelIdeal (m : (ℓ : Loc Cert.PostFirstKernelIdeal.nD Cert.PostFirstKernelIdeal.τ Cert.PostFirstKernelIdeal.sig) → Buf (Elt Ideal) ℓ) : Prop :=
  True

def Pre_PostFirstKernelIdeal_post_first_finite [hPre_post_first_finite : Cert.Pre_post_first_finite.Facts] (m : (ℓ : Loc Cert.PostFirstKernelIdeal.nD Cert.PostFirstKernelIdeal.τ Cert.PostFirstKernelIdeal.sig) → Buf (Elt Ideal) ℓ) : Prop :=
  ∀ c : Dev Cert.PostFirstKernelIdeal.nD,
    (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.2.2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.2.2.2.2.1 = (fun _ => 1#1)
    ∧ (Cert.Pre_post_first_finite.fn (F := Ideal) (m ((c.tc : Thread Cert.PostFirstKernelIdeal.nD Cert.PostFirstKernelIdeal.τ).loc Cert.PostFirstKernelIdeal.main_arg0)) (m ((c.tc : Thread Cert.PostFirstKernelIdeal.nD Cert.PostFirstKernelIdeal.τ).loc Cert.PostFirstKernelIdeal.main_arg1)) (m ((c.tc : Thread Cert.PostFirstKernelIdeal.nD Cert.PostFirstKernelIdeal.τ).loc Cert.PostFirstKernelIdeal.main_arg2)) (m ((c.tc : Thread Cert.PostFirstKernelIdeal.nD Cert.PostFirstKernelIdeal.τ).loc Cert.PostFirstKernelIdeal.main_arg3)) (m ((c.tc : Thread Cert.PostFirstKernelIdeal.nD Cert.PostFirstKernelIdeal.τ).loc Cert.PostFirstKernelIdeal.main_arg4)) (m ((c.tc : Thread Cert.PostFirstKernelIdeal.nD Cert.PostFirstKernelIdeal.τ).loc Cert.PostFirstKernelIdeal.main_arg5)) (m ((c.tc : Thread Cert.PostFirstKernelIdeal.nD Cert.PostFirstKernelIdeal.τ).loc Cert.PostFirstKernelIdeal.main_arg6)) (m ((c.tc : Thread Cert.PostFirstKernelIdeal.nD Cert.PostFirstKernelIdeal.τ).loc Cert.PostFirstKernelIdeal.main_arg7)) (m ((c.tc : Thread Cert.PostFirstKernelIdeal.nD Cert.PostFirstKernelIdeal.τ).loc Cert.PostFirstKernelIdeal.main_arg8)) (m ((c.tc : Thread Cert.PostFirstKernelIdeal.nD Cert.PostFirstKernelIdeal.τ).loc Cert.PostFirstKernelIdeal.main_arg9)) (m ((c.tc : Thread Cert.PostFirstKernelIdeal.nD Cert.PostFirstKernelIdeal.τ).loc Cert.PostFirstKernelIdeal.main_arg10))).2.2.2.2.2.2.2.2 = (fun _ => 1#1)

def Pre_PostFirstReferenceIdeal (m : (ℓ : Loc Cert.PostFirstReferenceIdeal.nD Cert.PostFirstReferenceIdeal.τ Cert.PostFirstReferenceIdeal.sig) → Buf (Elt Ideal) ℓ) : Prop :=
  True

def Pre_PostFirstReferenceIdeal_post_first_finite [hPre_post_first_finite : Cert.Pre_post_first_finite.Facts] (m : (ℓ : Loc Cert.PostFirstReferenceIdeal.nD Cert.PostFirstReferenceIdeal.τ Cert.PostFirstReferenceIdeal.sig) → Buf (Elt Ideal) ℓ) : Prop :=
  ∀ c : Dev Cert.PostFirstReferenceIdeal.nD,
    (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.2.2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.2.2.2.2.1 = (fun _ => 1#1)
    ∧ (Cert.Pre_post_first_finite.fn (F := Ideal) (m ((c.tc : Thread Cert.PostFirstReferenceIdeal.nD Cert.PostFirstReferenceIdeal.τ).loc Cert.PostFirstReferenceIdeal.main_arg0)) (m ((c.tc : Thread Cert.PostFirstReferenceIdeal.nD Cert.PostFirstReferenceIdeal.τ).loc Cert.PostFirstReferenceIdeal.main_arg1)) (m ((c.tc : Thread Cert.PostFirstReferenceIdeal.nD Cert.PostFirstReferenceIdeal.τ).loc Cert.PostFirstReferenceIdeal.main_arg2)) (m ((c.tc : Thread Cert.PostFirstReferenceIdeal.nD Cert.PostFirstReferenceIdeal.τ).loc Cert.PostFirstReferenceIdeal.main_arg3)) (m ((c.tc : Thread Cert.PostFirstReferenceIdeal.nD Cert.PostFirstReferenceIdeal.τ).loc Cert.PostFirstReferenceIdeal.main_arg4)) (m ((c.tc : Thread Cert.PostFirstReferenceIdeal.nD Cert.PostFirstReferenceIdeal.τ).loc Cert.PostFirstReferenceIdeal.main_arg5)) (m ((c.tc : Thread Cert.PostFirstReferenceIdeal.nD Cert.PostFirstReferenceIdeal.τ).loc Cert.PostFirstReferenceIdeal.main_arg6)) (m ((c.tc : Thread Cert.PostFirstReferenceIdeal.nD Cert.PostFirstReferenceIdeal.τ).loc Cert.PostFirstReferenceIdeal.main_arg7)) (m ((c.tc : Thread Cert.PostFirstReferenceIdeal.nD Cert.PostFirstReferenceIdeal.τ).loc Cert.PostFirstReferenceIdeal.main_arg8)) (m ((c.tc : Thread Cert.PostFirstReferenceIdeal.nD Cert.PostFirstReferenceIdeal.τ).loc Cert.PostFirstReferenceIdeal.main_arg9)) (m ((c.tc : Thread Cert.PostFirstReferenceIdeal.nD Cert.PostFirstReferenceIdeal.τ).loc Cert.PostFirstReferenceIdeal.main_arg10))).2.2.2.2.2.2.2.2 = (fun _ => 1#1)

def Pre_PreFirstKernel (m : (ℓ : Loc Cert.PreFirstKernel.nD Cert.PreFirstKernel.τ Cert.PreFirstKernel.sig) → Buf (Elt Bits) ℓ) : Prop :=
  True

def Pre_PreFirstKernelIdeal (m : (ℓ : Loc Cert.PreFirstKernelIdeal.nD Cert.PreFirstKernelIdeal.τ Cert.PreFirstKernelIdeal.sig) → Buf (Elt Ideal) ℓ) : Prop :=
  True

def Pre_PreFirstKernelIdeal_pre_first_finite [hPre_pre_first_finite : Cert.Pre_pre_first_finite.Facts] (m : (ℓ : Loc Cert.PreFirstKernelIdeal.nD Cert.PreFirstKernelIdeal.τ Cert.PreFirstKernelIdeal.sig) → Buf (Elt Ideal) ℓ) : Prop :=
  ∀ c : Dev Cert.PreFirstKernelIdeal.nD,
    (Cert.Pre_pre_first_finite.fn (F := Ideal) (m ((c.tc : Thread Cert.PreFirstKernelIdeal.nD Cert.PreFirstKernelIdeal.τ).loc Cert.PreFirstKernelIdeal.main_arg0)) (m ((c.tc : Thread Cert.PreFirstKernelIdeal.nD Cert.PreFirstKernelIdeal.τ).loc Cert.PreFirstKernelIdeal.main_arg1)) (m ((c.tc : Thread Cert.PreFirstKernelIdeal.nD Cert.PreFirstKernelIdeal.τ).loc Cert.PreFirstKernelIdeal.main_arg2)) (m ((c.tc : Thread Cert.PreFirstKernelIdeal.nD Cert.PreFirstKernelIdeal.τ).loc Cert.PreFirstKernelIdeal.main_arg3)) (m ((c.tc : Thread Cert.PreFirstKernelIdeal.nD Cert.PreFirstKernelIdeal.τ).loc Cert.PreFirstKernelIdeal.main_arg4)) (m ((c.tc : Thread Cert.PreFirstKernelIdeal.nD Cert.PreFirstKernelIdeal.τ).loc Cert.PreFirstKernelIdeal.main_arg5)) (m ((c.tc : Thread Cert.PreFirstKernelIdeal.nD Cert.PreFirstKernelIdeal.τ).loc Cert.PreFirstKernelIdeal.main_arg6)) (m ((c.tc : Thread Cert.PreFirstKernelIdeal.nD Cert.PreFirstKernelIdeal.τ).loc Cert.PreFirstKernelIdeal.main_arg7)) (m ((c.tc : Thread Cert.PreFirstKernelIdeal.nD Cert.PreFirstKernelIdeal.τ).loc Cert.PreFirstKernelIdeal.main_arg8)) (m ((c.tc : Thread Cert.PreFirstKernelIdeal.nD Cert.PreFirstKernelIdeal.τ).loc Cert.PreFirstKernelIdeal.main_arg9)) (m ((c.tc : Thread Cert.PreFirstKernelIdeal.nD Cert.PreFirstKernelIdeal.τ).loc Cert.PreFirstKernelIdeal.main_arg10))).1 = (fun _ => 1#1)
    ∧ (Cert.Pre_pre_first_finite.fn (F := Ideal) (m ((c.tc : Thread Cert.PreFirstKernelIdeal.nD Cert.PreFirstKernelIdeal.τ).loc Cert.PreFirstKernelIdeal.main_arg0)) (m ((c.tc : Thread Cert.PreFirstKernelIdeal.nD Cert.PreFirstKernelIdeal.τ).loc Cert.PreFirstKernelIdeal.main_arg1)) (m ((c.tc : Thread Cert.PreFirstKernelIdeal.nD Cert.PreFirstKernelIdeal.τ).loc Cert.PreFirstKernelIdeal.main_arg2)) (m ((c.tc : Thread Cert.PreFirstKernelIdeal.nD Cert.PreFirstKernelIdeal.τ).loc Cert.PreFirstKernelIdeal.main_arg3)) (m ((c.tc : Thread Cert.PreFirstKernelIdeal.nD Cert.PreFirstKernelIdeal.τ).loc Cert.PreFirstKernelIdeal.main_arg4)) (m ((c.tc : Thread Cert.PreFirstKernelIdeal.nD Cert.PreFirstKernelIdeal.τ).loc Cert.PreFirstKernelIdeal.main_arg5)) (m ((c.tc : Thread Cert.PreFirstKernelIdeal.nD Cert.PreFirstKernelIdeal.τ).loc Cert.PreFirstKernelIdeal.main_arg6)) (m ((c.tc : Thread Cert.PreFirstKernelIdeal.nD Cert.PreFirstKernelIdeal.τ).loc Cert.PreFirstKernelIdeal.main_arg7)) (m ((c.tc : Thread Cert.PreFirstKernelIdeal.nD Cert.PreFirstKernelIdeal.τ).loc Cert.PreFirstKernelIdeal.main_arg8)) (m ((c.tc : Thread Cert.PreFirstKernelIdeal.nD Cert.PreFirstKernelIdeal.τ).loc Cert.PreFirstKernelIdeal.main_arg9)) (m ((c.tc : Thread Cert.PreFirstKernelIdeal.nD Cert.PreFirstKernelIdeal.τ).loc Cert.PreFirstKernelIdeal.main_arg10))).2.1 = (fun _ => 1#1)
    ∧ (Cert.Pre_pre_first_finite.fn (F := Ideal) (m ((c.tc : Thread Cert.PreFirstKernelIdeal.nD Cert.PreFirstKernelIdeal.τ).loc Cert.PreFirstKernelIdeal.main_arg0)) (m ((c.tc : Thread Cert.PreFirstKernelIdeal.nD Cert.PreFirstKernelIdeal.τ).loc Cert.PreFirstKernelIdeal.main_arg1)) (m ((c.tc : Thread Cert.PreFirstKernelIdeal.nD Cert.PreFirstKernelIdeal.τ).loc Cert.PreFirstKernelIdeal.main_arg2)) (m ((c.tc : Thread Cert.PreFirstKernelIdeal.nD Cert.PreFirstKernelIdeal.τ).loc Cert.PreFirstKernelIdeal.main_arg3)) (m ((c.tc : Thread Cert.PreFirstKernelIdeal.nD Cert.PreFirstKernelIdeal.τ).loc Cert.PreFirstKernelIdeal.main_arg4)) (m ((c.tc : Thread Cert.PreFirstKernelIdeal.nD Cert.PreFirstKernelIdeal.τ).loc Cert.PreFirstKernelIdeal.main_arg5)) (m ((c.tc : Thread Cert.PreFirstKernelIdeal.nD Cert.PreFirstKernelIdeal.τ).loc Cert.PreFirstKernelIdeal.main_arg6)) (m ((c.tc : Thread Cert.PreFirstKernelIdeal.nD Cert.PreFirstKernelIdeal.τ).loc Cert.PreFirstKernelIdeal.main_arg7)) (m ((c.tc : Thread Cert.PreFirstKernelIdeal.nD Cert.PreFirstKernelIdeal.τ).loc Cert.PreFirstKernelIdeal.main_arg8)) (m ((c.tc : Thread Cert.PreFirstKernelIdeal.nD Cert.PreFirstKernelIdeal.τ).loc Cert.PreFirstKernelIdeal.main_arg9)) (m ((c.tc : Thread Cert.PreFirstKernelIdeal.nD Cert.PreFirstKernelIdeal.τ).loc Cert.PreFirstKernelIdeal.main_arg10))).2.2.1 = (fun _ => 1#1)
    ∧ (Cert.Pre_pre_first_finite.fn (F := Ideal) (m ((c.tc : Thread Cert.PreFirstKernelIdeal.nD Cert.PreFirstKernelIdeal.τ).loc Cert.PreFirstKernelIdeal.main_arg0)) (m ((c.tc : Thread Cert.PreFirstKernelIdeal.nD Cert.PreFirstKernelIdeal.τ).loc Cert.PreFirstKernelIdeal.main_arg1)) (m ((c.tc : Thread Cert.PreFirstKernelIdeal.nD Cert.PreFirstKernelIdeal.τ).loc Cert.PreFirstKernelIdeal.main_arg2)) (m ((c.tc : Thread Cert.PreFirstKernelIdeal.nD Cert.PreFirstKernelIdeal.τ).loc Cert.PreFirstKernelIdeal.main_arg3)) (m ((c.tc : Thread Cert.PreFirstKernelIdeal.nD Cert.PreFirstKernelIdeal.τ).loc Cert.PreFirstKernelIdeal.main_arg4)) (m ((c.tc : Thread Cert.PreFirstKernelIdeal.nD Cert.PreFirstKernelIdeal.τ).loc Cert.PreFirstKernelIdeal.main_arg5)) (m ((c.tc : Thread Cert.PreFirstKernelIdeal.nD Cert.PreFirstKernelIdeal.τ).loc Cert.PreFirstKernelIdeal.main_arg6)) (m ((c.tc : Thread Cert.PreFirstKernelIdeal.nD Cert.PreFirstKernelIdeal.τ).loc Cert.PreFirstKernelIdeal.main_arg7)) (m ((c.tc : Thread Cert.PreFirstKernelIdeal.nD Cert.PreFirstKernelIdeal.τ).loc Cert.PreFirstKernelIdeal.main_arg8)) (m ((c.tc : Thread Cert.PreFirstKernelIdeal.nD Cert.PreFirstKernelIdeal.τ).loc Cert.PreFirstKernelIdeal.main_arg9)) (m ((c.tc : Thread Cert.PreFirstKernelIdeal.nD Cert.PreFirstKernelIdeal.τ).loc Cert.PreFirstKernelIdeal.main_arg10))).2.2.2.1 = (fun _ => 1#1)
    ∧ (Cert.Pre_pre_first_finite.fn (F := Ideal) (m ((c.tc : Thread Cert.PreFirstKernelIdeal.nD Cert.PreFirstKernelIdeal.τ).loc Cert.PreFirstKernelIdeal.main_arg0)) (m ((c.tc : Thread Cert.PreFirstKernelIdeal.nD Cert.PreFirstKernelIdeal.τ).loc Cert.PreFirstKernelIdeal.main_arg1)) (m ((c.tc : Thread Cert.PreFirstKernelIdeal.nD Cert.PreFirstKernelIdeal.τ).loc Cert.PreFirstKernelIdeal.main_arg2)) (m ((c.tc : Thread Cert.PreFirstKernelIdeal.nD Cert.PreFirstKernelIdeal.τ).loc Cert.PreFirstKernelIdeal.main_arg3)) (m ((c.tc : Thread Cert.PreFirstKernelIdeal.nD Cert.PreFirstKernelIdeal.τ).loc Cert.PreFirstKernelIdeal.main_arg4)) (m ((c.tc : Thread Cert.PreFirstKernelIdeal.nD Cert.PreFirstKernelIdeal.τ).loc Cert.PreFirstKernelIdeal.main_arg5)) (m ((c.tc : Thread Cert.PreFirstKernelIdeal.nD Cert.PreFirstKernelIdeal.τ).loc Cert.PreFirstKernelIdeal.main_arg6)) (m ((c.tc : Thread Cert.PreFirstKernelIdeal.nD Cert.PreFirstKernelIdeal.τ).loc Cert.PreFirstKernelIdeal.main_arg7)) (m ((c.tc : Thread Cert.PreFirstKernelIdeal.nD Cert.PreFirstKernelIdeal.τ).loc Cert.PreFirstKernelIdeal.main_arg8)) (m ((c.tc : Thread Cert.PreFirstKernelIdeal.nD Cert.PreFirstKernelIdeal.τ).loc Cert.PreFirstKernelIdeal.main_arg9)) (m ((c.tc : Thread Cert.PreFirstKernelIdeal.nD Cert.PreFirstKernelIdeal.τ).loc Cert.PreFirstKernelIdeal.main_arg10))).2.2.2.2 = (fun _ => 1#1)

def Pre_PreFirstReferenceIdeal (m : (ℓ : Loc Cert.PreFirstReferenceIdeal.nD Cert.PreFirstReferenceIdeal.τ Cert.PreFirstReferenceIdeal.sig) → Buf (Elt Ideal) ℓ) : Prop :=
  True

def Pre_PreFirstReferenceIdeal_pre_first_finite [hPre_pre_first_finite : Cert.Pre_pre_first_finite.Facts] (m : (ℓ : Loc Cert.PreFirstReferenceIdeal.nD Cert.PreFirstReferenceIdeal.τ Cert.PreFirstReferenceIdeal.sig) → Buf (Elt Ideal) ℓ) : Prop :=
  ∀ c : Dev Cert.PreFirstReferenceIdeal.nD,
    (Cert.Pre_pre_first_finite.fn (F := Ideal) (m ((c.tc : Thread Cert.PreFirstReferenceIdeal.nD Cert.PreFirstReferenceIdeal.τ).loc Cert.PreFirstReferenceIdeal.main_arg0)) (m ((c.tc : Thread Cert.PreFirstReferenceIdeal.nD Cert.PreFirstReferenceIdeal.τ).loc Cert.PreFirstReferenceIdeal.main_arg1)) (m ((c.tc : Thread Cert.PreFirstReferenceIdeal.nD Cert.PreFirstReferenceIdeal.τ).loc Cert.PreFirstReferenceIdeal.main_arg2)) (m ((c.tc : Thread Cert.PreFirstReferenceIdeal.nD Cert.PreFirstReferenceIdeal.τ).loc Cert.PreFirstReferenceIdeal.main_arg3)) (m ((c.tc : Thread Cert.PreFirstReferenceIdeal.nD Cert.PreFirstReferenceIdeal.τ).loc Cert.PreFirstReferenceIdeal.main_arg4)) (m ((c.tc : Thread Cert.PreFirstReferenceIdeal.nD Cert.PreFirstReferenceIdeal.τ).loc Cert.PreFirstReferenceIdeal.main_arg5)) (m ((c.tc : Thread Cert.PreFirstReferenceIdeal.nD Cert.PreFirstReferenceIdeal.τ).loc Cert.PreFirstReferenceIdeal.main_arg6)) (m ((c.tc : Thread Cert.PreFirstReferenceIdeal.nD Cert.PreFirstReferenceIdeal.τ).loc Cert.PreFirstReferenceIdeal.main_arg7)) (m ((c.tc : Thread Cert.PreFirstReferenceIdeal.nD Cert.PreFirstReferenceIdeal.τ).loc Cert.PreFirstReferenceIdeal.main_arg8)) (m ((c.tc : Thread Cert.PreFirstReferenceIdeal.nD Cert.PreFirstReferenceIdeal.τ).loc Cert.PreFirstReferenceIdeal.main_arg9)) (m ((c.tc : Thread Cert.PreFirstReferenceIdeal.nD Cert.PreFirstReferenceIdeal.τ).loc Cert.PreFirstReferenceIdeal.main_arg10))).1 = (fun _ => 1#1)
    ∧ (Cert.Pre_pre_first_finite.fn (F := Ideal) (m ((c.tc : Thread Cert.PreFirstReferenceIdeal.nD Cert.PreFirstReferenceIdeal.τ).loc Cert.PreFirstReferenceIdeal.main_arg0)) (m ((c.tc : Thread Cert.PreFirstReferenceIdeal.nD Cert.PreFirstReferenceIdeal.τ).loc Cert.PreFirstReferenceIdeal.main_arg1)) (m ((c.tc : Thread Cert.PreFirstReferenceIdeal.nD Cert.PreFirstReferenceIdeal.τ).loc Cert.PreFirstReferenceIdeal.main_arg2)) (m ((c.tc : Thread Cert.PreFirstReferenceIdeal.nD Cert.PreFirstReferenceIdeal.τ).loc Cert.PreFirstReferenceIdeal.main_arg3)) (m ((c.tc : Thread Cert.PreFirstReferenceIdeal.nD Cert.PreFirstReferenceIdeal.τ).loc Cert.PreFirstReferenceIdeal.main_arg4)) (m ((c.tc : Thread Cert.PreFirstReferenceIdeal.nD Cert.PreFirstReferenceIdeal.τ).loc Cert.PreFirstReferenceIdeal.main_arg5)) (m ((c.tc : Thread Cert.PreFirstReferenceIdeal.nD Cert.PreFirstReferenceIdeal.τ).loc Cert.PreFirstReferenceIdeal.main_arg6)) (m ((c.tc : Thread Cert.PreFirstReferenceIdeal.nD Cert.PreFirstReferenceIdeal.τ).loc Cert.PreFirstReferenceIdeal.main_arg7)) (m ((c.tc : Thread Cert.PreFirstReferenceIdeal.nD Cert.PreFirstReferenceIdeal.τ).loc Cert.PreFirstReferenceIdeal.main_arg8)) (m ((c.tc : Thread Cert.PreFirstReferenceIdeal.nD Cert.PreFirstReferenceIdeal.τ).loc Cert.PreFirstReferenceIdeal.main_arg9)) (m ((c.tc : Thread Cert.PreFirstReferenceIdeal.nD Cert.PreFirstReferenceIdeal.τ).loc Cert.PreFirstReferenceIdeal.main_arg10))).2.1 = (fun _ => 1#1)
    ∧ (Cert.Pre_pre_first_finite.fn (F := Ideal) (m ((c.tc : Thread Cert.PreFirstReferenceIdeal.nD Cert.PreFirstReferenceIdeal.τ).loc Cert.PreFirstReferenceIdeal.main_arg0)) (m ((c.tc : Thread Cert.PreFirstReferenceIdeal.nD Cert.PreFirstReferenceIdeal.τ).loc Cert.PreFirstReferenceIdeal.main_arg1)) (m ((c.tc : Thread Cert.PreFirstReferenceIdeal.nD Cert.PreFirstReferenceIdeal.τ).loc Cert.PreFirstReferenceIdeal.main_arg2)) (m ((c.tc : Thread Cert.PreFirstReferenceIdeal.nD Cert.PreFirstReferenceIdeal.τ).loc Cert.PreFirstReferenceIdeal.main_arg3)) (m ((c.tc : Thread Cert.PreFirstReferenceIdeal.nD Cert.PreFirstReferenceIdeal.τ).loc Cert.PreFirstReferenceIdeal.main_arg4)) (m ((c.tc : Thread Cert.PreFirstReferenceIdeal.nD Cert.PreFirstReferenceIdeal.τ).loc Cert.PreFirstReferenceIdeal.main_arg5)) (m ((c.tc : Thread Cert.PreFirstReferenceIdeal.nD Cert.PreFirstReferenceIdeal.τ).loc Cert.PreFirstReferenceIdeal.main_arg6)) (m ((c.tc : Thread Cert.PreFirstReferenceIdeal.nD Cert.PreFirstReferenceIdeal.τ).loc Cert.PreFirstReferenceIdeal.main_arg7)) (m ((c.tc : Thread Cert.PreFirstReferenceIdeal.nD Cert.PreFirstReferenceIdeal.τ).loc Cert.PreFirstReferenceIdeal.main_arg8)) (m ((c.tc : Thread Cert.PreFirstReferenceIdeal.nD Cert.PreFirstReferenceIdeal.τ).loc Cert.PreFirstReferenceIdeal.main_arg9)) (m ((c.tc : Thread Cert.PreFirstReferenceIdeal.nD Cert.PreFirstReferenceIdeal.τ).loc Cert.PreFirstReferenceIdeal.main_arg10))).2.2.1 = (fun _ => 1#1)
    ∧ (Cert.Pre_pre_first_finite.fn (F := Ideal) (m ((c.tc : Thread Cert.PreFirstReferenceIdeal.nD Cert.PreFirstReferenceIdeal.τ).loc Cert.PreFirstReferenceIdeal.main_arg0)) (m ((c.tc : Thread Cert.PreFirstReferenceIdeal.nD Cert.PreFirstReferenceIdeal.τ).loc Cert.PreFirstReferenceIdeal.main_arg1)) (m ((c.tc : Thread Cert.PreFirstReferenceIdeal.nD Cert.PreFirstReferenceIdeal.τ).loc Cert.PreFirstReferenceIdeal.main_arg2)) (m ((c.tc : Thread Cert.PreFirstReferenceIdeal.nD Cert.PreFirstReferenceIdeal.τ).loc Cert.PreFirstReferenceIdeal.main_arg3)) (m ((c.tc : Thread Cert.PreFirstReferenceIdeal.nD Cert.PreFirstReferenceIdeal.τ).loc Cert.PreFirstReferenceIdeal.main_arg4)) (m ((c.tc : Thread Cert.PreFirstReferenceIdeal.nD Cert.PreFirstReferenceIdeal.τ).loc Cert.PreFirstReferenceIdeal.main_arg5)) (m ((c.tc : Thread Cert.PreFirstReferenceIdeal.nD Cert.PreFirstReferenceIdeal.τ).loc Cert.PreFirstReferenceIdeal.main_arg6)) (m ((c.tc : Thread Cert.PreFirstReferenceIdeal.nD Cert.PreFirstReferenceIdeal.τ).loc Cert.PreFirstReferenceIdeal.main_arg7)) (m ((c.tc : Thread Cert.PreFirstReferenceIdeal.nD Cert.PreFirstReferenceIdeal.τ).loc Cert.PreFirstReferenceIdeal.main_arg8)) (m ((c.tc : Thread Cert.PreFirstReferenceIdeal.nD Cert.PreFirstReferenceIdeal.τ).loc Cert.PreFirstReferenceIdeal.main_arg9)) (m ((c.tc : Thread Cert.PreFirstReferenceIdeal.nD Cert.PreFirstReferenceIdeal.τ).loc Cert.PreFirstReferenceIdeal.main_arg10))).2.2.2.1 = (fun _ => 1#1)
    ∧ (Cert.Pre_pre_first_finite.fn (F := Ideal) (m ((c.tc : Thread Cert.PreFirstReferenceIdeal.nD Cert.PreFirstReferenceIdeal.τ).loc Cert.PreFirstReferenceIdeal.main_arg0)) (m ((c.tc : Thread Cert.PreFirstReferenceIdeal.nD Cert.PreFirstReferenceIdeal.τ).loc Cert.PreFirstReferenceIdeal.main_arg1)) (m ((c.tc : Thread Cert.PreFirstReferenceIdeal.nD Cert.PreFirstReferenceIdeal.τ).loc Cert.PreFirstReferenceIdeal.main_arg2)) (m ((c.tc : Thread Cert.PreFirstReferenceIdeal.nD Cert.PreFirstReferenceIdeal.τ).loc Cert.PreFirstReferenceIdeal.main_arg3)) (m ((c.tc : Thread Cert.PreFirstReferenceIdeal.nD Cert.PreFirstReferenceIdeal.τ).loc Cert.PreFirstReferenceIdeal.main_arg4)) (m ((c.tc : Thread Cert.PreFirstReferenceIdeal.nD Cert.PreFirstReferenceIdeal.τ).loc Cert.PreFirstReferenceIdeal.main_arg5)) (m ((c.tc : Thread Cert.PreFirstReferenceIdeal.nD Cert.PreFirstReferenceIdeal.τ).loc Cert.PreFirstReferenceIdeal.main_arg6)) (m ((c.tc : Thread Cert.PreFirstReferenceIdeal.nD Cert.PreFirstReferenceIdeal.τ).loc Cert.PreFirstReferenceIdeal.main_arg7)) (m ((c.tc : Thread Cert.PreFirstReferenceIdeal.nD Cert.PreFirstReferenceIdeal.τ).loc Cert.PreFirstReferenceIdeal.main_arg8)) (m ((c.tc : Thread Cert.PreFirstReferenceIdeal.nD Cert.PreFirstReferenceIdeal.τ).loc Cert.PreFirstReferenceIdeal.main_arg9)) (m ((c.tc : Thread Cert.PreFirstReferenceIdeal.nD Cert.PreFirstReferenceIdeal.τ).loc Cert.PreFirstReferenceIdeal.main_arg10))).2.2.2.2 = (fun _ => 1#1)

def Pre_QkvNaKernel (m : (ℓ : Loc Cert.QkvNaKernel.nD Cert.QkvNaKernel.τ Cert.QkvNaKernel.sig) → Buf (Elt Bits) ℓ) : Prop :=
  True

def Pre_QkvNaKernelIdeal (m : (ℓ : Loc Cert.QkvNaKernelIdeal.nD Cert.QkvNaKernelIdeal.τ Cert.QkvNaKernelIdeal.sig) → Buf (Elt Ideal) ℓ) : Prop :=
  True

def Pre_QkvNaReferenceIdeal (m : (ℓ : Loc Cert.QkvNaReferenceIdeal.nD Cert.QkvNaReferenceIdeal.τ Cert.QkvNaReferenceIdeal.sig) → Buf (Elt Ideal) ℓ) : Prop :=
  True

def Pre_QkvWaKernel (m : (ℓ : Loc Cert.QkvWaKernel.nD Cert.QkvWaKernel.τ Cert.QkvWaKernel.sig) → Buf (Elt Bits) ℓ) : Prop :=
  True

def Pre_QkvWaKernelIdeal (m : (ℓ : Loc Cert.QkvWaKernelIdeal.nD Cert.QkvWaKernelIdeal.τ Cert.QkvWaKernelIdeal.sig) → Buf (Elt Ideal) ℓ) : Prop :=
  True

def Pre_QkvWaReferenceIdeal (m : (ℓ : Loc Cert.QkvWaReferenceIdeal.nD Cert.QkvWaReferenceIdeal.τ Cert.QkvWaReferenceIdeal.sig) → Buf (Elt Ideal) ℓ) : Prop :=
  True

def quiescent_WaKernel [hWaKernel : Cert.WaKernel.Facts] : Prop :=
  ∀ (m : (ℓ : Loc Cert.WaKernel.nD Cert.WaKernel.τ Cert.WaKernel.sig) → Buf (Elt Bits) ℓ) (g : Dev Cert.WaKernel.nD → PrngReg), Pre_WaKernel m →
    θ_run (Cert.WaKernel.defs (F := Bits)) (onTc (τ := Cert.WaKernel.τ) (Cert.WaKernel.main (F := Bits))) ⟨m, fun _ => 0, g⟩ (fun r => (∀ c : Dev Cert.WaKernel.nD,
      r.2.mem ((c.tc : Thread Cert.WaKernel.nD Cert.WaKernel.τ).loc Cert.WaKernel.main_arg0) = m ((c.tc : Thread Cert.WaKernel.nD Cert.WaKernel.τ).loc Cert.WaKernel.main_arg0)
      ∧ r.2.mem ((c.tc : Thread Cert.WaKernel.nD Cert.WaKernel.τ).loc Cert.WaKernel.main_arg1) = m ((c.tc : Thread Cert.WaKernel.nD Cert.WaKernel.τ).loc Cert.WaKernel.main_arg1)
      ∧ r.2.mem ((c.tc : Thread Cert.WaKernel.nD Cert.WaKernel.τ).loc Cert.WaKernel.main_arg2) = m ((c.tc : Thread Cert.WaKernel.nD Cert.WaKernel.τ).loc Cert.WaKernel.main_arg2)
      ∧ r.2.mem ((c.tc : Thread Cert.WaKernel.nD Cert.WaKernel.τ).loc Cert.WaKernel.main_arg3) = m ((c.tc : Thread Cert.WaKernel.nD Cert.WaKernel.τ).loc Cert.WaKernel.main_arg3))
      ∧ r.2.sem = fun _ => 0)

def quiescent_WaKernelIdeal [hWaKernelIdeal : Cert.WaKernelIdeal.Facts] : Prop :=
  ∀ (m : (ℓ : Loc Cert.WaKernelIdeal.nD Cert.WaKernelIdeal.τ Cert.WaKernelIdeal.sig) → Buf (Elt Ideal) ℓ) (g : Dev Cert.WaKernelIdeal.nD → PrngReg), Pre_WaKernelIdeal m →
    θ_run (Cert.WaKernelIdeal.defs (F := Ideal)) (onTc (τ := Cert.WaKernelIdeal.τ) (Cert.WaKernelIdeal.main (F := Ideal))) ⟨m, fun _ => 0, g⟩ (fun r => (∀ c : Dev Cert.WaKernelIdeal.nD,
      r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
      ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
      ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
      ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ r.2.sem = fun _ => 0)

def quiescent_WaKernelIdeal_pre_wa_finite [hWaKernelIdeal : Cert.WaKernelIdeal.Facts] [hPre_wa_finite : Cert.Pre_wa_finite.Facts] : Prop :=
  ∀ (m : (ℓ : Loc Cert.WaKernelIdeal.nD Cert.WaKernelIdeal.τ Cert.WaKernelIdeal.sig) → Buf (Elt Ideal) ℓ) (g : Dev Cert.WaKernelIdeal.nD → PrngReg), Pre_WaKernelIdeal_wa_finite m →
    θ_run (Cert.WaKernelIdeal.defs (F := Ideal)) (onTc (τ := Cert.WaKernelIdeal.τ) (Cert.WaKernelIdeal.main (F := Ideal))) ⟨m, fun _ => 0, g⟩ (fun r => (∀ c : Dev Cert.WaKernelIdeal.nD,
      r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
      ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
      ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
      ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ r.2.sem = fun _ => 0)

def quiescent_WaReferenceIdeal [hWaReferenceIdeal : Cert.WaReferenceIdeal.Facts] : Prop :=
  ∀ (m : (ℓ : Loc Cert.WaReferenceIdeal.nD Cert.WaReferenceIdeal.τ Cert.WaReferenceIdeal.sig) → Buf (Elt Ideal) ℓ) (g : Dev Cert.WaReferenceIdeal.nD → PrngReg), Pre_WaReferenceIdeal m →
    θ_run (Cert.WaReferenceIdeal.defs (F := Ideal)) (onTc (τ := Cert.WaReferenceIdeal.τ) (Cert.WaReferenceIdeal.main (F := Ideal))) ⟨m, fun _ => 0, g⟩ (fun r => (∀ c : Dev Cert.WaReferenceIdeal.nD,
      r.2.mem ((c.tc : Thread Cert.WaReferenceIdeal.nD Cert.WaReferenceIdeal.τ).loc Cert.WaReferenceIdeal.main_arg0) = m ((c.tc : Thread Cert.WaReferenceIdeal.nD Cert.WaReferenceIdeal.τ).loc Cert.WaReferenceIdeal.main_arg0)
      ∧ r.2.mem ((c.tc : Thread Cert.WaReferenceIdeal.nD Cert.WaReferenceIdeal.τ).loc Cert.WaReferenceIdeal.main_arg1) = m ((c.tc : Thread Cert.WaReferenceIdeal.nD Cert.WaReferenceIdeal.τ).loc Cert.WaReferenceIdeal.main_arg1)
      ∧ r.2.mem ((c.tc : Thread Cert.WaReferenceIdeal.nD Cert.WaReferenceIdeal.τ).loc Cert.WaReferenceIdeal.main_arg2) = m ((c.tc : Thread Cert.WaReferenceIdeal.nD Cert.WaReferenceIdeal.τ).loc Cert.WaReferenceIdeal.main_arg2)
      ∧ r.2.mem ((c.tc : Thread Cert.WaReferenceIdeal.nD Cert.WaReferenceIdeal.τ).loc Cert.WaReferenceIdeal.main_arg3) = m ((c.tc : Thread Cert.WaReferenceIdeal.nD Cert.WaReferenceIdeal.τ).loc Cert.WaReferenceIdeal.main_arg3))
      ∧ r.2.sem = fun _ => 0)

def quiescent_WaReferenceIdeal_pre_wa_finite [hWaReferenceIdeal : Cert.WaReferenceIdeal.Facts] [hPre_wa_finite : Cert.Pre_wa_finite.Facts] : Prop :=
  ∀ (m : (ℓ : Loc Cert.WaReferenceIdeal.nD Cert.WaReferenceIdeal.τ Cert.WaReferenceIdeal.sig) → Buf (Elt Ideal) ℓ) (g : Dev Cert.WaReferenceIdeal.nD → PrngReg), Pre_WaReferenceIdeal_wa_finite m →
    θ_run (Cert.WaReferenceIdeal.defs (F := Ideal)) (onTc (τ := Cert.WaReferenceIdeal.τ) (Cert.WaReferenceIdeal.main (F := Ideal))) ⟨m, fun _ => 0, g⟩ (fun r => (∀ c : Dev Cert.WaReferenceIdeal.nD,
      r.2.mem ((c.tc : Thread Cert.WaReferenceIdeal.nD Cert.WaReferenceIdeal.τ).loc Cert.WaReferenceIdeal.main_arg0) = m ((c.tc : Thread Cert.WaReferenceIdeal.nD Cert.WaReferenceIdeal.τ).loc Cert.WaReferenceIdeal.main_arg0)
      ∧ r.2.mem ((c.tc : Thread Cert.WaReferenceIdeal.nD Cert.WaReferenceIdeal.τ).loc Cert.WaReferenceIdeal.main_arg1) = m ((c.tc : Thread Cert.WaReferenceIdeal.nD Cert.WaReferenceIdeal.τ).loc Cert.WaReferenceIdeal.main_arg1)
      ∧ r.2.mem ((c.tc : Thread Cert.WaReferenceIdeal.nD Cert.WaReferenceIdeal.τ).loc Cert.WaReferenceIdeal.main_arg2) = m ((c.tc : Thread Cert.WaReferenceIdeal.nD Cert.WaReferenceIdeal.τ).loc Cert.WaReferenceIdeal.main_arg2)
      ∧ r.2.mem ((c.tc : Thread Cert.WaReferenceIdeal.nD Cert.WaReferenceIdeal.τ).loc Cert.WaReferenceIdeal.main_arg3) = m ((c.tc : Thread Cert.WaReferenceIdeal.nD Cert.WaReferenceIdeal.τ).loc Cert.WaReferenceIdeal.main_arg3))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7))
      ∧ r.2.sem = fun _ => 0)

def quiescent_PostKernelIdeal_pre_post_finite [hPostKernelIdeal : Cert.PostKernelIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_post_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_PostReferenceIdeal_pre_post_finite [hPostReferenceIdeal : Cert.PostReferenceIdeal.Facts] [hPre_post_finite : Cert.Pre_post_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_post_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6)
      ∧ r.2.mem ((c.tc : Thread Cert.PreKernel.nD Cert.PreKernel.τ).loc Cert.PreKernel.main_arg7) = m ((c.tc : Thread Cert.PreKernel.nD Cert.PreKernel.τ).loc Cert.PreKernel.main_arg7)
      ∧ r.2.mem ((c.tc : Thread Cert.PreKernel.nD Cert.PreKernel.τ).loc Cert.PreKernel.main_arg8) = m ((c.tc : Thread Cert.PreKernel.nD Cert.PreKernel.τ).loc Cert.PreKernel.main_arg8)
      ∧ r.2.mem ((c.tc : Thread Cert.PreKernel.nD Cert.PreKernel.τ).loc Cert.PreKernel.main_arg9) = m ((c.tc : Thread Cert.PreKernel.nD Cert.PreKernel.τ).loc Cert.PreKernel.main_arg9))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
      ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9))
      ∧ r.2.sem = fun _ => 0)

def quiescent_PreKernelIdeal_pre_pre_finite [hPreKernelIdeal : Cert.PreKernelIdeal.Facts] [hPre_pre_finite : Cert.Pre_pre_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal_pre_finite m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
      ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7)
      ∧ r.2.mem ((c.tc : Thread Cert.PreReferenceIdeal.nD Cert.PreReferenceIdeal.τ).loc Cert.PreReferenceIdeal.main_arg8) = m ((c.tc : Thread Cert.PreReferenceIdeal.nD Cert.PreReferenceIdeal.τ).loc Cert.PreReferenceIdeal.main_arg8)
      ∧ r.2.mem ((c.tc : Thread Cert.PreReferenceIdeal.nD Cert.PreReferenceIdeal.τ).loc Cert.PreReferenceIdeal.main_arg9) = m ((c.tc : Thread Cert.PreReferenceIdeal.nD Cert.PreReferenceIdeal.τ).loc Cert.PreReferenceIdeal.main_arg9))
      ∧ r.2.sem = fun _ => 0)

def quiescent_PreReferenceIdeal_pre_pre_finite [hPreReferenceIdeal : Cert.PreReferenceIdeal.Facts] [hPre_pre_finite : Cert.Pre_pre_finite.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal_pre_finite m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7)
      ∧ r.2.mem ((c.tc : Thread Cert.PreReferenceIdeal.nD Cert.PreReferenceIdeal.τ).loc Cert.PreReferenceIdeal.main_arg8) = m ((c.tc : Thread Cert.PreReferenceIdeal.nD Cert.PreReferenceIdeal.τ).loc Cert.PreReferenceIdeal.main_arg8)
      ∧ r.2.mem ((c.tc : Thread Cert.PreReferenceIdeal.nD Cert.PreReferenceIdeal.τ).loc Cert.PreReferenceIdeal.main_arg9) = m ((c.tc : Thread Cert.PreReferenceIdeal.nD Cert.PreReferenceIdeal.τ).loc Cert.PreReferenceIdeal.main_arg9))
      ∧ r.2.sem = fun _ => 0)

def quiescent_PostFirstKernel [hPostFirstKernel : Cert.PostFirstKernel.Facts] : Prop :=
  ∀ (m : (ℓ : Loc Cert.PostFirstKernel.nD Cert.PostFirstKernel.τ Cert.PostFirstKernel.sig) → Buf (Elt Bits) ℓ) (g : Dev Cert.PostFirstKernel.nD → PrngReg), Pre_PostFirstKernel m →
    θ_run (Cert.PostFirstKernel.defs (F := Bits)) (onTc (τ := Cert.PostFirstKernel.τ) (Cert.PostFirstKernel.main (F := Bits))) ⟨m, fun _ => 0, g⟩ (fun r => (∀ c : Dev Cert.PostFirstKernel.nD,
      r.2.mem ((c.tc : Thread Cert.PostFirstKernel.nD Cert.PostFirstKernel.τ).loc Cert.PostFirstKernel.main_arg0) = m ((c.tc : Thread Cert.PostFirstKernel.nD Cert.PostFirstKernel.τ).loc Cert.PostFirstKernel.main_arg0)
      ∧ r.2.mem ((c.tc : Thread Cert.PostFirstKernel.nD Cert.PostFirstKernel.τ).loc Cert.PostFirstKernel.main_arg1) = m ((c.tc : Thread Cert.PostFirstKernel.nD Cert.PostFirstKernel.τ).loc Cert.PostFirstKernel.main_arg1)
      ∧ r.2.mem ((c.tc : Thread Cert.PostFirstKernel.nD Cert.PostFirstKernel.τ).loc Cert.PostFirstKernel.main_arg2) = m ((c.tc : Thread Cert.PostFirstKernel.nD Cert.PostFirstKernel.τ).loc Cert.PostFirstKernel.main_arg2)
      ∧ r.2.mem ((c.tc : Thread Cert.PostFirstKernel.nD Cert.PostFirstKernel.τ).loc Cert.PostFirstKernel.main_arg3) = m ((c.tc : Thread Cert.PostFirstKernel.nD Cert.PostFirstKernel.τ).loc Cert.PostFirstKernel.main_arg3)
      ∧ r.2.mem ((c.tc : Thread Cert.PostFirstKernel.nD Cert.PostFirstKernel.τ).loc Cert.PostFirstKernel.main_arg4) = m ((c.tc : Thread Cert.PostFirstKernel.nD Cert.PostFirstKernel.τ).loc Cert.PostFirstKernel.main_arg4)
      ∧ r.2.mem ((c.tc : Thread Cert.PostFirstKernel.nD Cert.PostFirstKernel.τ).loc Cert.PostFirstKernel.main_arg5) = m ((c.tc : Thread Cert.PostFirstKernel.nD Cert.PostFirstKernel.τ).loc Cert.PostFirstKernel.main_arg5)
      ∧ r.2.mem ((c.tc : Thread Cert.PostFirstKernel.nD Cert.PostFirstKernel.τ).loc Cert.PostFirstKernel.main_arg6) = m ((c.tc : Thread Cert.PostFirstKernel.nD Cert.PostFirstKernel.τ).loc Cert.PostFirstKernel.main_arg6)
      ∧ r.2.mem ((c.tc : Thread Cert.PostFirstKernel.nD Cert.PostFirstKernel.τ).loc Cert.PostFirstKernel.main_arg7) = m ((c.tc : Thread Cert.PostFirstKernel.nD Cert.PostFirstKernel.τ).loc Cert.PostFirstKernel.main_arg7)
      ∧ r.2.mem ((c.tc : Thread Cert.PostFirstKernel.nD Cert.PostFirstKernel.τ).loc Cert.PostFirstKernel.main_arg8) = m ((c.tc : Thread Cert.PostFirstKernel.nD Cert.PostFirstKernel.τ).loc Cert.PostFirstKernel.main_arg8)
      ∧ r.2.mem ((c.tc : Thread Cert.PostFirstKernel.nD Cert.PostFirstKernel.τ).loc Cert.PostFirstKernel.main_arg9) = m ((c.tc : Thread Cert.PostFirstKernel.nD Cert.PostFirstKernel.τ).loc Cert.PostFirstKernel.main_arg9)
      ∧ r.2.mem ((c.tc : Thread Cert.PostFirstKernel.nD Cert.PostFirstKernel.τ).loc Cert.PostFirstKernel.main_arg10) = m ((c.tc : Thread Cert.PostFirstKernel.nD Cert.PostFirstKernel.τ).loc Cert.PostFirstKernel.main_arg10))
      ∧ r.2.sem = fun _ => 0)

def quiescent_PostFirstKernelIdeal [hPostFirstKernelIdeal : Cert.PostFirstKernelIdeal.Facts] : Prop :=
  ∀ (m : (ℓ : Loc Cert.PostFirstKernelIdeal.nD Cert.PostFirstKernelIdeal.τ Cert.PostFirstKernelIdeal.sig) → Buf (Elt Ideal) ℓ) (g : Dev Cert.PostFirstKernelIdeal.nD → PrngReg), Pre_PostFirstKernelIdeal m →
    θ_run (Cert.PostFirstKernelIdeal.defs (F := Ideal)) (onTc (τ := Cert.PostFirstKernelIdeal.τ) (Cert.PostFirstKernelIdeal.main (F := Ideal))) ⟨m, fun _ => 0, g⟩ (fun r => (∀ c : Dev Cert.PostFirstKernelIdeal.nD,
      r.2.mem ((c.tc : Thread Cert.PostFirstKernelIdeal.nD Cert.PostFirstKernelIdeal.τ).loc Cert.PostFirstKernelIdeal.main_arg0) = m ((c.tc : Thread Cert.PostFirstKernelIdeal.nD Cert.PostFirstKernelIdeal.τ).loc Cert.PostFirstKernelIdeal.main_arg0)
      ∧ r.2.mem ((c.tc : Thread Cert.PostFirstKernelIdeal.nD Cert.PostFirstKernelIdeal.τ).loc Cert.PostFirstKernelIdeal.main_arg1) = m ((c.tc : Thread Cert.PostFirstKernelIdeal.nD Cert.PostFirstKernelIdeal.τ).loc Cert.PostFirstKernelIdeal.main_arg1)
      ∧ r.2.mem ((c.tc : Thread Cert.PostFirstKernelIdeal.nD Cert.PostFirstKernelIdeal.τ).loc Cert.PostFirstKernelIdeal.main_arg2) = m ((c.tc : Thread Cert.PostFirstKernelIdeal.nD Cert.PostFirstKernelIdeal.τ).loc Cert.PostFirstKernelIdeal.main_arg2)
      ∧ r.2.mem ((c.tc : Thread Cert.PostFirstKernelIdeal.nD Cert.PostFirstKernelIdeal.τ).loc Cert.PostFirstKernelIdeal.main_arg3) = m ((c.tc : Thread Cert.PostFirstKernelIdeal.nD Cert.PostFirstKernelIdeal.τ).loc Cert.PostFirstKernelIdeal.main_arg3)
      ∧ r.2.mem ((c.tc : Thread Cert.PostFirstKernelIdeal.nD Cert.PostFirstKernelIdeal.τ).loc Cert.PostFirstKernelIdeal.main_arg4) = m ((c.tc : Thread Cert.PostFirstKernelIdeal.nD Cert.PostFirstKernelIdeal.τ).loc Cert.PostFirstKernelIdeal.main_arg4)
      ∧ r.2.mem ((c.tc : Thread Cert.PostFirstKernelIdeal.nD Cert.PostFirstKernelIdeal.τ).loc Cert.PostFirstKernelIdeal.main_arg5) = m ((c.tc : Thread Cert.PostFirstKernelIdeal.nD Cert.PostFirstKernelIdeal.τ).loc Cert.PostFirstKernelIdeal.main_arg5)
      ∧ r.2.mem ((c.tc : Thread Cert.PostFirstKernelIdeal.nD Cert.PostFirstKernelIdeal.τ).loc Cert.PostFirstKernelIdeal.main_arg6) = m ((c.tc : Thread Cert.PostFirstKernelIdeal.nD Cert.PostFirstKernelIdeal.τ).loc Cert.PostFirstKernelIdeal.main_arg6)
      ∧ r.2.mem ((c.tc : Thread Cert.PostFirstKernelIdeal.nD Cert.PostFirstKernelIdeal.τ).loc Cert.PostFirstKernelIdeal.main_arg7) = m ((c.tc : Thread Cert.PostFirstKernelIdeal.nD Cert.PostFirstKernelIdeal.τ).loc Cert.PostFirstKernelIdeal.main_arg7)
      ∧ r.2.mem ((c.tc : Thread Cert.PostFirstKernelIdeal.nD Cert.PostFirstKernelIdeal.τ).loc Cert.PostFirstKernelIdeal.main_arg8) = m ((c.tc : Thread Cert.PostFirstKernelIdeal.nD Cert.PostFirstKernelIdeal.τ).loc Cert.PostFirstKernelIdeal.main_arg8)
      ∧ r.2.mem ((c.tc : Thread Cert.PostFirstKernelIdeal.nD Cert.PostFirstKernelIdeal.τ).loc Cert.PostFirstKernelIdeal.main_arg9) = m ((c.tc : Thread Cert.PostFirstKernelIdeal.nD Cert.PostFirstKernelIdeal.τ).loc Cert.PostFirstKernelIdeal.main_arg9)
      ∧ r.2.mem ((c.tc : Thread Cert.PostFirstKernelIdeal.nD Cert.PostFirstKernelIdeal.τ).loc Cert.PostFirstKernelIdeal.main_arg10) = m ((c.tc : Thread Cert.PostFirstKernelIdeal.nD Cert.PostFirstKernelIdeal.τ).loc Cert.PostFirstKernelIdeal.main_arg10))
      ∧ r.2.sem = fun _ => 0)

def quiescent_PostFirstKernelIdeal_pre_post_first_finite [hPostFirstKernelIdeal : Cert.PostFirstKernelIdeal.Facts] [hPre_post_first_finite : Cert.Pre_post_first_finite.Facts] : Prop :=
  ∀ (m : (ℓ : Loc Cert.PostFirstKernelIdeal.nD Cert.PostFirstKernelIdeal.τ Cert.PostFirstKernelIdeal.sig) → Buf (Elt Ideal) ℓ) (g : Dev Cert.PostFirstKernelIdeal.nD → PrngReg), Pre_PostFirstKernelIdeal_post_first_finite m →
    θ_run (Cert.PostFirstKernelIdeal.defs (F := Ideal)) (onTc (τ := Cert.PostFirstKernelIdeal.τ) (Cert.PostFirstKernelIdeal.main (F := Ideal))) ⟨m, fun _ => 0, g⟩ (fun r => (∀ c : Dev Cert.PostFirstKernelIdeal.nD,
      r.2.mem ((c.tc : Thread Cert.PostFirstKernelIdeal.nD Cert.PostFirstKernelIdeal.τ).loc Cert.PostFirstKernelIdeal.main_arg0) = m ((c.tc : Thread Cert.PostFirstKernelIdeal.nD Cert.PostFirstKernelIdeal.τ).loc Cert.PostFirstKernelIdeal.main_arg0)
      ∧ r.2.mem ((c.tc : Thread Cert.PostFirstKernelIdeal.nD Cert.PostFirstKernelIdeal.τ).loc Cert.PostFirstKernelIdeal.main_arg1) = m ((c.tc : Thread Cert.PostFirstKernelIdeal.nD Cert.PostFirstKernelIdeal.τ).loc Cert.PostFirstKernelIdeal.main_arg1)
      ∧ r.2.mem ((c.tc : Thread Cert.PostFirstKernelIdeal.nD Cert.PostFirstKernelIdeal.τ).loc Cert.PostFirstKernelIdeal.main_arg2) = m ((c.tc : Thread Cert.PostFirstKernelIdeal.nD Cert.PostFirstKernelIdeal.τ).loc Cert.PostFirstKernelIdeal.main_arg2)
      ∧ r.2.mem ((c.tc : Thread Cert.PostFirstKernelIdeal.nD Cert.PostFirstKernelIdeal.τ).loc Cert.PostFirstKernelIdeal.main_arg3) = m ((c.tc : Thread Cert.PostFirstKernelIdeal.nD Cert.PostFirstKernelIdeal.τ).loc Cert.PostFirstKernelIdeal.main_arg3)
      ∧ r.2.mem ((c.tc : Thread Cert.PostFirstKernelIdeal.nD Cert.PostFirstKernelIdeal.τ).loc Cert.PostFirstKernelIdeal.main_arg4) = m ((c.tc : Thread Cert.PostFirstKernelIdeal.nD Cert.PostFirstKernelIdeal.τ).loc Cert.PostFirstKernelIdeal.main_arg4)
      ∧ r.2.mem ((c.tc : Thread Cert.PostFirstKernelIdeal.nD Cert.PostFirstKernelIdeal.τ).loc Cert.PostFirstKernelIdeal.main_arg5) = m ((c.tc : Thread Cert.PostFirstKernelIdeal.nD Cert.PostFirstKernelIdeal.τ).loc Cert.PostFirstKernelIdeal.main_arg5)
      ∧ r.2.mem ((c.tc : Thread Cert.PostFirstKernelIdeal.nD Cert.PostFirstKernelIdeal.τ).loc Cert.PostFirstKernelIdeal.main_arg6) = m ((c.tc : Thread Cert.PostFirstKernelIdeal.nD Cert.PostFirstKernelIdeal.τ).loc Cert.PostFirstKernelIdeal.main_arg6)
      ∧ r.2.mem ((c.tc : Thread Cert.PostFirstKernelIdeal.nD Cert.PostFirstKernelIdeal.τ).loc Cert.PostFirstKernelIdeal.main_arg7) = m ((c.tc : Thread Cert.PostFirstKernelIdeal.nD Cert.PostFirstKernelIdeal.τ).loc Cert.PostFirstKernelIdeal.main_arg7)
      ∧ r.2.mem ((c.tc : Thread Cert.PostFirstKernelIdeal.nD Cert.PostFirstKernelIdeal.τ).loc Cert.PostFirstKernelIdeal.main_arg8) = m ((c.tc : Thread Cert.PostFirstKernelIdeal.nD Cert.PostFirstKernelIdeal.τ).loc Cert.PostFirstKernelIdeal.main_arg8)
      ∧ r.2.mem ((c.tc : Thread Cert.PostFirstKernelIdeal.nD Cert.PostFirstKernelIdeal.τ).loc Cert.PostFirstKernelIdeal.main_arg9) = m ((c.tc : Thread Cert.PostFirstKernelIdeal.nD Cert.PostFirstKernelIdeal.τ).loc Cert.PostFirstKernelIdeal.main_arg9)
      ∧ r.2.mem ((c.tc : Thread Cert.PostFirstKernelIdeal.nD Cert.PostFirstKernelIdeal.τ).loc Cert.PostFirstKernelIdeal.main_arg10) = m ((c.tc : Thread Cert.PostFirstKernelIdeal.nD Cert.PostFirstKernelIdeal.τ).loc Cert.PostFirstKernelIdeal.main_arg10))
      ∧ r.2.sem = fun _ => 0)

def quiescent_PostFirstReferenceIdeal [hPostFirstReferenceIdeal : Cert.PostFirstReferenceIdeal.Facts] : Prop :=
  ∀ (m : (ℓ : Loc Cert.PostFirstReferenceIdeal.nD Cert.PostFirstReferenceIdeal.τ Cert.PostFirstReferenceIdeal.sig) → Buf (Elt Ideal) ℓ) (g : Dev Cert.PostFirstReferenceIdeal.nD → PrngReg), Pre_PostFirstReferenceIdeal m →
    θ_run (Cert.PostFirstReferenceIdeal.defs (F := Ideal)) (onTc (τ := Cert.PostFirstReferenceIdeal.τ) (Cert.PostFirstReferenceIdeal.main (F := Ideal))) ⟨m, fun _ => 0, g⟩ (fun r => (∀ c : Dev Cert.PostFirstReferenceIdeal.nD,
      r.2.mem ((c.tc : Thread Cert.PostFirstReferenceIdeal.nD Cert.PostFirstReferenceIdeal.τ).loc Cert.PostFirstReferenceIdeal.main_arg0) = m ((c.tc : Thread Cert.PostFirstReferenceIdeal.nD Cert.PostFirstReferenceIdeal.τ).loc Cert.PostFirstReferenceIdeal.main_arg0)
      ∧ r.2.mem ((c.tc : Thread Cert.PostFirstReferenceIdeal.nD Cert.PostFirstReferenceIdeal.τ).loc Cert.PostFirstReferenceIdeal.main_arg1) = m ((c.tc : Thread Cert.PostFirstReferenceIdeal.nD Cert.PostFirstReferenceIdeal.τ).loc Cert.PostFirstReferenceIdeal.main_arg1)
      ∧ r.2.mem ((c.tc : Thread Cert.PostFirstReferenceIdeal.nD Cert.PostFirstReferenceIdeal.τ).loc Cert.PostFirstReferenceIdeal.main_arg2) = m ((c.tc : Thread Cert.PostFirstReferenceIdeal.nD Cert.PostFirstReferenceIdeal.τ).loc Cert.PostFirstReferenceIdeal.main_arg2)
      ∧ r.2.mem ((c.tc : Thread Cert.PostFirstReferenceIdeal.nD Cert.PostFirstReferenceIdeal.τ).loc Cert.PostFirstReferenceIdeal.main_arg3) = m ((c.tc : Thread Cert.PostFirstReferenceIdeal.nD Cert.PostFirstReferenceIdeal.τ).loc Cert.PostFirstReferenceIdeal.main_arg3)
      ∧ r.2.mem ((c.tc : Thread Cert.PostFirstReferenceIdeal.nD Cert.PostFirstReferenceIdeal.τ).loc Cert.PostFirstReferenceIdeal.main_arg4) = m ((c.tc : Thread Cert.PostFirstReferenceIdeal.nD Cert.PostFirstReferenceIdeal.τ).loc Cert.PostFirstReferenceIdeal.main_arg4)
      ∧ r.2.mem ((c.tc : Thread Cert.PostFirstReferenceIdeal.nD Cert.PostFirstReferenceIdeal.τ).loc Cert.PostFirstReferenceIdeal.main_arg5) = m ((c.tc : Thread Cert.PostFirstReferenceIdeal.nD Cert.PostFirstReferenceIdeal.τ).loc Cert.PostFirstReferenceIdeal.main_arg5)
      ∧ r.2.mem ((c.tc : Thread Cert.PostFirstReferenceIdeal.nD Cert.PostFirstReferenceIdeal.τ).loc Cert.PostFirstReferenceIdeal.main_arg6) = m ((c.tc : Thread Cert.PostFirstReferenceIdeal.nD Cert.PostFirstReferenceIdeal.τ).loc Cert.PostFirstReferenceIdeal.main_arg6)
      ∧ r.2.mem ((c.tc : Thread Cert.PostFirstReferenceIdeal.nD Cert.PostFirstReferenceIdeal.τ).loc Cert.PostFirstReferenceIdeal.main_arg7) = m ((c.tc : Thread Cert.PostFirstReferenceIdeal.nD Cert.PostFirstReferenceIdeal.τ).loc Cert.PostFirstReferenceIdeal.main_arg7)
      ∧ r.2.mem ((c.tc : Thread Cert.PostFirstReferenceIdeal.nD Cert.PostFirstReferenceIdeal.τ).loc Cert.PostFirstReferenceIdeal.main_arg8) = m ((c.tc : Thread Cert.PostFirstReferenceIdeal.nD Cert.PostFirstReferenceIdeal.τ).loc Cert.PostFirstReferenceIdeal.main_arg8)
      ∧ r.2.mem ((c.tc : Thread Cert.PostFirstReferenceIdeal.nD Cert.PostFirstReferenceIdeal.τ).loc Cert.PostFirstReferenceIdeal.main_arg9) = m ((c.tc : Thread Cert.PostFirstReferenceIdeal.nD Cert.PostFirstReferenceIdeal.τ).loc Cert.PostFirstReferenceIdeal.main_arg9)
      ∧ r.2.mem ((c.tc : Thread Cert.PostFirstReferenceIdeal.nD Cert.PostFirstReferenceIdeal.τ).loc Cert.PostFirstReferenceIdeal.main_arg10) = m ((c.tc : Thread Cert.PostFirstReferenceIdeal.nD Cert.PostFirstReferenceIdeal.τ).loc Cert.PostFirstReferenceIdeal.main_arg10))
      ∧ r.2.sem = fun _ => 0)

def quiescent_PostFirstReferenceIdeal_pre_post_first_finite [hPostFirstReferenceIdeal : Cert.PostFirstReferenceIdeal.Facts] [hPre_post_first_finite : Cert.Pre_post_first_finite.Facts] : Prop :=
  ∀ (m : (ℓ : Loc Cert.PostFirstReferenceIdeal.nD Cert.PostFirstReferenceIdeal.τ Cert.PostFirstReferenceIdeal.sig) → Buf (Elt Ideal) ℓ) (g : Dev Cert.PostFirstReferenceIdeal.nD → PrngReg), Pre_PostFirstReferenceIdeal_post_first_finite m →
    θ_run (Cert.PostFirstReferenceIdeal.defs (F := Ideal)) (onTc (τ := Cert.PostFirstReferenceIdeal.τ) (Cert.PostFirstReferenceIdeal.main (F := Ideal))) ⟨m, fun _ => 0, g⟩ (fun r => (∀ c : Dev Cert.PostFirstReferenceIdeal.nD,
      r.2.mem ((c.tc : Thread Cert.PostFirstReferenceIdeal.nD Cert.PostFirstReferenceIdeal.τ).loc Cert.PostFirstReferenceIdeal.main_arg0) = m ((c.tc : Thread Cert.PostFirstReferenceIdeal.nD Cert.PostFirstReferenceIdeal.τ).loc Cert.PostFirstReferenceIdeal.main_arg0)
      ∧ r.2.mem ((c.tc : Thread Cert.PostFirstReferenceIdeal.nD Cert.PostFirstReferenceIdeal.τ).loc Cert.PostFirstReferenceIdeal.main_arg1) = m ((c.tc : Thread Cert.PostFirstReferenceIdeal.nD Cert.PostFirstReferenceIdeal.τ).loc Cert.PostFirstReferenceIdeal.main_arg1)
      ∧ r.2.mem ((c.tc : Thread Cert.PostFirstReferenceIdeal.nD Cert.PostFirstReferenceIdeal.τ).loc Cert.PostFirstReferenceIdeal.main_arg2) = m ((c.tc : Thread Cert.PostFirstReferenceIdeal.nD Cert.PostFirstReferenceIdeal.τ).loc Cert.PostFirstReferenceIdeal.main_arg2)
      ∧ r.2.mem ((c.tc : Thread Cert.PostFirstReferenceIdeal.nD Cert.PostFirstReferenceIdeal.τ).loc Cert.PostFirstReferenceIdeal.main_arg3) = m ((c.tc : Thread Cert.PostFirstReferenceIdeal.nD Cert.PostFirstReferenceIdeal.τ).loc Cert.PostFirstReferenceIdeal.main_arg3)
      ∧ r.2.mem ((c.tc : Thread Cert.PostFirstReferenceIdeal.nD Cert.PostFirstReferenceIdeal.τ).loc Cert.PostFirstReferenceIdeal.main_arg4) = m ((c.tc : Thread Cert.PostFirstReferenceIdeal.nD Cert.PostFirstReferenceIdeal.τ).loc Cert.PostFirstReferenceIdeal.main_arg4)
      ∧ r.2.mem ((c.tc : Thread Cert.PostFirstReferenceIdeal.nD Cert.PostFirstReferenceIdeal.τ).loc Cert.PostFirstReferenceIdeal.main_arg5) = m ((c.tc : Thread Cert.PostFirstReferenceIdeal.nD Cert.PostFirstReferenceIdeal.τ).loc Cert.PostFirstReferenceIdeal.main_arg5)
      ∧ r.2.mem ((c.tc : Thread Cert.PostFirstReferenceIdeal.nD Cert.PostFirstReferenceIdeal.τ).loc Cert.PostFirstReferenceIdeal.main_arg6) = m ((c.tc : Thread Cert.PostFirstReferenceIdeal.nD Cert.PostFirstReferenceIdeal.τ).loc Cert.PostFirstReferenceIdeal.main_arg6)
      ∧ r.2.mem ((c.tc : Thread Cert.PostFirstReferenceIdeal.nD Cert.PostFirstReferenceIdeal.τ).loc Cert.PostFirstReferenceIdeal.main_arg7) = m ((c.tc : Thread Cert.PostFirstReferenceIdeal.nD Cert.PostFirstReferenceIdeal.τ).loc Cert.PostFirstReferenceIdeal.main_arg7)
      ∧ r.2.mem ((c.tc : Thread Cert.PostFirstReferenceIdeal.nD Cert.PostFirstReferenceIdeal.τ).loc Cert.PostFirstReferenceIdeal.main_arg8) = m ((c.tc : Thread Cert.PostFirstReferenceIdeal.nD Cert.PostFirstReferenceIdeal.τ).loc Cert.PostFirstReferenceIdeal.main_arg8)
      ∧ r.2.mem ((c.tc : Thread Cert.PostFirstReferenceIdeal.nD Cert.PostFirstReferenceIdeal.τ).loc Cert.PostFirstReferenceIdeal.main_arg9) = m ((c.tc : Thread Cert.PostFirstReferenceIdeal.nD Cert.PostFirstReferenceIdeal.τ).loc Cert.PostFirstReferenceIdeal.main_arg9)
      ∧ r.2.mem ((c.tc : Thread Cert.PostFirstReferenceIdeal.nD Cert.PostFirstReferenceIdeal.τ).loc Cert.PostFirstReferenceIdeal.main_arg10) = m ((c.tc : Thread Cert.PostFirstReferenceIdeal.nD Cert.PostFirstReferenceIdeal.τ).loc Cert.PostFirstReferenceIdeal.main_arg10))
      ∧ r.2.sem = fun _ => 0)

def quiescent_PreFirstKernel [hPreFirstKernel : Cert.PreFirstKernel.Facts] : Prop :=
  ∀ (m : (ℓ : Loc Cert.PreFirstKernel.nD Cert.PreFirstKernel.τ Cert.PreFirstKernel.sig) → Buf (Elt Bits) ℓ) (g : Dev Cert.PreFirstKernel.nD → PrngReg), Pre_PreFirstKernel m →
    θ_run (Cert.PreFirstKernel.defs (F := Bits)) (onTc (τ := Cert.PreFirstKernel.τ) (Cert.PreFirstKernel.main (F := Bits))) ⟨m, fun _ => 0, g⟩ (fun r => (∀ c : Dev Cert.PreFirstKernel.nD,
      r.2.mem ((c.tc : Thread Cert.PreFirstKernel.nD Cert.PreFirstKernel.τ).loc Cert.PreFirstKernel.main_arg0) = m ((c.tc : Thread Cert.PreFirstKernel.nD Cert.PreFirstKernel.τ).loc Cert.PreFirstKernel.main_arg0)
      ∧ r.2.mem ((c.tc : Thread Cert.PreFirstKernel.nD Cert.PreFirstKernel.τ).loc Cert.PreFirstKernel.main_arg1) = m ((c.tc : Thread Cert.PreFirstKernel.nD Cert.PreFirstKernel.τ).loc Cert.PreFirstKernel.main_arg1)
      ∧ r.2.mem ((c.tc : Thread Cert.PreFirstKernel.nD Cert.PreFirstKernel.τ).loc Cert.PreFirstKernel.main_arg2) = m ((c.tc : Thread Cert.PreFirstKernel.nD Cert.PreFirstKernel.τ).loc Cert.PreFirstKernel.main_arg2)
      ∧ r.2.mem ((c.tc : Thread Cert.PreFirstKernel.nD Cert.PreFirstKernel.τ).loc Cert.PreFirstKernel.main_arg3) = m ((c.tc : Thread Cert.PreFirstKernel.nD Cert.PreFirstKernel.τ).loc Cert.PreFirstKernel.main_arg3)
      ∧ r.2.mem ((c.tc : Thread Cert.PreFirstKernel.nD Cert.PreFirstKernel.τ).loc Cert.PreFirstKernel.main_arg4) = m ((c.tc : Thread Cert.PreFirstKernel.nD Cert.PreFirstKernel.τ).loc Cert.PreFirstKernel.main_arg4)
      ∧ r.2.mem ((c.tc : Thread Cert.PreFirstKernel.nD Cert.PreFirstKernel.τ).loc Cert.PreFirstKernel.main_arg5) = m ((c.tc : Thread Cert.PreFirstKernel.nD Cert.PreFirstKernel.τ).loc Cert.PreFirstKernel.main_arg5)
      ∧ r.2.mem ((c.tc : Thread Cert.PreFirstKernel.nD Cert.PreFirstKernel.τ).loc Cert.PreFirstKernel.main_arg6) = m ((c.tc : Thread Cert.PreFirstKernel.nD Cert.PreFirstKernel.τ).loc Cert.PreFirstKernel.main_arg6)
      ∧ r.2.mem ((c.tc : Thread Cert.PreFirstKernel.nD Cert.PreFirstKernel.τ).loc Cert.PreFirstKernel.main_arg7) = m ((c.tc : Thread Cert.PreFirstKernel.nD Cert.PreFirstKernel.τ).loc Cert.PreFirstKernel.main_arg7)
      ∧ r.2.mem ((c.tc : Thread Cert.PreFirstKernel.nD Cert.PreFirstKernel.τ).loc Cert.PreFirstKernel.main_arg8) = m ((c.tc : Thread Cert.PreFirstKernel.nD Cert.PreFirstKernel.τ).loc Cert.PreFirstKernel.main_arg8)
      ∧ r.2.mem ((c.tc : Thread Cert.PreFirstKernel.nD Cert.PreFirstKernel.τ).loc Cert.PreFirstKernel.main_arg9) = m ((c.tc : Thread Cert.PreFirstKernel.nD Cert.PreFirstKernel.τ).loc Cert.PreFirstKernel.main_arg9)
      ∧ r.2.mem ((c.tc : Thread Cert.PreFirstKernel.nD Cert.PreFirstKernel.τ).loc Cert.PreFirstKernel.main_arg10) = m ((c.tc : Thread Cert.PreFirstKernel.nD Cert.PreFirstKernel.τ).loc Cert.PreFirstKernel.main_arg10))
      ∧ r.2.sem = fun _ => 0)

def quiescent_PreFirstKernelIdeal [hPreFirstKernelIdeal : Cert.PreFirstKernelIdeal.Facts] : Prop :=
  ∀ (m : (ℓ : Loc Cert.PreFirstKernelIdeal.nD Cert.PreFirstKernelIdeal.τ Cert.PreFirstKernelIdeal.sig) → Buf (Elt Ideal) ℓ) (g : Dev Cert.PreFirstKernelIdeal.nD → PrngReg), Pre_PreFirstKernelIdeal m →
    θ_run (Cert.PreFirstKernelIdeal.defs (F := Ideal)) (onTc (τ := Cert.PreFirstKernelIdeal.τ) (Cert.PreFirstKernelIdeal.main (F := Ideal))) ⟨m, fun _ => 0, g⟩ (fun r => (∀ c : Dev Cert.PreFirstKernelIdeal.nD,
      r.2.mem ((c.tc : Thread Cert.PreFirstKernelIdeal.nD Cert.PreFirstKernelIdeal.τ).loc Cert.PreFirstKernelIdeal.main_arg0) = m ((c.tc : Thread Cert.PreFirstKernelIdeal.nD Cert.PreFirstKernelIdeal.τ).loc Cert.PreFirstKernelIdeal.main_arg0)
      ∧ r.2.mem ((c.tc : Thread Cert.PreFirstKernelIdeal.nD Cert.PreFirstKernelIdeal.τ).loc Cert.PreFirstKernelIdeal.main_arg1) = m ((c.tc : Thread Cert.PreFirstKernelIdeal.nD Cert.PreFirstKernelIdeal.τ).loc Cert.PreFirstKernelIdeal.main_arg1)
      ∧ r.2.mem ((c.tc : Thread Cert.PreFirstKernelIdeal.nD Cert.PreFirstKernelIdeal.τ).loc Cert.PreFirstKernelIdeal.main_arg2) = m ((c.tc : Thread Cert.PreFirstKernelIdeal.nD Cert.PreFirstKernelIdeal.τ).loc Cert.PreFirstKernelIdeal.main_arg2)
      ∧ r.2.mem ((c.tc : Thread Cert.PreFirstKernelIdeal.nD Cert.PreFirstKernelIdeal.τ).loc Cert.PreFirstKernelIdeal.main_arg3) = m ((c.tc : Thread Cert.PreFirstKernelIdeal.nD Cert.PreFirstKernelIdeal.τ).loc Cert.PreFirstKernelIdeal.main_arg3)
      ∧ r.2.mem ((c.tc : Thread Cert.PreFirstKernelIdeal.nD Cert.PreFirstKernelIdeal.τ).loc Cert.PreFirstKernelIdeal.main_arg4) = m ((c.tc : Thread Cert.PreFirstKernelIdeal.nD Cert.PreFirstKernelIdeal.τ).loc Cert.PreFirstKernelIdeal.main_arg4)
      ∧ r.2.mem ((c.tc : Thread Cert.PreFirstKernelIdeal.nD Cert.PreFirstKernelIdeal.τ).loc Cert.PreFirstKernelIdeal.main_arg5) = m ((c.tc : Thread Cert.PreFirstKernelIdeal.nD Cert.PreFirstKernelIdeal.τ).loc Cert.PreFirstKernelIdeal.main_arg5)
      ∧ r.2.mem ((c.tc : Thread Cert.PreFirstKernelIdeal.nD Cert.PreFirstKernelIdeal.τ).loc Cert.PreFirstKernelIdeal.main_arg6) = m ((c.tc : Thread Cert.PreFirstKernelIdeal.nD Cert.PreFirstKernelIdeal.τ).loc Cert.PreFirstKernelIdeal.main_arg6)
      ∧ r.2.mem ((c.tc : Thread Cert.PreFirstKernelIdeal.nD Cert.PreFirstKernelIdeal.τ).loc Cert.PreFirstKernelIdeal.main_arg7) = m ((c.tc : Thread Cert.PreFirstKernelIdeal.nD Cert.PreFirstKernelIdeal.τ).loc Cert.PreFirstKernelIdeal.main_arg7)
      ∧ r.2.mem ((c.tc : Thread Cert.PreFirstKernelIdeal.nD Cert.PreFirstKernelIdeal.τ).loc Cert.PreFirstKernelIdeal.main_arg8) = m ((c.tc : Thread Cert.PreFirstKernelIdeal.nD Cert.PreFirstKernelIdeal.τ).loc Cert.PreFirstKernelIdeal.main_arg8)
      ∧ r.2.mem ((c.tc : Thread Cert.PreFirstKernelIdeal.nD Cert.PreFirstKernelIdeal.τ).loc Cert.PreFirstKernelIdeal.main_arg9) = m ((c.tc : Thread Cert.PreFirstKernelIdeal.nD Cert.PreFirstKernelIdeal.τ).loc Cert.PreFirstKernelIdeal.main_arg9)
      ∧ r.2.mem ((c.tc : Thread Cert.PreFirstKernelIdeal.nD Cert.PreFirstKernelIdeal.τ).loc Cert.PreFirstKernelIdeal.main_arg10) = m ((c.tc : Thread Cert.PreFirstKernelIdeal.nD Cert.PreFirstKernelIdeal.τ).loc Cert.PreFirstKernelIdeal.main_arg10))
      ∧ r.2.sem = fun _ => 0)

def quiescent_PreFirstKernelIdeal_pre_pre_first_finite [hPreFirstKernelIdeal : Cert.PreFirstKernelIdeal.Facts] [hPre_pre_first_finite : Cert.Pre_pre_first_finite.Facts] : Prop :=
  ∀ (m : (ℓ : Loc Cert.PreFirstKernelIdeal.nD Cert.PreFirstKernelIdeal.τ Cert.PreFirstKernelIdeal.sig) → Buf (Elt Ideal) ℓ) (g : Dev Cert.PreFirstKernelIdeal.nD → PrngReg), Pre_PreFirstKernelIdeal_pre_first_finite m →
    θ_run (Cert.PreFirstKernelIdeal.defs (F := Ideal)) (onTc (τ := Cert.PreFirstKernelIdeal.τ) (Cert.PreFirstKernelIdeal.main (F := Ideal))) ⟨m, fun _ => 0, g⟩ (fun r => (∀ c : Dev Cert.PreFirstKernelIdeal.nD,
      r.2.mem ((c.tc : Thread Cert.PreFirstKernelIdeal.nD Cert.PreFirstKernelIdeal.τ).loc Cert.PreFirstKernelIdeal.main_arg0) = m ((c.tc : Thread Cert.PreFirstKernelIdeal.nD Cert.PreFirstKernelIdeal.τ).loc Cert.PreFirstKernelIdeal.main_arg0)
      ∧ r.2.mem ((c.tc : Thread Cert.PreFirstKernelIdeal.nD Cert.PreFirstKernelIdeal.τ).loc Cert.PreFirstKernelIdeal.main_arg1) = m ((c.tc : Thread Cert.PreFirstKernelIdeal.nD Cert.PreFirstKernelIdeal.τ).loc Cert.PreFirstKernelIdeal.main_arg1)
      ∧ r.2.mem ((c.tc : Thread Cert.PreFirstKernelIdeal.nD Cert.PreFirstKernelIdeal.τ).loc Cert.PreFirstKernelIdeal.main_arg2) = m ((c.tc : Thread Cert.PreFirstKernelIdeal.nD Cert.PreFirstKernelIdeal.τ).loc Cert.PreFirstKernelIdeal.main_arg2)
      ∧ r.2.mem ((c.tc : Thread Cert.PreFirstKernelIdeal.nD Cert.PreFirstKernelIdeal.τ).loc Cert.PreFirstKernelIdeal.main_arg3) = m ((c.tc : Thread Cert.PreFirstKernelIdeal.nD Cert.PreFirstKernelIdeal.τ).loc Cert.PreFirstKernelIdeal.main_arg3)
      ∧ r.2.mem ((c.tc : Thread Cert.PreFirstKernelIdeal.nD Cert.PreFirstKernelIdeal.τ).loc Cert.PreFirstKernelIdeal.main_arg4) = m ((c.tc : Thread Cert.PreFirstKernelIdeal.nD Cert.PreFirstKernelIdeal.τ).loc Cert.PreFirstKernelIdeal.main_arg4)
      ∧ r.2.mem ((c.tc : Thread Cert.PreFirstKernelIdeal.nD Cert.PreFirstKernelIdeal.τ).loc Cert.PreFirstKernelIdeal.main_arg5) = m ((c.tc : Thread Cert.PreFirstKernelIdeal.nD Cert.PreFirstKernelIdeal.τ).loc Cert.PreFirstKernelIdeal.main_arg5)
      ∧ r.2.mem ((c.tc : Thread Cert.PreFirstKernelIdeal.nD Cert.PreFirstKernelIdeal.τ).loc Cert.PreFirstKernelIdeal.main_arg6) = m ((c.tc : Thread Cert.PreFirstKernelIdeal.nD Cert.PreFirstKernelIdeal.τ).loc Cert.PreFirstKernelIdeal.main_arg6)
      ∧ r.2.mem ((c.tc : Thread Cert.PreFirstKernelIdeal.nD Cert.PreFirstKernelIdeal.τ).loc Cert.PreFirstKernelIdeal.main_arg7) = m ((c.tc : Thread Cert.PreFirstKernelIdeal.nD Cert.PreFirstKernelIdeal.τ).loc Cert.PreFirstKernelIdeal.main_arg7)
      ∧ r.2.mem ((c.tc : Thread Cert.PreFirstKernelIdeal.nD Cert.PreFirstKernelIdeal.τ).loc Cert.PreFirstKernelIdeal.main_arg8) = m ((c.tc : Thread Cert.PreFirstKernelIdeal.nD Cert.PreFirstKernelIdeal.τ).loc Cert.PreFirstKernelIdeal.main_arg8)
      ∧ r.2.mem ((c.tc : Thread Cert.PreFirstKernelIdeal.nD Cert.PreFirstKernelIdeal.τ).loc Cert.PreFirstKernelIdeal.main_arg9) = m ((c.tc : Thread Cert.PreFirstKernelIdeal.nD Cert.PreFirstKernelIdeal.τ).loc Cert.PreFirstKernelIdeal.main_arg9)
      ∧ r.2.mem ((c.tc : Thread Cert.PreFirstKernelIdeal.nD Cert.PreFirstKernelIdeal.τ).loc Cert.PreFirstKernelIdeal.main_arg10) = m ((c.tc : Thread Cert.PreFirstKernelIdeal.nD Cert.PreFirstKernelIdeal.τ).loc Cert.PreFirstKernelIdeal.main_arg10))
      ∧ r.2.sem = fun _ => 0)

def quiescent_PreFirstReferenceIdeal [hPreFirstReferenceIdeal : Cert.PreFirstReferenceIdeal.Facts] : Prop :=
  ∀ (m : (ℓ : Loc Cert.PreFirstReferenceIdeal.nD Cert.PreFirstReferenceIdeal.τ Cert.PreFirstReferenceIdeal.sig) → Buf (Elt Ideal) ℓ) (g : Dev Cert.PreFirstReferenceIdeal.nD → PrngReg), Pre_PreFirstReferenceIdeal m →
    θ_run (Cert.PreFirstReferenceIdeal.defs (F := Ideal)) (onTc (τ := Cert.PreFirstReferenceIdeal.τ) (Cert.PreFirstReferenceIdeal.main (F := Ideal))) ⟨m, fun _ => 0, g⟩ (fun r => (∀ c : Dev Cert.PreFirstReferenceIdeal.nD,
      r.2.mem ((c.tc : Thread Cert.PreFirstReferenceIdeal.nD Cert.PreFirstReferenceIdeal.τ).loc Cert.PreFirstReferenceIdeal.main_arg0) = m ((c.tc : Thread Cert.PreFirstReferenceIdeal.nD Cert.PreFirstReferenceIdeal.τ).loc Cert.PreFirstReferenceIdeal.main_arg0)
      ∧ r.2.mem ((c.tc : Thread Cert.PreFirstReferenceIdeal.nD Cert.PreFirstReferenceIdeal.τ).loc Cert.PreFirstReferenceIdeal.main_arg1) = m ((c.tc : Thread Cert.PreFirstReferenceIdeal.nD Cert.PreFirstReferenceIdeal.τ).loc Cert.PreFirstReferenceIdeal.main_arg1)
      ∧ r.2.mem ((c.tc : Thread Cert.PreFirstReferenceIdeal.nD Cert.PreFirstReferenceIdeal.τ).loc Cert.PreFirstReferenceIdeal.main_arg2) = m ((c.tc : Thread Cert.PreFirstReferenceIdeal.nD Cert.PreFirstReferenceIdeal.τ).loc Cert.PreFirstReferenceIdeal.main_arg2)
      ∧ r.2.mem ((c.tc : Thread Cert.PreFirstReferenceIdeal.nD Cert.PreFirstReferenceIdeal.τ).loc Cert.PreFirstReferenceIdeal.main_arg3) = m ((c.tc : Thread Cert.PreFirstReferenceIdeal.nD Cert.PreFirstReferenceIdeal.τ).loc Cert.PreFirstReferenceIdeal.main_arg3)
      ∧ r.2.mem ((c.tc : Thread Cert.PreFirstReferenceIdeal.nD Cert.PreFirstReferenceIdeal.τ).loc Cert.PreFirstReferenceIdeal.main_arg4) = m ((c.tc : Thread Cert.PreFirstReferenceIdeal.nD Cert.PreFirstReferenceIdeal.τ).loc Cert.PreFirstReferenceIdeal.main_arg4)
      ∧ r.2.mem ((c.tc : Thread Cert.PreFirstReferenceIdeal.nD Cert.PreFirstReferenceIdeal.τ).loc Cert.PreFirstReferenceIdeal.main_arg5) = m ((c.tc : Thread Cert.PreFirstReferenceIdeal.nD Cert.PreFirstReferenceIdeal.τ).loc Cert.PreFirstReferenceIdeal.main_arg5)
      ∧ r.2.mem ((c.tc : Thread Cert.PreFirstReferenceIdeal.nD Cert.PreFirstReferenceIdeal.τ).loc Cert.PreFirstReferenceIdeal.main_arg6) = m ((c.tc : Thread Cert.PreFirstReferenceIdeal.nD Cert.PreFirstReferenceIdeal.τ).loc Cert.PreFirstReferenceIdeal.main_arg6)
      ∧ r.2.mem ((c.tc : Thread Cert.PreFirstReferenceIdeal.nD Cert.PreFirstReferenceIdeal.τ).loc Cert.PreFirstReferenceIdeal.main_arg7) = m ((c.tc : Thread Cert.PreFirstReferenceIdeal.nD Cert.PreFirstReferenceIdeal.τ).loc Cert.PreFirstReferenceIdeal.main_arg7)
      ∧ r.2.mem ((c.tc : Thread Cert.PreFirstReferenceIdeal.nD Cert.PreFirstReferenceIdeal.τ).loc Cert.PreFirstReferenceIdeal.main_arg8) = m ((c.tc : Thread Cert.PreFirstReferenceIdeal.nD Cert.PreFirstReferenceIdeal.τ).loc Cert.PreFirstReferenceIdeal.main_arg8)
      ∧ r.2.mem ((c.tc : Thread Cert.PreFirstReferenceIdeal.nD Cert.PreFirstReferenceIdeal.τ).loc Cert.PreFirstReferenceIdeal.main_arg9) = m ((c.tc : Thread Cert.PreFirstReferenceIdeal.nD Cert.PreFirstReferenceIdeal.τ).loc Cert.PreFirstReferenceIdeal.main_arg9)
      ∧ r.2.mem ((c.tc : Thread Cert.PreFirstReferenceIdeal.nD Cert.PreFirstReferenceIdeal.τ).loc Cert.PreFirstReferenceIdeal.main_arg10) = m ((c.tc : Thread Cert.PreFirstReferenceIdeal.nD Cert.PreFirstReferenceIdeal.τ).loc Cert.PreFirstReferenceIdeal.main_arg10))
      ∧ r.2.sem = fun _ => 0)

def quiescent_PreFirstReferenceIdeal_pre_pre_first_finite [hPreFirstReferenceIdeal : Cert.PreFirstReferenceIdeal.Facts] [hPre_pre_first_finite : Cert.Pre_pre_first_finite.Facts] : Prop :=
  ∀ (m : (ℓ : Loc Cert.PreFirstReferenceIdeal.nD Cert.PreFirstReferenceIdeal.τ Cert.PreFirstReferenceIdeal.sig) → Buf (Elt Ideal) ℓ) (g : Dev Cert.PreFirstReferenceIdeal.nD → PrngReg), Pre_PreFirstReferenceIdeal_pre_first_finite m →
    θ_run (Cert.PreFirstReferenceIdeal.defs (F := Ideal)) (onTc (τ := Cert.PreFirstReferenceIdeal.τ) (Cert.PreFirstReferenceIdeal.main (F := Ideal))) ⟨m, fun _ => 0, g⟩ (fun r => (∀ c : Dev Cert.PreFirstReferenceIdeal.nD,
      r.2.mem ((c.tc : Thread Cert.PreFirstReferenceIdeal.nD Cert.PreFirstReferenceIdeal.τ).loc Cert.PreFirstReferenceIdeal.main_arg0) = m ((c.tc : Thread Cert.PreFirstReferenceIdeal.nD Cert.PreFirstReferenceIdeal.τ).loc Cert.PreFirstReferenceIdeal.main_arg0)
      ∧ r.2.mem ((c.tc : Thread Cert.PreFirstReferenceIdeal.nD Cert.PreFirstReferenceIdeal.τ).loc Cert.PreFirstReferenceIdeal.main_arg1) = m ((c.tc : Thread Cert.PreFirstReferenceIdeal.nD Cert.PreFirstReferenceIdeal.τ).loc Cert.PreFirstReferenceIdeal.main_arg1)
      ∧ r.2.mem ((c.tc : Thread Cert.PreFirstReferenceIdeal.nD Cert.PreFirstReferenceIdeal.τ).loc Cert.PreFirstReferenceIdeal.main_arg2) = m ((c.tc : Thread Cert.PreFirstReferenceIdeal.nD Cert.PreFirstReferenceIdeal.τ).loc Cert.PreFirstReferenceIdeal.main_arg2)
      ∧ r.2.mem ((c.tc : Thread Cert.PreFirstReferenceIdeal.nD Cert.PreFirstReferenceIdeal.τ).loc Cert.PreFirstReferenceIdeal.main_arg3) = m ((c.tc : Thread Cert.PreFirstReferenceIdeal.nD Cert.PreFirstReferenceIdeal.τ).loc Cert.PreFirstReferenceIdeal.main_arg3)
      ∧ r.2.mem ((c.tc : Thread Cert.PreFirstReferenceIdeal.nD Cert.PreFirstReferenceIdeal.τ).loc Cert.PreFirstReferenceIdeal.main_arg4) = m ((c.tc : Thread Cert.PreFirstReferenceIdeal.nD Cert.PreFirstReferenceIdeal.τ).loc Cert.PreFirstReferenceIdeal.main_arg4)
      ∧ r.2.mem ((c.tc : Thread Cert.PreFirstReferenceIdeal.nD Cert.PreFirstReferenceIdeal.τ).loc Cert.PreFirstReferenceIdeal.main_arg5) = m ((c.tc : Thread Cert.PreFirstReferenceIdeal.nD Cert.PreFirstReferenceIdeal.τ).loc Cert.PreFirstReferenceIdeal.main_arg5)
      ∧ r.2.mem ((c.tc : Thread Cert.PreFirstReferenceIdeal.nD Cert.PreFirstReferenceIdeal.τ).loc Cert.PreFirstReferenceIdeal.main_arg6) = m ((c.tc : Thread Cert.PreFirstReferenceIdeal.nD Cert.PreFirstReferenceIdeal.τ).loc Cert.PreFirstReferenceIdeal.main_arg6)
      ∧ r.2.mem ((c.tc : Thread Cert.PreFirstReferenceIdeal.nD Cert.PreFirstReferenceIdeal.τ).loc Cert.PreFirstReferenceIdeal.main_arg7) = m ((c.tc : Thread Cert.PreFirstReferenceIdeal.nD Cert.PreFirstReferenceIdeal.τ).loc Cert.PreFirstReferenceIdeal.main_arg7)
      ∧ r.2.mem ((c.tc : Thread Cert.PreFirstReferenceIdeal.nD Cert.PreFirstReferenceIdeal.τ).loc Cert.PreFirstReferenceIdeal.main_arg8) = m ((c.tc : Thread Cert.PreFirstReferenceIdeal.nD Cert.PreFirstReferenceIdeal.τ).loc Cert.PreFirstReferenceIdeal.main_arg8)
      ∧ r.2.mem ((c.tc : Thread Cert.PreFirstReferenceIdeal.nD Cert.PreFirstReferenceIdeal.τ).loc Cert.PreFirstReferenceIdeal.main_arg9) = m ((c.tc : Thread Cert.PreFirstReferenceIdeal.nD Cert.PreFirstReferenceIdeal.τ).loc Cert.PreFirstReferenceIdeal.main_arg9)
      ∧ r.2.mem ((c.tc : Thread Cert.PreFirstReferenceIdeal.nD Cert.PreFirstReferenceIdeal.τ).loc Cert.PreFirstReferenceIdeal.main_arg10) = m ((c.tc : Thread Cert.PreFirstReferenceIdeal.nD Cert.PreFirstReferenceIdeal.τ).loc Cert.PreFirstReferenceIdeal.main_arg10))
      ∧ r.2.sem = fun _ => 0)

def quiescent_QkvNaKernel [hQkvNaKernel : Cert.QkvNaKernel.Facts] : Prop :=
  ∀ (m : (ℓ : Loc Cert.QkvNaKernel.nD Cert.QkvNaKernel.τ Cert.QkvNaKernel.sig) → Buf (Elt Bits) ℓ) (g : Dev Cert.QkvNaKernel.nD → PrngReg), Pre_QkvNaKernel m →
    θ_run (Cert.QkvNaKernel.defs (F := Bits)) (onTc (τ := Cert.QkvNaKernel.τ) (Cert.QkvNaKernel.main (F := Bits))) ⟨m, fun _ => 0, g⟩ (fun r => (∀ c : Dev Cert.QkvNaKernel.nD,
      r.2.mem ((c.tc : Thread Cert.QkvNaKernel.nD Cert.QkvNaKernel.τ).loc Cert.QkvNaKernel.main_arg0) = m ((c.tc : Thread Cert.QkvNaKernel.nD Cert.QkvNaKernel.τ).loc Cert.QkvNaKernel.main_arg0)
      ∧ r.2.mem ((c.tc : Thread Cert.QkvNaKernel.nD Cert.QkvNaKernel.τ).loc Cert.QkvNaKernel.main_arg1) = m ((c.tc : Thread Cert.QkvNaKernel.nD Cert.QkvNaKernel.τ).loc Cert.QkvNaKernel.main_arg1)
      ∧ r.2.mem ((c.tc : Thread Cert.QkvNaKernel.nD Cert.QkvNaKernel.τ).loc Cert.QkvNaKernel.main_arg2) = m ((c.tc : Thread Cert.QkvNaKernel.nD Cert.QkvNaKernel.τ).loc Cert.QkvNaKernel.main_arg2))
      ∧ r.2.sem = fun _ => 0)

def quiescent_QkvNaKernelIdeal [hQkvNaKernelIdeal : Cert.QkvNaKernelIdeal.Facts] : Prop :=
  ∀ (m : (ℓ : Loc Cert.QkvNaKernelIdeal.nD Cert.QkvNaKernelIdeal.τ Cert.QkvNaKernelIdeal.sig) → Buf (Elt Ideal) ℓ) (g : Dev Cert.QkvNaKernelIdeal.nD → PrngReg), Pre_QkvNaKernelIdeal m →
    θ_run (Cert.QkvNaKernelIdeal.defs (F := Ideal)) (onTc (τ := Cert.QkvNaKernelIdeal.τ) (Cert.QkvNaKernelIdeal.main (F := Ideal))) ⟨m, fun _ => 0, g⟩ (fun r => (∀ c : Dev Cert.QkvNaKernelIdeal.nD,
      r.2.mem ((c.tc : Thread Cert.QkvNaKernelIdeal.nD Cert.QkvNaKernelIdeal.τ).loc Cert.QkvNaKernelIdeal.main_arg0) = m ((c.tc : Thread Cert.QkvNaKernelIdeal.nD Cert.QkvNaKernelIdeal.τ).loc Cert.QkvNaKernelIdeal.main_arg0)
      ∧ r.2.mem ((c.tc : Thread Cert.QkvNaKernelIdeal.nD Cert.QkvNaKernelIdeal.τ).loc Cert.QkvNaKernelIdeal.main_arg1) = m ((c.tc : Thread Cert.QkvNaKernelIdeal.nD Cert.QkvNaKernelIdeal.τ).loc Cert.QkvNaKernelIdeal.main_arg1)
      ∧ r.2.mem ((c.tc : Thread Cert.QkvNaKernelIdeal.nD Cert.QkvNaKernelIdeal.τ).loc Cert.QkvNaKernelIdeal.main_arg2) = m ((c.tc : Thread Cert.QkvNaKernelIdeal.nD Cert.QkvNaKernelIdeal.τ).loc Cert.QkvNaKernelIdeal.main_arg2))
      ∧ r.2.sem = fun _ => 0)

def quiescent_QkvNaReferenceIdeal [hQkvNaReferenceIdeal : Cert.QkvNaReferenceIdeal.Facts] : Prop :=
  ∀ (m : (ℓ : Loc Cert.QkvNaReferenceIdeal.nD Cert.QkvNaReferenceIdeal.τ Cert.QkvNaReferenceIdeal.sig) → Buf (Elt Ideal) ℓ) (g : Dev Cert.QkvNaReferenceIdeal.nD → PrngReg), Pre_QkvNaReferenceIdeal m →
    θ_run (Cert.QkvNaReferenceIdeal.defs (F := Ideal)) (onTc (τ := Cert.QkvNaReferenceIdeal.τ) (Cert.QkvNaReferenceIdeal.main (F := Ideal))) ⟨m, fun _ => 0, g⟩ (fun r => (∀ c : Dev Cert.QkvNaReferenceIdeal.nD,
      r.2.mem ((c.tc : Thread Cert.QkvNaReferenceIdeal.nD Cert.QkvNaReferenceIdeal.τ).loc Cert.QkvNaReferenceIdeal.main_arg0) = m ((c.tc : Thread Cert.QkvNaReferenceIdeal.nD Cert.QkvNaReferenceIdeal.τ).loc Cert.QkvNaReferenceIdeal.main_arg0)
      ∧ r.2.mem ((c.tc : Thread Cert.QkvNaReferenceIdeal.nD Cert.QkvNaReferenceIdeal.τ).loc Cert.QkvNaReferenceIdeal.main_arg1) = m ((c.tc : Thread Cert.QkvNaReferenceIdeal.nD Cert.QkvNaReferenceIdeal.τ).loc Cert.QkvNaReferenceIdeal.main_arg1)
      ∧ r.2.mem ((c.tc : Thread Cert.QkvNaReferenceIdeal.nD Cert.QkvNaReferenceIdeal.τ).loc Cert.QkvNaReferenceIdeal.main_arg2) = m ((c.tc : Thread Cert.QkvNaReferenceIdeal.nD Cert.QkvNaReferenceIdeal.τ).loc Cert.QkvNaReferenceIdeal.main_arg2))
      ∧ r.2.sem = fun _ => 0)

def quiescent_QkvWaKernel [hQkvWaKernel : Cert.QkvWaKernel.Facts] : Prop :=
  ∀ (m : (ℓ : Loc Cert.QkvWaKernel.nD Cert.QkvWaKernel.τ Cert.QkvWaKernel.sig) → Buf (Elt Bits) ℓ) (g : Dev Cert.QkvWaKernel.nD → PrngReg), Pre_QkvWaKernel m →
    θ_run (Cert.QkvWaKernel.defs (F := Bits)) (onTc (τ := Cert.QkvWaKernel.τ) (Cert.QkvWaKernel.main (F := Bits))) ⟨m, fun _ => 0, g⟩ (fun r => (∀ c : Dev Cert.QkvWaKernel.nD,
      r.2.mem ((c.tc : Thread Cert.QkvWaKernel.nD Cert.QkvWaKernel.τ).loc Cert.QkvWaKernel.main_arg0) = m ((c.tc : Thread Cert.QkvWaKernel.nD Cert.QkvWaKernel.τ).loc Cert.QkvWaKernel.main_arg0)
      ∧ r.2.mem ((c.tc : Thread Cert.QkvWaKernel.nD Cert.QkvWaKernel.τ).loc Cert.QkvWaKernel.main_arg1) = m ((c.tc : Thread Cert.QkvWaKernel.nD Cert.QkvWaKernel.τ).loc Cert.QkvWaKernel.main_arg1)
      ∧ r.2.mem ((c.tc : Thread Cert.QkvWaKernel.nD Cert.QkvWaKernel.τ).loc Cert.QkvWaKernel.main_arg2) = m ((c.tc : Thread Cert.QkvWaKernel.nD Cert.QkvWaKernel.τ).loc Cert.QkvWaKernel.main_arg2))
      ∧ r.2.sem = fun _ => 0)

def quiescent_QkvWaKernelIdeal [hQkvWaKernelIdeal : Cert.QkvWaKernelIdeal.Facts] : Prop :=
  ∀ (m : (ℓ : Loc Cert.QkvWaKernelIdeal.nD Cert.QkvWaKernelIdeal.τ Cert.QkvWaKernelIdeal.sig) → Buf (Elt Ideal) ℓ) (g : Dev Cert.QkvWaKernelIdeal.nD → PrngReg), Pre_QkvWaKernelIdeal m →
    θ_run (Cert.QkvWaKernelIdeal.defs (F := Ideal)) (onTc (τ := Cert.QkvWaKernelIdeal.τ) (Cert.QkvWaKernelIdeal.main (F := Ideal))) ⟨m, fun _ => 0, g⟩ (fun r => (∀ c : Dev Cert.QkvWaKernelIdeal.nD,
      r.2.mem ((c.tc : Thread Cert.QkvWaKernelIdeal.nD Cert.QkvWaKernelIdeal.τ).loc Cert.QkvWaKernelIdeal.main_arg0) = m ((c.tc : Thread Cert.QkvWaKernelIdeal.nD Cert.QkvWaKernelIdeal.τ).loc Cert.QkvWaKernelIdeal.main_arg0)
      ∧ r.2.mem ((c.tc : Thread Cert.QkvWaKernelIdeal.nD Cert.QkvWaKernelIdeal.τ).loc Cert.QkvWaKernelIdeal.main_arg1) = m ((c.tc : Thread Cert.QkvWaKernelIdeal.nD Cert.QkvWaKernelIdeal.τ).loc Cert.QkvWaKernelIdeal.main_arg1)
      ∧ r.2.mem ((c.tc : Thread Cert.QkvWaKernelIdeal.nD Cert.QkvWaKernelIdeal.τ).loc Cert.QkvWaKernelIdeal.main_arg2) = m ((c.tc : Thread Cert.QkvWaKernelIdeal.nD Cert.QkvWaKernelIdeal.τ).loc Cert.QkvWaKernelIdeal.main_arg2))
      ∧ r.2.sem = fun _ => 0)

def quiescent_QkvWaReferenceIdeal [hQkvWaReferenceIdeal : Cert.QkvWaReferenceIdeal.Facts] : Prop :=
  ∀ (m : (ℓ : Loc Cert.QkvWaReferenceIdeal.nD Cert.QkvWaReferenceIdeal.τ Cert.QkvWaReferenceIdeal.sig) → Buf (Elt Ideal) ℓ) (g : Dev Cert.QkvWaReferenceIdeal.nD → PrngReg), Pre_QkvWaReferenceIdeal m →
    θ_run (Cert.QkvWaReferenceIdeal.defs (F := Ideal)) (onTc (τ := Cert.QkvWaReferenceIdeal.τ) (Cert.QkvWaReferenceIdeal.main (F := Ideal))) ⟨m, fun _ => 0, g⟩ (fun r => (∀ c : Dev Cert.QkvWaReferenceIdeal.nD,
      r.2.mem ((c.tc : Thread Cert.QkvWaReferenceIdeal.nD Cert.QkvWaReferenceIdeal.τ).loc Cert.QkvWaReferenceIdeal.main_arg0) = m ((c.tc : Thread Cert.QkvWaReferenceIdeal.nD Cert.QkvWaReferenceIdeal.τ).loc Cert.QkvWaReferenceIdeal.main_arg0)
      ∧ r.2.mem ((c.tc : Thread Cert.QkvWaReferenceIdeal.nD Cert.QkvWaReferenceIdeal.τ).loc Cert.QkvWaReferenceIdeal.main_arg1) = m ((c.tc : Thread Cert.QkvWaReferenceIdeal.nD Cert.QkvWaReferenceIdeal.τ).loc Cert.QkvWaReferenceIdeal.main_arg1)
      ∧ r.2.mem ((c.tc : Thread Cert.QkvWaReferenceIdeal.nD Cert.QkvWaReferenceIdeal.τ).loc Cert.QkvWaReferenceIdeal.main_arg2) = m ((c.tc : Thread Cert.QkvWaReferenceIdeal.nD Cert.QkvWaReferenceIdeal.τ).loc Cert.QkvWaReferenceIdeal.main_arg2))
      ∧ r.2.sem = fun _ => 0)

def preserves_WaKernel_WaKernelIdeal : Prop :=
  IdealRules.named_const.Statement Cert.WaKernelIdeal.κ "mask" .f32 0xF149F2CA#32 ⊥
  ∧ IdealRules.named_const.Statement Cert.WaKernelIdeal.κ "log2e" .f32 0x3FB8AA3B#32 (((Real.log 2)⁻¹ : ℝ) : EReal)

def algebraic_WaKernelIdeal_WaReferenceIdeal_pre_wa_finite [hWaKernelIdeal : Cert.WaKernelIdeal.Facts] [hWaReferenceIdeal : Cert.WaReferenceIdeal.Facts] [hPre_wa_finite : Cert.Pre_wa_finite.Facts] : Prop :=
  ∀ (m : (ℓ : Loc Cert.WaKernelIdeal.nD Cert.WaKernelIdeal.τ Cert.WaKernelIdeal.sig) → Buf (Elt Ideal) ℓ) (g : Dev Cert.WaKernelIdeal.nD → PrngReg)
    (m' : (ℓ : Loc Cert.WaReferenceIdeal.nD Cert.WaReferenceIdeal.τ Cert.WaReferenceIdeal.sig) → Buf (Elt Ideal) ℓ) (g' : Dev Cert.WaReferenceIdeal.nD → PrngReg), Pre_WaKernelIdeal_wa_finite m →
    (∀ c : Dev Cert.WaKernelIdeal.nD,
      m' ((c.tc : Thread Cert.WaReferenceIdeal.nD Cert.WaReferenceIdeal.τ).loc Cert.WaReferenceIdeal.main_arg0) = m ((c.tc : Thread Cert.WaKernelIdeal.nD Cert.WaKernelIdeal.τ).loc Cert.WaKernelIdeal.main_arg0)
      ∧ m' ((c.tc : Thread Cert.WaReferenceIdeal.nD Cert.WaReferenceIdeal.τ).loc Cert.WaReferenceIdeal.main_arg1) = m ((c.tc : Thread Cert.WaKernelIdeal.nD Cert.WaKernelIdeal.τ).loc Cert.WaKernelIdeal.main_arg1)
      ∧ m' ((c.tc : Thread Cert.WaReferenceIdeal.nD Cert.WaReferenceIdeal.τ).loc Cert.WaReferenceIdeal.main_arg2) = m ((c.tc : Thread Cert.WaKernelIdeal.nD Cert.WaKernelIdeal.τ).loc Cert.WaKernelIdeal.main_arg2)
      ∧ m' ((c.tc : Thread Cert.WaReferenceIdeal.nD Cert.WaReferenceIdeal.τ).loc Cert.WaReferenceIdeal.main_arg3) = m ((c.tc : Thread Cert.WaKernelIdeal.nD Cert.WaKernelIdeal.τ).loc Cert.WaKernelIdeal.main_arg3)) →
    ∃ (v0 : (c : Dev Cert.WaKernelIdeal.nD) → Buf (Elt Ideal) ((c.tc : Thread Cert.WaKernelIdeal.nD Cert.WaKernelIdeal.τ).loc Cert.WaKernelIdeal.main_v0)),
      θ_run (Cert.WaKernelIdeal.defs (F := Ideal)) (onTc (τ := Cert.WaKernelIdeal.τ) (Cert.WaKernelIdeal.main (F := Ideal))) ⟨m, fun _ => 0, g⟩ (fun r => ∀ c : Dev Cert.WaKernelIdeal.nD,
          r.2.mem ((c.tc : Thread Cert.WaKernelIdeal.nD Cert.WaKernelIdeal.τ).loc Cert.WaKernelIdeal.main_v0) = v0 c
          ∧ r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
          ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
          ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
          ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ θ_run (Cert.WaReferenceIdeal.defs (F := Ideal)) (onTc (τ := Cert.WaReferenceIdeal.τ) (Cert.WaReferenceIdeal.main (F := Ideal))) ⟨m', fun _ => 0, g'⟩ (fun r => ∀ c : Dev Cert.WaReferenceIdeal.nD,
          r.2.mem ((c.tc : Thread Cert.WaReferenceIdeal.nD Cert.WaReferenceIdeal.τ).loc Cert.WaReferenceIdeal.main_v62) = v0 c
          ∧ r.2.mem ((c.tc : Thread Cert.WaReferenceIdeal.nD Cert.WaReferenceIdeal.τ).loc Cert.WaReferenceIdeal.main_arg0) = m' ((c.tc : Thread Cert.WaReferenceIdeal.nD Cert.WaReferenceIdeal.τ).loc Cert.WaReferenceIdeal.main_arg0)
          ∧ r.2.mem ((c.tc : Thread Cert.WaReferenceIdeal.nD Cert.WaReferenceIdeal.τ).loc Cert.WaReferenceIdeal.main_arg1) = m' ((c.tc : Thread Cert.WaReferenceIdeal.nD Cert.WaReferenceIdeal.τ).loc Cert.WaReferenceIdeal.main_arg1)
          ∧ r.2.mem ((c.tc : Thread Cert.WaReferenceIdeal.nD Cert.WaReferenceIdeal.τ).loc Cert.WaReferenceIdeal.main_arg2) = m' ((c.tc : Thread Cert.WaReferenceIdeal.nD Cert.WaReferenceIdeal.τ).loc Cert.WaReferenceIdeal.main_arg2)
          ∧ r.2.mem ((c.tc : Thread Cert.WaReferenceIdeal.nD Cert.WaReferenceIdeal.τ).loc Cert.WaReferenceIdeal.main_arg3) = m' ((c.tc : Thread Cert.WaReferenceIdeal.nD Cert.WaReferenceIdeal.τ).loc Cert.WaReferenceIdeal.main_arg3))

def preserves_PostKernel_PostKernelIdeal : Prop :=
  True

def algebraic_PostKernelIdeal_PostReferenceIdeal_pre_post_finite [hPostKernelIdeal : Cert.PostKernelIdeal.Facts] [hPostReferenceIdeal : Cert.PostReferenceIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_post_finite m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)) →
    ∃ (v0 : (c : Dev Cert.PostKernelIdeal.nD) → Buf (Elt Ideal) ((c.tc : Thread Cert.PostKernelIdeal.nD Cert.PostKernelIdeal.τ).loc Cert.PostKernelIdeal.main_v0)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v0) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v115) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def preserves_PreKernel_PreKernelIdeal : Prop :=
  True

def algebraic_PreKernelIdeal_PreReferenceIdeal_pre_pre_finite [hPreKernelIdeal : Cert.PreKernelIdeal.Facts] [hPreReferenceIdeal : Cert.PreReferenceIdeal.Facts] [hPre_pre_finite : Cert.Pre_pre_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal_pre_finite m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)
      ∧ m' ((c.tc : Thread Cert.PreReferenceIdeal.nD Cert.PreReferenceIdeal.τ).loc Cert.PreReferenceIdeal.main_arg7) = m ((c.tc : Thread Cert.PreKernelIdeal.nD Cert.PreKernelIdeal.τ).loc Cert.PreKernelIdeal.main_arg7)
      ∧ m' ((c.tc : Thread Cert.PreReferenceIdeal.nD Cert.PreReferenceIdeal.τ).loc Cert.PreReferenceIdeal.main_arg8) = m ((c.tc : Thread Cert.PreKernelIdeal.nD Cert.PreKernelIdeal.τ).loc Cert.PreKernelIdeal.main_arg8)
      ∧ m' ((c.tc : Thread Cert.PreReferenceIdeal.nD Cert.PreReferenceIdeal.τ).loc Cert.PreReferenceIdeal.main_arg9) = m ((c.tc : Thread Cert.PreKernelIdeal.nD Cert.PreKernelIdeal.τ).loc Cert.PreKernelIdeal.main_arg9)) →
    ∃ (v0 : (c : Dev Cert.PreKernelIdeal.nD) → Buf (Elt Ideal) ((c.tc : Thread Cert.PreKernelIdeal.nD Cert.PreKernelIdeal.τ).loc Cert.PreKernelIdeal.main_v0_0)) (v1 : (c : Dev Cert.PreKernelIdeal.nD) → Buf (Elt Ideal) ((c.tc : Thread Cert.PreKernelIdeal.nD Cert.PreKernelIdeal.τ).loc Cert.PreKernelIdeal.main_v0_1)) (v2 : (c : Dev Cert.PreKernelIdeal.nD) → Buf (Elt Ideal) ((c.tc : Thread Cert.PreKernelIdeal.nD Cert.PreKernelIdeal.τ).loc Cert.PreKernelIdeal.main_v0_2)) (v3 : (c : Dev Cert.PreKernelIdeal.nD) → Buf (Elt Ideal) ((c.tc : Thread Cert.PreKernelIdeal.nD Cert.PreKernelIdeal.τ).loc Cert.PreKernelIdeal.main_v0_3)) (v4 : (c : Dev Cert.PreKernelIdeal.nD) → Buf (Elt Ideal) ((c.tc : Thread Cert.PreKernelIdeal.nD Cert.PreKernelIdeal.τ).loc Cert.PreKernelIdeal.main_v0_4)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v0_0) = v0 c
          ∧ r.2.mem ((c.tc : Thread Cert.PreKernelIdeal.nD Cert.PreKernelIdeal.τ).loc Cert.PreKernelIdeal.main_v0_1) = v1 c
          ∧ r.2.mem ((c.tc : Thread Cert.PreKernelIdeal.nD Cert.PreKernelIdeal.τ).loc Cert.PreKernelIdeal.main_v0_2) = v2 c
          ∧ r.2.mem ((c.tc : Thread Cert.PreKernelIdeal.nD Cert.PreKernelIdeal.τ).loc Cert.PreKernelIdeal.main_v0_3) = v3 c
          ∧ r.2.mem ((c.tc : Thread Cert.PreKernelIdeal.nD Cert.PreKernelIdeal.τ).loc Cert.PreKernelIdeal.main_v0_4) = v4 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
          ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
          ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8)
          ∧ r.2.mem ((c.tc : Thread Cert.PreKernelIdeal.nD Cert.PreKernelIdeal.τ).loc Cert.PreKernelIdeal.main_arg9) = m ((c.tc : Thread Cert.PreKernelIdeal.nD Cert.PreKernelIdeal.τ).loc Cert.PreKernelIdeal.main_arg9))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v120) = v0 c
          ∧ r.2.mem ((c.tc : Thread Cert.PreReferenceIdeal.nD Cert.PreReferenceIdeal.τ).loc Cert.PreReferenceIdeal.main_v123) = v1 c
          ∧ r.2.mem ((c.tc : Thread Cert.PreReferenceIdeal.nD Cert.PreReferenceIdeal.τ).loc Cert.PreReferenceIdeal.main_v126) = v2 c
          ∧ r.2.mem ((c.tc : Thread Cert.PreReferenceIdeal.nD Cert.PreReferenceIdeal.τ).loc Cert.PreReferenceIdeal.main_v128) = v3 c
          ∧ r.2.mem ((c.tc : Thread Cert.PreReferenceIdeal.nD Cert.PreReferenceIdeal.τ).loc Cert.PreReferenceIdeal.main_v130) = v4 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7)
          ∧ r.2.mem ((c.tc : Thread Cert.PreReferenceIdeal.nD Cert.PreReferenceIdeal.τ).loc Cert.PreReferenceIdeal.main_arg8) = m' ((c.tc : Thread Cert.PreReferenceIdeal.nD Cert.PreReferenceIdeal.τ).loc Cert.PreReferenceIdeal.main_arg8)
          ∧ r.2.mem ((c.tc : Thread Cert.PreReferenceIdeal.nD Cert.PreReferenceIdeal.τ).loc Cert.PreReferenceIdeal.main_arg9) = m' ((c.tc : Thread Cert.PreReferenceIdeal.nD Cert.PreReferenceIdeal.τ).loc Cert.PreReferenceIdeal.main_arg9))

def preserves_PostFirstKernel_PostFirstKernelIdeal : Prop :=
  True

def algebraic_PostFirstKernelIdeal_PostFirstReferenceIdeal_pre_post_first_finite [hPostFirstKernelIdeal : Cert.PostFirstKernelIdeal.Facts] [hPostFirstReferenceIdeal : Cert.PostFirstReferenceIdeal.Facts] [hPre_post_first_finite : Cert.Pre_post_first_finite.Facts] : Prop :=
  ∀ (m : (ℓ : Loc Cert.PostFirstKernelIdeal.nD Cert.PostFirstKernelIdeal.τ Cert.PostFirstKernelIdeal.sig) → Buf (Elt Ideal) ℓ) (g : Dev Cert.PostFirstKernelIdeal.nD → PrngReg)
    (m' : (ℓ : Loc Cert.PostFirstReferenceIdeal.nD Cert.PostFirstReferenceIdeal.τ Cert.PostFirstReferenceIdeal.sig) → Buf (Elt Ideal) ℓ) (g' : Dev Cert.PostFirstReferenceIdeal.nD → PrngReg), Pre_PostFirstKernelIdeal_post_first_finite m →
    (∀ c : Dev Cert.PostFirstKernelIdeal.nD,
      m' ((c.tc : Thread Cert.PostFirstReferenceIdeal.nD Cert.PostFirstReferenceIdeal.τ).loc Cert.PostFirstReferenceIdeal.main_arg0) = m ((c.tc : Thread Cert.PostFirstKernelIdeal.nD Cert.PostFirstKernelIdeal.τ).loc Cert.PostFirstKernelIdeal.main_arg0)
      ∧ m' ((c.tc : Thread Cert.PostFirstReferenceIdeal.nD Cert.PostFirstReferenceIdeal.τ).loc Cert.PostFirstReferenceIdeal.main_arg1) = m ((c.tc : Thread Cert.PostFirstKernelIdeal.nD Cert.PostFirstKernelIdeal.τ).loc Cert.PostFirstKernelIdeal.main_arg1)
      ∧ m' ((c.tc : Thread Cert.PostFirstReferenceIdeal.nD Cert.PostFirstReferenceIdeal.τ).loc Cert.PostFirstReferenceIdeal.main_arg2) = m ((c.tc : Thread Cert.PostFirstKernelIdeal.nD Cert.PostFirstKernelIdeal.τ).loc Cert.PostFirstKernelIdeal.main_arg2)
      ∧ m' ((c.tc : Thread Cert.PostFirstReferenceIdeal.nD Cert.PostFirstReferenceIdeal.τ).loc Cert.PostFirstReferenceIdeal.main_arg3) = m ((c.tc : Thread Cert.PostFirstKernelIdeal.nD Cert.PostFirstKernelIdeal.τ).loc Cert.PostFirstKernelIdeal.main_arg3)
      ∧ m' ((c.tc : Thread Cert.PostFirstReferenceIdeal.nD Cert.PostFirstReferenceIdeal.τ).loc Cert.PostFirstReferenceIdeal.main_arg4) = m ((c.tc : Thread Cert.PostFirstKernelIdeal.nD Cert.PostFirstKernelIdeal.τ).loc Cert.PostFirstKernelIdeal.main_arg4)
      ∧ m' ((c.tc : Thread Cert.PostFirstReferenceIdeal.nD Cert.PostFirstReferenceIdeal.τ).loc Cert.PostFirstReferenceIdeal.main_arg5) = m ((c.tc : Thread Cert.PostFirstKernelIdeal.nD Cert.PostFirstKernelIdeal.τ).loc Cert.PostFirstKernelIdeal.main_arg5)
      ∧ m' ((c.tc : Thread Cert.PostFirstReferenceIdeal.nD Cert.PostFirstReferenceIdeal.τ).loc Cert.PostFirstReferenceIdeal.main_arg6) = m ((c.tc : Thread Cert.PostFirstKernelIdeal.nD Cert.PostFirstKernelIdeal.τ).loc Cert.PostFirstKernelIdeal.main_arg6)
      ∧ m' ((c.tc : Thread Cert.PostFirstReferenceIdeal.nD Cert.PostFirstReferenceIdeal.τ).loc Cert.PostFirstReferenceIdeal.main_arg7) = m ((c.tc : Thread Cert.PostFirstKernelIdeal.nD Cert.PostFirstKernelIdeal.τ).loc Cert.PostFirstKernelIdeal.main_arg7)
      ∧ m' ((c.tc : Thread Cert.PostFirstReferenceIdeal.nD Cert.PostFirstReferenceIdeal.τ).loc Cert.PostFirstReferenceIdeal.main_arg8) = m ((c.tc : Thread Cert.PostFirstKernelIdeal.nD Cert.PostFirstKernelIdeal.τ).loc Cert.PostFirstKernelIdeal.main_arg8)
      ∧ m' ((c.tc : Thread Cert.PostFirstReferenceIdeal.nD Cert.PostFirstReferenceIdeal.τ).loc Cert.PostFirstReferenceIdeal.main_arg9) = m ((c.tc : Thread Cert.PostFirstKernelIdeal.nD Cert.PostFirstKernelIdeal.τ).loc Cert.PostFirstKernelIdeal.main_arg9)
      ∧ m' ((c.tc : Thread Cert.PostFirstReferenceIdeal.nD Cert.PostFirstReferenceIdeal.τ).loc Cert.PostFirstReferenceIdeal.main_arg10) = m ((c.tc : Thread Cert.PostFirstKernelIdeal.nD Cert.PostFirstKernelIdeal.τ).loc Cert.PostFirstKernelIdeal.main_arg10)) →
    ∃ (v0 : (c : Dev Cert.PostFirstKernelIdeal.nD) → Buf (Elt Ideal) ((c.tc : Thread Cert.PostFirstKernelIdeal.nD Cert.PostFirstKernelIdeal.τ).loc Cert.PostFirstKernelIdeal.main_v0_0)) (v1 : (c : Dev Cert.PostFirstKernelIdeal.nD) → Buf (Elt Ideal) ((c.tc : Thread Cert.PostFirstKernelIdeal.nD Cert.PostFirstKernelIdeal.τ).loc Cert.PostFirstKernelIdeal.main_v0_1)) (v2 : (c : Dev Cert.PostFirstKernelIdeal.nD) → Buf (Elt Ideal) ((c.tc : Thread Cert.PostFirstKernelIdeal.nD Cert.PostFirstKernelIdeal.τ).loc Cert.PostFirstKernelIdeal.main_v0_2)),
      θ_run (Cert.PostFirstKernelIdeal.defs (F := Ideal)) (onTc (τ := Cert.PostFirstKernelIdeal.τ) (Cert.PostFirstKernelIdeal.main (F := Ideal))) ⟨m, fun _ => 0, g⟩ (fun r => ∀ c : Dev Cert.PostFirstKernelIdeal.nD,
          r.2.mem ((c.tc : Thread Cert.PostFirstKernelIdeal.nD Cert.PostFirstKernelIdeal.τ).loc Cert.PostFirstKernelIdeal.main_v0_0) = v0 c
          ∧ r.2.mem ((c.tc : Thread Cert.PostFirstKernelIdeal.nD Cert.PostFirstKernelIdeal.τ).loc Cert.PostFirstKernelIdeal.main_v0_1) = v1 c
          ∧ r.2.mem ((c.tc : Thread Cert.PostFirstKernelIdeal.nD Cert.PostFirstKernelIdeal.τ).loc Cert.PostFirstKernelIdeal.main_v0_2) = v2 c
          ∧ r.2.mem ((c.tc : Thread Cert.PostFirstKernelIdeal.nD Cert.PostFirstKernelIdeal.τ).loc Cert.PostFirstKernelIdeal.main_arg0) = m ((c.tc : Thread Cert.PostFirstKernelIdeal.nD Cert.PostFirstKernelIdeal.τ).loc Cert.PostFirstKernelIdeal.main_arg0)
          ∧ r.2.mem ((c.tc : Thread Cert.PostFirstKernelIdeal.nD Cert.PostFirstKernelIdeal.τ).loc Cert.PostFirstKernelIdeal.main_arg1) = m ((c.tc : Thread Cert.PostFirstKernelIdeal.nD Cert.PostFirstKernelIdeal.τ).loc Cert.PostFirstKernelIdeal.main_arg1)
          ∧ r.2.mem ((c.tc : Thread Cert.PostFirstKernelIdeal.nD Cert.PostFirstKernelIdeal.τ).loc Cert.PostFirstKernelIdeal.main_arg2) = m ((c.tc : Thread Cert.PostFirstKernelIdeal.nD Cert.PostFirstKernelIdeal.τ).loc Cert.PostFirstKernelIdeal.main_arg2)
          ∧ r.2.mem ((c.tc : Thread Cert.PostFirstKernelIdeal.nD Cert.PostFirstKernelIdeal.τ).loc Cert.PostFirstKernelIdeal.main_arg3) = m ((c.tc : Thread Cert.PostFirstKernelIdeal.nD Cert.PostFirstKernelIdeal.τ).loc Cert.PostFirstKernelIdeal.main_arg3)
          ∧ r.2.mem ((c.tc : Thread Cert.PostFirstKernelIdeal.nD Cert.PostFirstKernelIdeal.τ).loc Cert.PostFirstKernelIdeal.main_arg4) = m ((c.tc : Thread Cert.PostFirstKernelIdeal.nD Cert.PostFirstKernelIdeal.τ).loc Cert.PostFirstKernelIdeal.main_arg4)
          ∧ r.2.mem ((c.tc : Thread Cert.PostFirstKernelIdeal.nD Cert.PostFirstKernelIdeal.τ).loc Cert.PostFirstKernelIdeal.main_arg5) = m ((c.tc : Thread Cert.PostFirstKernelIdeal.nD Cert.PostFirstKernelIdeal.τ).loc Cert.PostFirstKernelIdeal.main_arg5)
          ∧ r.2.mem ((c.tc : Thread Cert.PostFirstKernelIdeal.nD Cert.PostFirstKernelIdeal.τ).loc Cert.PostFirstKernelIdeal.main_arg6) = m ((c.tc : Thread Cert.PostFirstKernelIdeal.nD Cert.PostFirstKernelIdeal.τ).loc Cert.PostFirstKernelIdeal.main_arg6)
          ∧ r.2.mem ((c.tc : Thread Cert.PostFirstKernelIdeal.nD Cert.PostFirstKernelIdeal.τ).loc Cert.PostFirstKernelIdeal.main_arg7) = m ((c.tc : Thread Cert.PostFirstKernelIdeal.nD Cert.PostFirstKernelIdeal.τ).loc Cert.PostFirstKernelIdeal.main_arg7)
          ∧ r.2.mem ((c.tc : Thread Cert.PostFirstKernelIdeal.nD Cert.PostFirstKernelIdeal.τ).loc Cert.PostFirstKernelIdeal.main_arg8) = m ((c.tc : Thread Cert.PostFirstKernelIdeal.nD Cert.PostFirstKernelIdeal.τ).loc Cert.PostFirstKernelIdeal.main_arg8)
          ∧ r.2.mem ((c.tc : Thread Cert.PostFirstKernelIdeal.nD Cert.PostFirstKernelIdeal.τ).loc Cert.PostFirstKernelIdeal.main_arg9) = m ((c.tc : Thread Cert.PostFirstKernelIdeal.nD Cert.PostFirstKernelIdeal.τ).loc Cert.PostFirstKernelIdeal.main_arg9)
          ∧ r.2.mem ((c.tc : Thread Cert.PostFirstKernelIdeal.nD Cert.PostFirstKernelIdeal.τ).loc Cert.PostFirstKernelIdeal.main_arg10) = m ((c.tc : Thread Cert.PostFirstKernelIdeal.nD Cert.PostFirstKernelIdeal.τ).loc Cert.PostFirstKernelIdeal.main_arg10))
      ∧ θ_run (Cert.PostFirstReferenceIdeal.defs (F := Ideal)) (onTc (τ := Cert.PostFirstReferenceIdeal.τ) (Cert.PostFirstReferenceIdeal.main (F := Ideal))) ⟨m', fun _ => 0, g'⟩ (fun r => ∀ c : Dev Cert.PostFirstReferenceIdeal.nD,
          r.2.mem ((c.tc : Thread Cert.PostFirstReferenceIdeal.nD Cert.PostFirstReferenceIdeal.τ).loc Cert.PostFirstReferenceIdeal.main_v207) = v0 c
          ∧ r.2.mem ((c.tc : Thread Cert.PostFirstReferenceIdeal.nD Cert.PostFirstReferenceIdeal.τ).loc Cert.PostFirstReferenceIdeal.main_v210) = v1 c
          ∧ r.2.mem ((c.tc : Thread Cert.PostFirstReferenceIdeal.nD Cert.PostFirstReferenceIdeal.τ).loc Cert.PostFirstReferenceIdeal.main_v213) = v2 c
          ∧ r.2.mem ((c.tc : Thread Cert.PostFirstReferenceIdeal.nD Cert.PostFirstReferenceIdeal.τ).loc Cert.PostFirstReferenceIdeal.main_arg0) = m' ((c.tc : Thread Cert.PostFirstReferenceIdeal.nD Cert.PostFirstReferenceIdeal.τ).loc Cert.PostFirstReferenceIdeal.main_arg0)
          ∧ r.2.mem ((c.tc : Thread Cert.PostFirstReferenceIdeal.nD Cert.PostFirstReferenceIdeal.τ).loc Cert.PostFirstReferenceIdeal.main_arg1) = m' ((c.tc : Thread Cert.PostFirstReferenceIdeal.nD Cert.PostFirstReferenceIdeal.τ).loc Cert.PostFirstReferenceIdeal.main_arg1)
          ∧ r.2.mem ((c.tc : Thread Cert.PostFirstReferenceIdeal.nD Cert.PostFirstReferenceIdeal.τ).loc Cert.PostFirstReferenceIdeal.main_arg2) = m' ((c.tc : Thread Cert.PostFirstReferenceIdeal.nD Cert.PostFirstReferenceIdeal.τ).loc Cert.PostFirstReferenceIdeal.main_arg2)
          ∧ r.2.mem ((c.tc : Thread Cert.PostFirstReferenceIdeal.nD Cert.PostFirstReferenceIdeal.τ).loc Cert.PostFirstReferenceIdeal.main_arg3) = m' ((c.tc : Thread Cert.PostFirstReferenceIdeal.nD Cert.PostFirstReferenceIdeal.τ).loc Cert.PostFirstReferenceIdeal.main_arg3)
          ∧ r.2.mem ((c.tc : Thread Cert.PostFirstReferenceIdeal.nD Cert.PostFirstReferenceIdeal.τ).loc Cert.PostFirstReferenceIdeal.main_arg4) = m' ((c.tc : Thread Cert.PostFirstReferenceIdeal.nD Cert.PostFirstReferenceIdeal.τ).loc Cert.PostFirstReferenceIdeal.main_arg4)
          ∧ r.2.mem ((c.tc : Thread Cert.PostFirstReferenceIdeal.nD Cert.PostFirstReferenceIdeal.τ).loc Cert.PostFirstReferenceIdeal.main_arg5) = m' ((c.tc : Thread Cert.PostFirstReferenceIdeal.nD Cert.PostFirstReferenceIdeal.τ).loc Cert.PostFirstReferenceIdeal.main_arg5)
          ∧ r.2.mem ((c.tc : Thread Cert.PostFirstReferenceIdeal.nD Cert.PostFirstReferenceIdeal.τ).loc Cert.PostFirstReferenceIdeal.main_arg6) = m' ((c.tc : Thread Cert.PostFirstReferenceIdeal.nD Cert.PostFirstReferenceIdeal.τ).loc Cert.PostFirstReferenceIdeal.main_arg6)
          ∧ r.2.mem ((c.tc : Thread Cert.PostFirstReferenceIdeal.nD Cert.PostFirstReferenceIdeal.τ).loc Cert.PostFirstReferenceIdeal.main_arg7) = m' ((c.tc : Thread Cert.PostFirstReferenceIdeal.nD Cert.PostFirstReferenceIdeal.τ).loc Cert.PostFirstReferenceIdeal.main_arg7)
          ∧ r.2.mem ((c.tc : Thread Cert.PostFirstReferenceIdeal.nD Cert.PostFirstReferenceIdeal.τ).loc Cert.PostFirstReferenceIdeal.main_arg8) = m' ((c.tc : Thread Cert.PostFirstReferenceIdeal.nD Cert.PostFirstReferenceIdeal.τ).loc Cert.PostFirstReferenceIdeal.main_arg8)
          ∧ r.2.mem ((c.tc : Thread Cert.PostFirstReferenceIdeal.nD Cert.PostFirstReferenceIdeal.τ).loc Cert.PostFirstReferenceIdeal.main_arg9) = m' ((c.tc : Thread Cert.PostFirstReferenceIdeal.nD Cert.PostFirstReferenceIdeal.τ).loc Cert.PostFirstReferenceIdeal.main_arg9)
          ∧ r.2.mem ((c.tc : Thread Cert.PostFirstReferenceIdeal.nD Cert.PostFirstReferenceIdeal.τ).loc Cert.PostFirstReferenceIdeal.main_arg10) = m' ((c.tc : Thread Cert.PostFirstReferenceIdeal.nD Cert.PostFirstReferenceIdeal.τ).loc Cert.PostFirstReferenceIdeal.main_arg10))

def preserves_PreFirstKernel_PreFirstKernelIdeal : Prop :=
  True

def algebraic_PreFirstKernelIdeal_PreFirstReferenceIdeal_pre_pre_first_finite [hPreFirstKernelIdeal : Cert.PreFirstKernelIdeal.Facts] [hPreFirstReferenceIdeal : Cert.PreFirstReferenceIdeal.Facts] [hPre_pre_first_finite : Cert.Pre_pre_first_finite.Facts] : Prop :=
  ∀ (m : (ℓ : Loc Cert.PreFirstKernelIdeal.nD Cert.PreFirstKernelIdeal.τ Cert.PreFirstKernelIdeal.sig) → Buf (Elt Ideal) ℓ) (g : Dev Cert.PreFirstKernelIdeal.nD → PrngReg)
    (m' : (ℓ : Loc Cert.PreFirstReferenceIdeal.nD Cert.PreFirstReferenceIdeal.τ Cert.PreFirstReferenceIdeal.sig) → Buf (Elt Ideal) ℓ) (g' : Dev Cert.PreFirstReferenceIdeal.nD → PrngReg), Pre_PreFirstKernelIdeal_pre_first_finite m →
    (∀ c : Dev Cert.PreFirstKernelIdeal.nD,
      m' ((c.tc : Thread Cert.PreFirstReferenceIdeal.nD Cert.PreFirstReferenceIdeal.τ).loc Cert.PreFirstReferenceIdeal.main_arg0) = m ((c.tc : Thread Cert.PreFirstKernelIdeal.nD Cert.PreFirstKernelIdeal.τ).loc Cert.PreFirstKernelIdeal.main_arg0)
      ∧ m' ((c.tc : Thread Cert.PreFirstReferenceIdeal.nD Cert.PreFirstReferenceIdeal.τ).loc Cert.PreFirstReferenceIdeal.main_arg1) = m ((c.tc : Thread Cert.PreFirstKernelIdeal.nD Cert.PreFirstKernelIdeal.τ).loc Cert.PreFirstKernelIdeal.main_arg1)
      ∧ m' ((c.tc : Thread Cert.PreFirstReferenceIdeal.nD Cert.PreFirstReferenceIdeal.τ).loc Cert.PreFirstReferenceIdeal.main_arg2) = m ((c.tc : Thread Cert.PreFirstKernelIdeal.nD Cert.PreFirstKernelIdeal.τ).loc Cert.PreFirstKernelIdeal.main_arg2)
      ∧ m' ((c.tc : Thread Cert.PreFirstReferenceIdeal.nD Cert.PreFirstReferenceIdeal.τ).loc Cert.PreFirstReferenceIdeal.main_arg3) = m ((c.tc : Thread Cert.PreFirstKernelIdeal.nD Cert.PreFirstKernelIdeal.τ).loc Cert.PreFirstKernelIdeal.main_arg3)
      ∧ m' ((c.tc : Thread Cert.PreFirstReferenceIdeal.nD Cert.PreFirstReferenceIdeal.τ).loc Cert.PreFirstReferenceIdeal.main_arg4) = m ((c.tc : Thread Cert.PreFirstKernelIdeal.nD Cert.PreFirstKernelIdeal.τ).loc Cert.PreFirstKernelIdeal.main_arg4)
      ∧ m' ((c.tc : Thread Cert.PreFirstReferenceIdeal.nD Cert.PreFirstReferenceIdeal.τ).loc Cert.PreFirstReferenceIdeal.main_arg5) = m ((c.tc : Thread Cert.PreFirstKernelIdeal.nD Cert.PreFirstKernelIdeal.τ).loc Cert.PreFirstKernelIdeal.main_arg5)
      ∧ m' ((c.tc : Thread Cert.PreFirstReferenceIdeal.nD Cert.PreFirstReferenceIdeal.τ).loc Cert.PreFirstReferenceIdeal.main_arg6) = m ((c.tc : Thread Cert.PreFirstKernelIdeal.nD Cert.PreFirstKernelIdeal.τ).loc Cert.PreFirstKernelIdeal.main_arg6)
      ∧ m' ((c.tc : Thread Cert.PreFirstReferenceIdeal.nD Cert.PreFirstReferenceIdeal.τ).loc Cert.PreFirstReferenceIdeal.main_arg7) = m ((c.tc : Thread Cert.PreFirstKernelIdeal.nD Cert.PreFirstKernelIdeal.τ).loc Cert.PreFirstKernelIdeal.main_arg7)
      ∧ m' ((c.tc : Thread Cert.PreFirstReferenceIdeal.nD Cert.PreFirstReferenceIdeal.τ).loc Cert.PreFirstReferenceIdeal.main_arg8) = m ((c.tc : Thread Cert.PreFirstKernelIdeal.nD Cert.PreFirstKernelIdeal.τ).loc Cert.PreFirstKernelIdeal.main_arg8)
      ∧ m' ((c.tc : Thread Cert.PreFirstReferenceIdeal.nD Cert.PreFirstReferenceIdeal.τ).loc Cert.PreFirstReferenceIdeal.main_arg9) = m ((c.tc : Thread Cert.PreFirstKernelIdeal.nD Cert.PreFirstKernelIdeal.τ).loc Cert.PreFirstKernelIdeal.main_arg9)
      ∧ m' ((c.tc : Thread Cert.PreFirstReferenceIdeal.nD Cert.PreFirstReferenceIdeal.τ).loc Cert.PreFirstReferenceIdeal.main_arg10) = m ((c.tc : Thread Cert.PreFirstKernelIdeal.nD Cert.PreFirstKernelIdeal.τ).loc Cert.PreFirstKernelIdeal.main_arg10)) →
    ∃ (v0 : (c : Dev Cert.PreFirstKernelIdeal.nD) → Buf (Elt Ideal) ((c.tc : Thread Cert.PreFirstKernelIdeal.nD Cert.PreFirstKernelIdeal.τ).loc Cert.PreFirstKernelIdeal.main_v0_0)) (v1 : (c : Dev Cert.PreFirstKernelIdeal.nD) → Buf (Elt Ideal) ((c.tc : Thread Cert.PreFirstKernelIdeal.nD Cert.PreFirstKernelIdeal.τ).loc Cert.PreFirstKernelIdeal.main_v0_1)) (v2 : (c : Dev Cert.PreFirstKernelIdeal.nD) → Buf (Elt Ideal) ((c.tc : Thread Cert.PreFirstKernelIdeal.nD Cert.PreFirstKernelIdeal.τ).loc Cert.PreFirstKernelIdeal.main_v0_2)) (v3 : (c : Dev Cert.PreFirstKernelIdeal.nD) → Buf (Elt Ideal) ((c.tc : Thread Cert.PreFirstKernelIdeal.nD Cert.PreFirstKernelIdeal.τ).loc Cert.PreFirstKernelIdeal.main_v0_3)) (v4 : (c : Dev Cert.PreFirstKernelIdeal.nD) → Buf (Elt Ideal) ((c.tc : Thread Cert.PreFirstKernelIdeal.nD Cert.PreFirstKernelIdeal.τ).loc Cert.PreFirstKernelIdeal.main_v0_4)),
      θ_run (Cert.PreFirstKernelIdeal.defs (F := Ideal)) (onTc (τ := Cert.PreFirstKernelIdeal.τ) (Cert.PreFirstKernelIdeal.main (F := Ideal))) ⟨m, fun _ => 0, g⟩ (fun r => ∀ c : Dev Cert.PreFirstKernelIdeal.nD,
          r.2.mem ((c.tc : Thread Cert.PreFirstKernelIdeal.nD Cert.PreFirstKernelIdeal.τ).loc Cert.PreFirstKernelIdeal.main_v0_0) = v0 c
          ∧ r.2.mem ((c.tc : Thread Cert.PreFirstKernelIdeal.nD Cert.PreFirstKernelIdeal.τ).loc Cert.PreFirstKernelIdeal.main_v0_1) = v1 c
          ∧ r.2.mem ((c.tc : Thread Cert.PreFirstKernelIdeal.nD Cert.PreFirstKernelIdeal.τ).loc Cert.PreFirstKernelIdeal.main_v0_2) = v2 c
          ∧ r.2.mem ((c.tc : Thread Cert.PreFirstKernelIdeal.nD Cert.PreFirstKernelIdeal.τ).loc Cert.PreFirstKernelIdeal.main_v0_3) = v3 c
          ∧ r.2.mem ((c.tc : Thread Cert.PreFirstKernelIdeal.nD Cert.PreFirstKernelIdeal.τ).loc Cert.PreFirstKernelIdeal.main_v0_4) = v4 c
          ∧ r.2.mem ((c.tc : Thread Cert.PreFirstKernelIdeal.nD Cert.PreFirstKernelIdeal.τ).loc Cert.PreFirstKernelIdeal.main_arg0) = m ((c.tc : Thread Cert.PreFirstKernelIdeal.nD Cert.PreFirstKernelIdeal.τ).loc Cert.PreFirstKernelIdeal.main_arg0)
          ∧ r.2.mem ((c.tc : Thread Cert.PreFirstKernelIdeal.nD Cert.PreFirstKernelIdeal.τ).loc Cert.PreFirstKernelIdeal.main_arg1) = m ((c.tc : Thread Cert.PreFirstKernelIdeal.nD Cert.PreFirstKernelIdeal.τ).loc Cert.PreFirstKernelIdeal.main_arg1)
          ∧ r.2.mem ((c.tc : Thread Cert.PreFirstKernelIdeal.nD Cert.PreFirstKernelIdeal.τ).loc Cert.PreFirstKernelIdeal.main_arg2) = m ((c.tc : Thread Cert.PreFirstKernelIdeal.nD Cert.PreFirstKernelIdeal.τ).loc Cert.PreFirstKernelIdeal.main_arg2)
          ∧ r.2.mem ((c.tc : Thread Cert.PreFirstKernelIdeal.nD Cert.PreFirstKernelIdeal.τ).loc Cert.PreFirstKernelIdeal.main_arg3) = m ((c.tc : Thread Cert.PreFirstKernelIdeal.nD Cert.PreFirstKernelIdeal.τ).loc Cert.PreFirstKernelIdeal.main_arg3)
          ∧ r.2.mem ((c.tc : Thread Cert.PreFirstKernelIdeal.nD Cert.PreFirstKernelIdeal.τ).loc Cert.PreFirstKernelIdeal.main_arg4) = m ((c.tc : Thread Cert.PreFirstKernelIdeal.nD Cert.PreFirstKernelIdeal.τ).loc Cert.PreFirstKernelIdeal.main_arg4)
          ∧ r.2.mem ((c.tc : Thread Cert.PreFirstKernelIdeal.nD Cert.PreFirstKernelIdeal.τ).loc Cert.PreFirstKernelIdeal.main_arg5) = m ((c.tc : Thread Cert.PreFirstKernelIdeal.nD Cert.PreFirstKernelIdeal.τ).loc Cert.PreFirstKernelIdeal.main_arg5)
          ∧ r.2.mem ((c.tc : Thread Cert.PreFirstKernelIdeal.nD Cert.PreFirstKernelIdeal.τ).loc Cert.PreFirstKernelIdeal.main_arg6) = m ((c.tc : Thread Cert.PreFirstKernelIdeal.nD Cert.PreFirstKernelIdeal.τ).loc Cert.PreFirstKernelIdeal.main_arg6)
          ∧ r.2.mem ((c.tc : Thread Cert.PreFirstKernelIdeal.nD Cert.PreFirstKernelIdeal.τ).loc Cert.PreFirstKernelIdeal.main_arg7) = m ((c.tc : Thread Cert.PreFirstKernelIdeal.nD Cert.PreFirstKernelIdeal.τ).loc Cert.PreFirstKernelIdeal.main_arg7)
          ∧ r.2.mem ((c.tc : Thread Cert.PreFirstKernelIdeal.nD Cert.PreFirstKernelIdeal.τ).loc Cert.PreFirstKernelIdeal.main_arg8) = m ((c.tc : Thread Cert.PreFirstKernelIdeal.nD Cert.PreFirstKernelIdeal.τ).loc Cert.PreFirstKernelIdeal.main_arg8)
          ∧ r.2.mem ((c.tc : Thread Cert.PreFirstKernelIdeal.nD Cert.PreFirstKernelIdeal.τ).loc Cert.PreFirstKernelIdeal.main_arg9) = m ((c.tc : Thread Cert.PreFirstKernelIdeal.nD Cert.PreFirstKernelIdeal.τ).loc Cert.PreFirstKernelIdeal.main_arg9)
          ∧ r.2.mem ((c.tc : Thread Cert.PreFirstKernelIdeal.nD Cert.PreFirstKernelIdeal.τ).loc Cert.PreFirstKernelIdeal.main_arg10) = m ((c.tc : Thread Cert.PreFirstKernelIdeal.nD Cert.PreFirstKernelIdeal.τ).loc Cert.PreFirstKernelIdeal.main_arg10))
      ∧ θ_run (Cert.PreFirstReferenceIdeal.defs (F := Ideal)) (onTc (τ := Cert.PreFirstReferenceIdeal.τ) (Cert.PreFirstReferenceIdeal.main (F := Ideal))) ⟨m', fun _ => 0, g'⟩ (fun r => ∀ c : Dev Cert.PreFirstReferenceIdeal.nD,
          r.2.mem ((c.tc : Thread Cert.PreFirstReferenceIdeal.nD Cert.PreFirstReferenceIdeal.τ).loc Cert.PreFirstReferenceIdeal.main_v118) = v0 c
          ∧ r.2.mem ((c.tc : Thread Cert.PreFirstReferenceIdeal.nD Cert.PreFirstReferenceIdeal.τ).loc Cert.PreFirstReferenceIdeal.main_v121) = v1 c
          ∧ r.2.mem ((c.tc : Thread Cert.PreFirstReferenceIdeal.nD Cert.PreFirstReferenceIdeal.τ).loc Cert.PreFirstReferenceIdeal.main_v124) = v2 c
          ∧ r.2.mem ((c.tc : Thread Cert.PreFirstReferenceIdeal.nD Cert.PreFirstReferenceIdeal.τ).loc Cert.PreFirstReferenceIdeal.main_v126) = v3 c
          ∧ r.2.mem ((c.tc : Thread Cert.PreFirstReferenceIdeal.nD Cert.PreFirstReferenceIdeal.τ).loc Cert.PreFirstReferenceIdeal.main_v128) = v4 c
          ∧ r.2.mem ((c.tc : Thread Cert.PreFirstReferenceIdeal.nD Cert.PreFirstReferenceIdeal.τ).loc Cert.PreFirstReferenceIdeal.main_arg0) = m' ((c.tc : Thread Cert.PreFirstReferenceIdeal.nD Cert.PreFirstReferenceIdeal.τ).loc Cert.PreFirstReferenceIdeal.main_arg0)
          ∧ r.2.mem ((c.tc : Thread Cert.PreFirstReferenceIdeal.nD Cert.PreFirstReferenceIdeal.τ).loc Cert.PreFirstReferenceIdeal.main_arg1) = m' ((c.tc : Thread Cert.PreFirstReferenceIdeal.nD Cert.PreFirstReferenceIdeal.τ).loc Cert.PreFirstReferenceIdeal.main_arg1)
          ∧ r.2.mem ((c.tc : Thread Cert.PreFirstReferenceIdeal.nD Cert.PreFirstReferenceIdeal.τ).loc Cert.PreFirstReferenceIdeal.main_arg2) = m' ((c.tc : Thread Cert.PreFirstReferenceIdeal.nD Cert.PreFirstReferenceIdeal.τ).loc Cert.PreFirstReferenceIdeal.main_arg2)
          ∧ r.2.mem ((c.tc : Thread Cert.PreFirstReferenceIdeal.nD Cert.PreFirstReferenceIdeal.τ).loc Cert.PreFirstReferenceIdeal.main_arg3) = m' ((c.tc : Thread Cert.PreFirstReferenceIdeal.nD Cert.PreFirstReferenceIdeal.τ).loc Cert.PreFirstReferenceIdeal.main_arg3)
          ∧ r.2.mem ((c.tc : Thread Cert.PreFirstReferenceIdeal.nD Cert.PreFirstReferenceIdeal.τ).loc Cert.PreFirstReferenceIdeal.main_arg4) = m' ((c.tc : Thread Cert.PreFirstReferenceIdeal.nD Cert.PreFirstReferenceIdeal.τ).loc Cert.PreFirstReferenceIdeal.main_arg4)
          ∧ r.2.mem ((c.tc : Thread Cert.PreFirstReferenceIdeal.nD Cert.PreFirstReferenceIdeal.τ).loc Cert.PreFirstReferenceIdeal.main_arg5) = m' ((c.tc : Thread Cert.PreFirstReferenceIdeal.nD Cert.PreFirstReferenceIdeal.τ).loc Cert.PreFirstReferenceIdeal.main_arg5)
          ∧ r.2.mem ((c.tc : Thread Cert.PreFirstReferenceIdeal.nD Cert.PreFirstReferenceIdeal.τ).loc Cert.PreFirstReferenceIdeal.main_arg6) = m' ((c.tc : Thread Cert.PreFirstReferenceIdeal.nD Cert.PreFirstReferenceIdeal.τ).loc Cert.PreFirstReferenceIdeal.main_arg6)
          ∧ r.2.mem ((c.tc : Thread Cert.PreFirstReferenceIdeal.nD Cert.PreFirstReferenceIdeal.τ).loc Cert.PreFirstReferenceIdeal.main_arg7) = m' ((c.tc : Thread Cert.PreFirstReferenceIdeal.nD Cert.PreFirstReferenceIdeal.τ).loc Cert.PreFirstReferenceIdeal.main_arg7)
          ∧ r.2.mem ((c.tc : Thread Cert.PreFirstReferenceIdeal.nD Cert.PreFirstReferenceIdeal.τ).loc Cert.PreFirstReferenceIdeal.main_arg8) = m' ((c.tc : Thread Cert.PreFirstReferenceIdeal.nD Cert.PreFirstReferenceIdeal.τ).loc Cert.PreFirstReferenceIdeal.main_arg8)
          ∧ r.2.mem ((c.tc : Thread Cert.PreFirstReferenceIdeal.nD Cert.PreFirstReferenceIdeal.τ).loc Cert.PreFirstReferenceIdeal.main_arg9) = m' ((c.tc : Thread Cert.PreFirstReferenceIdeal.nD Cert.PreFirstReferenceIdeal.τ).loc Cert.PreFirstReferenceIdeal.main_arg9)
          ∧ r.2.mem ((c.tc : Thread Cert.PreFirstReferenceIdeal.nD Cert.PreFirstReferenceIdeal.τ).loc Cert.PreFirstReferenceIdeal.main_arg10) = m' ((c.tc : Thread Cert.PreFirstReferenceIdeal.nD Cert.PreFirstReferenceIdeal.τ).loc Cert.PreFirstReferenceIdeal.main_arg10))

def preserves_QkvNaKernel_QkvNaKernelIdeal : Prop :=
  IdealRules.named_const.Statement Cert.QkvNaKernelIdeal.κ "qscale" .f32 0x3E38AA3B#32 (((8 * (Real.log 2))⁻¹ : ℝ) : EReal)

def algebraic_QkvNaKernelIdeal_QkvNaReferenceIdeal [hQkvNaKernelIdeal : Cert.QkvNaKernelIdeal.Facts] [hQkvNaReferenceIdeal : Cert.QkvNaReferenceIdeal.Facts] : Prop :=
  ∀ (m : (ℓ : Loc Cert.QkvNaKernelIdeal.nD Cert.QkvNaKernelIdeal.τ Cert.QkvNaKernelIdeal.sig) → Buf (Elt Ideal) ℓ) (g : Dev Cert.QkvNaKernelIdeal.nD → PrngReg)
    (m' : (ℓ : Loc Cert.QkvNaReferenceIdeal.nD Cert.QkvNaReferenceIdeal.τ Cert.QkvNaReferenceIdeal.sig) → Buf (Elt Ideal) ℓ) (g' : Dev Cert.QkvNaReferenceIdeal.nD → PrngReg), Pre_QkvNaKernelIdeal m →
    (∀ c : Dev Cert.QkvNaKernelIdeal.nD,
      m' ((c.tc : Thread Cert.QkvNaReferenceIdeal.nD Cert.QkvNaReferenceIdeal.τ).loc Cert.QkvNaReferenceIdeal.main_arg0) = m ((c.tc : Thread Cert.QkvNaKernelIdeal.nD Cert.QkvNaKernelIdeal.τ).loc Cert.QkvNaKernelIdeal.main_arg0)
      ∧ m' ((c.tc : Thread Cert.QkvNaReferenceIdeal.nD Cert.QkvNaReferenceIdeal.τ).loc Cert.QkvNaReferenceIdeal.main_arg1) = m ((c.tc : Thread Cert.QkvNaKernelIdeal.nD Cert.QkvNaKernelIdeal.τ).loc Cert.QkvNaKernelIdeal.main_arg1)
      ∧ m' ((c.tc : Thread Cert.QkvNaReferenceIdeal.nD Cert.QkvNaReferenceIdeal.τ).loc Cert.QkvNaReferenceIdeal.main_arg2) = m ((c.tc : Thread Cert.QkvNaKernelIdeal.nD Cert.QkvNaKernelIdeal.τ).loc Cert.QkvNaKernelIdeal.main_arg2)) →
    ∃ (v0 : (c : Dev Cert.QkvNaKernelIdeal.nD) → Buf (Elt Ideal) ((c.tc : Thread Cert.QkvNaKernelIdeal.nD Cert.QkvNaKernelIdeal.τ).loc Cert.QkvNaKernelIdeal.main_v0_0)) (v1 : (c : Dev Cert.QkvNaKernelIdeal.nD) → Buf (Elt Ideal) ((c.tc : Thread Cert.QkvNaKernelIdeal.nD Cert.QkvNaKernelIdeal.τ).loc Cert.QkvNaKernelIdeal.main_v0_1)) (v2 : (c : Dev Cert.QkvNaKernelIdeal.nD) → Buf (Elt Ideal) ((c.tc : Thread Cert.QkvNaKernelIdeal.nD Cert.QkvNaKernelIdeal.τ).loc Cert.QkvNaKernelIdeal.main_v0_2)),
      θ_run (Cert.QkvNaKernelIdeal.defs (F := Ideal)) (onTc (τ := Cert.QkvNaKernelIdeal.τ) (Cert.QkvNaKernelIdeal.main (F := Ideal))) ⟨m, fun _ => 0, g⟩ (fun r => ∀ c : Dev Cert.QkvNaKernelIdeal.nD,
          r.2.mem ((c.tc : Thread Cert.QkvNaKernelIdeal.nD Cert.QkvNaKernelIdeal.τ).loc Cert.QkvNaKernelIdeal.main_v0_0) = v0 c
          ∧ r.2.mem ((c.tc : Thread Cert.QkvNaKernelIdeal.nD Cert.QkvNaKernelIdeal.τ).loc Cert.QkvNaKernelIdeal.main_v0_1) = v1 c
          ∧ r.2.mem ((c.tc : Thread Cert.QkvNaKernelIdeal.nD Cert.QkvNaKernelIdeal.τ).loc Cert.QkvNaKernelIdeal.main_v0_2) = v2 c
          ∧ r.2.mem ((c.tc : Thread Cert.QkvNaKernelIdeal.nD Cert.QkvNaKernelIdeal.τ).loc Cert.QkvNaKernelIdeal.main_arg0) = m ((c.tc : Thread Cert.QkvNaKernelIdeal.nD Cert.QkvNaKernelIdeal.τ).loc Cert.QkvNaKernelIdeal.main_arg0)
          ∧ r.2.mem ((c.tc : Thread Cert.QkvNaKernelIdeal.nD Cert.QkvNaKernelIdeal.τ).loc Cert.QkvNaKernelIdeal.main_arg1) = m ((c.tc : Thread Cert.QkvNaKernelIdeal.nD Cert.QkvNaKernelIdeal.τ).loc Cert.QkvNaKernelIdeal.main_arg1)
          ∧ r.2.mem ((c.tc : Thread Cert.QkvNaKernelIdeal.nD Cert.QkvNaKernelIdeal.τ).loc Cert.QkvNaKernelIdeal.main_arg2) = m ((c.tc : Thread Cert.QkvNaKernelIdeal.nD Cert.QkvNaKernelIdeal.τ).loc Cert.QkvNaKernelIdeal.main_arg2))
      ∧ θ_run (Cert.QkvNaReferenceIdeal.defs (F := Ideal)) (onTc (τ := Cert.QkvNaReferenceIdeal.τ) (Cert.QkvNaReferenceIdeal.main (F := Ideal))) ⟨m', fun _ => 0, g'⟩ (fun r => ∀ c : Dev Cert.QkvNaReferenceIdeal.nD,
          r.2.mem ((c.tc : Thread Cert.QkvNaReferenceIdeal.nD Cert.QkvNaReferenceIdeal.τ).loc Cert.QkvNaReferenceIdeal.main_v41) = v0 c
          ∧ r.2.mem ((c.tc : Thread Cert.QkvNaReferenceIdeal.nD Cert.QkvNaReferenceIdeal.τ).loc Cert.QkvNaReferenceIdeal.main_v44) = v1 c
          ∧ r.2.mem ((c.tc : Thread Cert.QkvNaReferenceIdeal.nD Cert.QkvNaReferenceIdeal.τ).loc Cert.QkvNaReferenceIdeal.main_v47) = v2 c
          ∧ r.2.mem ((c.tc : Thread Cert.QkvNaReferenceIdeal.nD Cert.QkvNaReferenceIdeal.τ).loc Cert.QkvNaReferenceIdeal.main_arg0) = m' ((c.tc : Thread Cert.QkvNaReferenceIdeal.nD Cert.QkvNaReferenceIdeal.τ).loc Cert.QkvNaReferenceIdeal.main_arg0)
          ∧ r.2.mem ((c.tc : Thread Cert.QkvNaReferenceIdeal.nD Cert.QkvNaReferenceIdeal.τ).loc Cert.QkvNaReferenceIdeal.main_arg1) = m' ((c.tc : Thread Cert.QkvNaReferenceIdeal.nD Cert.QkvNaReferenceIdeal.τ).loc Cert.QkvNaReferenceIdeal.main_arg1)
          ∧ r.2.mem ((c.tc : Thread Cert.QkvNaReferenceIdeal.nD Cert.QkvNaReferenceIdeal.τ).loc Cert.QkvNaReferenceIdeal.main_arg2) = m' ((c.tc : Thread Cert.QkvNaReferenceIdeal.nD Cert.QkvNaReferenceIdeal.τ).loc Cert.QkvNaReferenceIdeal.main_arg2))

def preserves_QkvWaKernel_QkvWaKernelIdeal : Prop :=
  IdealRules.named_const.Statement Cert.QkvWaKernelIdeal.κ "qscale" .f32 0x3E38AA3B#32 (((8 * (Real.log 2))⁻¹ : ℝ) : EReal)

def algebraic_QkvWaKernelIdeal_QkvWaReferenceIdeal [hQkvWaKernelIdeal : Cert.QkvWaKernelIdeal.Facts] [hQkvWaReferenceIdeal : Cert.QkvWaReferenceIdeal.Facts] : Prop :=
  ∀ (m : (ℓ : Loc Cert.QkvWaKernelIdeal.nD Cert.QkvWaKernelIdeal.τ Cert.QkvWaKernelIdeal.sig) → Buf (Elt Ideal) ℓ) (g : Dev Cert.QkvWaKernelIdeal.nD → PrngReg)
    (m' : (ℓ : Loc Cert.QkvWaReferenceIdeal.nD Cert.QkvWaReferenceIdeal.τ Cert.QkvWaReferenceIdeal.sig) → Buf (Elt Ideal) ℓ) (g' : Dev Cert.QkvWaReferenceIdeal.nD → PrngReg), Pre_QkvWaKernelIdeal m →
    (∀ c : Dev Cert.QkvWaKernelIdeal.nD,
      m' ((c.tc : Thread Cert.QkvWaReferenceIdeal.nD Cert.QkvWaReferenceIdeal.τ).loc Cert.QkvWaReferenceIdeal.main_arg0) = m ((c.tc : Thread Cert.QkvWaKernelIdeal.nD Cert.QkvWaKernelIdeal.τ).loc Cert.QkvWaKernelIdeal.main_arg0)
      ∧ m' ((c.tc : Thread Cert.QkvWaReferenceIdeal.nD Cert.QkvWaReferenceIdeal.τ).loc Cert.QkvWaReferenceIdeal.main_arg1) = m ((c.tc : Thread Cert.QkvWaKernelIdeal.nD Cert.QkvWaKernelIdeal.τ).loc Cert.QkvWaKernelIdeal.main_arg1)
      ∧ m' ((c.tc : Thread Cert.QkvWaReferenceIdeal.nD Cert.QkvWaReferenceIdeal.τ).loc Cert.QkvWaReferenceIdeal.main_arg2) = m ((c.tc : Thread Cert.QkvWaKernelIdeal.nD Cert.QkvWaKernelIdeal.τ).loc Cert.QkvWaKernelIdeal.main_arg2)) →
    ∃ (v0 : (c : Dev Cert.QkvWaKernelIdeal.nD) → Buf (Elt Ideal) ((c.tc : Thread Cert.QkvWaKernelIdeal.nD Cert.QkvWaKernelIdeal.τ).loc Cert.QkvWaKernelIdeal.main_v44_0)) (v1 : (c : Dev Cert.QkvWaKernelIdeal.nD) → Buf (Elt Ideal) ((c.tc : Thread Cert.QkvWaKernelIdeal.nD Cert.QkvWaKernelIdeal.τ).loc Cert.QkvWaKernelIdeal.main_v44_1)) (v2 : (c : Dev Cert.QkvWaKernelIdeal.nD) → Buf (Elt Ideal) ((c.tc : Thread Cert.QkvWaKernelIdeal.nD Cert.QkvWaKernelIdeal.τ).loc Cert.QkvWaKernelIdeal.main_v44_2)),
      θ_run (Cert.QkvWaKernelIdeal.defs (F := Ideal)) (onTc (τ := Cert.QkvWaKernelIdeal.τ) (Cert.QkvWaKernelIdeal.main (F := Ideal))) ⟨m, fun _ => 0, g⟩ (fun r => ∀ c : Dev Cert.QkvWaKernelIdeal.nD,
          r.2.mem ((c.tc : Thread Cert.QkvWaKernelIdeal.nD Cert.QkvWaKernelIdeal.τ).loc Cert.QkvWaKernelIdeal.main_v44_0) = v0 c
          ∧ r.2.mem ((c.tc : Thread Cert.QkvWaKernelIdeal.nD Cert.QkvWaKernelIdeal.τ).loc Cert.QkvWaKernelIdeal.main_v44_1) = v1 c
          ∧ r.2.mem ((c.tc : Thread Cert.QkvWaKernelIdeal.nD Cert.QkvWaKernelIdeal.τ).loc Cert.QkvWaKernelIdeal.main_v44_2) = v2 c
          ∧ r.2.mem ((c.tc : Thread Cert.QkvWaKernelIdeal.nD Cert.QkvWaKernelIdeal.τ).loc Cert.QkvWaKernelIdeal.main_arg0) = m ((c.tc : Thread Cert.QkvWaKernelIdeal.nD Cert.QkvWaKernelIdeal.τ).loc Cert.QkvWaKernelIdeal.main_arg0)
          ∧ r.2.mem ((c.tc : Thread Cert.QkvWaKernelIdeal.nD Cert.QkvWaKernelIdeal.τ).loc Cert.QkvWaKernelIdeal.main_arg1) = m ((c.tc : Thread Cert.QkvWaKernelIdeal.nD Cert.QkvWaKernelIdeal.τ).loc Cert.QkvWaKernelIdeal.main_arg1)
          ∧ r.2.mem ((c.tc : Thread Cert.QkvWaKernelIdeal.nD Cert.QkvWaKernelIdeal.τ).loc Cert.QkvWaKernelIdeal.main_arg2) = m ((c.tc : Thread Cert.QkvWaKernelIdeal.nD Cert.QkvWaKernelIdeal.τ).loc Cert.QkvWaKernelIdeal.main_arg2))
      ∧ θ_run (Cert.QkvWaReferenceIdeal.defs (F := Ideal)) (onTc (τ := Cert.QkvWaReferenceIdeal.τ) (Cert.QkvWaReferenceIdeal.main (F := Ideal))) ⟨m', fun _ => 0, g'⟩ (fun r => ∀ c : Dev Cert.QkvWaReferenceIdeal.nD,
          r.2.mem ((c.tc : Thread Cert.QkvWaReferenceIdeal.nD Cert.QkvWaReferenceIdeal.τ).loc Cert.QkvWaReferenceIdeal.main_v115) = v0 c
          ∧ r.2.mem ((c.tc : Thread Cert.QkvWaReferenceIdeal.nD Cert.QkvWaReferenceIdeal.τ).loc Cert.QkvWaReferenceIdeal.main_v111) = v1 c
          ∧ r.2.mem ((c.tc : Thread Cert.QkvWaReferenceIdeal.nD Cert.QkvWaReferenceIdeal.τ).loc Cert.QkvWaReferenceIdeal.main_v114) = v2 c
          ∧ r.2.mem ((c.tc : Thread Cert.QkvWaReferenceIdeal.nD Cert.QkvWaReferenceIdeal.τ).loc Cert.QkvWaReferenceIdeal.main_arg0) = m' ((c.tc : Thread Cert.QkvWaReferenceIdeal.nD Cert.QkvWaReferenceIdeal.τ).loc Cert.QkvWaReferenceIdeal.main_arg0)
          ∧ r.2.mem ((c.tc : Thread Cert.QkvWaReferenceIdeal.nD Cert.QkvWaReferenceIdeal.τ).loc Cert.QkvWaReferenceIdeal.main_arg1) = m' ((c.tc : Thread Cert.QkvWaReferenceIdeal.nD Cert.QkvWaReferenceIdeal.τ).loc Cert.QkvWaReferenceIdeal.main_arg1)
          ∧ r.2.mem ((c.tc : Thread Cert.QkvWaReferenceIdeal.nD Cert.QkvWaReferenceIdeal.τ).loc Cert.QkvWaReferenceIdeal.main_arg2) = m' ((c.tc : Thread Cert.QkvWaReferenceIdeal.nD Cert.QkvWaReferenceIdeal.τ).loc Cert.QkvWaReferenceIdeal.main_arg2))

def Claim : Prop :=
  ∃ (hWaKernel : Cert.WaKernel.Facts) (hWaKernelIdeal : Cert.WaKernelIdeal.Facts) (hWaReferenceIdeal : Cert.WaReferenceIdeal.Facts) (hPostKernel : Cert.PostKernel.Facts) (hPostKernelIdeal : Cert.PostKernelIdeal.Facts) (hPostReferenceIdeal : Cert.PostReferenceIdeal.Facts) (hPreKernel : Cert.PreKernel.Facts) (hPreKernelIdeal : Cert.PreKernelIdeal.Facts) (hPreReferenceIdeal : Cert.PreReferenceIdeal.Facts) (hPostFirstKernel : Cert.PostFirstKernel.Facts) (hPostFirstKernelIdeal : Cert.PostFirstKernelIdeal.Facts) (hPostFirstReferenceIdeal : Cert.PostFirstReferenceIdeal.Facts) (hPreFirstKernel : Cert.PreFirstKernel.Facts) (hPreFirstKernelIdeal : Cert.PreFirstKernelIdeal.Facts) (hPreFirstReferenceIdeal : Cert.PreFirstReferenceIdeal.Facts) (hQkvNaKernel : Cert.QkvNaKernel.Facts) (hQkvNaKernelIdeal : Cert.QkvNaKernelIdeal.Facts) (hQkvNaReferenceIdeal : Cert.QkvNaReferenceIdeal.Facts) (hQkvWaKernel : Cert.QkvWaKernel.Facts) (hQkvWaKernelIdeal : Cert.QkvWaKernelIdeal.Facts) (hQkvWaReferenceIdeal : Cert.QkvWaReferenceIdeal.Facts) (hPre_wa_finite : Cert.Pre_wa_finite.Facts) (hPre_post_finite : Cert.Pre_post_finite.Facts) (hPre_pre_finite : Cert.Pre_pre_finite.Facts) (hPre_post_first_finite : Cert.Pre_post_first_finite.Facts) (hPre_pre_first_finite : Cert.Pre_pre_first_finite.Facts),
    quiescent_WaKernel (hWaKernel := hWaKernel)
    ∧ quiescent_WaKernelIdeal (hWaKernelIdeal := hWaKernelIdeal)
    ∧ quiescent_WaKernelIdeal_pre_wa_finite (hWaKernelIdeal := hWaKernelIdeal) (hPre_wa_finite := hPre_wa_finite)
    ∧ quiescent_WaReferenceIdeal (hWaReferenceIdeal := hWaReferenceIdeal)
    ∧ quiescent_WaReferenceIdeal_pre_wa_finite (hWaReferenceIdeal := hWaReferenceIdeal) (hPre_wa_finite := hPre_wa_finite)
    ∧ quiescent_PostKernel (hPostKernel := hPostKernel)
    ∧ quiescent_PostKernelIdeal (hPostKernelIdeal := hPostKernelIdeal)
    ∧ quiescent_PostKernelIdeal_pre_post_finite (hPostKernelIdeal := hPostKernelIdeal) (hPre_post_finite := hPre_post_finite)
    ∧ quiescent_PostReferenceIdeal (hPostReferenceIdeal := hPostReferenceIdeal)
    ∧ quiescent_PostReferenceIdeal_pre_post_finite (hPostReferenceIdeal := hPostReferenceIdeal) (hPre_post_finite := hPre_post_finite)
    ∧ quiescent_PreKernel (hPreKernel := hPreKernel)
    ∧ quiescent_PreKernelIdeal (hPreKernelIdeal := hPreKernelIdeal)
    ∧ quiescent_PreKernelIdeal_pre_pre_finite (hPreKernelIdeal := hPreKernelIdeal) (hPre_pre_finite := hPre_pre_finite)
    ∧ quiescent_PreReferenceIdeal (hPreReferenceIdeal := hPreReferenceIdeal)
    ∧ quiescent_PreReferenceIdeal_pre_pre_finite (hPreReferenceIdeal := hPreReferenceIdeal) (hPre_pre_finite := hPre_pre_finite)
    ∧ quiescent_PostFirstKernel (hPostFirstKernel := hPostFirstKernel)
    ∧ quiescent_PostFirstKernelIdeal (hPostFirstKernelIdeal := hPostFirstKernelIdeal)
    ∧ quiescent_PostFirstKernelIdeal_pre_post_first_finite (hPostFirstKernelIdeal := hPostFirstKernelIdeal) (hPre_post_first_finite := hPre_post_first_finite)
    ∧ quiescent_PostFirstReferenceIdeal (hPostFirstReferenceIdeal := hPostFirstReferenceIdeal)
    ∧ quiescent_PostFirstReferenceIdeal_pre_post_first_finite (hPostFirstReferenceIdeal := hPostFirstReferenceIdeal) (hPre_post_first_finite := hPre_post_first_finite)
    ∧ quiescent_PreFirstKernel (hPreFirstKernel := hPreFirstKernel)
    ∧ quiescent_PreFirstKernelIdeal (hPreFirstKernelIdeal := hPreFirstKernelIdeal)
    ∧ quiescent_PreFirstKernelIdeal_pre_pre_first_finite (hPreFirstKernelIdeal := hPreFirstKernelIdeal) (hPre_pre_first_finite := hPre_pre_first_finite)
    ∧ quiescent_PreFirstReferenceIdeal (hPreFirstReferenceIdeal := hPreFirstReferenceIdeal)
    ∧ quiescent_PreFirstReferenceIdeal_pre_pre_first_finite (hPreFirstReferenceIdeal := hPreFirstReferenceIdeal) (hPre_pre_first_finite := hPre_pre_first_finite)
    ∧ quiescent_QkvNaKernel (hQkvNaKernel := hQkvNaKernel)
    ∧ quiescent_QkvNaKernelIdeal (hQkvNaKernelIdeal := hQkvNaKernelIdeal)
    ∧ quiescent_QkvNaReferenceIdeal (hQkvNaReferenceIdeal := hQkvNaReferenceIdeal)
    ∧ quiescent_QkvWaKernel (hQkvWaKernel := hQkvWaKernel)
    ∧ quiescent_QkvWaKernelIdeal (hQkvWaKernelIdeal := hQkvWaKernelIdeal)
    ∧ quiescent_QkvWaReferenceIdeal (hQkvWaReferenceIdeal := hQkvWaReferenceIdeal)
    ∧ preserves_WaKernel_WaKernelIdeal
    ∧ algebraic_WaKernelIdeal_WaReferenceIdeal_pre_wa_finite (hWaKernelIdeal := hWaKernelIdeal) (hWaReferenceIdeal := hWaReferenceIdeal) (hPre_wa_finite := hPre_wa_finite)
    ∧ preserves_PostKernel_PostKernelIdeal
    ∧ algebraic_PostKernelIdeal_PostReferenceIdeal_pre_post_finite (hPostKernelIdeal := hPostKernelIdeal) (hPostReferenceIdeal := hPostReferenceIdeal) (hPre_post_finite := hPre_post_finite)
    ∧ preserves_PreKernel_PreKernelIdeal
    ∧ algebraic_PreKernelIdeal_PreReferenceIdeal_pre_pre_finite (hPreKernelIdeal := hPreKernelIdeal) (hPreReferenceIdeal := hPreReferenceIdeal) (hPre_pre_finite := hPre_pre_finite)
    ∧ preserves_PostFirstKernel_PostFirstKernelIdeal
    ∧ algebraic_PostFirstKernelIdeal_PostFirstReferenceIdeal_pre_post_first_finite (hPostFirstKernelIdeal := hPostFirstKernelIdeal) (hPostFirstReferenceIdeal := hPostFirstReferenceIdeal) (hPre_post_first_finite := hPre_post_first_finite)
    ∧ preserves_PreFirstKernel_PreFirstKernelIdeal
    ∧ algebraic_PreFirstKernelIdeal_PreFirstReferenceIdeal_pre_pre_first_finite (hPreFirstKernelIdeal := hPreFirstKernelIdeal) (hPreFirstReferenceIdeal := hPreFirstReferenceIdeal) (hPre_pre_first_finite := hPre_pre_first_finite)
    ∧ preserves_QkvNaKernel_QkvNaKernelIdeal
    ∧ algebraic_QkvNaKernelIdeal_QkvNaReferenceIdeal (hQkvNaKernelIdeal := hQkvNaKernelIdeal) (hQkvNaReferenceIdeal := hQkvNaReferenceIdeal)
    ∧ preserves_QkvWaKernel_QkvWaKernelIdeal
    ∧ algebraic_QkvWaKernelIdeal_QkvWaReferenceIdeal (hQkvWaKernelIdeal := hQkvWaKernelIdeal) (hQkvWaReferenceIdeal := hQkvWaReferenceIdeal)
-- ==== Pre_post_finite.lean ====
abbrev S2x16x9x1024 : Shape := ⟨4, ![2, 16, 9, 1024]⟩
abbrev S18432x1024 : Shape := ⟨2, ![18432, 1024]⟩
abbrev S16384x1024 : Shape := ⟨2, ![16384, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S1x8x4x1024 : Shape := ⟨4, ![1, 8, 4, 1024]⟩
abbrev S8x4x1024 : Shape := ⟨3, ![8, 4, 1024]⟩
abbrev S1x1x1024 : Shape := ⟨3, ![1, 1, 1024]⟩
abbrev S1024 : Shape := ⟨1, ![1024]⟩
abbrev S_ : Shape := ⟨0, ![]⟩

class Facts : Prop where
  slices_S2x16x9x1024_S1x8x4x1024_1_0_5_0 : S2x16x9x1024.Slices ![1, 0, 5, 0] S1x8x4x1024
  shapeCasts_S1x8x4x1024_S8x4x1024 : S1x8x4x1024.ShapeCasts S8x4x1024
  slices_S18432x1024_S16384x1024_0_0 : S18432x1024.Slices ![0, 0] S16384x1024
  slices_S2x3x1024_S1x1x1024_1_1_0 : S2x3x1024.Slices ![1, 1, 0] S1x1x1024
  shapeCasts_S1x1x1024_S1024 : S1x1x1024.ShapeCasts S1024
  bcast_S_S8x4x1024 : S_.BroadcastsInDim S8x4x1024 (![] : Fin 0 → Fin S8x4x1024.rank)
  bcast_S_S16384x1024 : S_.BroadcastsInDim S16384x1024 (![] : Fin 0 → Fin S16384x1024.rank)
  bitsLt_bf16_f32 : FTy.bits .bf16 < FTy.bits .f32
  bcast_S_S1024x1024 : S_.BroadcastsInDim S1024x1024 (![] : Fin 0 → Fin S1024x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg4 : FVec F S1024x5632 .bf16) (main_arg5 : FVec F S2816x1024 .bf16) (main_v4 : FVec F S1024 .f32) (main_v6 : FVec F S1024 .f32) (main_v9 : IVec S8x4x1024 1) (main_v12 : IVec S16384x1024 1) (main_v16 : IVec S16384x1024 1) (main_v18 : FVec F S1024x1024 .f32) (main_v19 : FVec F S1024x1024 .f32) : IVec S8x4x1024 1 × IVec S16384x1024 1 × IVec S16384x1024 1 × IVec S1024x1024 1 × IVec S1024x5632 1 × IVec S2816x1024 1 × IVec S1024 1 × IVec S1024 1 :=
  let main_v20 : IVec S1024x1024 1 := cmpf .olt main_v18 main_v19
  let main_v21 : FVec F S1024x5632 .f32 := (extf .f32 · bitsLt_bf16_f32) main_arg4
  let main_v22 : FVec F S1024x5632 .f32 := Host.absf main_v21
  let main_cst_3 : FVec F S_ .f32 := constant S_ .f32 0x7F800000#32
  let main_v23 : FVec F S1024x5632 .f32 := broadcastInDim S1024x5632 ![] bcast_S_S1024x5632 main_cst_3
  let main_v24 : IVec S1024x5632 1 := cmpf .olt main_v22 main_v23
  let main_v25 : FVec F S2816x1024 .f32 := (extf .f32 · bitsLt_bf16_f32) main_arg5
  let main_v26 : FVec F S2816x1024 .f32 := Host.absf main_v25
  let main_cst_4 : FVec F S_ .f32 := constant S_ .f32 0x7F800000#32
  let main_v27 : FVec F S2816x1024 .f32 := broadcastInDim S2816x1024 ![] bcast_S_S2816x1024 main_cst_4
  let main_v28 : IVec S2816x1024 1 := cmpf .olt main_v26 main_v27
  let main_v29 : FVec F S1024 .f32 := Host.absf main_v4
  let main_cst_5 : FVec F S_ .f32 := constant S_ .f32 0x7F800000#32
  let main_v30 : FVec F S1024 .f32 := broadcastInDim S1024 ![] bcast_S_S1024 main_cst_5
  let main_v31 : IVec S1024 1 := cmpf .olt main_v29 main_v30
  let main_v32 : FVec F S1024 .f32 := Host.absf main_v6
  let main_cst_6 : FVec F S_ .f32 := constant S_ .f32 0x7F800000#32
  let main_v33 : FVec F S1024 .f32 := broadcastInDim S1024 ![] bcast_S_S1024 main_cst_6
  let main_v34 : IVec S1024 1 := cmpf .olt main_v32 main_v33
  (main_v9, main_v12, main_v16, main_v20, main_v24, main_v28, main_v31, main_v34)

def fn {F : FTy → Type} [FloatOps F] (main_arg0 : FVec F S2x16x9x1024 .f32) (main_arg1 : FVec F S18432x1024 .f32) (main_arg2 : FVec F S16384x1024 .bf16) (main_arg3 : FVec F S1024x1024 .bf16) (main_arg4 : FVec F S1024x5632 .bf16) (main_arg5 : FVec F S2816x1024 .bf16) (main_arg6 : FVec F S2x3x1024 .f32) (main_arg7 : FVec F S2x3x1024 .f32) : IVec S8x4x1024 1 × IVec S16384x1024 1 × IVec S16384x1024 1 × IVec S1024x1024 1 × IVec S1024x5632 1 × IVec S2816x1024 1 × IVec S1024 1 × IVec S1024 1 :=
  let main_v0 : FVec F S1x8x4x1024 .f32 := (extractStridedSlice S1x8x4x1024 ![1, 0, 5, 0] · slices_S2x16x9x1024_S1x8x4x1024_1_0_5_0) main_arg0
  let main_v1 : FVec F S8x4x1024 .f32 := shapeCast S8x4x1024 main_v0 shapeCasts_S1x8x4x1024_S8x4x1024
  let main_v2 : FVec F S16384x1024 .f32 := (extractStridedSlice S16384x1024 ![0, 0] · slices_S18432x1024_S16384x1024_0_0) main_arg1
  let main_v3 : FVec F S1x1x1024 .f32 := (extractStridedSlice S1x1x1024 ![1, 1, 0] · slices_S2x3x1024_S1x1x1024_1_1_0) main_arg6
  let main_v4 : FVec F S1024 .f32 := shapeCast S1024 main_v3 shapeCasts_S1x1x1024_S1024
  let main_v5 : FVec F S1x1x1024 .f32 := (extractStridedSlice S1x1x1024 ![1, 1, 0] · slices_S2x3x1024_S1x1x1024_1_1_0) main_arg7
  let main_v6 : FVec F S1024 .f32 := shapeCast S1024 main_v5 shapeCasts_S1x1x1024_S1024
  let main_v7 : FVec F S8x4x1024 .f32 := Host.absf main_v1
  let main_cst : FVec F S_ .f32 := constant S_ .f32 0x7F800000#32
  let main_v8 : FVec F S8x4x1024 .f32 := broadcastInDim S8x4x1024 ![] bcast_S_S8x4x1024 main_cst
  let main_v9 : IVec S8x4x1024 1 := cmpf .olt main_v7 main_v8
  let main_v10 : FVec F S16384x1024 .f32 := Host.absf main_v2
  let main_cst_0 : FVec F S_ .f32 := constant S_ .f32 0x7F800000#32
  let main_v11 : FVec F S16384x1024 .f32 := broadcastInDim S16384x1024 ![] bcast_S_S16384x1024 main_cst_0
  let main_v12 : IVec S16384x1024 1 := cmpf .olt main_v10 main_v11
  let main_v13 : FVec F S16384x1024 .f32 := (extf .f32 · bitsLt_bf16_f32) main_arg2
  let main_v14 : FVec F S16384x1024 .f32 := Host.absf main_v13
  let main_cst_1 : FVec F S_ .f32 := constant S_ .f32 0x7F800000#32
  let main_v15 : FVec F S16384x1024 .f32 := broadcastInDim S16384x1024 ![] bcast_S_S16384x1024 main_cst_1
  let main_v16 : IVec S16384x1024 1 := cmpf .olt main_v14 main_v15
  let main_v17 : FVec F S1024x1024 .f32 := (extf .f32 · bitsLt_bf16_f32) main_arg3
  let main_v18 : FVec F S1024x1024 .f32 := Host.absf main_v17
  let main_cst_2 : FVec F S_ .f32 := constant S_ .f32 0x7F800000#32
  let main_v19 : FVec F S1024x1024 .f32 := broadcastInDim S1024x1024 ![] bcast_S_S1024x1024 main_cst_2
  fn_part1 (F := F) main_arg4 main_arg5 main_v4 main_v6 main_v9 main_v12 main_v16 main_v18 main_v19
-- ==== Pre_post_first_finite.lean ====
abbrev S2x16x9x1024 : Shape := ⟨4, ![2, 16, 9, 1024]⟩
abbrev S18432x1024 : Shape := ⟨2, ![18432, 1024]⟩
abbrev S16384x1024 : Shape := ⟨2, ![16384, 1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x9x4x1024 : Shape := ⟨4, ![1, 9, 4, 1024]⟩
abbrev S9x4x1024 : Shape := ⟨3, ![9, 4, 1024]⟩
abbrev S1x1x1024 : Shape := ⟨3, ![1, 1, 1024]⟩
abbrev S1024 : Shape := ⟨1, ![1024]⟩
abbrev S_ : Shape := ⟨0, ![]⟩

class Facts : Prop where
  slices_S2x16x9x1024_S1x9x4x1024_0_0_5_0 : S2x16x9x1024.Slices ![0, 0, 5, 0] S1x9x4x1024
  shapeCasts_S1x9x4x1024_S9x4x1024 : S1x9x4x1024.ShapeCasts S9x4x1024
  slices_S2x3x1024_S1x1x1024_0_1_0 : S2x3x1024.Slices ![0, 1, 0] S1x1x1024
  shapeCasts_S1x1x1024_S1024 : S1x1x1024.ShapeCasts S1024
  bcast_S_S9x4x1024 : S_.BroadcastsInDim S9x4x1024 (![] : Fin 0 → Fin S9x4x1024.rank)
  bcast_S_S18432x1024 : S_.BroadcastsInDim S18432x1024 (![] : Fin 0 → Fin S18432x1024.rank)
  bitsLt_bf16_f32 : FTy.bits .bf16 < FTy.bits .f32
  bcast_S_S16384x1024 : S_.BroadcastsInDim S16384x1024 (![] : Fin 0 → Fin S16384x1024.rank)
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg4 : FVec F S1024x1024 .bf16) (main_arg5 : FVec F S1024x5632 .bf16) (main_arg6 : FVec F S2816x1024 .bf16) (main_v3 : FVec F S1024 .f32) (main_v5 : FVec F S1024 .f32) (main_v8 : IVec S9x4x1024 1) (main_v11 : IVec S18432x1024 1) (main_v15 : IVec S16384x1024 1) (main_v19 : IVec S2048x1024 1) : IVec S9x4x1024 1 × IVec S18432x1024 1 × IVec S16384x1024 1 × IVec S2048x1024 1 × IVec S1024x1024 1 × IVec S1024x5632 1 × IVec S2816x1024 1 × IVec S1024 1 × IVec S1024 1 :=
  let main_v20 : FVec F S1024x1024 .f32 := (extf .f32 · bitsLt_bf16_f32) main_arg4
  let main_v21 : FVec F S1024x1024 .f32 := Host.absf main_v20
  let main_cst_3 : FVec F S_ .f32 := constant S_ .f32 0x7F800000#32
  let main_v22 : FVec F S1024x1024 .f32 := broadcastInDim S1024x1024 ![] bcast_S_S1024x1024 main_cst_3
  let main_v23 : IVec S1024x1024 1 := cmpf .olt main_v21 main_v22
  let main_v24 : FVec F S1024x5632 .f32 := (extf .f32 · bitsLt_bf16_f32) main_arg5
  let main_v25 : FVec F S1024x5632 .f32 := Host.absf main_v24
  let main_cst_4 : FVec F S_ .f32 := constant S_ .f32 0x7F800000#32
  let main_v26 : FVec F S1024x5632 .f32 := broadcastInDim S1024x5632 ![] bcast_S_S1024x5632 main_cst_4
  let main_v27 : IVec S1024x5632 1 := cmpf .olt main_v25 main_v26
  let main_v28 : FVec F S2816x1024 .f32 := (extf .f32 · bitsLt_bf16_f32) main_arg6
  let main_v29 : FVec F S2816x1024 .f32 := Host.absf main_v28
  let main_cst_5 : FVec F S_ .f32 := constant S_ .f32 0x7F800000#32
  let main_v30 : FVec F S2816x1024 .f32 := broadcastInDim S2816x1024 ![] bcast_S_S2816x1024 main_cst_5
  let main_v31 : IVec S2816x1024 1 := cmpf .olt main_v29 main_v30
  let main_v32 : FVec F S1024 .f32 := Host.absf main_v3
  let main_cst_6 : FVec F S_ .f32 := constant S_ .f32 0x7F800000#32
  let main_v33 : FVec F S1024 .f32 := broadcastInDim S1024 ![] bcast_S_S1024 main_cst_6
  let main_v34 : IVec S1024 1 := cmpf .olt main_v32 main_v33
  let main_v35 : FVec F S1024 .f32 := Host.absf main_v5
  let main_cst_7 : FVec F S_ .f32 := constant S_ .f32 0x7F800000#32
  let main_v36 : FVec F S1024 .f32 := broadcastInDim S1024 ![] bcast_S_S1024 main_cst_7
  let main_v37 : IVec S1024 1 := cmpf .olt main_v35 main_v36
  (main_v8, main_v11, main_v15, main_v19, main_v23, main_v27, main_v31, main_v34, main_v37)

def fn {F : FTy → Type} [FloatOps F] (main_arg0 : FVec F S2x16x9x1024 .f32) (main_arg1 : FVec F S18432x1024 .f32) (main_arg2 : FVec F S16384x1024 .bf16) (main_arg3 : FVec F S2048x1024 .bf16) (main_arg4 : FVec F S1024x1024 .bf16) (main_arg5 : FVec F S1024x5632 .bf16) (main_arg6 : FVec F S2816x1024 .bf16) (main_arg7 : FVec F S2x3x1024 .f32) (main_arg8 : FVec F S2x3x1024 .f32) (main_arg9 : FVec F S2x2x1024x5632 .f32) (main_arg10 : FVec F S2x2x2816x1024 .f32) : IVec S9x4x1024 1 × IVec S18432x1024 1 × IVec S16384x1024 1 × IVec S2048x1024 1 × IVec S1024x1024 1 × IVec S1024x5632 1 × IVec S2816x1024 1 × IVec S1024 1 × IVec S1024 1 :=
  let main_v0 : FVec F S1x9x4x1024 .f32 := (extractStridedSlice S1x9x4x1024 ![0, 0, 5, 0] · slices_S2x16x9x1024_S1x9x4x1024_0_0_5_0) main_arg0
  let main_v1 : FVec F S9x4x1024 .f32 := shapeCast S9x4x1024 main_v0 shapeCasts_S1x9x4x1024_S9x4x1024
  let main_v2 : FVec F S1x1x1024 .f32 := (extractStridedSlice S1x1x1024 ![0, 1, 0] · slices_S2x3x1024_S1x1x1024_0_1_0) main_arg7
  let main_v3 : FVec F S1024 .f32 := shapeCast S1024 main_v2 shapeCasts_S1x1x1024_S1024
  let main_v4 : FVec F S1x1x1024 .f32 := (extractStridedSlice S1x1x1024 ![0, 1, 0] · slices_S2x3x1024_S1x1x1024_0_1_0) main_arg8
  let main_v5 : FVec F S1024 .f32 := shapeCast S1024 main_v4 shapeCasts_S1x1x1024_S1024
  let main_v6 : FVec F S9x4x1024 .f32 := Host.absf main_v1
  let main_cst : FVec F S_ .f32 := constant S_ .f32 0x7F800000#32
  let main_v7 : FVec F S9x4x1024 .f32 := broadcastInDim S9x4x1024 ![] bcast_S_S9x4x1024 main_cst
  let main_v8 : IVec S9x4x1024 1 := cmpf .olt main_v6 main_v7
  let main_v9 : FVec F S18432x1024 .f32 := Host.absf main_arg1
  let main_cst_0 : FVec F S_ .f32 := constant S_ .f32 0x7F800000#32
  let main_v10 : FVec F S18432x1024 .f32 := broadcastInDim S18432x1024 ![] bcast_S_S18432x1024 main_cst_0
  let main_v11 : IVec S18432x1024 1 := cmpf .olt main_v9 main_v10
  let main_v12 : FVec F S16384x1024 .f32 := (extf .f32 · bitsLt_bf16_f32) main_arg2
  let main_v13 : FVec F S16384x1024 .f32 := Host.absf main_v12
  let main_cst_1 : FVec F S_ .f32 := constant S_ .f32 0x7F800000#32
  let main_v14 : FVec F S16384x1024 .f32 := broadcastInDim S16384x1024 ![] bcast_S_S16384x1024 main_cst_1
  let main_v15 : IVec S16384x1024 1 := cmpf .olt main_v13 main_v14
  let main_v16 : FVec F S2048x1024 .f32 := (extf .f32 · bitsLt_bf16_f32) main_arg3
  let main_v17 : FVec F S2048x1024 .f32 := Host.absf main_v16
  let main_cst_2 : FVec F S_ .f32 := constant S_ .f32 0x7F800000#32
  let main_v18 : FVec F S2048x1024 .f32 := broadcastInDim S2048x1024 ![] bcast_S_S2048x1024 main_cst_2
  let main_v19 : IVec S2048x1024 1 := cmpf .olt main_v17 main_v18
  fn_part1 (F := F) main_arg4 main_arg5 main_arg6 main_v3 main_v5 main_v8 main_v11 main_v15 main_v19
-- ==== Pre_pre_finite.lean ====
abbrev S2x16x9x1024 : Shape := ⟨4, ![2, 16, 9, 1024]⟩
abbrev S18432x1024 : Shape := ⟨2, ![18432, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x1536 : Shape := ⟨3, ![1, 1024, 1536]⟩
abbrev S1x1024x1024 : Shape := ⟨3, ![1, 1024, 1024]⟩
abbrev S1x9x3x1024 : Shape := ⟨4, ![1, 9, 3, 1024]⟩
abbrev S9x3x1024 : Shape := ⟨3, ![9, 3, 1024]⟩
abbrev S_ : Shape := ⟨0, ![]⟩

class Facts : Prop where
  slices_S2x16x9x1024_S1x9x3x1024_1_0_0_0 : S2x16x9x1024.Slices ![1, 0, 0, 0] S1x9x3x1024
  shapeCasts_S1x9x3x1024_S9x3x1024 : S1x9x3x1024.ShapeCasts S9x3x1024
  bcast_S_S9x3x1024 : S_.BroadcastsInDim S9x3x1024 (![] : Fin 0 → Fin S9x3x1024.rank)
  bcast_S_S18432x1024 : S_.BroadcastsInDim S18432x1024 (![] : Fin 0 → Fin S18432x1024.rank)
  bitsLt_bf16_f32 : FTy.bits .bf16 < FTy.bits .f32
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2x16x9x1024 .f32) (main_arg1 : FVec F S18432x1024 .f32) (main_arg2 : FVec F S1024x5632 .bf16) (main_arg3 : FVec F S2816x1024 .bf16) (main_arg4 : FVec F S2x3x1024 .f32) (main_arg5 : FVec F S2x3x1024 .f32) (main_arg6 : FVec F S2x2x1024x5632 .f32) (main_arg7 : FVec F S2x2x2816x1024 .f32) (main_arg8 : FVec F S1x1024x1536 .f32) (main_arg9 : FVec F S1x1024x1024 .f32) : IVec S9x3x1024 1 × IVec S18432x1024 1 × IVec S1024x5632 1 × IVec S2816x1024 1 :=
  let main_v0 : FVec F S1x9x3x1024 .f32 := (extractStridedSlice S1x9x3x1024 ![1, 0, 0, 0] · slices_S2x16x9x1024_S1x9x3x1024_1_0_0_0) main_arg0
  let main_v1 : FVec F S9x3x1024 .f32 := shapeCast S9x3x1024 main_v0 shapeCasts_S1x9x3x1024_S9x3x1024
  let main_v2 : FVec F S9x3x1024 .f32 := Host.absf main_v1
  let main_cst : FVec F S_ .f32 := constant S_ .f32 0x7F800000#32
  let main_v3 : FVec F S9x3x1024 .f32 := broadcastInDim S9x3x1024 ![] bcast_S_S9x3x1024 main_cst
  let main_v4 : IVec S9x3x1024 1 := cmpf .olt main_v2 main_v3
  let main_v5 : FVec F S18432x1024 .f32 := Host.absf main_arg1
  let main_cst_0 : FVec F S_ .f32 := constant S_ .f32 0x7F800000#32
  let main_v6 : FVec F S18432x1024 .f32 := broadcastInDim S18432x1024 ![] bcast_S_S18432x1024 main_cst_0
  let main_v7 : IVec S18432x1024 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  (main_v4, main_v7, main_v11, main_v15)
-- ==== Pre_pre_first_finite.lean ====
abbrev S2x16x9x1024 : Shape := ⟨4, ![2, 16, 9, 1024]⟩
abbrev S16384x1024 : Shape := ⟨2, ![16384, 1024]⟩
abbrev S2048x1024 : Shape := ⟨2, ![2048, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x3072 : Shape := ⟨3, ![1, 1024, 3072]⟩
abbrev S1x1024x1024 : Shape := ⟨3, ![1, 1024, 1024]⟩
abbrev S1x9x3x1024 : Shape := ⟨4, ![1, 9, 3, 1024]⟩
abbrev S9x3x1024 : Shape := ⟨3, ![9, 3, 1024]⟩
abbrev S_ : Shape := ⟨0, ![]⟩

class Facts : Prop where
  slices_S2x16x9x1024_S1x9x3x1024_0_0_0_0 : S2x16x9x1024.Slices ![0, 0, 0, 0] S1x9x3x1024
  shapeCasts_S1x9x3x1024_S9x3x1024 : S1x9x3x1024.ShapeCasts S9x3x1024
  bcast_S_S9x3x1024 : S_.BroadcastsInDim S9x3x1024 (![] : Fin 0 → Fin S9x3x1024.rank)
  bcast_S_S16384x1024 : S_.BroadcastsInDim S16384x1024 (![] : Fin 0 → Fin S16384x1024.rank)
  bcast_S_S2048x1024 : S_.BroadcastsInDim S2048x1024 (![] : Fin 0 → Fin S2048x1024.rank)
  bitsLt_bf16_f32 : FTy.bits .bf16 < FTy.bits .f32
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2x16x9x1024 .f32) (main_arg1 : FVec F S16384x1024 .f32) (main_arg2 : FVec F S2048x1024 .f32) (main_arg3 : FVec F S1024x5632 .bf16) (main_arg4 : FVec F S2816x1024 .bf16) (main_arg5 : FVec F S2x3x1024 .f32) (main_arg6 : FVec F S2x3x1024 .f32) (main_arg7 : FVec F S2x2x1024x5632 .f32) (main_arg8 : FVec F S2x2x2816x1024 .f32) (main_arg9 : FVec F S1x1024x3072 .f32) (main_arg10 : FVec F S1x1024x1024 .f32) : IVec S9x3x1024 1 × IVec S16384x1024 1 × IVec S2048x1024 1 × IVec S1024x5632 1 × IVec S2816x1024 1 :=
  let main_v0 : FVec F S1x9x3x1024 .f32 := (extractStridedSlice S1x9x3x1024 ![0, 0, 0, 0] · slices_S2x16x9x1024_S1x9x3x1024_0_0_0_0) main_arg0
  let main_v1 : FVec F S9x3x1024 .f32 := shapeCast S9x3x1024 main_v0 shapeCasts_S1x9x3x1024_S9x3x1024
  let main_v2 : FVec F S9x3x1024 .f32 := Host.absf main_v1
  let main_cst : FVec F S_ .f32 := constant S_ .f32 0x7F800000#32
  let main_v3 : FVec F S9x3x1024 .f32 := broadcastInDim S9x3x1024 ![] bcast_S_S9x3x1024 main_cst
  let main_v4 : IVec S9x3x1024 1 := cmpf .olt main_v2 main_v3
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1024x5632 .f32 := (extf .f32 · bitsLt_bf16_f32) main_arg3
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_v15 : FVec F S2816x1024 .f32 := (extf .f32 · bitsLt_bf16_f32) main_arg4
  let main_v16 : FVec F S2816x1024 .f32 := Host.absf main_v15
  let main_cst_3 : FVec F S_ .f32 := constant S_ .f32 0x7F800000#32
  let main_v17 : FVec F S2816x1024 .f32 := broadcastInDim S2816x1024 ![] bcast_S_S2816x1024 main_cst_3
  let main_v18 : IVec S2816x1024 1 := cmpf .olt main_v16 main_v17
  (main_v4, main_v7, main_v10, main_v14, main_v18)
-- ==== Pre_wa_finite.lean ====
abbrev S16 : Shape := ⟨1, ![16]⟩
abbrev S18432x1024 : Shape := ⟨2, ![18432, 1024]⟩
abbrev S18432x512 : Shape := ⟨2, ![18432, 512]⟩
abbrev S_ : Shape := ⟨0, ![]⟩

class Facts : Prop where
  bcast_S_S16 : S_.BroadcastsInDim S16 (![] : Fin 0 → Fin S16.rank)
  bitsLt_bf16_f32 : FTy.bits .bf16 < FTy.bits .f32
  bcast_S_S18432x1024 : S_.BroadcastsInDim S18432x1024 (![] : Fin 0 → Fin S18432x1024.rank)
  bcast_S_S18432x512 : S_.BroadcastsInDim S18432x512 (![] : Fin 0 → Fin S18432x512.rank)

variable [Facts]

def fn {F : FTy → Type} [FloatOps F] (main_arg0 : FVec F S16 .f32) (main_arg1 : FVec F S18432x1024 .bf16) (main_arg2 : FVec F S18432x512 .bf16) (main_arg3 : FVec F S18432x512 .bf16) : IVec S16 1 × IVec S18432x1024 1 × IVec S18432x512 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_v3 : FVec F S18432x1024 .f32 := (extf .f32 · bitsLt_bf16_f32) main_arg1
  let main_v4 : FVec F S18432x1024 .f32 := Host.absf main_v3
  let main_cst_0 : FVec F S_ .f32 := constant S_ .f32 0x7F800000#32
  let main_v5 : FVec F S18432x1024 .f32 := broadcastInDim S18432x1024 ![] bcast_S_S18432x1024 main_cst_0
  let main_v6 : IVec S18432x1024 1 := cmpf .olt main_v4 main_v5
  let main_v7 : FVec F S18432x512 .f32 := (extf .f32 · bitsLt_bf16_f32) main_arg2
  let main_v8 : FVec F S18432x512 .f32 := Host.absf main_v7
  let main_cst_1 : FVec F S_ .f32 := constant S_ .f32 0x7F800000#32
  let main_v9 : FVec F S18432x512 .f32 := broadcastInDim S18432x512 ![] bcast_S_S18432x512 main_cst_1
  let main_v10 : IVec S18432x512 1 := cmpf .olt main_v8 main_v9
  (main_v2, main_v6, main_v10)
-- ==== WaKernel.lean ====
abbrev S16 : Shape := ⟨1, ![16]⟩
abbrev S18432x1024 : Shape := ⟨2, ![18432, 1024]⟩
abbrev S18432x512 : Shape := ⟨2, ![18432, 512]⟩
abbrev S16384x1024 : Shape := ⟨2, ![16384, 1024]⟩
abbrev S512x1024 : Shape := ⟨2, ![512, 1024]⟩
abbrev S2048x512 : Shape := ⟨2, ![2048, 512]⟩
abbrev S256x512 : Shape := ⟨2, ![256, 512]⟩
abbrev S128x384 : Shape := ⟨2, ![128, 384]⟩
abbrev S1024x384 : Shape := ⟨2, ![1024, 384]⟩
abbrev S128x128 : Shape := ⟨2, ![128, 128]⟩
abbrev S256x128 : Shape := ⟨2, ![256, 128]⟩
abbrev S384x128 : Shape := ⟨2, ![384, 128]⟩
abbrev S256x384 : Shape := ⟨2, ![256, 384]⟩
abbrev S1024x128 : Shape := ⟨2, ![1024, 128]⟩
abbrev S1024x256 : Shape := ⟨2, ![1024, 256]⟩
abbrev S1 : Shape := ⟨1, ![1]⟩
abbrev S128x1 : Shape := ⟨2, ![128, 1]⟩
abbrev S1024x1 : Shape := ⟨2, ![1024, 1]⟩
abbrev S1024 : Shape := ⟨1, ![1024]⟩
abbrev S384x256 : Shape := ⟨2, ![384, 256]⟩
abbrev S256x256 : Shape := ⟨2, ![256, 256]⟩

abbrev nBuf : Space → Nat
  | .hbm => 5
  | .vmem => 12
  | .smem => 1
  | _ => 0

abbrev bufTy : (tb : Table) → Fin (tcTables nBuf tb) → BufTy
  | .hbm, ⟨0, _⟩ => ⟨S16, .f32⟩
  | .hbm, ⟨1, _⟩ => ⟨S18432x1024, .bf16⟩
  | .hbm, ⟨2, _⟩ => ⟨S18432x512, .bf16⟩
  | .hbm, ⟨3, _⟩ => ⟨S18432x512, .bf16⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S512x1024, .bf16⟩
  | .local _ .vmem, ⟨11, _⟩ => ⟨S512x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c1664_i32 : BitVec 32 := 1664#32
  let c0_i32_0 : BitVec 32 := 0#32
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  v5
def k0_mult2 (i : grid0.Coords) : BitVec 32 :=
  let c1664_i32_5 : BitVec 32 := 1664#32
  let c0_i32_4 : BitVec 32 := 0#32
  let arg1 : BitVec 32 := BitVec.ofNat 32 (i 1).val
  let c4_i32 : BitVec 32 := 4#32
  let v0 : BitVec 32 := Scalar.muli arg1 c4_i32
  let c1_i32_1 : BitVec 32 := 1#32
  let v7 : BitVec 32 := Scalar.addi v0 c1_i32_1
  let c1_i32_2 : BitVec 32 := 1#32
  let v8 : BitVec 32 := Scalar.subi v7 c1_i32_2
  let c128_i32_3 : BitVec 32 := 128#32
  let v9 : BitVec 32 := Scalar.muli v8 c128_i32_3
  let v10 : BitVec 32 := Scalar.maxsi c0_i32_4 v9
  let v11 : BitVec 32 := Scalar.minsi c1664_i32_5 v10
  v11
def k0_mult3 (i : grid0.Coords) : BitVec 32 :=
  let c1664_i32_9 : BitVec 32 := 1664#32
  let c0_i32_8 : BitVec 32 := 0#32
  let arg1 : BitVec 32 := BitVec.ofNat 32 (i 1).val
  let c4_i32 : BitVec 32 := 4#32
  let v0 : BitVec 32 := Scalar.muli arg1 c4_i32
  let c2_i32 : BitVec 32 := 2#32
  let v13 : BitVec 32 := Scalar.addi v0 c2_i32
  let c1_i32_6 : BitVec 32 := 1#32
  let v14 : BitVec 32 := Scalar.subi v13 c1_i32_6
  let c128_i32_7 : BitVec 32 := 128#32
  let v15 : BitVec 32 := Scalar.muli v14 c128_i32_7
  let v16 : BitVec 32 := Scalar.maxsi c0_i32_8 v15
  let v17 : BitVec 32 := Scalar.minsi c1664_i32_9 v16
  v17
def k0_mult4 (i : grid0.Coords) : BitVec 32 :=
  let c1664_i32_13 : BitVec 32 := 1664#32
  let c0_i32_12 : BitVec 32 := 0#32
  let arg1 : BitVec 32 := BitVec.ofNat 32 (i 1).val
  let c4_i32 : BitVec 32 := 4#32
  let v0 : BitVec 32 := Scalar.muli arg1 c4_i32
  let c3_i32 : BitVec 32 := 3#32
  let v19 : BitVec 32 := Scalar.addi v0 c3_i32
  let c1_i32_10 : BitVec 32 := 1#32
  let v20 : BitVec 32 := Scalar.subi v19 c1_i32_10
  let c128_i32_11 : BitVec 32 := 128#32
  let v21 : BitVec 32 := Scalar.muli v20 c128_i32_11
  let v22 : BitVec 32 := Scalar.maxsi c0_i32_12 v21
  let v23 : BitVec 32 := Scalar.minsi c1664_i32_13 v22
  v23
def k0_off1 (i : grid0.Coords) (c0_i32 : BitVec 32) : Fin 2 → Nat :=
  let c1664_i32 : BitVec 32 := 1664#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  let v6 : BitVec 32 := v5
  let v105 : Index := Scalar.indexCast v6
  let c0_44 : Index := 0#32
  ![v105.toNat, 0]
def k0_off2 (i : grid0.Coords) (c0_i32 : BitVec 32) : Fin 2 → Nat :=
  let c1664_i32 : BitVec 32 := 1664#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  let v6 : BitVec 32 := v5
  let v201 : Index := Scalar.indexCast v6
  let c128_98 : Index := 128#32
  ![v201.toNat, 128]
def k0_off3 (i : grid0.Coords) (c0_i32 : BitVec 32) : Fin 2 → Nat :=
  let c1664_i32 : BitVec 32 := 1664#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  let v6 : BitVec 32 := v5
  let v297 : Index := Scalar.indexCast v6
  let c256_151 : Index := 256#32
  ![v297.toNat, 256]
def k0_off4 (i : grid0.Coords) (c0_i32 : BitVec 32) : Fin 2 → Nat :=
  let c1664_i32 : BitVec 32 := 1664#32
  let c0_i32_0 : BitVec 32 := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let c1_i32 : BitVec 32 := 1#32
  let v2 : BitVec 32 := Scalar.subi v1 c1_i32
  let c128_i32 : BitVec 32 := 128#32
  let v3 : BitVec 32 := Scalar.muli v2 c128_i32
  let v4 : BitVec 32 := Scalar.maxsi c0_i32_0 v3
  let v5 : BitVec 32 := Scalar.minsi c1664_i32 v4
  let v6 : BitVec 32 := v5
  let v601 : Index := Scalar.indexCast v6
  let c384_266 : Index := 384#32
  ![v601.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WaKernelIdeal.lean ====
variable {F : FTy → Type} [FloatOps F] [Named F]
def κ : String → Option EReal := fun
  | "log2e" => some (((Real.log 2)⁻¹ : ℝ) : EReal)
  | "mask" => some ⊥
  | _ => none
-- ==== WaReferenceIdeal.lean ====
abbrev S16 : Shape := ⟨1, ![16]⟩
abbrev S18432x1024 : Shape := ⟨2, ![18432, 1024]⟩
abbrev S18432x512 : Shape := ⟨2, ![18432, 512]⟩
abbrev S_ : Shape := ⟨0, ![]⟩
abbrev S16384x1024 : Shape := ⟨2, ![16384, 1024]⟩
abbrev S8x2048x16x64 : Shape := ⟨4, ![8, 2048, 16, 64]⟩
abbrev S16384x512 : Shape := ⟨2, ![16384, 512]⟩
abbrev S8x2048x4x1x2x64 : Shape := ⟨6, ![8, 2048, 4, 1, 2, 64]⟩
abbrev S8x2048x4x2x2x64 : Shape := ⟨6, ![8, 2048, 4, 2, 2, 64]⟩
abbrev S2048x512 : Shape := ⟨2, ![2048, 512]⟩
abbrev S8x256x4x1x2x64 : Shape := ⟨6, ![8, 256, 4, 1, 2, 64]⟩
abbrev S8x256x4x2x2x64 : Shape := ⟨6, ![8, 256, 4, 2, 2, 64]⟩
abbrev S8x256x16x64 : Shape := ⟨4, ![8, 256, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x16x2048x2048 : Shape := ⟨4, ![8, 16, 2048, 2048]⟩
abbrev S8x16x2048x256 : Shape := ⟨4, ![8, 16, 2048, 256]⟩
abbrev S1x16x1x1 : Shape := ⟨4, ![1, 16, 1, 1]⟩
abbrev S8x16x2048x1 : Shape := ⟨4, ![8, 16, 2048, 1]⟩
abbrev S8x16x2048x2305 : Shape := ⟨4, ![8, 16, 2048, 2305]⟩
abbrev S8x16x2048 : Shape := ⟨3, ![8, 16, 2048]⟩
abbrev S8x16x64x2048 : Shape := ⟨4, ![8, 16, 64, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16, .f32⟩
  | .hbm, ⟨1, _⟩ => ⟨S18432x1024, .bf16⟩
  | .hbm, ⟨2, _⟩ => ⟨S18432x512, .bf16⟩
  | .hbm, ⟨3, _⟩ => ⟨S18432x512, .bf16⟩
  | .hbm, ⟨4, _⟩ => ⟨S_, .f32⟩
  | .hbm, ⟨5, _⟩ => ⟨S_, .f32⟩
  | .hbm, ⟨6, _⟩ => ⟨S16384x1024, .bf16⟩
  | .hbm, ⟨7, _⟩ => ⟨S16384x1024, .f32⟩
  | .hbm, ⟨8, _⟩ => ⟨S8x2048x16x64, .f32⟩
  | .hbm, ⟨9, _⟩ => ⟨S16384x512, .bf16⟩
  | .hbm, ⟨10, _⟩ => ⟨S16384x512, .f32⟩
  | .hbm, ⟨11, _⟩ => ⟨S8x2048x4x1x2x64, .f32⟩
  | .hbm, ⟨12, _⟩ => ⟨S8x2048x4x2x2x64, .f32⟩
  | .hbm, ⟨13, _⟩ => ⟨S8x2048x16x64, .f32⟩
  | .hbm, ⟨14, _⟩ => ⟨S2048x512, .bf16⟩
  | .hbm, ⟨15, _⟩ => ⟨S2048x512, .f32⟩
  | .hbm, ⟨16, _⟩ => ⟨S8x256x4x1x2x64, .f32⟩
  | .hbm, ⟨17, _⟩ => ⟨S8x256x4x2x2x64, .f32⟩
  | .hbm, ⟨18, _⟩ => ⟨S8x256x16x64, .f32⟩
  | .hbm, ⟨19, _⟩ => ⟨S16384x512, .bf16⟩
  | .hbm, ⟨20, _⟩ => ⟨S16384x512, .f32⟩
  | .hbm, ⟨21, _⟩ => ⟨S8x2048x4x1x2x64, .f32⟩
  | .hbm, ⟨22, _⟩ => ⟨S8x2048x4x2x2x64, .f32⟩
  | .hbm, ⟨23, _⟩ => ⟨S8x2048x16x64, .f32⟩
  | .hbm, ⟨24, _⟩ => ⟨S2048x512, .bf16⟩
  | .hbm, ⟨25, _⟩ => ⟨S2048x512, .f32⟩
  | .hbm, ⟨26, _⟩ => ⟨S8x256x4x1x2x64, .f32⟩
  | .hbm, ⟨27, _⟩ => ⟨S8x256x4x2x2x64, .f32⟩
  | .hbm, ⟨28, _⟩ => ⟨S8x256x16x64, .f32⟩
  | .hbm, ⟨29, _⟩ => ⟨S2048, .i32⟩
  | .hbm, ⟨30, _⟩ => ⟨S2048x1, .i32⟩
  | .hbm, ⟨31, _⟩ => ⟨S1x2048, .i32⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i1⟩
  | .hbm, ⟨39, _⟩ => ⟨S8x16x2048x2048, .f32⟩
  | .hbm, ⟨40, _⟩ => ⟨S8x16x2048x2048, .f32⟩
  | .hbm, ⟨41, _⟩ => ⟨S8x16x2048x2048, .f32⟩
  | .hbm, ⟨42, _⟩ => ⟨S_, .f32⟩
  | .hbm, ⟨43, _⟩ => ⟨S_, .f32⟩
  | .hbm, ⟨44, _⟩ => ⟨S8x16x2048x2048, .i1⟩
  | .hbm, ⟨45, _⟩ => ⟨S8x16x2048x2048, .f32⟩
  | .hbm, ⟨46, _⟩ => ⟨S8x16x2048x2048, .f32⟩
  | .hbm, ⟨47, _⟩ => ⟨S8x16x2048x256, .f32⟩
  | .hbm, ⟨48, _⟩ => ⟨S8x16x2048x256, .f32⟩
  | .hbm, ⟨49, _⟩ => ⟨S8x16x2048x256, .f32⟩
  | .hbm, ⟨50, _⟩ => ⟨S1x16x1x1, .f32⟩
  | .hbm, ⟨51, _⟩ => ⟨S8x16x2048x1, .f32⟩
  | .hbm, ⟨52, _⟩ => ⟨S8x16x2048x2305, .f32⟩
  | .hbm, ⟨53, _⟩ => ⟨S_, .f32⟩
  | .hbm, ⟨54, _⟩ => ⟨S8x16x2048, .f32⟩
  | .hbm, ⟨55, _⟩ => ⟨S_, .f32⟩
  | .hbm, ⟨56, _⟩ => ⟨S8x16x2048, .f32⟩
  | .hbm, ⟨57, _⟩ => ⟨S8x16x2048, .f32⟩
  | .hbm, ⟨58, _⟩ => ⟨S8x16x2048x1, .f32⟩
  | .hbm, ⟨59, _⟩ => ⟨S8x16x2048x2305, .f32⟩
  | .hbm, ⟨60, _⟩ => ⟨S8x16x2048x2305, .f32⟩
  | .hbm, ⟨61, _⟩ => ⟨S8x16x2048x2305, .f32⟩
  | .hbm, ⟨62, _⟩ => ⟨S_, .f32⟩
  | .hbm, ⟨63, _⟩ => ⟨S8x16x2048, .f32⟩
  | .hbm, ⟨64, _⟩ => ⟨S8x16x2048x1, .f32⟩
  | .hbm, ⟨65, _⟩ => ⟨S8x16x2048x2305, .f32⟩
  | .hbm, ⟨66, _⟩ => ⟨S8x16x2048x2305, .f32⟩
  | .hbm, ⟨67, _⟩ => ⟨S8x16x2048x2048, .f32⟩
  | .hbm, ⟨68, _⟩ => ⟨S8x16x64x2048, .f32⟩
  | .hbm, ⟨69, _⟩ => ⟨S8x2048x16x64, .f32⟩
  | .hbm, ⟨70, _⟩ => ⟨S8x16x2048x256, .f32⟩
  | .hbm, ⟨71, _⟩ => ⟨S8x16x64x2048, .f32⟩
  | .hbm, ⟨72, _⟩ => ⟨S8x2048x16x64, .f32⟩
  | .hbm, ⟨73, _⟩ => ⟨S8x2048x16x64, .f32⟩
  | .hbm, ⟨74, _⟩ => ⟨S16384x1024, .f32⟩
  | .hbm, ⟨75, _⟩ => ⟨S16384x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== PostKernel.lean ====
abbrev S2x16x9x1024 : Shape := ⟨4, ![2, 16, 9, 1024]⟩
abbrev S18432x1024 : Shape := ⟨2, ![18432, 1024]⟩
abbrev S16384x1024 : Shape := ⟨2, ![16384, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S1x1x9x1024 : Shape := ⟨4, ![1, 1, 9, 1024]⟩
abbrev S512x1024 : Shape := ⟨2, ![512, 1024]⟩
abbrev S1x3x1024 : Shape := ⟨3, ![1, 3, 1024]⟩
abbrev S128x1024 : Shape := ⟨2, ![128, 1024]⟩
abbrev S256x1024 : Shape := ⟨2, ![256, 1024]⟩
abbrev S9x1024 : Shape := ⟨2, ![9, 1024]⟩
abbrev S1x1024 : Shape := ⟨2, ![1, 1024]⟩
abbrev S1x1x1024 : Shape := ⟨3, ![1, 1, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S256 : Shape := ⟨1, ![256]⟩
abbrev S256x1 : Shape := ⟨2, ![256, 1]⟩
abbrev S256x2816 : Shape := ⟨2, ![256, 2816]⟩

abbrev nBuf : Space → Nat
  | .hbm => 9
  | .vmem => 13
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S16384x1024, .bf16⟩
  | .hbm, ⟨3, _⟩ => ⟨S1024x1024, .bf16⟩
  | .hbm, ⟨4, _⟩ => ⟨S1024x5632, .bf16⟩
  | .hbm, ⟨5, _⟩ => ⟨S2816x1024, .bf16⟩
  | .hbm, ⟨6, _⟩ => ⟨S2x3x1024, .f32⟩
  | .hbm, ⟨7, _⟩ => ⟨S2x3x1024, .f32⟩
  | .hbm, ⟨8, _⟩ => ⟨S16384x1024, .f32⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x5632, .bf16⟩
  | .local _ .vmem, ⟨8, _⟩ => ⟨S2816x1024, .bf16⟩
  | .local _ .vmem, ⟨9, _⟩ => ⟨S1x3x1024, .f32⟩
  | .local _ .vmem, ⟨10, _⟩ => ⟨S1x3x1024, .f32⟩
  | .local _ .vmem, ⟨11, _⟩ => ⟨S512x1024, .f32⟩
  | .local _ .vmem, ⟨12, _⟩ => ⟨S512x1024, .f32⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S2x16x9x1024 : Shape := ⟨4, ![2, 16, 9, 1024]⟩
abbrev S18432x1024 : Shape := ⟨2, ![18432, 1024]⟩
abbrev S16384x1024 : Shape := ⟨2, ![16384, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x2048x1024 : Shape := ⟨3, ![8, 2048, 1024]⟩
abbrev S_ : Shape := ⟨0, ![]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2048x2816 : Shape := ⟨3, ![8, 2048, 2816]⟩

abbrev nBuf : Space → Nat
  | .hbm => 146
  | .vmem => 0
  | .smem => 0
  | _ => 0

abbrev hbmTy0_0 (i : Nat) : BufTy := match i % 128 with
  | 0 => ⟨S2x16x9x1024, .f32⟩
  | 1 => ⟨S18432x1024, .f32⟩
  | 2 => ⟨S16384x1024, .bf16⟩
  | 3 => ⟨S1024x1024, .bf16⟩
  | 4 => ⟨S1024x5632, .bf16⟩
  | 5 => ⟨S2816x1024, .bf16⟩
  | 6 => ⟨S2x3x1024, .f32⟩
  | 7 => ⟨S2x3x1024, .f32⟩
  | 8 => ⟨S1x8x1x1024, .f32⟩
  | 9 => ⟨S8x1024, .f32⟩
  | 10 => ⟨S8x1x1024, .f32⟩
  | 11 => ⟨S1x8x1x1024, .f32⟩
  | 12 => ⟨S8x1024, .f32⟩
  | 13 => ⟨S8x1x1024, .f32⟩
  | 14 => ⟨S1x8x1x1024, .f32⟩
  | 15 => ⟨S8x1024, .f32⟩
  | 16 => ⟨S8x1x1024, .f32⟩
  | 17 => ⟨S1x8x1x1024, .f32⟩
  | 18 => ⟨S8x1024, .f32⟩
  | 19 => ⟨S8x1x1024, .f32⟩
  | 20 => ⟨S1x8x1x1024, .f32⟩
  | 21 => ⟨S8x1024, .f32⟩
  | 22 => ⟨S8x1x1024, .f32⟩
  | 23 => ⟨S1x8x1x1024, .f32⟩
  | 24 => ⟨S8x1024, .f32⟩
  | 25 => ⟨S8x1x1024, .f32⟩
  | 26 => ⟨S1x8x1x1024, .f32⟩
  | 27 => ⟨S8x1024, .f32⟩
  | 28 => ⟨S8x1x1024, .f32⟩
  | 29 => ⟨S1x8x1x1024, .f32⟩
  | 30 => ⟨S8x1024, .f32⟩
  | 31 => ⟨S8x1x1024, .f32⟩
  | 32 => ⟨S1x8x1x1024, .f32⟩
  | 33 => ⟨S8x1024, .f32⟩
  | 34 => ⟨S8x1x1024, .f32⟩
  | 35 => ⟨S1024x1024, .f32⟩
  | 36 => ⟨S1024x5632, .f32⟩
  | 37 => ⟨S2816x1024, .f32⟩
  | 38 => ⟨S16384x1024, .f32⟩
  | 39 => ⟨S8x2048x1024, .f32⟩
  | 40 => ⟨S16384x1024, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S1x1x1024, .f32⟩
  | 50 => ⟨S1024, .f32⟩
  | 51 => ⟨S1x1x1024, .f32⟩
  | 52 => ⟨S1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S8x2048x1024, .f32⟩
  | 60 => ⟨S8x2048x1024, .f32⟩
  | 61 => ⟨S8x2048x1024, .f32⟩
  | 62 => ⟨S_, .f32⟩
  | 63 => ⟨S8x2048, .f32⟩
  | 64 => ⟨S8x2048x1, .f32⟩
  | 65 => ⟨S_, .f32⟩
  | 66 => ⟨S8x2048x1, .f32⟩
  | 67 => ⟨S8x2048x1, .f32⟩
  | 68 => ⟨S8x2048x1024, .f32⟩
  | 69 => ⟨S8x2048x1024, .f32⟩
  | 70 => ⟨S_, .f32⟩
  | 71 => ⟨S8x2048x1, .f32⟩
  | 72 => ⟨S8x2048x1, .f32⟩
  | 73 => ⟨S8x2048x1, .f32⟩
  | 74 => ⟨S8x2048x1024, .f32⟩
  | 75 => ⟨S8x2048x1024, .f32⟩
  | 76 => ⟨S1x1x1024, .f32⟩
  | 77 => ⟨S8x2048x1024, .f32⟩
  | 78 => ⟨S8x2048x1024, .f32⟩
  | 79 => ⟨S1x1x1024, .f32⟩
  | 80 => ⟨S8x2048x1024, .f32⟩
  | 81 => ⟨S8x2048x1024, .f32⟩
  | 82 => ⟨S1x1x1024, .f32⟩
  | 83 => ⟨S1024, .f32⟩
  | 84 => ⟨S1x1x1024, .f32⟩
  | 85 => ⟨S1024, .f32⟩
  | 86 => ⟨S_, .f32⟩
  | 87 => ⟨S8x1x1024, .f32⟩
  | 88 => ⟨S8x1x1024, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x5632, .f32⟩
  | 94 => ⟨S8x2048x2816, .f32⟩
  | 95 => ⟨S8x2048x2816, .f32⟩
  | 96 => ⟨S8x2048x2816, .f32⟩
  | 97 => ⟨S8x2048x2816, .f32⟩
  | 98 => ⟨S_, .f32⟩
  | 99 => ⟨S8x2048x2816, .f32⟩
  | 100 => ⟨S8x2048x2816, .f32⟩
  | 101 => ⟨S_, .f32⟩
  | 102 => ⟨S8x2048x2816, .f32⟩
  | 103 => ⟨S8x2048x2816, .f32⟩
  | 104 => ⟨S8x2048x2816, .f32⟩
  | 105 => ⟨S8x2048x2816, .f32⟩
  | 106 => ⟨S8x2048x1024, .f32⟩
  | 107 => ⟨S_, .f32⟩
  | 108 => ⟨S8x2048x1024, .f32⟩
  | 109 => ⟨S8x2048x1024, .f32⟩
  | 110 => ⟨S_, .f32⟩
  | 111 => ⟨S8x1x1024, .f32⟩
  | 112 => ⟨S8x1x1024, .f32⟩
  | 113 => ⟨S8x2048x1024, .f32⟩
  | 114 => ⟨S8x2048x1024, .f32⟩
  | 115 => ⟨S8x2048x1024, .f32⟩
  | 116 => ⟨S_, .f32⟩
  | 117 => ⟨S8x2048, .f32⟩
  | 118 => ⟨S8x2048x1, .f32⟩
  | 119 => ⟨S_, .f32⟩
  | 120 => ⟨S8x2048x1, .f32⟩
  | 121 => ⟨S8x2048x1, .f32⟩
  | 122 => ⟨S8x2048x1024, .f32⟩
  | 123 => ⟨S8x2048x1024, .f32⟩
  | 124 => ⟨S8x2048x1024, .f32⟩
  | 125 => ⟨S_, .f32⟩
  | 126 => ⟨S8x2048, .f32⟩
  | 127 => ⟨S8x2048x1, .f32⟩
  | _ => ⟨S2x16x9x1024, .f32⟩

abbrev hbmTy0_1 (i : Nat) : BufTy := match i % 128 with
  | 0 => ⟨S_, .f32⟩
  | 1 => ⟨S8x2048x1, .f32⟩
  | 2 => ⟨S8x2048x1, .f32⟩
  | 3 => ⟨S8x2048x1024, .f32⟩
  | 4 => ⟨S8x2048x1024, .f32⟩
  | 5 => ⟨S_, .f32⟩
  | 6 => ⟨S8x2048x1, .f32⟩
  | 7 => ⟨S8x2048x1, .f32⟩
  | 8 => ⟨S8x2048x1, .f32⟩
  | 9 => ⟨S8x2048x1024, .f32⟩
  | 10 => ⟨S8x2048x1024, .f32⟩
  | 11 => ⟨S1x1x1024, .f32⟩
  | 12 => ⟨S8x2048x1024, .f32⟩
  | 13 => ⟨S8x2048x1024, .f32⟩
  | 14 => ⟨S1x1x1024, .f32⟩
  | 15 => ⟨S8x2048x1024, .f32⟩
  | 16 => ⟨S8x2048x1024, .f32⟩
  | 17 => ⟨S16384x1024, .f32⟩
  | _ => ⟨S2x16x9x1024, .f32⟩

abbrev hbmTy (i : Nat) : BufTy := match i / 128 with
  | 0 => hbmTy0_0 i
  | 1 => hbmTy0_1 i
  | _ => ⟨S2x16x9x1024, .f32⟩

abbrev bufTy : (tb : Table) → Fin (tcTables nBuf tb) → BufTy
  | .hbm, ⟨i, _⟩ => hbmTy i
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_5 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_6 : Ref sig .tc := ⟨.hbm, 107, rfl⟩
abbrev main_v84 : Ref sig .tc := ⟨.hbm, 108, rfl⟩
abbrev main_v85 : Ref sig .tc := ⟨.hbm, 109, rfl⟩
abbrev main_cst_7 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_8 : Ref sig .tc := ⟨.hbm, 116, rfl⟩
abbrev main_v91 : Ref sig .tc := ⟨.hbm, 117, rfl⟩
abbrev main_v92 : Ref sig .tc := ⟨.hbm, 118, rfl⟩
abbrev main_cst_9 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_10 : Ref sig .tc := ⟨.hbm, 125, rfl⟩
abbrev main_v98 : Ref sig .tc := ⟨.hbm, 126, rfl⟩
abbrev main_v99 : Ref sig .tc := ⟨.hbm, 127, rfl⟩
abbrev main_cst_11 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_12 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩

abbrev nD : Nat := 1
abbrev τ : Topo := Topo.v7x

variable {F : FTy → Type} [FloatOps F]
-- ==== PreKernel.lean ====
abbrev S2x16x9x1024 : Shape := ⟨4, ![2, 16, 9, 1024]⟩
abbrev S18432x1024 : Shape := ⟨2, ![18432, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x1536 : Shape := ⟨3, ![1, 1024, 1536]⟩
abbrev S1x1024x1024 : Shape := ⟨3, ![1, 1024, 1024]⟩
abbrev S1024x1536 : Shape := ⟨2, ![1024, 1536]⟩
abbrev S1024x1024 : Shape := ⟨2, ![1024, 1024]⟩
abbrev S1x1x9x1024 : Shape := ⟨4, ![1, 1, 9, 1024]⟩
abbrev S512x1024 : Shape := ⟨2, ![512, 1024]⟩
abbrev S1x3x1024 : Shape := ⟨3, ![1, 3, 1024]⟩
abbrev S1x1x32x5632 : Shape := ⟨4, ![1, 1, 32, 5632]⟩
abbrev S1x1x176x1024 : Shape := ⟨4, ![1, 1, 176, 1024]⟩
abbrev S1x32x1536 : Shape := ⟨3, ![1, 32, 1536]⟩
abbrev S1x32x1024 : Shape := ⟨3, ![1, 32, 1024]⟩
abbrev S32x5632 : Shape := ⟨2, ![32, 5632]⟩
abbrev S176x1024 : Shape := ⟨2, ![176, 1024]⟩
abbrev S32x1536 : Shape := ⟨2, ![32, 1536]⟩
abbrev S32x1024 : Shape := ⟨2, ![32, 1024]⟩
abbrev S128x1024 : Shape := ⟨2, ![128, 1024]⟩
abbrev S9x1024 : Shape := ⟨2, ![9, 1024]⟩
abbrev S1x1024 : Shape := ⟨2, ![1, 1024]⟩
abbrev S1024x2816 : Shape := ⟨2, ![1024, 2816]⟩
abbrev S128x2816 : Shape := ⟨2, ![128, 2816]⟩
abbrev S1x1x1024 : Shape := ⟨3, ![1, 1, 1024]⟩
abbrev S128 : Shape := ⟨1, ![128]⟩
abbrev S128x1 : Shape := ⟨2, ![128, 1]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 15
  | .vmem => 26
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S1024x5632, .bf16⟩
  | .hbm, ⟨3, _⟩ => ⟨S2816x1024, .bf16⟩
  | .hbm, ⟨4, _⟩ => ⟨S2x3x1024, .f32⟩
  | .hbm, ⟨5, _⟩ => ⟨S2x3x1024, .f32⟩
  | .hbm, ⟨6, _⟩ => ⟨S2x2x1024x5632, .f32⟩
  | .hbm, ⟨7, _⟩ => ⟨S2x2x2816x1024, .f32⟩
  | .hbm, ⟨8, _⟩ => ⟨S1x1024x1536, .f32⟩
  | .hbm, ⟨9, _⟩ => ⟨S1x1024x1024, .f32⟩
  | .hbm, ⟨10, _⟩ => ⟨S18432x1024, .f32⟩
  | .hbm, ⟨11, _⟩ => ⟨S1024x5632, .bf16⟩
  | .hbm, ⟨12, _⟩ => ⟨S2816x1024, .bf16⟩
  | .hbm, ⟨13, _⟩ => ⟨S1024x1536, .bf16⟩
  | .hbm, ⟨14, _⟩ => ⟨S1024x1024, .bf16⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x3x1024, .f32⟩
  | .local _ .vmem, ⟨7, _⟩ => ⟨S1x3x1024, .f32⟩
  | .local _ .vmem, ⟨8, _⟩ => ⟨S1x1x32x5632, .f32⟩
  | .local _ .vmem, ⟨9, _⟩ => ⟨S1x1x32x5632, .f32⟩
  | .local _ .vmem, ⟨10, _⟩ => ⟨S1x1x176x1024, .f32⟩
  | .local _ .vmem, ⟨11, _⟩ => ⟨S1x1x176x1024, .f32⟩
  | .local _ .vmem, ⟨12, _⟩ => ⟨S1x32x1536, .f32⟩
  | .local _ .vmem, ⟨13, _⟩ => ⟨S1x32x1536, .f32⟩
  | .local _ .vmem, ⟨14, _⟩ => ⟨S1x32x1024, .f32⟩
  | .local _ .vmem, ⟨15, _⟩ => ⟨S1x32x1024, .f32⟩
  | .local _ .vmem, ⟨16, _⟩ => ⟨S512x1024, .f32⟩
  | .local _ .vmem, ⟨17, _⟩ => ⟨S512x1024, .f32⟩
  | .local _ .vmem, ⟨18, _⟩ => ⟨S32x5632, .bf16⟩
  | .local _ .vmem, ⟨19, _⟩ => ⟨S32x5632, .bf16⟩
  | .local _ .vmem, ⟨20, _⟩ => ⟨S176x1024, .bf16⟩
  | .local _ .vmem, ⟨21, _⟩ => ⟨S176x1024, .bf16⟩
  | .local _ .vmem, ⟨22, _⟩ => ⟨S32x1536, .bf16⟩
  | .local _ .vmem, ⟨23, _⟩ => ⟨S32x1536, .bf16⟩
  | .local _ .vmem, ⟨24, _⟩ => ⟨S32x1024, .bf16⟩
  | .local _ .vmem, ⟨25, _⟩ => ⟨S32x1024, .bf16⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![36], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.minsi arg0 c31_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PreReferenceIdeal.lean ====
abbrev S2x16x9x1024 : Shape := ⟨4, ![2, 16, 9, 1024]⟩
abbrev S18432x1024 : Shape := ⟨2, ![18432, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x1536 : Shape := ⟨3, ![1, 1024, 1536]⟩
abbrev S1x1024x1024 : Shape := ⟨3, ![1, 1024, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S16384x1024 : Shape := ⟨2, ![16384, 1024]⟩
abbrev S8x2048x1024 : Shape := ⟨3, ![8, 2048, 1024]⟩
abbrev S1024 : Shape := ⟨1, ![1024]⟩
abbrev S_ : Shape := ⟨0, ![]⟩
abbrev S8x2048x5632 : Shape := ⟨3, ![8, 2048, 5632]⟩
abbrev S8x2048x2816 : Shape := ⟨3, ![8, 2048, 2816]⟩
abbrev S8x2048 : Shape := ⟨2, ![8, 2048]⟩
abbrev S8x2048x1 : Shape := ⟨3, ![8, 2048, 1]⟩
abbrev S2048x1024 : Shape := ⟨2, ![2048, 1024]⟩
abbrev S8x256x1024 : Shape := ⟨3, ![8, 256, 1024]⟩
abbrev S8x256x5632 : Shape := ⟨3, ![8, 256, 5632]⟩
abbrev S8x256x2816 : Shape := ⟨3, ![8, 256, 2816]⟩
abbrev S8x256 : Shape := ⟨2, ![8, 256]⟩
abbrev S8x256x1 : Shape := ⟨3, ![8, 256, 1]⟩
abbrev S1x1x1024x5632 : Shape := ⟨4, ![1, 1, 1024, 5632]⟩
abbrev S1x1x2816x1024 : Shape := ⟨4, ![1, 1, 2816, 1024]⟩
abbrev S1024x1536 : Shape := ⟨2, ![1024, 1536]⟩
abbrev S1024x1024 : Shape := ⟨2, ![1024, 1024]⟩

abbrev nBuf : Space → Nat
  | .hbm => 173
  | .vmem => 0
  | .smem => 0
  | _ => 0

abbrev hbmTy0_0 (i : Nat) : BufTy := match i % 128 with
  | 0 => ⟨S2x16x9x1024, .f32⟩
  | 1 => ⟨S18432x1024, .f32⟩
  | 2 => ⟨S1024x5632, .bf16⟩
  | 3 => ⟨S2816x1024, .bf16⟩
  | 4 => ⟨S2x3x1024, .f32⟩
  | 5 => ⟨S2x3x1024, .f32⟩
  | 6 => ⟨S2x2x1024x5632, .f32⟩
  | 7 => ⟨S2x2x2816x1024, .f32⟩
  | 8 => ⟨S1x1024x1536, .f32⟩
  | 9 => ⟨S1x1024x1024, .f32⟩
  | 10 => ⟨S1024x5632, .f32⟩
  | 11 => ⟨S2816x1024, .f32⟩
  | 12 => ⟨S1x8x1x1024, .f32⟩
  | 13 => ⟨S8x1024, .f32⟩
  | 14 => ⟨S8x1x1024, .f32⟩
  | 15 => ⟨S1x8x1x1024, .f32⟩
  | 16 => ⟨S8x1024, .f32⟩
  | 17 => ⟨S8x1x1024, .f32⟩
  | 18 => ⟨S1x8x1x1024, .f32⟩
  | 19 => ⟨S8x1024, .f32⟩
  | 20 => ⟨S8x1x1024, .f32⟩
  | 21 => ⟨S1x1x1x1024, .f32⟩
  | 22 => ⟨S1x1024, .f32⟩
  | 23 => ⟨S1x1x1024, .f32⟩
  | 24 => ⟨S1x1x1x1024, .f32⟩
  | 25 => ⟨S1x1024, .f32⟩
  | 26 => ⟨S1x1x1024, .f32⟩
  | 27 => ⟨S1x1x1x1024, .f32⟩
  | 28 => ⟨S1x1024, .f32⟩
  | 29 => ⟨S1x1x1024, .f32⟩
  | 30 => ⟨S16384x1024, .f32⟩
  | 31 => ⟨S8x2048x1024, .f32⟩
  | 32 => ⟨S1x1x1024, .f32⟩
  | 33 => ⟨S1024, .f32⟩
  | 34 => ⟨S1x1x1024, .f32⟩
  | 35 => ⟨S1024, .f32⟩
  | 36 => ⟨S_, .f32⟩
  | 37 => ⟨S8x1x1024, .f32⟩
  | 38 => ⟨S8x1x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x5632, .f32⟩
  | 44 => ⟨S8x2048x2816, .f32⟩
  | 45 => ⟨S8x2048x2816, .f32⟩
  | 46 => ⟨S8x2048x2816, .f32⟩
  | 47 => ⟨S8x2048x2816, .f32⟩
  | 48 => ⟨S_, .f32⟩
  | 49 => ⟨S8x2048x2816, .f32⟩
  | 50 => ⟨S8x2048x2816, .f32⟩
  | 51 => ⟨S_, .f32⟩
  | 52 => ⟨S8x2048x2816, .f32⟩
  | 53 => ⟨S8x2048x2816, .f32⟩
  | 54 => ⟨S8x2048x2816, .f32⟩
  | 55 => ⟨S8x2048x2816, .f32⟩
  | 56 => ⟨S8x2048x1024, .f32⟩
  | 57 => ⟨S_, .f32⟩
  | 58 => ⟨S8x2048x1024, .f32⟩
  | 59 => ⟨S8x2048x1024, .f32⟩
  | 60 => ⟨S_, .f32⟩
  | 61 => ⟨S8x1x1024, .f32⟩
  | 62 => ⟨S8x1x1024, .f32⟩
  | 63 => ⟨S8x2048x1024, .f32⟩
  | 64 => ⟨S8x2048x1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x1024, .f32⟩
  | 73 => ⟨S8x2048x1024, .f32⟩
  | 74 => ⟨S8x2048x1024, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S8x2048x1024, .f32⟩
  | 82 => ⟨S8x2048x1024, .f32⟩
  | 83 => ⟨S_, .f32⟩
  | 84 => ⟨S8x2048x1, .f32⟩
  | 85 => ⟨S8x2048x1, .f32⟩
  | 86 => ⟨S8x2048x1, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S1x1x1024, .f32⟩
  | 93 => ⟨S8x2048x1024, .f32⟩
  | 94 => ⟨S8x2048x1024, .f32⟩
  | 95 => ⟨S2048x1024, .f32⟩
  | 96 => ⟨S8x256x1024, .f32⟩
  | 97 => ⟨S1x1x1024, .f32⟩
  | 98 => ⟨S1024, .f32⟩
  | 99 => ⟨S1x1x1024, .f32⟩
  | 100 => ⟨S1024, .f32⟩
  | 101 => ⟨S_, .f32⟩
  | 102 => ⟨S1x1x1024, .f32⟩
  | 103 => ⟨S1x1x1024, .f32⟩
  | 104 => ⟨S8x256x1024, .f32⟩
  | 105 => ⟨S8x256x1024, .f32⟩
  | 106 => ⟨S8x256x1024, .f32⟩
  | 107 => ⟨S8x256x1024, .f32⟩
  | 108 => ⟨S8x256x5632, .f32⟩
  | 109 => ⟨S8x256x2816, .f32⟩
  | 110 => ⟨S8x256x2816, .f32⟩
  | 111 => ⟨S8x256x2816, .f32⟩
  | 112 => ⟨S8x256x2816, .f32⟩
  | 113 => ⟨S_, .f32⟩
  | 114 => ⟨S8x256x2816, .f32⟩
  | 115 => ⟨S8x256x2816, .f32⟩
  | 116 => ⟨S_, .f32⟩
  | 117 => ⟨S8x256x2816, .f32⟩
  | 118 => ⟨S8x256x2816, .f32⟩
  | 119 => ⟨S8x256x2816, .f32⟩
  | 120 => ⟨S8x256x2816, .f32⟩
  | 121 => ⟨S8x256x1024, .f32⟩
  | 122 => ⟨S_, .f32⟩
  | 123 => ⟨S8x256x1024, .f32⟩
  | 124 => ⟨S8x256x1024, .f32⟩
  | 125 => ⟨S_, .f32⟩
  | 126 => ⟨S1x1x1024, .f32⟩
  | 127 => ⟨S1x1x1024, .f32⟩
  | _ => ⟨S2x16x9x1024, .f32⟩

abbrev hbmTy0_1 (i : Nat) : BufTy := match i % 128 with
  | 0 => ⟨S8x256x1024, .f32⟩
  | 1 => ⟨S8x256x1024, .f32⟩
  | 2 => ⟨S8x256x1024, .f32⟩
  | 3 => ⟨S_, .f32⟩
  | 4 => ⟨S8x256, .f32⟩
  | 5 => ⟨S8x256x1, .f32⟩
  | 6 => ⟨S_, .f32⟩
  | 7 => ⟨S8x256x1, .f32⟩
  | 8 => ⟨S8x256x1, .f32⟩
  | 9 => ⟨S8x256x1024, .f32⟩
  | 10 => ⟨S8x256x1024, .f32⟩
  | 11 => ⟨S8x256x1024, .f32⟩
  | 12 => ⟨S_, .f32⟩
  | 13 => ⟨S8x256, .f32⟩
  | 14 => ⟨S8x256x1, .f32⟩
  | 15 => ⟨S_, .f32⟩
  | 16 => ⟨S8x256x1, .f32⟩
  | 17 => ⟨S8x256x1, .f32⟩
  | 18 => ⟨S8x256x1024, .f32⟩
  | 19 => ⟨S8x256x1024, .f32⟩
  | 20 => ⟨S_, .f32⟩
  | 21 => ⟨S8x256x1, .f32⟩
  | 22 => ⟨S8x256x1, .f32⟩
  | 23 => ⟨S8x256x1, .f32⟩
  | 24 => ⟨S8x256x1024, .f32⟩
  | 25 => ⟨S8x256x1024, .f32⟩
  | 26 => ⟨S1x1x1024, .f32⟩
  | 27 => ⟨S8x256x1024, .f32⟩
  | 28 => ⟨S8x256x1024, .f32⟩
  | 29 => ⟨S1x1x1024, .f32⟩
  | 30 => ⟨S8x256x1024, .f32⟩
  | 31 => ⟨S8x256x1024, .f32⟩
  | 32 => ⟨S16384x1024, .f32⟩
  | 33 => ⟨S2048x1024, .f32⟩
  | 34 => ⟨S18432x1024, .f32⟩
  | 35 => ⟨S1x1x1024x5632, .f32⟩
  | 36 => ⟨S1024x5632, .f32⟩
  | 37 => ⟨S1024x5632, .bf16⟩
  | 38 => ⟨S1x1x2816x1024, .f32⟩
  | 39 => ⟨S2816x1024, .f32⟩
  | 40 => ⟨S2816x1024, .bf16⟩
  | 41 => ⟨S1024x1536, .f32⟩
  | 42 => ⟨S1024x1536, .bf16⟩
  | 43 => ⟨S1024x1024, .f32⟩
  | 44 => ⟨S1024x1024, .bf16⟩
  | _ => ⟨S2x16x9x1024, .f32⟩

abbrev hbmTy (i : Nat) : BufTy := match i / 128 with
  | 0 => hbmTy0_0 i
  | 1 => hbmTy0_1 i
  | _ => ⟨S2x16x9x1024, .f32⟩

abbrev bufTy : (tb : Table) → Fin (tcTables nBuf tb) → BufTy
  | .hbm, ⟨i, _⟩ => hbmTy i
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_7 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_8 : Ref sig .tc := ⟨.hbm, 122, rfl⟩
abbrev main_v87 : Ref sig .tc := ⟨.hbm, 123, rfl⟩
abbrev main_v88 : Ref sig .tc := ⟨.hbm, 124, rfl⟩
abbrev main_cst_9 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_10 : Ref sig .tc := ⟨.hbm, 131, rfl⟩
abbrev main_v94 : Ref sig .tc := ⟨.hbm, 132, rfl⟩
abbrev main_v95 : Ref sig .tc := ⟨.hbm, 133, rfl⟩
abbrev main_cst_11 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_12 : Ref sig .tc := ⟨.hbm, 140, rfl⟩
abbrev main_v101 : Ref sig .tc := ⟨.hbm, 141, rfl⟩
abbrev main_v102 : Ref sig .tc := ⟨.hbm, 142, rfl⟩
abbrev main_cst_13 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_14 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩

abbrev nD : Nat := 1
abbrev τ : Topo := Topo.v7x

variable {F : FTy → Type} [FloatOps F]
-- ==== PostFirstKernel.lean ====
abbrev S2x16x9x1024 : Shape := ⟨4, ![2, 16, 9, 1024]⟩
abbrev S18432x1024 : Shape := ⟨2, ![18432, 1024]⟩
abbrev S16384x1024 : Shape := ⟨2, ![16384, 1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x9x1024 : Shape := ⟨4, ![1, 1, 9, 1024]⟩
abbrev S512x1024 : Shape := ⟨2, ![512, 1024]⟩
abbrev S1x3x1024 : Shape := ⟨3, ![1, 3, 1024]⟩
abbrev S1x1x32x5632 : Shape := ⟨4, ![1, 1, 32, 5632]⟩
abbrev S1x1x176x1024 : Shape := ⟨4, ![1, 1, 176, 1024]⟩
abbrev S32x5632 : Shape := ⟨2, ![32, 5632]⟩
abbrev S176x1024 : Shape := ⟨2, ![176, 1024]⟩
abbrev S128x1024 : Shape := ⟨2, ![128, 1024]⟩
abbrev S256x1024 : Shape := ⟨2, ![256, 1024]⟩
abbrev S9x1024 : Shape := ⟨2, ![9, 1024]⟩
abbrev S1x1024 : Shape := ⟨2, ![1, 1024]⟩
abbrev S1x1x1024 : Shape := ⟨3, ![1, 1, 1024]⟩
abbrev S128 : Shape := ⟨1, ![128]⟩
abbrev S128x1 : Shape := ⟨2, ![128, 1]⟩
abbrev S1024x2816 : Shape := ⟨2, ![1024, 2816]⟩
abbrev S128x2816 : Shape := ⟨2, ![128, 2816]⟩
abbrev S256 : Shape := ⟨1, ![256]⟩
abbrev S256x1 : Shape := ⟨2, ![256, 1]⟩
abbrev S256x2816 : Shape := ⟨2, ![256, 2816]⟩

abbrev nBuf : Space → Nat
  | .hbm => 14
  | .vmem => 23
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S16384x1024, .bf16⟩
  | .hbm, ⟨3, _⟩ => ⟨S2048x1024, .bf16⟩
  | .hbm, ⟨4, _⟩ => ⟨S1024x1024, .bf16⟩
  | .hbm, ⟨5, _⟩ => ⟨S1024x5632, .bf16⟩
  | .hbm, ⟨6, _⟩ => ⟨S2816x1024, .bf16⟩
  | .hbm, ⟨7, _⟩ => ⟨S2x3x1024, .f32⟩
  | .hbm, ⟨8, _⟩ => ⟨S2x3x1024, .f32⟩
  | .hbm, ⟨9, _⟩ => ⟨S2x2x1024x5632, .f32⟩
  | .hbm, ⟨10, _⟩ => ⟨S2x2x2816x1024, .f32⟩
  | .hbm, ⟨11, _⟩ => ⟨S18432x1024, .f32⟩
  | .hbm, ⟨12, _⟩ => ⟨S1024x5632, .bf16⟩
  | .hbm, ⟨13, _⟩ => ⟨S2816x1024, .bf16⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x5632, .bf16⟩
  | .local _ .vmem, ⟨10, _⟩ => ⟨S2816x1024, .bf16⟩
  | .local _ .vmem, ⟨11, _⟩ => ⟨S1x3x1024, .f32⟩
  | .local _ .vmem, ⟨12, _⟩ => ⟨S1x3x1024, .f32⟩
  | .local _ .vmem, ⟨13, _⟩ => ⟨S1x1x32x5632, .f32⟩
  | .local _ .vmem, ⟨14, _⟩ => ⟨S1x1x32x5632, .f32⟩
  | .local _ .vmem, ⟨15, _⟩ => ⟨S1x1x176x1024, .f32⟩
  | .local _ .vmem, ⟨16, _⟩ => ⟨S1x1x176x1024, .f32⟩
  | .local _ .vmem, ⟨17, _⟩ => ⟨S512x1024, .f32⟩
  | .local _ .vmem, ⟨18, _⟩ => ⟨S512x1024, .f32⟩
  | .local _ .vmem, ⟨19, _⟩ => ⟨S32x5632, .bf16⟩
  | .local _ .vmem, ⟨20, _⟩ => ⟨S32x5632, .bf16⟩
  | .local _ .vmem, ⟨21, _⟩ => ⟨S176x1024, .bf16⟩
  | .local _ .vmem, ⟨22, _⟩ => ⟨S176x1024, .bf16⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_10 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x32x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostFirstReferenceIdeal.lean ====
abbrev S2x16x9x1024 : Shape := ⟨4, ![2, 16, 9, 1024]⟩
abbrev S18432x1024 : Shape := ⟨2, ![18432, 1024]⟩
abbrev S16384x1024 : Shape := ⟨2, ![16384, 1024]⟩
abbrev S2048x1024 : Shape := ⟨2, ![2048, 1024]⟩
abbrev S1024x1024 : Shape := ⟨2, ![1024, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8x2048x1024 : Shape := ⟨3, ![8, 2048, 1024]⟩
abbrev S1x3x1024 : Shape := ⟨3, ![1, 3, 1024]⟩
abbrev S3x1024 : Shape := ⟨2, ![3, 1024]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2048x2816 : Shape := ⟨3, ![8, 2048, 2816]⟩
abbrev S8x256x1024 : Shape := ⟨3, ![8, 256, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S1x1x1024x5632 : Shape := ⟨4, ![1, 1, 1024, 5632]⟩
abbrev S1x1x2816x1024 : Shape := ⟨4, ![1, 1, 2816, 1024]⟩

abbrev nBuf : Space → Nat
  | .hbm => 269
  | .vmem => 0
  | .smem => 0
  | _ => 0

abbrev hbmTy0_0 (i : Nat) : BufTy := match i % 128 with
  | 0 => ⟨S2x16x9x1024, .f32⟩
  | 1 => ⟨S18432x1024, .f32⟩
  | 2 => ⟨S16384x1024, .bf16⟩
  | 3 => ⟨S2048x1024, .bf16⟩
  | 4 => ⟨S1024x1024, .bf16⟩
  | 5 => ⟨S1024x5632, .bf16⟩
  | 6 => ⟨S2816x1024, .bf16⟩
  | 7 => ⟨S2x3x1024, .f32⟩
  | 8 => ⟨S2x3x1024, .f32⟩
  | 9 => ⟨S2x2x1024x5632, .f32⟩
  | 10 => ⟨S2x2x2816x1024, .f32⟩
  | 11 => ⟨S1024x1024, .f32⟩
  | 12 => ⟨S1024x5632, .f32⟩
  | 13 => ⟨S2816x1024, .f32⟩
  | 14 => ⟨S1x8x1x1024, .f32⟩
  | 15 => ⟨S8x1024, .f32⟩
  | 16 => ⟨S8x1x1024, .f32⟩
  | 17 => ⟨S1x8x1x1024, .f32⟩
  | 18 => ⟨S8x1024, .f32⟩
  | 19 => ⟨S8x1x1024, .f32⟩
  | 20 => ⟨S1x8x1x1024, .f32⟩
  | 21 => ⟨S8x1024, .f32⟩
  | 22 => ⟨S8x1x1024, .f32⟩
  | 23 => ⟨S1x8x1x1024, .f32⟩
  | 24 => ⟨S8x1024, .f32⟩
  | 25 => ⟨S8x1x1024, .f32⟩
  | 26 => ⟨S1x1x1x1024, .f32⟩
  | 27 => ⟨S1x1024, .f32⟩
  | 28 => ⟨S1x1x1024, .f32⟩
  | 29 => ⟨S1x1x1x1024, .f32⟩
  | 30 => ⟨S1x1024, .f32⟩
  | 31 => ⟨S1x1x1024, .f32⟩
  | 32 => ⟨S1x1x1x1024, .f32⟩
  | 33 => ⟨S1x1024, .f32⟩
  | 34 => ⟨S1x1x1024, .f32⟩
  | 35 => ⟨S1x1x1x1024, .f32⟩
  | 36 => ⟨S1x1024, .f32⟩
  | 37 => ⟨S1x1x1024, .f32⟩
  | 38 => ⟨S16384x1024, .f32⟩
  | 39 => ⟨S8x2048x1024, .f32⟩
  | 40 => ⟨S16384x1024, .f32⟩
  | 41 => ⟨S8x2048x1024, .f32⟩
  | 42 => ⟨S1x3x1024, .f32⟩
  | 43 => ⟨S3x1024, .f32⟩
  | 44 => ⟨S1x3x1024, .f32⟩
  | 45 => ⟨S3x1024, .f32⟩
  | 46 => ⟨S_, .f32⟩
  | 47 => ⟨S8x2048x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S1x1024, .f32⟩
  | 54 => ⟨S1024, .f32⟩
  | 55 => ⟨S1x1024, .f32⟩
  | 56 => ⟨S1024, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S8x2048x1024, .f32⟩
  | 64 => ⟨S8x2048x1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x1024, .f32⟩
  | 73 => ⟨S8x2048x1024, .f32⟩
  | 74 => ⟨S_, .f32⟩
  | 75 => ⟨S8x2048x1, .f32⟩
  | 76 => ⟨S8x2048x1, .f32⟩
  | 77 => ⟨S8x2048x1, .f32⟩
  | 78 => ⟨S8x2048x1024, .f32⟩
  | 79 => ⟨S8x2048x1024, .f32⟩
  | 80 => ⟨S1x1x1024, .f32⟩
  | 81 => ⟨S8x2048x1024, .f32⟩
  | 82 => ⟨S8x2048x1024, .f32⟩
  | 83 => ⟨S1x1x1024, .f32⟩
  | 84 => ⟨S8x2048x1024, .f32⟩
  | 85 => ⟨S8x2048x1024, .f32⟩
  | 86 => ⟨S1x1024, .f32⟩
  | 87 => ⟨S1024, .f32⟩
  | 88 => ⟨S1x1024, .f32⟩
  | 89 => ⟨S1024, .f32⟩
  | 90 => ⟨S_, .f32⟩
  | 91 => ⟨S8x1x1024, .f32⟩
  | 92 => ⟨S8x1x1024, .f32⟩
  | 93 => ⟨S8x2048x1024, .f32⟩
  | 94 => ⟨S8x2048x1024, .f32⟩
  | 95 => ⟨S8x2048x1024, .f32⟩
  | 96 => ⟨S8x2048x1024, .f32⟩
  | 97 => ⟨S8x2048x5632, .f32⟩
  | 98 => ⟨S8x2048x2816, .f32⟩
  | 99 => ⟨S8x2048x2816, .f32⟩
  | 100 => ⟨S8x2048x2816, .f32⟩
  | 101 => ⟨S8x2048x2816, .f32⟩
  | 102 => ⟨S_, .f32⟩
  | 103 => ⟨S8x2048x2816, .f32⟩
  | 104 => ⟨S8x2048x2816, .f32⟩
  | 105 => ⟨S_, .f32⟩
  | 106 => ⟨S8x2048x2816, .f32⟩
  | 107 => ⟨S8x2048x2816, .f32⟩
  | 108 => ⟨S8x2048x2816, .f32⟩
  | 109 => ⟨S8x2048x2816, .f32⟩
  | 110 => ⟨S8x2048x1024, .f32⟩
  | 111 => ⟨S_, .f32⟩
  | 112 => ⟨S8x2048x1024, .f32⟩
  | 113 => ⟨S8x2048x1024, .f32⟩
  | 114 => ⟨S_, .f32⟩
  | 115 => ⟨S8x1x1024, .f32⟩
  | 116 => ⟨S8x1x1024, .f32⟩
  | 117 => ⟨S8x2048x1024, .f32⟩
  | 118 => ⟨S8x2048x1024, .f32⟩
  | 119 => ⟨S8x2048x1024, .f32⟩
  | 120 => ⟨S_, .f32⟩
  | 121 => ⟨S8x2048, .f32⟩
  | 122 => ⟨S8x2048x1, .f32⟩
  | 123 => ⟨S_, .f32⟩
  | 124 => ⟨S8x2048x1, .f32⟩
  | 125 => ⟨S8x2048x1, .f32⟩
  | 126 => ⟨S8x2048x1024, .f32⟩
  | 127 => ⟨S8x2048x1024, .f32⟩
  | _ => ⟨S2x16x9x1024, .f32⟩

abbrev hbmTy0_1 (i : Nat) : BufTy := match i % 128 with
  | 0 => ⟨S8x2048x1024, .f32⟩
  | 1 => ⟨S_, .f32⟩
  | 2 => ⟨S8x2048, .f32⟩
  | 3 => ⟨S8x2048x1, .f32⟩
  | 4 => ⟨S_, .f32⟩
  | 5 => ⟨S8x2048x1, .f32⟩
  | 6 => ⟨S8x2048x1, .f32⟩
  | 7 => ⟨S8x2048x1024, .f32⟩
  | 8 => ⟨S8x2048x1024, .f32⟩
  | 9 => ⟨S_, .f32⟩
  | 10 => ⟨S8x2048x1, .f32⟩
  | 11 => ⟨S8x2048x1, .f32⟩
  | 12 => ⟨S8x2048x1, .f32⟩
  | 13 => ⟨S8x2048x1024, .f32⟩
  | 14 => ⟨S8x2048x1024, .f32⟩
  | 15 => ⟨S1x1x1024, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S2048x1024, .f32⟩
  | 22 => ⟨S8x256x1024, .f32⟩
  | 23 => ⟨S2048x1024, .f32⟩
  | 24 => ⟨S8x256x1024, .f32⟩
  | 25 => ⟨S1x3x1024, .f32⟩
  | 26 => ⟨S3x1024, .f32⟩
  | 27 => ⟨S1x3x1024, .f32⟩
  | 28 => ⟨S3x1024, .f32⟩
  | 29 => ⟨S_, .f32⟩
  | 30 => ⟨S8x256x1024, .f32⟩
  | 31 => ⟨S8x256x1024, .f32⟩
  | 32 => ⟨S8x256x1024, .f32⟩
  | 33 => ⟨S8x256x1024, .f32⟩
  | 34 => ⟨S8x256x1024, .f32⟩
  | 35 => ⟨S8x256x1024, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S8x256, .f32⟩
  | 42 => ⟨S8x256x1, .f32⟩
  | 43 => ⟨S_, .f32⟩
  | 44 => ⟨S8x256x1, .f32⟩
  | 45 => ⟨S8x256x1, .f32⟩
  | 46 => ⟨S8x256x1024, .f32⟩
  | 47 => ⟨S8x256x1024, .f32⟩
  | 48 => ⟨S8x256x1024, .f32⟩
  | 49 => ⟨S_, .f32⟩
  | 50 => ⟨S8x256, .f32⟩
  | 51 => ⟨S8x256x1, .f32⟩
  | 52 => ⟨S_, .f32⟩
  | 53 => ⟨S8x256x1, .f32⟩
  | 54 => ⟨S8x256x1, .f32⟩
  | 55 => ⟨S8x256x1024, .f32⟩
  | 56 => ⟨S8x256x1024, .f32⟩
  | 57 => ⟨S_, .f32⟩
  | 58 => ⟨S8x256x1, .f32⟩
  | 59 => ⟨S8x256x1, .f32⟩
  | 60 => ⟨S8x256x1, .f32⟩
  | 61 => ⟨S8x256x1024, .f32⟩
  | 62 => ⟨S8x256x1024, .f32⟩
  | 63 => ⟨S1x1x1024, .f32⟩
  | 64 => ⟨S8x256x1024, .f32⟩
  | 65 => ⟨S8x256x1024, .f32⟩
  | 66 => ⟨S1x1x1024, .f32⟩
  | 67 => ⟨S8x256x1024, .f32⟩
  | 68 => ⟨S8x256x1024, .f32⟩
  | 69 => ⟨S1x1024, .f32⟩
  | 70 => ⟨S1024, .f32⟩
  | 71 => ⟨S1x1024, .f32⟩
  | 72 => ⟨S1024, .f32⟩
  | 73 => ⟨S_, .f32⟩
  | 74 => ⟨S1x1x1024, .f32⟩
  | 75 => ⟨S1x1x1024, .f32⟩
  | 76 => ⟨S8x256x1024, .f32⟩
  | 77 => ⟨S8x256x1024, .f32⟩
  | 78 => ⟨S8x256x1024, .f32⟩
  | 79 => ⟨S8x256x1024, .f32⟩
  | 80 => ⟨S8x256x5632, .f32⟩
  | 81 => ⟨S8x256x2816, .f32⟩
  | 82 => ⟨S8x256x2816, .f32⟩
  | 83 => ⟨S8x256x2816, .f32⟩
  | 84 => ⟨S8x256x2816, .f32⟩
  | 85 => ⟨S_, .f32⟩
  | 86 => ⟨S8x256x2816, .f32⟩
  | 87 => ⟨S8x256x2816, .f32⟩
  | 88 => ⟨S_, .f32⟩
  | 89 => ⟨S8x256x2816, .f32⟩
  | 90 => ⟨S8x256x2816, .f32⟩
  | 91 => ⟨S8x256x2816, .f32⟩
  | 92 => ⟨S8x256x2816, .f32⟩
  | 93 => ⟨S8x256x1024, .f32⟩
  | 94 => ⟨S_, .f32⟩
  | 95 => ⟨S8x256x1024, .f32⟩
  | 96 => ⟨S8x256x1024, .f32⟩
  | 97 => ⟨S_, .f32⟩
  | 98 => ⟨S1x1x1024, .f32⟩
  | 99 => ⟨S1x1x1024, .f32⟩
  | 100 => ⟨S8x256x1024, .f32⟩
  | 101 => ⟨S8x256x1024, .f32⟩
  | 102 => ⟨S8x256x1024, .f32⟩
  | 103 => ⟨S_, .f32⟩
  | 104 => ⟨S8x256, .f32⟩
  | 105 => ⟨S8x256x1, .f32⟩
  | 106 => ⟨S_, .f32⟩
  | 107 => ⟨S8x256x1, .f32⟩
  | 108 => ⟨S8x256x1, .f32⟩
  | 109 => ⟨S8x256x1024, .f32⟩
  | 110 => ⟨S8x256x1024, .f32⟩
  | 111 => ⟨S8x256x1024, .f32⟩
  | 112 => ⟨S_, .f32⟩
  | 113 => ⟨S8x256, .f32⟩
  | 114 => ⟨S8x256x1, .f32⟩
  | 115 => ⟨S_, .f32⟩
  | 116 => ⟨S8x256x1, .f32⟩
  | 117 => ⟨S8x256x1, .f32⟩
  | 118 => ⟨S8x256x1024, .f32⟩
  | 119 => ⟨S8x256x1024, .f32⟩
  | 120 => ⟨S_, .f32⟩
  | 121 => ⟨S8x256x1, .f32⟩
  | 122 => ⟨S8x256x1, .f32⟩
  | 123 => ⟨S8x256x1, .f32⟩
  | 124 => ⟨S8x256x1024, .f32⟩
  | 125 => ⟨S8x256x1024, .f32⟩
  | 126 => ⟨S1x1x1024, .f32⟩
  | 127 => ⟨S8x256x1024, .f32⟩
  | _ => ⟨S2x16x9x1024, .f32⟩

abbrev hbmTy0_2 (i : Nat) : BufTy := match i % 128 with
  | 0 => ⟨S8x256x1024, .f32⟩
  | 1 => ⟨S1x1x1024, .f32⟩
  | 2 => ⟨S8x256x1024, .f32⟩
  | 3 => ⟨S8x256x1024, .f32⟩
  | 4 => ⟨S16384x1024, .f32⟩
  | 5 => ⟨S2048x1024, .f32⟩
  | 6 => ⟨S18432x1024, .f32⟩
  | 7 => ⟨S1x1x1024x5632, .f32⟩
  | 8 => ⟨S1024x5632, .f32⟩
  | 9 => ⟨S1024x5632, .bf16⟩
  | 10 => ⟨S1x1x2816x1024, .f32⟩
  | 11 => ⟨S2816x1024, .f32⟩
  | 12 => ⟨S2816x1024, .bf16⟩
  | _ => ⟨S2x16x9x1024, .f32⟩

abbrev hbmTy (i : Nat) : BufTy := match i / 128 with
  | 0 => hbmTy0_0 i
  | 1 => hbmTy0_1 i
  | 2 => hbmTy0_2 i
  | _ => ⟨S2x16x9x1024, .f32⟩

abbrev bufTy : (tb : Table) → Fin (tcTables nBuf tb) → BufTy
  | .hbm, ⟨i, _⟩ => hbmTy i
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_6 : Ref sig .tc := ⟨.hbm, 111, rfl⟩
abbrev main_v85 : Ref sig .tc := ⟨.hbm, 112, rfl⟩
abbrev main_v86 : Ref sig .tc := ⟨.hbm, 113, rfl⟩
abbrev main_cst_7 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_8 : Ref sig .tc := ⟨.hbm, 120, rfl⟩
abbrev main_v92 : Ref sig .tc := ⟨.hbm, 121, rfl⟩
abbrev main_v93 : Ref sig .tc := ⟨.hbm, 122, rfl⟩
abbrev main_cst_9 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_10 : Ref sig .tc := ⟨.hbm, 129, rfl⟩
abbrev main_v99 : Ref sig .tc := ⟨.hbm, 130, rfl⟩
abbrev main_v100 : Ref sig .tc := ⟨.hbm, 131, rfl⟩
abbrev main_cst_11 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_12 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_13 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_14 : Ref sig .tc := ⟨.hbm, 168, rfl⟩
abbrev main_v134 : Ref sig .tc := ⟨.hbm, 169, rfl⟩
abbrev main_v135 : Ref sig .tc := ⟨.hbm, 170, rfl⟩
abbrev main_cst_15 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_16 : Ref sig .tc := ⟨.hbm, 177, rfl⟩
abbrev main_v141 : Ref sig .tc := ⟨.hbm, 178, rfl⟩
abbrev main_v142 : Ref sig .tc := ⟨.hbm, 179, rfl⟩
abbrev main_cst_17 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_18 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_19 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_call1_v0 : Ref sig .tc := ⟨.hbm, 211, rfl⟩
abbrev main_call1_v1 : Ref sig .tc := ⟨.hbm, 212, rfl⟩
abbrev main_call1_cst : Ref sig .tc := ⟨.hbm, 213, rfl⟩
abbrev main_call1_v2 : Ref sig .tc := ⟨.hbm, 214, rfl⟩
abbrev main_call1_v3 : Ref sig .tc := ⟨.hbm, 215, rfl⟩
abbrev main_call1_cst_0 : Ref sig .tc := ⟨.hbm, 216, rfl⟩
abbrev main_call1_v4 : Ref sig .tc := ⟨.hbm, 217, rfl⟩
abbrev main_call1_v5 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_20 : Ref sig .tc := ⟨.hbm, 222, rfl⟩
abbrev main_v174 : Ref sig .tc := ⟨.hbm, 223, rfl⟩
abbrev main_v175 : Ref sig .tc := ⟨.hbm, 224, rfl⟩
abbrev main_cst_21 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_22 : Ref sig .tc := ⟨.hbm, 231, rfl⟩
abbrev main_v181 : Ref sig .tc := ⟨.hbm, 232, rfl⟩
abbrev main_v182 : Ref sig .tc := ⟨.hbm, 233, rfl⟩
abbrev main_cst_23 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_24 : Ref sig .tc := ⟨.hbm, 240, rfl⟩
abbrev main_v188 : Ref sig .tc := ⟨.hbm, 241, rfl⟩
abbrev main_v189 : Ref sig .tc := ⟨.hbm, 242, rfl⟩
abbrev main_cst_25 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_cst_26 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩

abbrev nD : Nat := 1
abbrev τ : Topo := Topo.v7x

variable {F : FTy → Type} [FloatOps F]
-- ==== PreFirstKernel.lean ====
abbrev S2x16x9x1024 : Shape := ⟨4, ![2, 16, 9, 1024]⟩
abbrev S16384x1024 : Shape := ⟨2, ![16384, 1024]⟩
abbrev S2048x1024 : Shape := ⟨2, ![2048, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x3072 : Shape := ⟨3, ![1, 1024, 3072]⟩
abbrev S1x1024x1024 : Shape := ⟨3, ![1, 1024, 1024]⟩
abbrev S18432x1024 : Shape := ⟨2, ![18432, 1024]⟩
abbrev S1024x3072 : Shape := ⟨2, ![1024, 3072]⟩
abbrev S1024x1024 : Shape := ⟨2, ![1024, 1024]⟩
abbrev S1x1x9x1024 : Shape := ⟨4, ![1, 1, 9, 1024]⟩
abbrev S512x1024 : Shape := ⟨2, ![512, 1024]⟩
abbrev S1x3x1024 : Shape := ⟨3, ![1, 3, 1024]⟩
abbrev S1x1x32x5632 : Shape := ⟨4, ![1, 1, 32, 5632]⟩
abbrev S1x1x176x1024 : Shape := ⟨4, ![1, 1, 176, 1024]⟩
abbrev S1x32x3072 : Shape := ⟨3, ![1, 32, 3072]⟩
abbrev S1x32x1024 : Shape := ⟨3, ![1, 32, 1024]⟩
abbrev S32x5632 : Shape := ⟨2, ![32, 5632]⟩
abbrev S176x1024 : Shape := ⟨2, ![176, 1024]⟩
abbrev S32x3072 : Shape := ⟨2, ![32, 3072]⟩
abbrev S32x1024 : Shape := ⟨2, ![32, 1024]⟩
abbrev S128x1024 : Shape := ⟨2, ![128, 1024]⟩
abbrev S9x1024 : Shape := ⟨2, ![9, 1024]⟩
abbrev S1x1024 : Shape := ⟨2, ![1, 1024]⟩
abbrev S1024x2816 : Shape := ⟨2, ![1024, 2816]⟩
abbrev S128x2816 : Shape := ⟨2, ![128, 2816]⟩
abbrev S1x1x1024 : Shape := ⟨3, ![1, 1, 1024]⟩
abbrev S128 : Shape := ⟨1, ![128]⟩
abbrev S128x1 : Shape := ⟨2, ![128, 1]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 16
  | .vmem => 28
  | .smem => 0
  | _ => 0

abbrev bufTy : (tb : Table) → Fin (tcTables nBuf tb) → BufTy
  | .hbm, ⟨0, _⟩ => ⟨S2x16x9x1024, .f32⟩
  | .hbm, ⟨1, _⟩ => ⟨S16384x1024, .f32⟩
  | .hbm, ⟨2, _⟩ => ⟨S2048x1024, .f32⟩
  | .hbm, ⟨3, _⟩ => ⟨S1024x5632, .bf16⟩
  | .hbm, ⟨4, _⟩ => ⟨S2816x1024, .bf16⟩
  | .hbm, ⟨5, _⟩ => ⟨S2x3x1024, .f32⟩
  | .hbm, ⟨6, _⟩ => ⟨S2x3x1024, .f32⟩
  | .hbm, ⟨7, _⟩ => ⟨S2x2x1024x5632, .f32⟩
  | .hbm, ⟨8, _⟩ => ⟨S2x2x2816x1024, .f32⟩
  | .hbm, ⟨9, _⟩ => ⟨S1x1024x3072, .f32⟩
  | .hbm, ⟨10, _⟩ => ⟨S1x1024x1024, .f32⟩
  | .hbm, ⟨11, _⟩ => ⟨S18432x1024, .f32⟩
  | .hbm, ⟨12, _⟩ => ⟨S1024x5632, .bf16⟩
  | .hbm, ⟨13, _⟩ => ⟨S2816x1024, .bf16⟩
  | .hbm, ⟨14, _⟩ => ⟨S1024x3072, .bf16⟩
  | .hbm, ⟨15, _⟩ => ⟨S1024x1024, .bf16⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x3x1024, .f32⟩
  | .local _ .vmem, ⟨9, _⟩ => ⟨S1x3x1024, .f32⟩
  | .local _ .vmem, ⟨10, _⟩ => ⟨S1x1x32x5632, .f32⟩
  | .local _ .vmem, ⟨11, _⟩ => ⟨S1x1x32x5632, .f32⟩
  | .local _ .vmem, ⟨12, _⟩ => ⟨S1x1x176x1024, .f32⟩
  | .local _ .vmem, ⟨13, _⟩ => ⟨S1x1x176x1024, .f32⟩
  | .local _ .vmem, ⟨14, _⟩ => ⟨S1x32x3072, .f32⟩
  | .local _ .vmem, ⟨15, _⟩ => ⟨S1x32x3072, .f32⟩
  | .local _ .vmem, ⟨16, _⟩ => ⟨S1x32x1024, .f32⟩
  | .local _ .vmem, ⟨17, _⟩ => ⟨S1x32x1024, .f32⟩
  | .local _ .vmem, ⟨18, _⟩ => ⟨S512x1024, .f32⟩
  | .local _ .vmem, ⟨19, _⟩ => ⟨S512x1024, .f32⟩
  | .local _ .vmem, ⟨20, _⟩ => ⟨S32x5632, .bf16⟩
  | .local _ .vmem, ⟨21, _⟩ => ⟨S32x5632, .bf16⟩
  | .local _ .vmem, ⟨22, _⟩ => ⟨S176x1024, .bf16⟩
  | .local _ .vmem, ⟨23, _⟩ => ⟨S176x1024, .bf16⟩
  | .local _ .vmem, ⟨24, _⟩ => ⟨S32x3072, .bf16⟩
  | .local _ .vmem, ⟨25, _⟩ => ⟨S32x3072, .bf16⟩
  | .local _ .vmem, ⟨26, _⟩ => ⟨S32x1024, .bf16⟩
  | .local _ .vmem, ⟨27, _⟩ => ⟨S32x1024, .bf16⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![36], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x32x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PreFirstReferenceIdeal.lean ====
abbrev S2x16x9x1024 : Shape := ⟨4, ![2, 16, 9, 1024]⟩
abbrev S16384x1024 : Shape := ⟨2, ![16384, 1024]⟩
abbrev S2048x1024 : Shape := ⟨2, ![2048, 1024]⟩
abbrev S1024x5632 : Shape := ⟨2, ![1024, 5632]⟩
abbrev S2816x1024 : Shape := ⟨2, ![2816, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x3072 : Shape := ⟨3, ![1, 1024, 3072]⟩
abbrev S1x1024x1024 : Shape := ⟨3, ![1, 1024, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S8x2048x1024 : Shape := ⟨3, ![8, 2048, 1024]⟩
abbrev S1024 : Shape := ⟨1, ![1024]⟩
abbrev S_ : Shape := ⟨0, ![]⟩
abbrev S8x2048x5632 : Shape := ⟨3, ![8, 2048, 5632]⟩
abbrev S8x2048x2816 : Shape := ⟨3, ![8, 2048, 2816]⟩
abbrev S8x2048 : Shape := ⟨2, ![8, 2048]⟩
abbrev S8x2048x1 : Shape := ⟨3, ![8, 2048, 1]⟩
abbrev S8x256x1024 : Shape := ⟨3, ![8, 256, 1024]⟩
abbrev S8x256x5632 : Shape := ⟨3, ![8, 256, 5632]⟩
abbrev S8x256x2816 : Shape := ⟨3, ![8, 256, 2816]⟩
abbrev S8x256 : Shape := ⟨2, ![8, 256]⟩
abbrev S8x256x1 : Shape := ⟨3, ![8, 256, 1]⟩
abbrev S18432x1024 : Shape := ⟨2, ![18432, 1024]⟩
abbrev S1x1x1024x5632 : Shape := ⟨4, ![1, 1, 1024, 5632]⟩
abbrev S1x1x2816x1024 : Shape := ⟨4, ![1, 1, 2816, 1024]⟩
abbrev S1024x3072 : Shape := ⟨2, ![1024, 3072]⟩
abbrev S1024x1024 : Shape := ⟨2, ![1024, 1024]⟩

abbrev nBuf : Space → Nat
  | .hbm => 172
  | .vmem => 0
  | .smem => 0
  | _ => 0

abbrev hbmTy0_0 (i : Nat) : BufTy := match i % 128 with
  | 0 => ⟨S2x16x9x1024, .f32⟩
  | 1 => ⟨S16384x1024, .f32⟩
  | 2 => ⟨S2048x1024, .f32⟩
  | 3 => ⟨S1024x5632, .bf16⟩
  | 4 => ⟨S2816x1024, .bf16⟩
  | 5 => ⟨S2x3x1024, .f32⟩
  | 6 => ⟨S2x3x1024, .f32⟩
  | 7 => ⟨S2x2x1024x5632, .f32⟩
  | 8 => ⟨S2x2x2816x1024, .f32⟩
  | 9 => ⟨S1x1024x3072, .f32⟩
  | 10 => ⟨S1x1024x1024, .f32⟩
  | 11 => ⟨S1024x5632, .f32⟩
  | 12 => ⟨S2816x1024, .f32⟩
  | 13 => ⟨S1x8x1x1024, .f32⟩
  | 14 => ⟨S8x1024, .f32⟩
  | 15 => ⟨S8x1x1024, .f32⟩
  | 16 => ⟨S1x8x1x1024, .f32⟩
  | 17 => ⟨S8x1024, .f32⟩
  | 18 => ⟨S8x1x1024, .f32⟩
  | 19 => ⟨S1x8x1x1024, .f32⟩
  | 20 => ⟨S8x1024, .f32⟩
  | 21 => ⟨S8x1x1024, .f32⟩
  | 22 => ⟨S1x1x1x1024, .f32⟩
  | 23 => ⟨S1x1024, .f32⟩
  | 24 => ⟨S1x1x1024, .f32⟩
  | 25 => ⟨S1x1x1x1024, .f32⟩
  | 26 => ⟨S1x1024, .f32⟩
  | 27 => ⟨S1x1x1024, .f32⟩
  | 28 => ⟨S1x1x1x1024, .f32⟩
  | 29 => ⟨S1x1024, .f32⟩
  | 30 => ⟨S1x1x1024, .f32⟩
  | 31 => ⟨S8x2048x1024, .f32⟩
  | 32 => ⟨S1x1x1024, .f32⟩
  | 33 => ⟨S1024, .f32⟩
  | 34 => ⟨S1x1x1024, .f32⟩
  | 35 => ⟨S1024, .f32⟩
  | 36 => ⟨S_, .f32⟩
  | 37 => ⟨S8x1x1024, .f32⟩
  | 38 => ⟨S8x1x1024, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x5632, .f32⟩
  | 44 => ⟨S8x2048x2816, .f32⟩
  | 45 => ⟨S8x2048x2816, .f32⟩
  | 46 => ⟨S8x2048x2816, .f32⟩
  | 47 => ⟨S8x2048x2816, .f32⟩
  | 48 => ⟨S_, .f32⟩
  | 49 => ⟨S8x2048x2816, .f32⟩
  | 50 => ⟨S8x2048x2816, .f32⟩
  | 51 => ⟨S_, .f32⟩
  | 52 => ⟨S8x2048x2816, .f32⟩
  | 53 => ⟨S8x2048x2816, .f32⟩
  | 54 => ⟨S8x2048x2816, .f32⟩
  | 55 => ⟨S8x2048x2816, .f32⟩
  | 56 => ⟨S8x2048x1024, .f32⟩
  | 57 => ⟨S_, .f32⟩
  | 58 => ⟨S8x2048x1024, .f32⟩
  | 59 => ⟨S8x2048x1024, .f32⟩
  | 60 => ⟨S_, .f32⟩
  | 61 => ⟨S8x1x1024, .f32⟩
  | 62 => ⟨S8x1x1024, .f32⟩
  | 63 => ⟨S8x2048x1024, .f32⟩
  | 64 => ⟨S8x2048x1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x1024, .f32⟩
  | 73 => ⟨S8x2048x1024, .f32⟩
  | 74 => ⟨S8x2048x1024, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S8x2048x1024, .f32⟩
  | 82 => ⟨S8x2048x1024, .f32⟩
  | 83 => ⟨S_, .f32⟩
  | 84 => ⟨S8x2048x1, .f32⟩
  | 85 => ⟨S8x2048x1, .f32⟩
  | 86 => ⟨S8x2048x1, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S1x1x1024, .f32⟩
  | 93 => ⟨S8x2048x1024, .f32⟩
  | 94 => ⟨S8x2048x1024, .f32⟩
  | 95 => ⟨S8x256x1024, .f32⟩
  | 96 => ⟨S1x1x1024, .f32⟩
  | 97 => ⟨S1024, .f32⟩
  | 98 => ⟨S1x1x1024, .f32⟩
  | 99 => ⟨S1024, .f32⟩
  | 100 => ⟨S_, .f32⟩
  | 101 => ⟨S1x1x1024, .f32⟩
  | 102 => ⟨S1x1x1024, .f32⟩
  | 103 => ⟨S8x256x1024, .f32⟩
  | 104 => ⟨S8x256x1024, .f32⟩
  | 105 => ⟨S8x256x1024, .f32⟩
  | 106 => ⟨S8x256x1024, .f32⟩
  | 107 => ⟨S8x256x5632, .f32⟩
  | 108 => ⟨S8x256x2816, .f32⟩
  | 109 => ⟨S8x256x2816, .f32⟩
  | 110 => ⟨S8x256x2816, .f32⟩
  | 111 => ⟨S8x256x2816, .f32⟩
  | 112 => ⟨S_, .f32⟩
  | 113 => ⟨S8x256x2816, .f32⟩
  | 114 => ⟨S8x256x2816, .f32⟩
  | 115 => ⟨S_, .f32⟩
  | 116 => ⟨S8x256x2816, .f32⟩
  | 117 => ⟨S8x256x2816, .f32⟩
  | 118 => ⟨S8x256x2816, .f32⟩
  | 119 => ⟨S8x256x2816, .f32⟩
  | 120 => ⟨S8x256x1024, .f32⟩
  | 121 => ⟨S_, .f32⟩
  | 122 => ⟨S8x256x1024, .f32⟩
  | 123 => ⟨S8x256x1024, .f32⟩
  | 124 => ⟨S_, .f32⟩
  | 125 => ⟨S1x1x1024, .f32⟩
  | 126 => ⟨S1x1x1024, .f32⟩
  | 127 => ⟨S8x256x1024, .f32⟩
  | _ => ⟨S2x16x9x1024, .f32⟩

abbrev hbmTy0_1 (i : Nat) : BufTy := match i % 128 with
  | 0 => ⟨S8x256x1024, .f32⟩
  | 1 => ⟨S8x256x1024, .f32⟩
  | 2 => ⟨S_, .f32⟩
  | 3 => ⟨S8x256, .f32⟩
  | 4 => ⟨S8x256x1, .f32⟩
  | 5 => ⟨S_, .f32⟩
  | 6 => ⟨S8x256x1, .f32⟩
  | 7 => ⟨S8x256x1, .f32⟩
  | 8 => ⟨S8x256x1024, .f32⟩
  | 9 => ⟨S8x256x1024, .f32⟩
  | 10 => ⟨S8x256x1024, .f32⟩
  | 11 => ⟨S_, .f32⟩
  | 12 => ⟨S8x256, .f32⟩
  | 13 => ⟨S8x256x1, .f32⟩
  | 14 => ⟨S_, .f32⟩
  | 15 => ⟨S8x256x1, .f32⟩
  | 16 => ⟨S8x256x1, .f32⟩
  | 17 => ⟨S8x256x1024, .f32⟩
  | 18 => ⟨S8x256x1024, .f32⟩
  | 19 => ⟨S_, .f32⟩
  | 20 => ⟨S8x256x1, .f32⟩
  | 21 => ⟨S8x256x1, .f32⟩
  | 22 => ⟨S8x256x1, .f32⟩
  | 23 => ⟨S8x256x1024, .f32⟩
  | 24 => ⟨S8x256x1024, .f32⟩
  | 25 => ⟨S1x1x1024, .f32⟩
  | 26 => ⟨S8x256x1024, .f32⟩
  | 27 => ⟨S8x256x1024, .f32⟩
  | 28 => ⟨S1x1x1024, .f32⟩
  | 29 => ⟨S8x256x1024, .f32⟩
  | 30 => ⟨S8x256x1024, .f32⟩
  | 31 => ⟨S16384x1024, .f32⟩
  | 32 => ⟨S2048x1024, .f32⟩
  | 33 => ⟨S18432x1024, .f32⟩
  | 34 => ⟨S1x1x1024x5632, .f32⟩
  | 35 => ⟨S1024x5632, .f32⟩
  | 36 => ⟨S1024x5632, .bf16⟩
  | 37 => ⟨S1x1x2816x1024, .f32⟩
  | 38 => ⟨S2816x1024, .f32⟩
  | 39 => ⟨S2816x1024, .bf16⟩
  | 40 => ⟨S1024x3072, .f32⟩
  | 41 => ⟨S1024x3072, .bf16⟩
  | 42 => ⟨S1024x1024, .f32⟩
  | 43 => ⟨S1024x1024, .bf16⟩
  | _ => ⟨S2x16x9x1024, .f32⟩

abbrev hbmTy (i : Nat) : BufTy := match i / 128 with
  | 0 => hbmTy0_0 i
  | 1 => hbmTy0_1 i
  | _ => ⟨S2x16x9x1024, .f32⟩

abbrev bufTy : (tb : Table) → Fin (tcTables nBuf tb) → BufTy
  | .hbm, ⟨i, _⟩ => hbmTy i
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_0 : Ref sig .tc := ⟨.hbm, 57, rfl⟩
abbrev main_v37 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_8 : Ref sig .tc := ⟨.hbm, 121, rfl⟩
abbrev main_v85 : Ref sig .tc := ⟨.hbm, 122, rfl⟩
abbrev main_v86 : Ref sig .tc := ⟨.hbm, 123, rfl⟩
abbrev main_cst_9 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_10 : Ref sig .tc := ⟨.hbm, 130, rfl⟩
abbrev main_v92 : Ref sig .tc := ⟨.hbm, 131, rfl⟩
abbrev main_v93 : Ref sig .tc := ⟨.hbm, 132, rfl⟩
abbrev main_cst_11 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_12 : Ref sig .tc := ⟨.hbm, 139, rfl⟩
abbrev main_v99 : Ref sig .tc := ⟨.hbm, 140, rfl⟩
abbrev main_v100 : Ref sig .tc := ⟨.hbm, 141, rfl⟩
abbrev main_cst_13 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_14 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]
-- ==== QkvNaKernel.lean ====
abbrev S2x16x9x1024 : Shape := ⟨4, ![2, 16, 9, 1024]⟩
abbrev S18432x1024 : Shape := ⟨2, ![18432, 1024]⟩
abbrev S1024x3072 : Shape := ⟨2, ![1024, 3072]⟩
abbrev S1x1x9x1024 : Shape := ⟨4, ![1, 1, 9, 1024]⟩
abbrev S512x1024 : Shape := ⟨2, ![512, 1024]⟩
abbrev S9x1024 : Shape := ⟨2, ![9, 1024]⟩
abbrev S1x1024 : Shape := ⟨2, ![1, 1024]⟩
abbrev S512x3072 : Shape := ⟨2, ![512, 3072]⟩

abbrev nBuf : Space → Nat
  | .hbm => 6
  | .vmem => 11
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S1024x3072, .bf16⟩
  | .hbm, ⟨3, _⟩ => ⟨S18432x1024, .bf16⟩
  | .hbm, ⟨4, _⟩ => ⟨S18432x1024, .bf16⟩
  | .hbm, ⟨5, _⟩ => ⟨S18432x1024, .bf16⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S1024x3072, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvNaKernelIdeal.lean ====
variable {F : FTy → Type} [FloatOps F] [Named F]
def κ : String → Option EReal := fun
  | "qscale" => some (((8 * (Real.log 2))⁻¹ : ℝ) : EReal)
  | _ => none
-- ==== QkvNaReferenceIdeal.lean ====
abbrev S2x16x9x1024 : Shape := ⟨4, ![2, 16, 9, 1024]⟩
abbrev S18432x1024 : Shape := ⟨2, ![18432, 1024]⟩
abbrev S1024x3072 : Shape := ⟨2, ![1024, 3072]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S16384x1024 : Shape := ⟨2, ![16384, 1024]⟩
abbrev S8x2048x1024 : Shape := ⟨3, ![8, 2048, 1024]⟩
abbrev S_ : Shape := ⟨0, ![]⟩
abbrev S2048x1024 : Shape := ⟨2, ![2048, 1024]⟩
abbrev S8x256x1024 : Shape := ⟨3, ![8, 256, 1024]⟩
abbrev S8x2048x3072 : Shape := ⟨3, ![8, 2048, 3072]⟩
abbrev S16384x3x1024 : Shape := ⟨3, ![16384, 3, 1024]⟩
abbrev S8x256x3072 : Shape := ⟨3, ![8, 256, 3072]⟩
abbrev S2048x3x1024 : Shape := ⟨3, ![2048, 3, 1024]⟩
abbrev S18432x3x1024 : Shape := ⟨3, ![18432, 3, 1024]⟩
abbrev S18432x1x1024 : Shape := ⟨3, ![18432, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S1024x3072, .bf16⟩
  | .hbm, ⟨3, _⟩ => ⟨S1024x3072, .f32⟩
  | .hbm, ⟨4, _⟩ => ⟨S1x8x1x1024, .f32⟩
  | .hbm, ⟨5, _⟩ => ⟨S8x1024, .f32⟩
  | .hbm, ⟨6, _⟩ => ⟨S8x1x1024, .f32⟩
  | .hbm, ⟨7, _⟩ => ⟨S1x8x1x1024, .f32⟩
  | .hbm, ⟨8, _⟩ => ⟨S8x1024, .f32⟩
  | .hbm, ⟨9, _⟩ => ⟨S8x1x1024, .f32⟩
  | .hbm, ⟨10, _⟩ => ⟨S1x1x1x1024, .f32⟩
  | .hbm, ⟨11, _⟩ => ⟨S1x1024, .f32⟩
  | .hbm, ⟨12, _⟩ => ⟨S1x1x1024, .f32⟩
  | .hbm, ⟨13, _⟩ => ⟨S1x1x1x1024, .f32⟩
  | .hbm, ⟨14, _⟩ => ⟨S1x1024, .f32⟩
  | .hbm, ⟨15, _⟩ => ⟨S1x1x1024, .f32⟩
  | .hbm, ⟨16, _⟩ => ⟨S16384x1024, .f32⟩
  | .hbm, ⟨17, _⟩ => ⟨S8x2048x1024, .f32⟩
  | .hbm, ⟨18, _⟩ => ⟨S_, .f32⟩
  | .hbm, ⟨19, _⟩ => ⟨S8x1x1024, .f32⟩
  | .hbm, ⟨20, _⟩ => ⟨S8x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S2048x1024, .f32⟩
  | .hbm, ⟨26, _⟩ => ⟨S8x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x2048x3072, .f32⟩
  | .hbm, ⟨35, _⟩ => ⟨S16384x3x1024, .f32⟩
  | .hbm, ⟨36, _⟩ => ⟨S8x256x3072, .f32⟩
  | .hbm, ⟨37, _⟩ => ⟨S2048x3x1024, .f32⟩
  | .hbm, ⟨38, _⟩ => ⟨S18432x3x1024, .f32⟩
  | .hbm, ⟨39, _⟩ => ⟨S18432x1x1024, .f32⟩
  | .hbm, ⟨40, _⟩ => ⟨S18432x1024, .f32⟩
  | .hbm, ⟨41, _⟩ => ⟨S_, .f32⟩
  | .hbm, ⟨42, _⟩ => ⟨S18432x1024, .f32⟩
  | .hbm, ⟨43, _⟩ => ⟨S18432x1024, .f32⟩
  | .hbm, ⟨44, _⟩ => ⟨S_, .f32⟩
  | .hbm, ⟨45, _⟩ => ⟨S_, .f32⟩
  | .hbm, ⟨46, _⟩ => ⟨S18432x1024, .f32⟩
  | .hbm, ⟨47, _⟩ => ⟨S18432x1024, .f32⟩
  | .hbm, ⟨48, _⟩ => ⟨S18432x1024, .bf16⟩
  | .hbm, ⟨49, _⟩ => ⟨S18432x1x1024, .f32⟩
  | .hbm, ⟨50, _⟩ => ⟨S18432x1024, .f32⟩
  | .hbm, ⟨51, _⟩ => ⟨S18432x1024, .bf16⟩
  | .hbm, ⟨52, _⟩ => ⟨S18432x1x1024, .f32⟩
  | .hbm, ⟨53, _⟩ => ⟨S18432x1024, .f32⟩
  | .hbm, ⟨54, _⟩ => ⟨S18432x1024, .bf16⟩
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩

abbrev nD : Nat := 1
abbrev τ : Topo := Topo.v7x

variable {F : FTy → Type} [FloatOps F]
-- ==== QkvWaKernel.lean ====
abbrev S2x16x9x1024 : Shape := ⟨4, ![2, 16, 9, 1024]⟩
abbrev S18432x1024 : Shape := ⟨2, ![18432, 1024]⟩
abbrev S1024x1536 : Shape := ⟨2, ![1024, 1536]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S32 : Shape := ⟨1, ![32]⟩
abbrev S1x32 : Shape := ⟨2, ![1, 32]⟩
abbrev S2x32 : Shape := ⟨2, ![2, 32]⟩
abbrev S64 : Shape := ⟨1, ![64]⟩
abbrev S512x64 : Shape := ⟨2, ![512, 64]⟩
abbrev S2560x64 : Shape := ⟨2, ![2560, 64]⟩
abbrev S1x64 : Shape := ⟨2, ![1, 64]⟩
abbrev S1x2560x1x64 : Shape := ⟨4, ![1, 2560, 1, 64]⟩
abbrev S1x2560x2x64 : Shape := ⟨4, ![1, 2560, 2, 64]⟩
abbrev S2560x128 : Shape := ⟨2, ![2560, 128]⟩
abbrev S18432x512 : Shape := ⟨2, ![18432, 512]⟩
abbrev S1x1x9x1024 : Shape := ⟨4, ![1, 1, 9, 1024]⟩
abbrev S512x1024 : Shape := ⟨2, ![512, 1024]⟩
abbrev S512x128 : Shape := ⟨2, ![512, 128]⟩
abbrev S512x512 : Shape := ⟨2, ![512, 512]⟩
abbrev S9x1024 : Shape := ⟨2, ![9, 1024]⟩
abbrev S128x1024 : Shape := ⟨2, ![128, 1024]⟩
abbrev S1x1024 : Shape := ⟨2, ![1, 1024]⟩
abbrev S128x1536 : Shape := ⟨2, ![128, 1536]⟩
abbrev S128x128 : Shape := ⟨2, ![128, 128]⟩
abbrev S256x1024 : Shape := ⟨2, ![256, 1024]⟩
abbrev S256x1536 : Shape := ⟨2, ![256, 1536]⟩
abbrev S256x128 : Shape := ⟨2, ![256, 128]⟩

abbrev nBuf : Space → Nat
  | .hbm => 94
  | .vmem => 15
  | .smem => 0
  | _ => 0

abbrev bufTy : (tb : Table) → Fin (tcTables nBuf tb) → BufTy
  | .hbm, ⟨0, _⟩ => ⟨S2x16x9x1024, .f32⟩
  | .hbm, ⟨1, _⟩ => ⟨S18432x1024, .f32⟩
  | .hbm, ⟨2, _⟩ => ⟨S1024x1536, .bf16⟩
  | .hbm, ⟨3, _⟩ => ⟨S2048, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S1x16, .f32⟩
  | .hbm, ⟨32, _⟩ => ⟨S2048x1, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S_, .i1⟩
  | .hbm, ⟨52, _⟩ => ⟨S2048, .i1⟩
  | .hbm, ⟨53, _⟩ => ⟨S2048, .i1⟩
  | .hbm, ⟨54, _⟩ => ⟨S2048, .i1⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S1x16, .f32⟩
  | .hbm, ⟨60, _⟩ => ⟨S2048x1, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x64, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S32, .f32⟩
  | .hbm, ⟨71, _⟩ => ⟨S1x32, .f32⟩
  | .hbm, ⟨72, _⟩ => ⟨S2x32, .f32⟩
  | .hbm, ⟨73, _⟩ => ⟨S64, .f32⟩
  | .hbm, ⟨74, _⟩ => ⟨S2048x64, .f32⟩
  | .hbm, ⟨75, _⟩ => ⟨S_, .f32⟩
  | .hbm, ⟨76, _⟩ => ⟨S512x64, .f32⟩
  | .hbm, ⟨77, _⟩ => ⟨S2560x64, .f32⟩
  | .hbm, ⟨78, _⟩ => ⟨S2048x64, .f32⟩
  | .hbm, ⟨79, _⟩ => ⟨S1x64, .f32⟩
  | .hbm, ⟨80, _⟩ => ⟨S2048x64, .f32⟩
  | .hbm, ⟨81, _⟩ => ⟨S2048x64, .f32⟩
  | .hbm, ⟨82, _⟩ => ⟨S_, .f32⟩
  | .hbm, ⟨83, _⟩ => ⟨S512x64, .f32⟩
  | .hbm, ⟨84, _⟩ => ⟨S2560x64, .f32⟩
  | .hbm, ⟨85, _⟩ => ⟨S1x2560x1x64, .f32⟩
  | .hbm, ⟨86, _⟩ => ⟨S1x2560x2x64, .f32⟩
  | .hbm, ⟨87, _⟩ => ⟨S2560x128, .f32⟩
  | .hbm, ⟨88, _⟩ => ⟨S1x2560x1x64, .f32⟩
  | .hbm, ⟨89, _⟩ => ⟨S1x2560x2x64, .f32⟩
  | .hbm, ⟨90, _⟩ => ⟨S2560x128, .f32⟩
  | .hbm, ⟨91, _⟩ => ⟨S18432x1024, .bf16⟩
  | .hbm, ⟨92, _⟩ => ⟨S18432x512, .bf16⟩
  | .hbm, ⟨93, _⟩ => ⟨S18432x512, .bf16⟩
  | .local _ .vmem, ⟨0, _⟩ => ⟨S1x1x9x1024, .f32⟩
  | .local _ .vmem, ⟨1, _⟩ => ⟨S1x1x9x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1024x1536, .bf16⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | _, _ => ⟨S2x16x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_2 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_5 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44_0 : Ref sig .tc := ⟨.hbm, 91, rfl⟩
abbrev main_v44_1 : Ref sig .tc := ⟨.hbm, 92, rfl⟩
abbrev main_v44_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![36], ![false]⟩

def cc0_transform_0 (i : grid0.Coords) : Fin 4 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvWaKernelIdeal.lean ====
variable {F : FTy → Type} [FloatOps F] [Named F]
def κ : String → Option EReal := fun
  | "qscale" => some (((8 * (Real.log 2))⁻¹ : ℝ) : EReal)
  | _ => none
-- ==== QkvWaReferenceIdeal.lean ====
abbrev S2x16x9x1024 : Shape := ⟨4, ![2, 16, 9, 1024]⟩
abbrev S18432x1024 : Shape := ⟨2, ![18432, 1024]⟩
abbrev S1024x1536 : Shape := ⟨2, ![1024, 1536]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S16384x1024 : Shape := ⟨2, ![16384, 1024]⟩
abbrev S8x2048x1024 : Shape := ⟨3, ![8, 2048, 1024]⟩
abbrev S_ : Shape := ⟨0, ![]⟩
abbrev S8x2048x1536 : Shape := ⟨3, ![8, 2048, 1536]⟩
abbrev S2048x1024 : Shape := ⟨2, ![2048, 1024]⟩
abbrev S8x256x1024 : Shape := ⟨3, ![8, 256, 1024]⟩
abbrev S8x256x1536 : Shape := ⟨3, ![8, 256, 1536]⟩
abbrev S8x2048x1280 : Shape := ⟨3, ![8, 2048, 1280]⟩
abbrev S8x2048x20x64 : Shape := ⟨4, ![8, 2048, 20, 64]⟩
abbrev S2048 : Shape := ⟨1, ![2048]⟩
abbrev S16 : Shape := ⟨1, ![16]⟩
abbrev S8x2048x20x32 : Shape := ⟨4, ![8, 2048, 20, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x20x16 : Shape := ⟨4, ![8, 2048, 20, 16]⟩
abbrev S16384x1280 : Shape := ⟨2, ![16384, 1280]⟩
abbrev S8x256x1280 : Shape := ⟨3, ![8, 256, 1280]⟩
abbrev S2048x1280 : Shape := ⟨2, ![2048, 1280]⟩
abbrev S18432x1280 : Shape := ⟨2, ![18432, 1280]⟩
abbrev S8x2048x256 : Shape := ⟨3, ![8, 2048, 256]⟩
abbrev S16384x256 : Shape := ⟨2, ![16384, 256]⟩
abbrev S8x256x256 : Shape := ⟨3, ![8, 256, 256]⟩
abbrev S2048x256 : Shape := ⟨2, ![2048, 256]⟩
abbrev S18432x256 : Shape := ⟨2, ![18432, 256]⟩
abbrev S18432x4x64 : Shape := ⟨3, ![18432, 4, 64]⟩
abbrev S18432x4x128 : Shape := ⟨3, ![18432, 4, 128]⟩
abbrev S18432x512 : Shape := ⟨2, ![18432, 512]⟩

abbrev nBuf : Space → Nat
  | .hbm => 163
  | .vmem => 0
  | .smem => 0
  | _ => 0

abbrev hbmTy0_0 (i : Nat) : BufTy := match i % 128 with
  | 0 => ⟨S2x16x9x1024, .f32⟩
  | 1 => ⟨S18432x1024, .f32⟩
  | 2 => ⟨S1024x1536, .bf16⟩
  | 3 => ⟨S1024x1536, .f32⟩
  | 4 => ⟨S1x8x1x1024, .f32⟩
  | 5 => ⟨S8x1024, .f32⟩
  | 6 => ⟨S8x1x1024, .f32⟩
  | 7 => ⟨S1x8x1x1024, .f32⟩
  | 8 => ⟨S8x1024, .f32⟩
  | 9 => ⟨S8x1x1024, .f32⟩
  | 10 => ⟨S1x1x1x1024, .f32⟩
  | 11 => ⟨S1x1024, .f32⟩
  | 12 => ⟨S1x1x1024, .f32⟩
  | 13 => ⟨S1x1x1x1024, .f32⟩
  | 14 => ⟨S1x1024, .f32⟩
  | 15 => ⟨S1x1x1024, .f32⟩
  | 16 => ⟨S16384x1024, .f32⟩
  | 17 => ⟨S8x2048x1024, .f32⟩
  | 18 => ⟨S_, .f32⟩
  | 19 => ⟨S8x1x1024, .f32⟩
  | 20 => ⟨S8x1x1024, .f32⟩
  | 21 => ⟨S8x2048x1024, .f32⟩
  | 22 => ⟨S8x2048x1024, .f32⟩
  | 23 => ⟨S8x2048x1024, .f32⟩
  | 24 => ⟨S8x2048x1024, .f32⟩
  | 25 => ⟨S8x2048x1536, .f32⟩
  | 26 => ⟨S2048x1024, .f32⟩
  | 27 => ⟨S8x256x1024, .f32⟩
  | 28 => ⟨S_, .f32⟩
  | 29 => ⟨S1x1x1024, .f32⟩
  | 30 => ⟨S1x1x1024, .f32⟩
  | 31 => ⟨S8x256x1024, .f32⟩
  | 32 => ⟨S8x256x1024, .f32⟩
  | 33 => ⟨S8x256x1024, .f32⟩
  | 34 => ⟨S8x256x1024, .f32⟩
  | 35 => ⟨S8x256x1536, .f32⟩
  | 36 => ⟨S8x2048x1280, .f32⟩
  | 37 => ⟨S8x2048x20x64, .f32⟩
  | 38 => ⟨S2048, .i32⟩
  | 39 => ⟨S_, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S2048, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2048, .i32⟩
  | 65 => ⟨S2048, .i32⟩
  | 66 => ⟨S_, .i32⟩
  | 67 => ⟨S2048, .i32⟩
  | 68 => ⟨S2048, .i1⟩
  | 69 => ⟨S_, .i32⟩
  | 70 => ⟨S2048, .i32⟩
  | 71 => ⟨S2048, .i1⟩
  | 72 => ⟨S_, .i32⟩
  | 73 => ⟨S_, .i1⟩
  | 74 => ⟨S2048, .i1⟩
  | 75 => ⟨S2048, .i1⟩
  | 76 => ⟨S2048, .i1⟩
  | 77 => ⟨S2048, .i32⟩
  | 78 => ⟨S2048, .i32⟩
  | 79 => ⟨S2048, .i32⟩
  | 80 => ⟨S2048, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S8x2048x20x32, .f32⟩
  | 90 => ⟨S2048x1, .f32⟩
  | 91 => ⟨S1x16, .f32⟩
  | 92 => ⟨S2048x16, .f32⟩
  | 93 => ⟨S2048x16, .f32⟩
  | 94 => ⟨S2048x16, .f32⟩
  | 95 => ⟨S2048x16, .f32⟩
  | 96 => ⟨S1x2048x1x16, .f32⟩
  | 97 => ⟨S2048x16, .f32⟩
  | 98 => ⟨S1x2048x1x16, .f32⟩
  | 99 => ⟨S8x2048x20x16, .f32⟩
  | 100 => ⟨S8x2048x20x16, .f32⟩
  | 101 => ⟨S8x2048x20x16, .f32⟩
  | 102 => ⟨S8x2048x20x16, .f32⟩
  | 103 => ⟨S8x2048x20x16, .f32⟩
  | 104 => ⟨S8x2048x20x16, .f32⟩
  | 105 => ⟨S8x2048x20x16, .f32⟩
  | 106 => ⟨S8x2048x20x16, .f32⟩
  | 107 => ⟨S8x2048x20x16, .f32⟩
  | 108 => ⟨S8x2048x20x16, .f32⟩
  | 109 => ⟨S8x2048x20x16, .f32⟩
  | 110 => ⟨S8x2048x20x16, .f32⟩
  | 111 => ⟨S8x2048x20x32, .f32⟩
  | 112 => ⟨S8x2048x20x32, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S1x2048x1x16, .f32⟩
  | 120 => ⟨S2048x16, .f32⟩
  | 121 => ⟨S1x2048x1x16, .f32⟩
  | 122 => ⟨S8x2048x20x16, .f32⟩
  | 123 => ⟨S8x2048x20x16, .f32⟩
  | 124 => ⟨S8x2048x20x16, .f32⟩
  | 125 => ⟨S8x2048x20x16, .f32⟩
  | 126 => ⟨S8x2048x20x16, .f32⟩
  | 127 => ⟨S8x2048x20x16, .f32⟩
  | _ => ⟨S2x16x9x1024, .f32⟩

abbrev hbmTy0_1 (i : Nat) : BufTy := match i % 128 with
  | 0 => ⟨S8x2048x20x16, .f32⟩
  | 1 => ⟨S8x2048x20x16, .f32⟩
  | 2 => ⟨S8x2048x20x16, .f32⟩
  | 3 => ⟨S8x2048x20x16, .f32⟩
  | 4 => ⟨S8x2048x20x16, .f32⟩
  | 5 => ⟨S8x2048x20x16, .f32⟩
  | 6 => ⟨S8x2048x20x32, .f32⟩
  | 7 => ⟨S8x2048x20x64, .f32⟩
  | 8 => ⟨S16384x1280, .f32⟩
  | 9 => ⟨S8x256x1280, .f32⟩
  | 10 => ⟨S2048x1280, .f32⟩
  | 11 => ⟨S18432x1280, .f32⟩
  | 12 => ⟨S8x2048x256, .f32⟩
  | 13 => ⟨S16384x256, .f32⟩
  | 14 => ⟨S8x256x256, .f32⟩
  | 15 => ⟨S2048x256, .f32⟩
  | 16 => ⟨S18432x256, .f32⟩
  | 17 => ⟨S18432x1024, .f32⟩
  | 18 => ⟨S_, .f32⟩
  | 19 => ⟨S18432x1024, .f32⟩
  | 20 => ⟨S18432x1024, .f32⟩
  | 21 => ⟨S_, .f32⟩
  | 22 => ⟨S_, .f32⟩
  | 23 => ⟨S18432x1024, .f32⟩
  | 24 => ⟨S18432x1024, .f32⟩
  | 25 => ⟨S18432x256, .f32⟩
  | 26 => ⟨S18432x4x64, .f32⟩
  | 27 => ⟨S18432x4x64, .f32⟩
  | 28 => ⟨S18432x4x128, .f32⟩
  | 29 => ⟨S18432x512, .f32⟩
  | 30 => ⟨S18432x512, .bf16⟩
  | 31 => ⟨S18432x4x128, .f32⟩
  | 32 => ⟨S18432x512, .f32⟩
  | 33 => ⟨S18432x512, .bf16⟩
  | 34 => ⟨S18432x1024, .bf16⟩
  | _ => ⟨S2x16x9x1024, .f32⟩

abbrev hbmTy (i : Nat) : BufTy := match i / 128 with
  | 0 => hbmTy0_0 i
  | 1 => hbmTy0_1 i
  | _ => ⟨S2x16x9x1024, .f32⟩

abbrev bufTy : (tb : Table) → Fin (tcTables nBuf tb) → BufTy
  | .hbm, ⟨i, _⟩ => hbmTy i
  | _, _ => ⟨S2x16x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v34 : Ref sig .tc := ⟨.hbm, 56, rfl⟩
abbrev main_v35 : Ref sig .tc := ⟨.hbm, 57, rfl⟩
abbrev main_c_1 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_2 : Ref sig .tc := ⟨.hbm, 83, rfl⟩
abbrev main_v40 : Ref sig .tc := ⟨.hbm, 84, rfl⟩
abbrev main_v41 : Ref sig .tc := ⟨.hbm, 85, rfl⟩
abbrev main_cst_3 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_4 : Ref sig .tc := ⟨.hbm, 146, rfl⟩
abbrev main_v101 : Ref sig .tc := ⟨.hbm, 147, rfl⟩
abbrev main_v102 : Ref sig .tc := ⟨.hbm, 148, rfl⟩
abbrev main_cst_5 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== Proof.WaBlock.lean ====
module
public import proofs.«01_k».proof.Proof.Gen.WaKernelIdeal.Value
public import Idealize.ShloMosaic.Lib.Pipeline.ValueKit
public import Idealize.ShloMosaic.Lib.Pointwise
@[expose] public section
set_option maxRecDepth 16384
noncomputable section

/-! The body of the windowed attention in words: what one grid point stores, as one function of the
pair of heads `p` and the query block `b`. -/

namespace Cert.WaProof
open Cert.WaKernelIdeal Cert.WaKernelIdeal.Gen Idealize.ShloMosaic Idealize.ShloMosaic.TcCoe Idealize.SL.Sem

local notation "𝕍" => FVec Ideal

/-- The lanes of the first head of a pair. -/
def firstHalf : IVec S128x128 1 :=
  cmpi .slt (iota .tc S128x128 32 [1] iota_S128x128_d1_w32) (broadcast S128x128 64#32)

/-- The zero block that fills the lanes of the other head. -/
def zeroBlock : 𝕍 S128x128 .bf16 := broadcast S128x128 (Scalar.ofBits .bf16 0x0000#16)

/-- The two heads of a query block under each other, the other head's lanes zero. -/
def splitHeads (q : 𝕍 S128x128 .bf16) : 𝕍 S256x128 .bf16 :=
  concatenate S256x128 0 [⟨S128x128, select firstHalf q zeroBlock⟩, ⟨S128x128, select firstHalf zeroBlock q⟩]
    concatenates_S128x128_S128x128_S256x128_d0

/-- The window logits of the four query blocks, each over its own 384 keys. -/
def windowLogits (q : Fin 4 → 𝕍 S128x128 .bf16) (k : Fin 4 → 𝕍 S384x128 .bf16) : 𝕍 S1024x384 .f32 :=
  let s (b : Fin 4) : 𝕍 S256x384 .f32 := matmul dot_S256x128_S384x128_S256x384_1_1_0_0_n_n none
    (splitHeads (q b)) (k b) (constant S256x384 .f32 0x00000000#32)
  concatenate S1024x384 0 [⟨S256x384, s 0⟩, ⟨S256x384, s 1⟩, ⟨S256x384, s 2⟩, ⟨S256x384, s 3⟩]
    concatenates_S256x384_S256x384_S256x384_S256x384_S1024x384_d0

/-- The context logits of the four query blocks. -/
def contextLogits (q : Fin 4 → 𝕍 S128x128 .bf16) (k : 𝕍 S256x128 .bf16) : 𝕍 S1024x256 .f32 :=
  matmul dot_S1024x128_S256x128_S1024x256_1_1_0_0_n_n none
    (concatenate S1024x128 0 [⟨S256x128, splitHeads (q 0)⟩, ⟨S256x128, splitHeads (q 1)⟩,
        ⟨S256x128, splitHeads (q 2)⟩, ⟨S256x128, splitHeads (q 3)⟩]
      concatenates_S256x128_S256x128_S256x128_S256x128_S1024x128_d0) k (constant S1024x256 .f32 0x00000000#32)

/-- The first key row of the window of block `b`. -/
def startWord (i : grid0.Coords) (b : BitVec 32) : BitVec 32 :=
  Scalar.minsi 1664#32 (Scalar.maxsi 0#32 (Scalar.muli
    (Scalar.subi (Scalar.addi (Scalar.muli (BitVec.ofNat 32 (i 1).val) 4#32) b) 1#32) 128#32))

/-- The band of one query block: zero where the key is at most 128 positions away, the mask elsewhere. -/
def bandOf (i : grid0.Coords) (b : BitVec 32) : 𝕍 S128x384 .f32 :=
  select (cmpi .sle (absi (addi k0_pay2 (broadcast S128x384 (Scalar.subi (Scalar.muli
      (Scalar.addi (Scalar.muli (BitVec.ofNat 32 (i 1).val) 4#32) b) 128#32) (startWord i b)))))
      (broadcast S128x384 128#32))
    (broadcast S128x384 (Scalar.ofBits .f32 0x00000000#32 : Ideal .f32))
    (broadcast S128x384 (Named.named κ "mask" 0xF149F2CA#32 : Ideal .f32))

/-- The bands of the eight row groups: two heads for each of the four query blocks. -/
def band (i : grid0.Coords) : 𝕍 S1024x384 .f32 :=
  concatenate S1024x384 0 [⟨S128x384, bandOf i 0#32⟩, ⟨S128x384, bandOf i 0#32⟩, ⟨S128x384, bandOf i 1#32⟩,
      ⟨S128x384, bandOf i 1#32⟩, ⟨S128x384, bandOf i 2#32⟩, ⟨S128x384, bandOf i 2#32⟩,
      ⟨S128x384, bandOf i 3#32⟩, ⟨S128x384, bandOf i 3#32⟩]
    concatenates_S128x384_S128x384_S128x384_S128x384_S128x384_S128x384_S128x384_S128x384_S1024x384_d0

/-- The sink logits of the two heads, in base two, for the eight row groups. -/
def sinkLogits (s₀ s₁ : Ideal .f32) : 𝕍 S1024x1 .f32 :=
  let c (s : Ideal .f32) : 𝕍 S128x1 .f32 :=
    broadcast S128x1 (Scalar.mulf s (Named.named κ "log2e" 0x3FB8AA3B#32 : Ideal .f32))
  concatenate S1024x1 0 [⟨S128x1, c s₀⟩, ⟨S128x1, c s₁⟩, ⟨S128x1, c s₀⟩, ⟨S128x1, c s₁⟩, ⟨S128x1, c s₀⟩,
      ⟨S128x1, c s₁⟩, ⟨S128x1, c s₀⟩, ⟨S128x1, c s₁⟩]
    concatenates_S128x1_S128x1_S128x1_S128x1_S128x1_S128x1_S128x1_S128x1_S1024x1_d0

/-- The row maximum over window, context and sink. -/
def rowMax (sw : 𝕍 S1024x384 .bf16) (sc : 𝕍 S1024x256 .bf16) (sk : 𝕍 S1024x1 .f32) : 𝕍 S1024x1 .bf16 :=
  truncf .bf16 (maximumf (shapeCast S1024x1 (multiReduction .maximumf [1] S1024 (extf .f32
      (maximumf (maximumf (maximumf (maximumf
        (extractStridedSlice S1024x128 ![0, 0] sw slices_S1024x384_o0_0_S1024x128)
        (extractStridedSlice S1024x128 ![0, 128] sw slices_S1024x384_o0_128_S1024x128))
        (extractStridedSlice S1024x128 ![0, 256] sw slices_S1024x384_o0_256_S1024x128))
        (extractStridedSlice S1024x128 ![0, 0] sc slices_S1024x256_o0_0_S1024x128))
        (extractStridedSlice S1024x128 ![0, 128] sc slices_S1024x256_o0_128_S1024x128)) bitsLt_bf16_f32)
      0xFF800000#32 reduces_S1024x128_S1024 (.inl rfl) rfl) shapeCasts_S1024_S1024x1) sk) bitsLt_bf16_f32

/-- The 384 value rows of a window beside columns of ones. -/
def withOnes384 (v : 𝕍 S384x128 .bf16) : 𝕍 S384x256 .bf16 :=
  concatenate S384x256 1 [⟨S384x128, v⟩, ⟨S384x128, broadcast S384x128 (Scalar.ofBits .bf16 0x3F80#16 : Ideal .bf16)⟩]
    concatenates_S384x128_S384x128_S384x256_d1

/-- The 256 value rows of the context beside columns of ones. -/
def withOnes256 (v : 𝕍 S256x128 .bf16) : 𝕍 S256x256 .bf16 :=
  concatenate S256x256 1 [⟨S256x128, v⟩, ⟨S256x128, broadcast S256x128 (Scalar.ofBits .bf16 0x3F80#16 : Ideal .bf16)⟩]
    concatenates_S256x128_S256x128_S256x256_d1

/-- The window part of the weighted sums and of the weights' sum. -/
def windowSums (e : 𝕍 S1024x384 .bf16) (v : Fin 4 → 𝕍 S384x128 .bf16) : 𝕍 S1024x256 .f32 :=
  let s (b : Fin 4) (x : 𝕍 S256x384 .bf16) : 𝕍 S256x256 .f32 := matmul dot_S256x384_S384x256_S256x256_1_0_0_1_n_n none
    x (withOnes384 (v b)) (constant S256x256 .f32 0x00000000#32)
  concatenate S1024x256 0 [
      ⟨S256x256, s 0 (extractStridedSlice S256x384 ![0, 0] e slices_S1024x384_o0_0_S256x384)⟩,
      ⟨S256x256, s 1 (extractStridedSlice S256x384 ![256, 0] e slices_S1024x384_o256_0_S256x384)⟩,
      ⟨S256x256, s 2 (extractStridedSlice S256x384 ![512, 0] e slices_S1024x384_o512_0_S256x384)⟩,
      ⟨S256x256, s 3 (extractStridedSlice S256x384 ![768, 0] e slices_S1024x384_o768_0_S256x384)⟩]
    concatenates_S256x256_S256x256_S256x256_S256x256_S1024x256_d0

/-- The two sums divided: the normalised rows, from the logits. -/
def normalised (sw : 𝕍 S1024x384 .bf16) (sc : 𝕍 S1024x256 .bf16) (sk : 𝕍 S1024x1 .f32)
    (v : Fin 4 → 𝕍 S384x128 .bf16) (vc : 𝕍 S256x128 .bf16) : 𝕍 S1024x128 .f32 :=
  let m := rowMax sw sc sk
  let av : 𝕍 S1024x256 .f32 := addf
    (windowSums (exp2 (subf sw (broadcastTo S1024x384 m broadcasts_S1024x1_S1024x384))) v)
    (matmul dot_S1024x256_S256x256_S1024x256_1_0_0_1_n_n none
      (exp2 (subf sc (broadcastTo S1024x256 m broadcasts_S1024x1_S1024x256))) (withOnes256 vc)
      (constant S1024x256 .f32 0x00000000#32))
  divf (extractStridedSlice S1024x128 ![0, 0] av slices_S1024x256_o0_0_S1024x128)
    (broadcastTo S1024x128 (addf (extractStridedSlice S1024x1 ![0, 128] av slices_S1024x256_o0_128_S1024x1)
      (exp2 (subf sk (extf .f32 m bitsLt_bf16_f32)))) broadcasts_S1024x1_S1024x128)

/-- The two row groups of query block `b`. -/
def blockRows (o : 𝕍 S1024x128 .f32) (b : Fin 4) : 𝕍 S256x128 .f32 :=
  match b with
  | 0 => extractStridedSlice S256x128 ![0, 0] o slices_S1024x128_o0_0_S256x128
  | 1 => extractStridedSlice S256x128 ![256, 0] o slices_S1024x128_o256_0_S256x128
  | 2 => extractStridedSlice S256x128 ![512, 0] o slices_S1024x128_o512_0_S256x128
  | 3 => extractStridedSlice S256x128 ![768, 0] o slices_S1024x128_o768_0_S256x128

/-- The two heads of a query block side by side again. -/
def mergeHeads (o : 𝕍 S256x128 .f32) : 𝕍 S128x128 .bf16 :=
  truncf .bf16 (select firstHalf (extractStridedSlice S128x128 ![0, 0] o slices_S256x128_o0_0_S128x128)
    (extractStridedSlice S128x128 ![128, 0] o slices_S256x128_o128_0_S128x128)) bitsLt_bf16_f32

/-- The query block `b` of the head pair `p`. -/
def qBlock (x : Vec Ideal S512x1024 .bf16) (p : Fin 8) (b : Fin 4) : 𝕍 S128x128 .bf16 :=
  View.ld (Val := Elt Ideal) (e' := .bf16) x
    (Rect.unit (s := S512x1024) ![128 * b.val, 128 * p.val] S128x128.size (by revert p b; decide))

/-- The window of block `b`, of the keys or the values of the head pair `p`. -/
def windowBlock (i : grid0.Coords) (x : Vec Ideal S2048x512 .bf16) (p : Fin 8) (b : Fin 4) : 𝕍 S384x128 .bf16 :=
  View.ld (Val := Elt Ideal) (e' := .bf16) x
    (Rect.unit (s := S2048x512) ![(Scalar.indexCast (startWord i (BitVec.ofNat 32 b.val)) : Index).toNat, 128 * (p.val / 2)] S384x128.size (by
      intro a
      have h0 := k0_off1_inb i b 0
      match a with
      | 0 => exact h0
      | 1 => show 128 * (p.val / 2) + 128 ≤ 512; omega))

/-- The context keys or values of the head pair `p`. -/
def contextBlock (x : Vec Ideal S256x512 .bf16) (p : Fin 8) : 𝕍 S256x128 .bf16 :=
  View.ld (Val := Elt Ideal) (e' := .bf16) x
    (Rect.unit (s := S256x512) ![0, 128 * (p.val / 2)] S256x128.size (by revert p; decide))

/-- The sink logit of head `h`, as the scalar unit reads it. -/
def sinkAt (x : Vec Ideal S16 .f32) (h : Fin 16) : Ideal .f32 :=
  View.ld (Val := Elt Ideal) (e' := .f32) x (Rect.unit (s := S16) ![h.val] S1.size (by revert h; decide))
    (Shape.Idx.first (numel1_S1.symm ▸ Nat.one_pos))

/-- What one grid point stores for the head pair `p` and the query block `b`. -/
def tile (i : grid0.Coords) (x0 : Vec Ideal S16 .f32) (x1 : Vec Ideal S512x1024 .bf16)
    (x2 x3 : Vec Ideal S2048x512 .bf16) (x4 x5 : Vec Ideal S256x512 .bf16) (p : Fin 8) (b : Fin 4) : 𝕍 S128x128 .bf16 :=
  mergeHeads (blockRows (normalised
    (truncf .bf16 (addf (windowLogits (qBlock x1 p) (windowBlock i x2 p)) (band i)) bitsLt_bf16_f32)
    (truncf .bf16 (contextLogits (qBlock x1 p) (contextBlock x4 p)) bitsLt_bf16_f32)
    (sinkLogits (sinkAt x0 ⟨2 * p.val, by omega⟩) (sinkAt x0 ⟨2 * p.val + 1, by omega⟩))
    (windowBlock i x3 p) (contextBlock x5 p)) b)

/-- What one grid point stores, at an index of its block. -/
def outBlock (i : grid0.Coords) (x0 : Vec Ideal S16 .f32) (x1 : Vec Ideal S512x1024 .bf16)
    (x2 x3 : Vec Ideal S2048x512 .bf16) (x4 x5 : Vec Ideal S256x512 .bf16) (y : S512x1024.Idx) : Ideal .bf16 :=
  tile i x0 x1 x2 x3 x4 x5 ⟨(y 1).val / 128, by have := (y 1).isLt; change _ < 1024 at this; omega⟩
    ⟨(y 0).val / 128, by have := (y 0).isLt; change _ < 512 at this; omega⟩
    (Idealize.ShloMosaic.ix2 ⟨(y 0).val % 128, Nat.mod_lt _ (by decide)⟩ ⟨(y 1).val % 128, Nat.mod_lt _ (by decide)⟩)

/-- The element of a stored tile is the element of the block at the tile's place. -/
theorem outBlock_at (i : grid0.Coords) (x0 : Vec Ideal S16 .f32) (x1 : Vec Ideal S512x1024 .bf16)
    (x2 x3 : Vec Ideal S2048x512 .bf16) (x4 x5 : Vec Ideal S256x512 .bf16) (y : S512x1024.Idx) (x : S128x128.Idx)
    (o0 o1 : ℕ) (h0 : (y 0).val = o0 + (x 0).val) (h1 : (y 1).val = o1 + (x 1).val) (l0 : o0 / 128 < 4)
    (l1 : o1 / 128 < 8) (d0 : o0 % 128 = 0) (d1 : o1 % 128 = 0) (T : Vec Ideal S128x128 .bf16)
    (hT : T = tile i x0 x1 x2 x3 x4 x5 ⟨o1 / 128, l1⟩ ⟨o0 / 128, l0⟩) : T x = outBlock i x0 x1 x2 x3 x4 x5 y := by
  have hx0 : (x 0).val < 128 := (x 0).isLt
  have hx1 : (x 1).val < 128 := (x 1).isLt
  subst hT
  unfold outBlock
  congr 1
  · apply Fin.ext; show o1 / 128 = (y 1).val / 128; omega
  · apply Fin.ext; show o0 / 128 = (y 0).val / 128; omega
  · funext a
    match a with
    | 0 => apply Fin.ext; show (x 0).val = (y 0).val % 128; omega
    | 1 => apply Fin.ext; show (x 1).val = (y 1).val % 128; omega

set_option maxHeartbeats 4000000 in
/-- The block a grid point leaves: the stored pieces together are `outBlock` of the point's inputs. -/
theorem out_eq (c : Dev nD) (i : grid0.Coords) (arg2 : Memref sig .tc .smem S16 .f32) (harg2 : arg2.IsWhole) (arg3 : Memref sig .tc .vmem S512x1024 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S512x1024 .bf16) (harg8 : arg8.IsWhole)
    (x0 : Vec Ideal S16 .f32) (x1 : Vec Ideal S512x1024 .bf16) (x2 : Vec Ideal S2048x512 .bf16) (x3 : Vec Ideal S2048x512 .bf16) (x4 : Vec Ideal S256x512 .bf16) (x5 : Vec Ideal S256x512 .bf16) (y : S512x1024.Idx) :
    out0_A_6 (F := Ideal) c i arg2 harg2 arg3 harg3 arg4 harg4 arg5 harg5 arg6 harg6 arg7 harg7 arg8 harg8 x0 x1 x2 x3 x4 x5 y = outBlock i x0 x1 x2 x3 x4 x5 y := by
  have key : out0_A_6 (F := Ideal) c i arg2 harg2 arg3 harg3 arg4 harg4 arg5 harg5 arg6 harg6 arg7 harg7 arg8 harg8 x0 x1 x2 x3 x4 x5 y
      = outBlock i (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) y := by
    frame_open
    rw [View.read_writes_junk_eq_canon]
    canon_tiles x h
    all_goals
      refine outBlock_at i _ _ _ _ _ _ y x _ _ (by first | exact h0 | exact h0.trans (Nat.zero_add _).symm)
        (by first | exact h1 | exact h1.trans (Nat.zero_add _).symm) (by decide) (by decide) (by decide) (by decide) _ ?_
      sl_kernel_rfl
  rw [key, harg2.read_unread, harg3.read_unread, harg4.read_unread, harg5.read_unread, harg6.read_unread, harg7.read_unread]

end Cert.WaProof
-- ==== Proof.WaRows.lean ====
module
public import proofs.«01_k».proof.Proof.WaBlock
@[expose] public section
set_option maxRecDepth 16384
noncomputable section

/-! The stages of the windowed attention's body, each read at an index. -/

namespace Cert.WaProof
open Cert.WaKernelIdeal Cert.WaKernelIdeal.Gen Idealize.ShloMosaic Idealize.ShloMosaic.TcCoe Idealize.SL.Sem
open Idealize.ShloMosaic.Pointwise
local notation "𝕍" => FVec Ideal

/-- Four pieces under each other, read at a row of one of them. -/
theorem four_pieces {α : Type} {W : ℕ} (f : Fin 4 → Fin W → α) (b : Fin 4) (w : Fin W)
    (h3 : ¬ W * b.val + w.val < W → ¬ W * b.val + w.val - W < W → ¬ W * b.val + w.val - W - W < W →
      W * b.val + w.val - W - W - W < W) :
    (if h : W * b.val + w.val < W then f 0 ⟨W * b.val + w.val, h⟩ else
      if h' : W * b.val + w.val - W < W then f 1 ⟨W * b.val + w.val - W, h'⟩ else
      if h'' : W * b.val + w.val - W - W < W then f 2 ⟨W * b.val + w.val - W - W, h''⟩ else
      f 3 ⟨W * b.val + w.val - W - W - W, h3 h h' h''⟩) = f b w := by
  have hw := w.isLt
  match b with
  | 0 =>
    rw [dif_pos (by show W * 0 + w.val < W; omega)]
    congr 1; apply Fin.ext; show W * 0 + w.val = _; omega
  | 1 =>
    rw [dif_neg (by show ¬ W * 1 + w.val < W; omega), dif_pos (by show W * 1 + w.val - W < W; omega)]
    congr 1; apply Fin.ext; show W * 1 + w.val - W = _; omega
  | 2 =>
    rw [dif_neg (by show ¬ W * 2 + w.val < W; omega), dif_neg (by show ¬ W * 2 + w.val - W < W; omega),
      dif_pos (by show W * 2 + w.val - W - W < W; omega)]
    congr 1; apply Fin.ext; show W * 2 + w.val - W - W = _; omega
  | 3 =>
    rw [dif_neg (by show ¬ W * 3 + w.val < W; omega), dif_neg (by show ¬ W * 3 + w.val - W < W; omega),
      dif_neg (by show ¬ W * 3 + w.val - W - W < W; omega)]
    congr 1; apply Fin.ext; show W * 3 + w.val - W - W - W = _; omega

/-- Two pieces under each other, read at a row of one of them. -/
theorem two_pieces {α : Type} (f : Fin 2 → Fin 128 → α) (j : Fin 2) (w : Fin 128) :
    (if h : 128 * j.val + w.val < 128 then f 0 ⟨128 * j.val + w.val, h⟩ else
      f 1 ⟨128 * j.val + w.val - 128, by omega⟩) = f j w := by
  have hw := w.isLt
  match j with
  | 0 =>
    rw [dif_pos (by show 128 * 0 + w.val < 128; omega)]
    congr 1; apply Fin.ext; show 128 * 0 + w.val = _; omega
  | 1 =>
    rw [dif_neg (by show ¬ 128 * 1 + w.val < 128; omega)]
    congr 1; apply Fin.ext; show 128 * 1 + w.val - 128 = _; omega

/-- The lanes below 64 are the first head's. -/
theorem firstHalf_apply (r l : Fin 128) : firstHalf (ix2 r l) = if l.val < 64 then 1#1 else 0#1 := by
  unfold firstHalf
  pointwise
  revert l; decide

/-- Row `128 j + r` of the split block is row `r` on the lanes of head `j`, zero on the others. -/
theorem splitHeads_apply (q : 𝕍 S128x128 .bf16) (j : Fin 2) (r l : Fin 128) :
    splitHeads q (ix2 ⟨128 * j.val + r.val, by omega⟩ l) = if l.val / 64 = j.val then q (ix2 r l) else 0 := by
  unfold splitHeads zeroBlock
  pointwise
  simp only [firstHalf_apply]
  refine (two_pieces (fun j r => Scalar.select (if l.val < 64 then 1#1 else 0#1) (![q (ix2 r l), 0] j) (![0, q (ix2 r l)] j)) j r).trans ?_
  have hj : j = 0 ∨ j = 1 := by omega
  rcases hj with rfl | rfl
  · by_cases h : l.val < 64
    · rw [if_pos h, if_pos (by simp; omega)]; rfl
    · rw [if_neg h, if_neg (by simp; omega)]; rfl
  · by_cases h : l.val < 64
    · rw [if_pos h, if_neg (by simp; omega)]; rfl
    · rw [if_neg h, if_pos (by simp; omega)]; rfl

/-- A window logit is the product of a query row and a key row. -/
theorem windowLogits_apply (q : Fin 4 → 𝕍 S128x128 .bf16) (k : Fin 4 → 𝕍 S384x128 .bf16) (b : Fin 4) (w : Fin 256) (κ : Fin 384) :
    windowLogits q k (ix2 ⟨256 * b.val + w.val, by omega⟩ κ) = ∑ l : Fin 128, splitHeads (q b) (ix2 w l) * k b (ix2 κ l) := by
  unfold windowLogits
  pointwise
  exact four_pieces (fun b w => ∑ l : Fin 128, splitHeads (q b) (ix2 w l) * k b (ix2 κ l)) b w (by omega)

/-- A context logit is the product of a query row and a context key row. -/
theorem contextLogits_apply (q : Fin 4 → 𝕍 S128x128 .bf16) (k : 𝕍 S256x128 .bf16) (b : Fin 4) (w : Fin 256) (κ : Fin 256) :
    contextLogits q k (ix2 ⟨256 * b.val + w.val, by omega⟩ κ) = ∑ l : Fin 128, splitHeads (q b) (ix2 w l) * k (ix2 κ l) := by
  unfold contextLogits
  pointwise
  refine Finset.sum_congr rfl fun l _ => ?_
  congr 1
  exact four_pieces (fun b w => splitHeads (q b) (ix2 w l)) b w (by omega)

/-- A window sum is the product of a row of weights and a column of values and ones. -/
theorem windowSums_apply (e : 𝕍 S1024x384 .bf16) (v : Fin 4 → 𝕍 S384x128 .bf16) (b : Fin 4) (w : Fin 256) (c : Fin 256) :
    windowSums e v (ix2 ⟨256 * b.val + w.val, by omega⟩ c)
      = ∑ κ : Fin 384, e (ix2 ⟨256 * b.val + w.val, by omega⟩ κ) * withOnes384 (v b) (ix2 κ c) := by
  unfold windowSums
  pointwise
  refine Eq.trans ?_ (four_pieces (fun b' _ => ∑ κ : Fin 384, e (ix2 ⟨256 * b.val + w.val, by omega⟩ κ) * withOnes384 (v b') (ix2 κ c)) b w (by omega))
  split_ifs <;> (refine Finset.sum_congr rfl fun κ _ => ?_; congr 3) <;> (apply Fin.ext; dsimp only; omega)

/-- The block of values is left of the ones. -/
theorem withOnes384_value (v : 𝕍 S384x128 .bf16) (κ : Fin 384) (l : Fin 128) :
    withOnes384 v (ix2 κ ⟨l.val, by omega⟩) = v (ix2 κ l) := by
  unfold withOnes384
  pointwise

/-- The other columns are ones. -/
theorem withOnes384_one (v : 𝕍 S384x128 .bf16) (κ : Fin 384) : withOnes384 v (ix2 κ 128) = (1 : EReal) := by
  unfold withOnes384
  pointwise

/-- The block of values is left of the ones. -/
theorem withOnes256_value (v : 𝕍 S256x128 .bf16) (κ : Fin 256) (l : Fin 128) :
    withOnes256 v (ix2 κ ⟨l.val, by omega⟩) = v (ix2 κ l) := by
  unfold withOnes256
  pointwise

/-- The other columns are ones. -/
theorem withOnes256_one (v : 𝕍 S256x128 .bf16) (κ : Fin 256) : withOnes256 v (ix2 κ 128) = (1 : EReal) := by
  unfold withOnes256
  pointwise

/-- The lanes of the first head come from the first row group, the others from the second. -/
theorem mergeHeads_apply (o : 𝕍 S256x128 .f32) (r l : Fin 128) :
    mergeHeads o (ix2 r l) = o (ix2 ⟨128 * (l.val / 64) + r.val, by omega⟩ l) := by
  unfold mergeHeads
  pointwise
  simp only [firstHalf_apply]
  split_ifs with h
  · exact congrArg (fun x => o (ix2 x l)) (Fin.ext (by show r.val = 128 * (l.val / 64) + r.val; omega))
  · exact congrArg (fun x => o (ix2 x l)) (Fin.ext (by show 128 + r.val = 128 * (l.val / 64) + r.val; omega))

/-- The row groups of a block. -/
theorem blockRows_apply (o : 𝕍 S1024x128 .f32) (b : Fin 4) (w : Fin 256) (l : Fin 128) :
    blockRows o b (ix2 w l) = o (ix2 ⟨256 * b.val + w.val, by omega⟩ l) := by
  unfold blockRows
  match b with
  | 0 => pointwise
  | 1 => pointwise
  | 2 => pointwise
  | 3 => pointwise

/-- The base-two logarithm of e, as the kernel names it. -/
theorem log2e_eq : (Named.named Cert.WaKernelIdeal.κ "log2e" (1069066811#32 : BitVec 32) : Ideal .f32) = (((Real.log 2)⁻¹ : ℝ) : EReal) := rfl

/-- The mask, as the kernel names it. -/
theorem mask_eq : (Named.named Cert.WaKernelIdeal.κ "mask" (0xF149F2CA#32 : BitVec 32) : Ideal .f32) = (⊥ : EReal) := rfl

/-- The sink logit of a row. -/
theorem sinkLogits_apply (s : Fin 2 → Ideal .f32) (b : Fin 4) (j : Fin 2) (r : Fin 128) :
    sinkLogits (s 0) (s 1) (ix2 ⟨256 * b.val + (128 * j.val + r.val), by omega⟩ 0) = s j * (((Real.log 2)⁻¹ : ℝ) : EReal) := by
  unfold sinkLogits
  pointwise
  rw [log2e_eq]
  have hj : j = 0 ∨ j = 1 := by omega
  rcases hj with rfl | rfl <;> split_ifs <;> first | rfl | (exfalso; simp only [Fin.isValue, Fin.val_zero, Fin.val_one] at *; omega)

/-- The row maximum is the join of all logits of the row. -/
theorem rowMax_le (sw : 𝕍 S1024x384 .bf16) (sc : 𝕍 S1024x256 .bf16) (sk : 𝕍 S1024x1 .f32) (ρ : Fin 1024) (u : EReal) :
    (rowMax sw sc sk (ix2 ρ 0) : EReal) ≤ u ↔
      (∀ κ, (sw (ix2 ρ κ) : EReal) ≤ u) ∧ (∀ κ, (sc (ix2 ρ κ) : EReal) ≤ u) ∧ (sk (ix2 ρ 0) : EReal) ≤ u := by
  unfold rowMax
  pointwise
  simp only [max_le_iff, Finset.fold_max_le]
  constructor
  · rintro ⟨⟨_, h⟩, hs⟩
    refine ⟨fun κ => ?_, fun κ => ?_, hs⟩
    · have hκ := κ.isLt
      have := h ⟨κ.val % 128, Nat.mod_lt _ (by decide)⟩ (Finset.mem_univ _)
      have h3 : κ.val / 128 = 0 ∨ κ.val / 128 = 1 ∨ κ.val / 128 = 2 := by omega
      rcases h3 with h3 | h3 | h3
      · convert this.1.1.1.1 using 3; apply Fin.ext; dsimp only; omega
      · convert this.1.1.1.2 using 3; apply Fin.ext; dsimp only; omega
      · convert this.1.1.2 using 3; apply Fin.ext; dsimp only; omega
    · have hκ := κ.isLt
      have := h ⟨κ.val % 128, Nat.mod_lt _ (by decide)⟩ (Finset.mem_univ _)
      have h3 : κ.val / 128 = 0 ∨ κ.val / 128 = 1 := by omega
      rcases h3 with h3 | h3
      · convert this.1.2 using 3; apply Fin.ext; dsimp only; omega
      · convert this.2 using 3; apply Fin.ext; dsimp only; omega
  · rintro ⟨hw, hc, hs⟩
    refine ⟨⟨?_, fun x _ => ⟨⟨⟨⟨hw _, hw _⟩, hw _⟩, hc _⟩, hc _⟩⟩, hs⟩
    rw [show Ideal.ofBits FTy.f32 4286578688#32 = ⊥ by simp [Ideal.ofBits, Ideal.ieee]]
    exact bot_le

/-- A row of the attention from its maximum and its logits: the weighted sums over the sum of the weights. -/
def rowOut (m : EReal) (X : Fin 384 → EReal) (C : Fin 256 → EReal) (S : EReal) (V : Fin 384 → EReal) (VC : Fin 256 → EReal) : EReal :=
  Ideal.div ((∑ κ, Ideal.exp2 (X κ - m) * V κ) + ∑ κ, Ideal.exp2 (C κ - m) * VC κ)
    ((∑ κ, Ideal.exp2 (X κ - m)) + (∑ κ, Ideal.exp2 (C κ - m)) + Ideal.exp2 (S - m))

/-- The normalised row, from the row's logits. -/
theorem normalised_apply (sw : 𝕍 S1024x384 .bf16) (sc : 𝕍 S1024x256 .bf16) (sk : 𝕍 S1024x1 .f32)
    (v : Fin 4 → 𝕍 S384x128 .bf16) (vc : 𝕍 S256x128 .bf16) (b : Fin 4) (w : Fin 256) (l : Fin 128) :
    normalised sw sc sk v vc (ix2 ⟨256 * b.val + w.val, by omega⟩ l)
      = rowOut (rowMax sw sc sk (ix2 ⟨256 * b.val + w.val, by omega⟩ 0)) (fun κ => sw (ix2 ⟨256 * b.val + w.val, by omega⟩ κ))
          (fun κ => sc (ix2 ⟨256 * b.val + w.val, by omega⟩ κ)) (sk (ix2 ⟨256 * b.val + w.val, by omega⟩ 0))
          (fun κ => v b (ix2 κ l)) (fun κ => vc (ix2 κ l)) := by
  have e (z : 𝕍 S1024x384 .bf16) (c : Fin 256) := windowSums_apply z v b w c
  have one (κ : Fin 384) : withOnes384 (v b) (ix2 κ 128) = (1 : EReal) := withOnes384_one _ κ
  have onec (κ : Fin 256) : withOnes256 vc (ix2 κ 128) = (1 : EReal) := withOnes256_one _ κ
  unfold normalised
  pointwise
  rw [e _ ⟨l.val, by omega⟩, e _ 128]
  simp only [one, onec, withOnes384_value, withOnes256_value, mul_one]
  pointwise
  rfl

/-- Eight pieces of 128 rows under each other, read at a row of one of them. -/
theorem eight_pieces {α : Type} (f : ℕ → Fin 128 → α) (p : ℕ) (hp : p < 8) (w : Fin 128) (x : ℕ) (hx : x = 128 * p + w.val) :
    (if h : x < 128 then f 0 ⟨x, h⟩ else if h : x - 128 < 128 then f 1 ⟨x - 128, h⟩ else
      if h : x - 128 - 128 < 128 then f 2 ⟨x - 128 - 128, h⟩ else
      if h : x - 128 - 128 - 128 < 128 then f 3 ⟨x - 128 - 128 - 128, h⟩ else
      if h : x - 128 - 128 - 128 - 128 < 128 then f 4 ⟨x - 128 - 128 - 128 - 128, h⟩ else
      if h : x - 128 - 128 - 128 - 128 - 128 < 128 then f 5 ⟨x - 128 - 128 - 128 - 128 - 128, h⟩ else
      if h : x - 128 - 128 - 128 - 128 - 128 - 128 < 128 then f 6 ⟨x - 128 - 128 - 128 - 128 - 128 - 128, h⟩ else
      f 7 ⟨x - 128 - 128 - 128 - 128 - 128 - 128 - 128, by omega⟩) = f p w := by
  subst hx
  split_ifs <;> (congr 1 <;> first | omega | (apply Fin.ext; dsimp only; omega))

/-- The band of a row is the band of its query block. -/
theorem band_apply (i : grid0.Coords) (b : Fin 4) (j : Fin 2) (r : Fin 128) (κ : Fin 384) :
    band i (ix2 ⟨256 * b.val + (128 * j.val + r.val), by omega⟩ κ) = bandOf i (BitVec.ofNat 32 b.val) (ix2 r κ) := by
  unfold band
  pointwise
  rw [show BitVec.ofNat 32 b.val = BitVec.ofNat 32 ((2 * b.val + j.val) / 2) by congr 1; omega]
  exact eight_pieces (fun p w => bandOf i (BitVec.ofNat 32 (p / 2)) (ix2 w κ)) (2 * b.val + j.val) (by omega) r _ (by omega)

/-- The first key of the window of query block `b` in the quarter `r`. -/
def start (r b : ℕ) : ℕ := min 1664 (128 * (4 * r + b - 1))

/-- The window's start, as the program computes it. -/
theorem startWord_eq (i : grid0.Coords) (b : Fin 4) :
    startWord i (BitVec.ofNat 32 b.val) = BitVec.ofNat 32 (start (i 1).val b.val) := by
  have key : ∀ r b : Fin 4, Scalar.minsi 1664#32 (Scalar.maxsi 0#32 (Scalar.muli
      (Scalar.subi (Scalar.addi (Scalar.muli (BitVec.ofNat 32 r.val) 4#32) (BitVec.ofNat 32 b.val)) 1#32) 128#32))
      = BitVec.ofNat 32 (start r.val b.val) := by decide +kernel
  exact key (i 1) b

/-- The distance test on 32-bit words is the test on numbers. -/
theorem near_word (r : Fin 128) (κ : Fin 384) (δ : ℕ) (hδ : δ ≤ 256) :
    IntOp.cmpi CmpIPredicate.sle (IntOp.absi (IntOp.addi (IntOp.subi (BitVec.ofNat 32 r.val) (BitVec.ofNat 32 κ.val))
      (BitVec.ofNat 32 δ))) 128#32 = if r.val + δ ≤ κ.val + 128 ∧ κ.val ≤ r.val + δ + 128 then 1#1 else 0#1 := by
  have key : ∀ n : Fin 1024, IntOp.cmpi CmpIPredicate.sle (IntOp.absi (BitVec.ofNat 32 n.val - 512#32)) 128#32
      = if n.val ≤ 640 ∧ 384 ≤ n.val then 1#1 else 0#1 := by decide +kernel
  have e : IntOp.addi (IntOp.subi (BitVec.ofNat 32 r.val) (BitVec.ofNat 32 κ.val)) (BitVec.ofNat 32 δ)
      = BitVec.ofNat 32 (r.val + δ + 512 - κ.val) - 512#32 := by
    show BitVec.ofNat 32 r.val - BitVec.ofNat 32 κ.val + BitVec.ofNat 32 δ = _
    apply BitVec.eq_of_toNat_eq
    simp only [BitVec.toNat_add, BitVec.toNat_sub, BitVec.toNat_ofNat]
    omega
  rw [e]
  have := key ⟨r.val + δ + 512 - κ.val, by omega⟩
  dsimp only at this
  rw [this]
  congr 1
  apply propext; omega

/-- The band is zero where the key is at most 128 positions from the query, minus infinity elsewhere. -/
theorem bandOf_apply (i : grid0.Coords) (b : Fin 4) (r : Fin 128) (κ : Fin 384) :
    bandOf i (BitVec.ofNat 32 b.val) (ix2 r κ) =
      if 128 * (4 * (i 1).val + b.val) + r.val ≤ start (i 1).val b.val + κ.val + 128 ∧
        start (i 1).val b.val + κ.val ≤ 128 * (4 * (i 1).val + b.val) + r.val + 128 then (0 : EReal) else ⊥ := by
  unfold bandOf k0_pay2
  pointwise
  rw [startWord_eq, mask_eq]
  have hi : (i 1).val < 4 := (i 1).isLt
  have e : ∀ r b : Fin 4, Scalar.subi (Scalar.muli (Scalar.addi (Scalar.muli (BitVec.ofNat 32 r.val) 4#32) (BitVec.ofNat 32 b.val)) 128#32)
      (BitVec.ofNat 32 (start r.val b.val)) = BitVec.ofNat 32 (128 * (4 * r.val + b.val) - start r.val b.val) := by decide +kernel
  have hs : start (i 1).val b.val ≤ 128 * (4 * (i 1).val + b.val) ∧ 128 * (4 * (i 1).val + b.val) ≤ start (i 1).val b.val + 256 := by
    unfold start; omega
  rw [e (i 1) b, near_word r κ _ (by omega)]
  split_ifs <;> first | rfl | (exfalso; omega)

/-- The head's lanes of a product of a split row: the other head's lanes contribute nothing. -/
theorem sum_head (f g : Fin 128 → EReal) (j : Fin 2) :
    (∑ l : Fin 128, (if l.val / 64 = j.val then f l else 0) * g l)
      = ∑ d : Fin 64, f ⟨64 * j.val + d.val, by omega⟩ * g ⟨64 * j.val + d.val, by omega⟩ := by
  rw [show (∑ l : Fin 128, (if l.val / 64 = j.val then f l else 0) * g l) = _ from
    Fin.sum_univ_add (a := 64) (b := 64) (fun l : Fin (64 + 64) => (if l.val / 64 = j.val then f l else 0) * g l)]
  have hj : j.val = 0 ∨ j.val = 1 := by omega
  rcases hj with h | h
  · rw [Finset.sum_eq_zero (s := Finset.univ (α := Fin 64)) (f := fun x => _ * g (Fin.natAdd 64 x)), add_zero]
    · refine Finset.sum_congr rfl fun d _ => ?_
      rw [if_pos (by show d.val / 64 = j.val; omega)]
      congr 2 <;> (apply Fin.ext; show d.val = 64 * j.val + d.val; omega)
    · intro d _
      rw [if_neg (by show ¬ (64 + d.val) / 64 = j.val; omega), zero_mul]
  · rw [Finset.sum_eq_zero (s := Finset.univ (α := Fin 64)) (f := fun x => _ * g (Fin.castAdd 64 x)), zero_add]
    · refine Finset.sum_congr rfl fun d _ => ?_
      rw [if_pos (by show (64 + d.val) / 64 = j.val; omega)]
      congr 2 <;> (apply Fin.ext; show 64 + d.val = 64 * j.val + d.val; omega)
    · intro d _
      rw [if_neg (by show ¬ d.val / 64 = j.val; omega), zero_mul]

/-- A query block's element. -/
theorem qBlock_apply (x : Vec Ideal S512x1024 .bf16) (p : Fin 8) (b : Fin 4) (r l : Fin 128) :
    qBlock x p b (ix2 r l) = x (ix2 ⟨128 * b.val + r.val, by omega⟩ ⟨128 * p.val + l.val, by omega⟩) := by
  unfold qBlock
  pointwise

/-- A window block's element. -/
theorem windowBlock_apply (i : grid0.Coords) (x : Vec Ideal S2048x512 .bf16) (p : Fin 8) (b : Fin 4) (κ : Fin 384) (l : Fin 128) :
    windowBlock i x p b (ix2 κ l) = x (ix2 ⟨start (i 1).val b.val + κ.val, by unfold start; omega⟩ ⟨128 * (p.val / 2) + l.val, by omega⟩) := by
  unfold windowBlock
  pointwise
  refine congrArg (fun a => x (ix2 a _)) (Fin.ext ?_)
  show (Scalar.indexCast (startWord i (BitVec.ofNat 32 b.val)) : Index).toNat + κ.val = start (i 1).val b.val + κ.val
  rw [startWord_eq]
  congr 1
  have key : ∀ r b : Fin 4, (Scalar.indexCast (BitVec.ofNat 32 (start r.val b.val)) : Index).toNat = start r.val b.val := by
    decide +kernel
  exact key (i 1) b

/-- A context block's element. -/
theorem contextBlock_apply (x : Vec Ideal S256x512 .bf16) (p : Fin 8) (κ : Fin 256) (l : Fin 128) :
    contextBlock x p (ix2 κ l) = x (ix2 κ ⟨128 * (p.val / 2) + l.val, by omega⟩) := by
  unfold contextBlock
  pointwise

/-- A sink's element. -/
theorem sinkAt_apply (x : Vec Ideal S16 .f32) (h : Fin 16) : sinkAt x h = x (ix1 h) := by
  unfold sinkAt
  pointwise

/-- The logit of a query and a key in base two: their product over the head's 64 lanes. -/
def dot64 (f g : Fin 64 → EReal) : EReal := ∑ d, f d * g d

/-- A stored element: some number that is the join of all logits of its row is the row's maximum, and the element is
the row's weighted sum over the sum of its weights. -/
theorem tile_apply (i : grid0.Coords) (x0 : Vec Ideal S16 .f32) (x1 : Vec Ideal S512x1024 .bf16)
    (x2 x3 : Vec Ideal S2048x512 .bf16) (x4 x5 : Vec Ideal S256x512 .bf16) (p : Fin 8) (b : Fin 4) (r : Fin 128) (j : Fin 2) (d : Fin 64)
    (X : Fin 384 → EReal) (C : Fin 256 → EReal) (S : EReal)
    (hX : ∀ κ, X κ = dot64 (fun d => x1 (ix2 ⟨128 * b.val + r.val, by omega⟩ ⟨128 * p.val + (64 * j.val + d.val), by omega⟩))
        (fun d => x2 (ix2 ⟨start (i 1).val b.val + κ.val, by unfold start; omega⟩ ⟨128 * (p.val / 2) + (64 * j.val + d.val), by omega⟩))
      + if 128 * (4 * (i 1).val + b.val) + r.val ≤ start (i 1).val b.val + κ.val + 128 ∧
        start (i 1).val b.val + κ.val ≤ 128 * (4 * (i 1).val + b.val) + r.val + 128 then (0 : EReal) else ⊥)
    (hC : ∀ κ, C κ = dot64 (fun d => x1 (ix2 ⟨128 * b.val + r.val, by omega⟩ ⟨128 * p.val + (64 * j.val + d.val), by omega⟩))
        (fun d => x4 (ix2 κ ⟨128 * (p.val / 2) + (64 * j.val + d.val), by omega⟩)))
    (hS : S = x0 (ix1 ⟨2 * p.val + j.val, by omega⟩) * (((Real.log 2)⁻¹ : ℝ) : EReal)) :
    ∃ m : EReal, (∀ u, m ≤ u ↔ (∀ κ, X κ ≤ u) ∧ (∀ κ, C κ ≤ u) ∧ S ≤ u) ∧
      tile i x0 x1 x2 x3 x4 x5 p b (ix2 r ⟨64 * j.val + d.val, by omega⟩) = rowOut m X C S
        (fun κ => x3 (ix2 ⟨start (i 1).val b.val + κ.val, by unfold start; omega⟩ ⟨128 * (p.val / 2) + (64 * j.val + d.val), by omega⟩))
        (fun κ => x5 (ix2 κ ⟨128 * (p.val / 2) + (64 * j.val + d.val), by omega⟩)) := by
  have hw : ∀ w : Fin 256, w.val = 128 * j.val + r.val → w = ⟨128 * j.val + r.val, by omega⟩ := fun w h => Fin.ext h
  unfold tile
  generalize hsw : truncf .bf16 (addf (windowLogits (qBlock x1 p) (windowBlock i x2 p)) (band i)) bitsLt_bf16_f32 = sw
  generalize hsc : truncf .bf16 (contextLogits (qBlock x1 p) (contextBlock x4 p)) bitsLt_bf16_f32 = sc
  generalize hsk : sinkLogits (sinkAt x0 ⟨2 * p.val, by omega⟩) (sinkAt x0 ⟨2 * p.val + 1, by omega⟩) = sk
  have eX (κ : Fin 384) : sw (ix2 ⟨256 * b.val + (128 * j.val + r.val), by omega⟩ κ) = X κ := by
    rw [hX, ← hsw]
    pointwise
    rw [band_apply, bandOf_apply]
    refine congrArg (· + _) ?_
    refine (windowLogits_apply _ _ b ⟨128 * j.val + r.val, by omega⟩ κ).trans ?_
    simp only [splitHeads_apply, qBlock_apply, windowBlock_apply]
    exact sum_head (fun l => x1 (ix2 ⟨128 * b.val + r.val, by omega⟩ ⟨128 * p.val + l.val, by omega⟩)) (fun l => x2 (ix2 ⟨start (i 1).val b.val + κ.val, by unfold start; omega⟩ ⟨128 * (p.val / 2) + l.val, by omega⟩)) j
  have eC (κ : Fin 256) : sc (ix2 ⟨256 * b.val + (128 * j.val + r.val), by omega⟩ κ) = C κ := by
    rw [hC, ← hsc]
    pointwise
    refine (contextLogits_apply _ _ b ⟨128 * j.val + r.val, by omega⟩ κ).trans ?_
    simp only [splitHeads_apply, qBlock_apply, contextBlock_apply]
    exact sum_head (fun l => x1 (ix2 ⟨128 * b.val + r.val, by omega⟩ ⟨128 * p.val + l.val, by omega⟩)) (fun l => x4 (ix2 κ ⟨128 * (p.val / 2) + l.val, by omega⟩)) j
  have eS : sk (ix2 ⟨256 * b.val + (128 * j.val + r.val), by omega⟩ 0) = S := by
    rw [hS, ← hsk]
    refine (sinkLogits_apply (fun j => sinkAt x0 ⟨2 * p.val + j.val, by omega⟩) b j r).trans ?_
    rw [sinkAt_apply]
  refine ⟨rowMax sw sc sk (ix2 ⟨256 * b.val + (128 * j.val + r.val), by omega⟩ 0), fun u => ?_, ?_⟩
  · rw [rowMax_le]; simp only [eX, eC, eS]
  · rw [mergeHeads_apply, show (⟨128 * ((⟨64 * j.val + d.val, by omega⟩ : Fin 128).val / 64) + r.val, by dsimp only; omega⟩ : Fin 256) = ⟨128 * j.val + r.val, by omega⟩ from Fin.ext (by dsimp only; omega), blockRows_apply]
    rw [normalised_apply sw sc sk _ _ b ⟨128 * j.val + r.val, by omega⟩]
    simp only [eX, eC, eS, windowBlock_apply, contextBlock_apply]
end Cert.WaProof
-- ==== Proof.WaReferenceRows.lean ====
module
public import proofs.«01_k».proof.Proof.Gen.WaReferenceIdeal.Read
public import Idealize.ShloMosaic.Lib.Pointwise
@[expose] public section
set_option maxRecDepth 16384
noncomputable section

/-! The reference of the windowed attention, each stage read at an index. -/

namespace Cert.WaProof.Ref
open Cert.WaReferenceIdeal Cert.WaReferenceIdeal.Gen Cert.WaReferenceIdeal.Read Idealize.ShloMosaic Idealize.ShloMosaic.TcCoe Idealize.SL.Sem
open Idealize.ShloMosaic.Pointwise
local notation "𝕍" => FVec Ideal

/-- A query's element. -/
theorem query_apply (x : 𝕍 S18432x1024 .bf16) (s : Fin 8) (n : Fin 2048) (h : Fin 16) (d : Fin 64) :
    val_main_v3 (F := Ideal) x (ix4 s n h d) = x (ix2 ⟨2048 * s.val + n.val, by omega⟩ ⟨64 * h.val + d.val, by omega⟩) := by
  unfold val_main_v3 val_main_v2 val_main_v1
  pointwise
  exact congrArg₂ (fun a b => x (ix2 a b)) (Fin.ext (by dsimp only; omega)) (Fin.ext (by dsimp only; omega))

/-- A latent key's element. -/
theorem key_apply (x : 𝕍 S18432x512 .bf16) (s : Fin 8) (n : Fin 2048) (h : Fin 16) (d : Fin 64) :
    val_main_v8 (F := Ideal) x (ix4 s n h d)
      = x (ix2 ⟨2048 * s.val + n.val, by omega⟩ ⟨128 * (h.val / 4) + 64 * (h.val % 2) + d.val, by omega⟩) := by
  unfold val_main_v8 val_main_v7 val_main_v6 val_main_v5 val_main_v4
  pointwise
  exact congrArg₂ (fun a b => x (ix2 a b)) (Fin.ext (by dsimp only; omega)) (Fin.ext (by dsimp only; omega))

/-- A context key's element. -/
theorem contextKey_apply (x : 𝕍 S18432x512 .bf16) (s : Fin 8) (n : Fin 256) (h : Fin 16) (d : Fin 64) :
    val_main_v13 (F := Ideal) x (ix4 s n h d)
      = x (ix2 ⟨16384 + 256 * s.val + n.val, by omega⟩ ⟨128 * (h.val / 4) + 64 * (h.val % 2) + d.val, by omega⟩) := by
  unfold val_main_v13 val_main_v12 val_main_v11 val_main_v10 val_main_v9
  pointwise
  exact congrArg₂ (fun a b => x (ix2 a b)) (Fin.ext (by dsimp only; omega)) (Fin.ext (by dsimp only; omega))

/-- The window test. -/
theorem near_apply (n κ : Fin 2048) : val_main_v32 (F := Ideal) (ix2 n κ)
     = if n.val ≤ κ.val + 128 ∧ κ.val ≤ n.val + 128 then 1#1 else 0#1 := by
  unfold val_main_v32 val_main_v31 val_main_v30 val_main_v29 val_main_v28 val_main_v27 val_main_v26 val_main_v25 val_main_v24 val_main_c
  pointwise
  have key : ∀ m : Fin 4096, IntOp.cmpi CmpIPredicate.sle (IntOp.absi (BitVec.ofNat 32 m.val - 2048#32)) 128#32
      = if m.val ≤ 2176 ∧ 1920 ≤ m.val then 1#1 else 0#1 := by decide +kernel
  have e : IntOp.subi (BitVec.ofNat 32 n.val) (BitVec.ofNat 32 κ.val) = BitVec.ofNat 32 (n.val + 2048 - κ.val) - 2048#32 := by
    show BitVec.ofNat 32 n.val - BitVec.ofNat 32 κ.val = _
    apply BitVec.eq_of_toNat_eq
    simp only [BitVec.toNat_sub, BitVec.toNat_ofNat]
    omega
  rw [e]
  have := key ⟨n.val + 2048 - κ.val, by omega⟩
  dsimp only at this
  rw [this]
  congr 1
  apply propext; omega

/-- The constant two's logarithm. -/
theorem log_two : Ideal.log (Ideal.ofBits FTy.f32 1073741824#32) = ((Real.log 2 : ℝ) : EReal) := by
  rw [show Ideal.ofBits FTy.f32 1073741824#32 = ((2 : ℝ) : EReal) by simp [Ideal.ofBits, Ideal.ieee, -EReal.coe_mul]; norm_num]
  show (if (2 : ℝ) ≤ 0 then (⊥ : EReal) else ((Real.log 2 : ℝ) : EReal)) = _
  rw [if_neg (by norm_num)]

/-- The constant that masks. -/
theorem neg_inf : Ideal.ofBits FTy.f32 4286578688#32 = ⊥ := by simp [Ideal.ofBits, Ideal.ieee]

/-- The window logit: the product scaled, minus infinity outside the window. -/
theorem windowLogit_apply (x1 : 𝕍 S18432x1024 .bf16) (x2 : 𝕍 S18432x512 .bf16) (s : Fin 8) (h : Fin 16) (n κ : Fin 2048) :
    val_main_v36 (F := Ideal) x1 x2 (ix4 s h n κ) = if n.val ≤ κ.val + 128 ∧ κ.val ≤ n.val + 128 then
      (∑ d : Fin 64, (x1 (ix2 ⟨2048 * s.val + n.val, by omega⟩ ⟨64 * h.val + d.val, by omega⟩) : EReal)
        * x2 (ix2 ⟨2048 * s.val + κ.val, by omega⟩ ⟨128 * (h.val / 4) + 64 * (h.val % 2) + d.val, by omega⟩)) * ((Real.log 2 : ℝ) : EReal)
      else ⊥ := by
  unfold val_main_v36 val_main_call0_v2 val_main_call0_v1 val_main_call0_v0 val_main_cst_0 val_main_v35 val_main_v34 val_main_v33 val_main_v0 val_main_cst
  pointwise
  rw [near_apply, log_two]
  simp only [query_apply, key_apply]
  split_ifs
  · rfl
  · exact neg_inf

/-- The context logit: the product scaled. -/
theorem contextLogit_apply (x1 : 𝕍 S18432x1024 .bf16) (x2 : 𝕍 S18432x512 .bf16) (s : Fin 8) (h : Fin 16) (n : Fin 2048) (κ : Fin 256) :
    val_main_v39 (F := Ideal) x1 x2 (ix4 s h n κ) =
      (∑ d : Fin 64, (x1 (ix2 ⟨2048 * s.val + n.val, by omega⟩ ⟨64 * h.val + d.val, by omega⟩) : EReal)
        * x2 (ix2 ⟨16384 + 256 * s.val + κ.val, by omega⟩ ⟨128 * (h.val / 4) + 64 * (h.val % 2) + d.val, by omega⟩)) * ((Real.log 2 : ℝ) : EReal) := by
  unfold val_main_v39 val_main_v38 val_main_v37 val_main_v0 val_main_cst
  pointwise
  rw [log_two]
  simp only [query_apply, contextKey_apply]

/-- The sink logit. -/
theorem sinkLogit_apply (x0 : 𝕍 S16 .f32) (s : Fin 8) (h : Fin 16) (n : Fin 2048)  :
    val_main_v41 (F := Ideal) x0 (ix4 s h n 0) = x0 (ix1 h) := by
  unfold val_main_v41 val_main_v40
  pointwise

/-- A latent value's element. -/
theorem value_apply (x : 𝕍 S18432x512 .bf16) (s : Fin 8) (n : Fin 2048) (h : Fin 16) (d : Fin 64) :
    val_main_v18 (F := Ideal) x (ix4 s n h d)
      = x (ix2 ⟨2048 * s.val + n.val, by omega⟩ ⟨128 * (h.val / 4) + 64 * (h.val % 2) + d.val, by omega⟩) :=
  key_apply x s n h d

/-- A context value's element. -/
theorem contextValue_apply (x : 𝕍 S18432x512 .bf16) (s : Fin 8) (n : Fin 256) (h : Fin 16) (d : Fin 64) :
    val_main_v23 (F := Ideal) x (ix4 s n h d)
      = x (ix2 ⟨16384 + 256 * s.val + n.val, by omega⟩ ⟨128 * (h.val / 4) + 64 * (h.val % 2) + d.val, by omega⟩) :=
  contextKey_apply x s n h d

/-- The logits' row: window, context, sink. -/
theorem logits_apply (x0 : 𝕍 S16 .f32) (x1 : 𝕍 S18432x1024 .bf16) (x2 : 𝕍 S18432x512 .bf16) (s : Fin 8) (h : Fin 16) (n : Fin 2048) (κ : Fin 2305) :
    val_main_v42 (F := Ideal) x0 x1 x2 (ix4 s h n κ) = if h1 : κ.val < 2048 then val_main_v36 (F := Ideal) x1 x2 (ix4 s h n ⟨κ.val, h1⟩)
      else if h2 : κ.val - 2048 < 256 then val_main_v39 (F := Ideal) x1 x2 (ix4 s h n ⟨κ.val - 2048, h2⟩)
      else val_main_v41 (F := Ideal) x0 (ix4 s h n 0) := by
  unfold val_main_v42
  pointwise
  exact dite_congr rfl (fun _ => rfl) fun h1 => dite_congr rfl (fun _ => rfl) fun h2 =>
    congrArg (fun a => val_main_v41 (F := Ideal) x0 (ix4 s h n a)) (Fin.ext (by
      have := κ.isLt
      show κ.val - 2048 - 256 = 0
      omega))

/-- The maximum of a row of 2305 numbers. -/
theorem fold_apply (y : 𝕍 S8x16x2048x2305 .f32) (c : 𝕍 S_ .f32) (s : Fin 8) (h : Fin 16) (n : Fin 2048) :
    Host.reduce FloatOps.maximumf y c reducesTo_S8x16x2048x2305_S8x16x2048_d3 h_S_ (ix3 s h n)
     = Finset.fold max (c (Shape.Idx.first h_S_)) (fun κ => y (ix4 s h n κ)) Finset.univ := by
  pointwise

/-- The row's maximum. -/
theorem max_apply (x0 : 𝕍 S16 .f32) (x1 : 𝕍 S18432x1024 .bf16) (x2 : 𝕍 S18432x512 .bf16) (s : Fin 8) (h : Fin 16) (n : Fin 2048) (u : EReal) :
    val_main_v45 (F := Ideal) x0 x1 x2 (ix3 s h n) ≤ u ↔ ∀ κ, val_main_v42 (F := Ideal) x0 x1 x2 (ix4 s h n κ) ≤ u := by
  have e1 : val_main_v44 (F := Ideal) (ix3 s h n) = (⊥ : EReal) := by
    unfold val_main_v44 val_main_cst_2
    pointwise
    exact neg_inf
  have e2 : val_main_v43 (F := Ideal) x0 x1 x2 (ix3 s h n)
      = Finset.fold max (⊥ : EReal) (fun κ => (val_main_v42 (F := Ideal) x0 x1 x2 (ix4 s h n κ) : EReal)) Finset.univ := by
    unfold val_main_v43
    generalize val_main_v42 (F := Ideal) x0 x1 x2 = y
    rw [fold_apply, val_main_cst_1_apply]
    exact congrArg (fun c => Finset.fold max c _ _) neg_inf
  rw [val_main_v45_apply, Ideal.maximumf_def, e1, e2, max_le_iff, Finset.fold_max_le]
  exact ⟨fun h κ => h.2.2 κ (Finset.mem_univ _), fun h => ⟨bot_le, bot_le, fun κ _ => h κ⟩⟩

/-- A row of the softmax applied to values, from its maximum and its logits. -/
def rowOut (M : EReal) (X : Fin 2048 → EReal) (C : Fin 256 → EReal) (S : EReal) (V : Fin 2048 → EReal) (VC : Fin 256 → EReal) : EReal :=
  let L := (∑ κ, Ideal.exp (X κ - M)) + (∑ κ, Ideal.exp (C κ - M)) + Ideal.exp (S - M)
  (∑ κ, V κ * Ideal.div (Ideal.exp (X κ - M)) L) + ∑ κ, VC κ * Ideal.div (Ideal.exp (C κ - M)) L

/-- A sum over the keys of a row is the sum over the window keys, the context keys and the sink. -/
theorem sum_keys (f : Fin 2305 → EReal) : (∑ κ, f κ)
    = (∑ κ : Fin 2048, f ⟨κ.val, by omega⟩) + (∑ κ : Fin 256, f ⟨2048 + κ.val, by omega⟩) + f ⟨2304, by omega⟩ := by
  rw [show (∑ κ, f κ) = _ from Fin.sum_univ_add (a := 2304) (b := 1) f,
    show (∑ κ : Fin 2304, f (Fin.castAdd 1 κ)) = _ from Fin.sum_univ_add (a := 2048) (b := 256) fun κ => f (Fin.castAdd 1 κ)]
  rw [Fin.sum_univ_one]
  rfl

/-- A weight. -/
theorem weight_apply (x0 : 𝕍 S16 .f32) (x1 : 𝕍 S18432x1024 .bf16) (x2 : 𝕍 S18432x512 .bf16) (s : Fin 8) (h : Fin 16) (n : Fin 2048) (κ : Fin 2305) :
    val_main_v53 (F := Ideal) x0 x1 x2 (ix4 s h n κ)
      = Ideal.div (Ideal.exp (val_main_v42 (F := Ideal) x0 x1 x2 (ix4 s h n κ) - val_main_v45 (F := Ideal) x0 x1 x2 (ix3 s h n)))
        (∑ x, Ideal.exp (val_main_v42 (F := Ideal) x0 x1 x2 (ix4 s h n x) - val_main_v45 (F := Ideal) x0 x1 x2 (ix3 s h n))) := by
  unfold val_main_v53 val_main_v52 val_main_v51 val_main_v50 val_main_v49 val_main_v48 val_main_v47 val_main_v46 val_main_cst_3
  pointwise

/-- The result: some number that is the join of the row's logits is its maximum, and the element is the row's softmax applied to the values. -/
theorem result_apply (x0 : 𝕍 S16 .f32) (x1 : 𝕍 S18432x1024 .bf16) (x2 x3 : 𝕍 S18432x512 .bf16) (s : Fin 8) (h : Fin 16) (n : Fin 2048) (d : Fin 64)
    (X : Fin 2048 → EReal) (C : Fin 256 → EReal) (S : EReal)
    (hX : ∀ κ, val_main_v36 (F := Ideal) x1 x2 (ix4 s h n κ) = X κ) (hC : ∀ κ, val_main_v39 (F := Ideal) x1 x2 (ix4 s h n κ) = C κ) (hS : x0 (ix1 h) = S) :
    ∃ M : EReal, (∀ u, M ≤ u ↔ (∀ κ, X κ ≤ u) ∧ (∀ κ, C κ ≤ u) ∧ S ≤ u) ∧
    val_main_v62 (F := Ideal) x0 x1 x2 x3 (ix2 ⟨2048 * s.val + n.val, by omega⟩ ⟨64 * h.val + d.val, by omega⟩)
      = rowOut M X C S (fun κ => x3 (ix2 ⟨2048 * s.val + κ.val, by omega⟩ ⟨128 * (h.val / 4) + 64 * (h.val % 2) + d.val, by omega⟩))
          (fun κ => x3 (ix2 ⟨16384 + 256 * s.val + κ.val, by omega⟩ ⟨128 * (h.val / 4) + 64 * (h.val % 2) + d.val, by omega⟩)) := by
  have l1 (κ : Fin 2048) : val_main_v42 (F := Ideal) x0 x1 x2 (ix4 s h n ⟨κ.val, by omega⟩) = X κ := by
    rw [logits_apply, dif_pos κ.isLt]; exact hX κ
  have l2 (κ : Fin 256) : val_main_v42 (F := Ideal) x0 x1 x2 (ix4 s h n ⟨2048 + κ.val, by omega⟩) = C κ := by
    rw [logits_apply, dif_neg (by dsimp only; omega), dif_pos (by dsimp only; omega), ← hC]
    exact congrArg (fun a => val_main_v39 (F := Ideal) x1 x2 (ix4 s h n a)) (Fin.ext (by dsimp only; omega))
  have l3 : val_main_v42 (F := Ideal) x0 x1 x2 (ix4 s h n ⟨2304, by omega⟩) = S := by
    rw [logits_apply, dif_neg (by dsimp only; omega), dif_neg (by dsimp only; omega), sinkLogit_apply, hS]
  refine ⟨val_main_v45 (F := Ideal) x0 x1 x2 (ix3 s h n), fun u => ?_, ?_⟩
  · rw [max_apply]
    constructor
    · intro H
      exact ⟨fun κ => l1 κ ▸ H _, fun κ => l2 κ ▸ H _, l3 ▸ H _⟩
    · rintro ⟨h1, h2, h3⟩ κ
      by_cases a : κ.val < 2048
      · exact (l1 ⟨κ.val, a⟩).le.trans (h1 _)
      · by_cases b : κ.val - 2048 < 256
        · have e : κ = ⟨2048 + (⟨κ.val - 2048, b⟩ : Fin 256).val, by dsimp only; omega⟩ := Fin.ext (by dsimp only; omega)
          rw [e]
          exact (l2 ⟨κ.val - 2048, b⟩).le.trans (h2 _)
        · have e : κ = ⟨2304, by omega⟩ := Fin.ext (by have := κ.isLt; dsimp only; omega)
          rw [e]
          exact l3.le.trans h3
  · unfold val_main_v62 val_main_v61 val_main_v60 val_main_v59 val_main_v58 val_main_v57 val_main_v56 val_main_v55 val_main_v54
    pointwise
    simp only [weight_apply, value_apply, contextValue_apply]
    rw [sum_keys]
    simp only [l1, l2, l3]
    rfl

end Cert.WaProof.Ref
-- ==== Proof.WaSoftmax.lean ====
module
public import proofs.«01_k».proof.Proof.WaRows
public import proofs.«01_k».proof.Proof.WaReferenceRows
public import Idealize.ShloMosaic.Lib.FinSumWindow
@[expose] public section
noncomputable section

/-! The windowed softmax in base two over the 384 keys of a window is the softmax in base e over all 2048 keys. -/

namespace Cert.WaProof
open Idealize.ShloMosaic

/-- The sum of coercions is the coercion of the sum. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- A nonnegative real factor moves into a sum. -/
theorem sum_mul_real {ι : Type} (t : Finset ι) (f : ι → EReal) (r : ℝ) (hr : 0 ≤ r) :
    (∑ k ∈ t, f k) * (r : EReal) = ∑ k ∈ t, f k * (r : EReal) := by
  classical
  induction t using Finset.induction_on with
  | empty => simp
  | insert a t ha ih =>
    rw [Finset.sum_insert ha, Finset.sum_insert ha, EReal.right_distrib_of_nonneg_of_ne_top (by exact_mod_cast hr) (EReal.coe_ne_top r), ih]

/-- A quotient by a nonzero real is a product with its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The exponential in base e of a difference of scaled logits is the power of two of the difference of the logits. -/
theorem exp_scaled (x μ : ℝ) : Ideal.exp (((x * Real.log 2 : ℝ) : EReal) - ((μ * Real.log 2 : ℝ) : EReal)) = (((2 : ℝ) ^ (x - μ) : ℝ) : EReal) := by
  rw [← EReal.coe_sub, ← sub_mul]
  show ((Real.exp ((x - μ) * Real.log 2) : ℝ) : EReal) = _
  rw [Real.rpow_def_of_pos two_pos, mul_comm]

/-- The power of two of a difference of reals. -/
theorem exp2_real (x μ : ℝ) : Ideal.exp2 ((x : EReal) - (μ : EReal)) = (((2 : ℝ) ^ (x - μ) : ℝ) : EReal) := by
  rw [← EReal.coe_sub]
  rfl

/-- Minus infinity less a real has exponential zero. -/
theorem exp_bot_sub (μ : ℝ) : Ideal.exp ((⊥ : EReal) - (μ : EReal)) = 0 := by
  rw [EReal.bot_sub]; rfl

/-- Minus infinity less a real has power of two zero. -/
theorem exp2_bot_sub (μ : ℝ) : Ideal.exp2 ((⊥ : EReal) - (μ : EReal)) = 0 := by
  rw [EReal.bot_sub]; rfl

/-- A join of logits that are at most some real, one of them real, is a real. -/
theorem join_real (m : EReal) (y B : ℝ) (h1 : (y : EReal) ≤ m) (h2 : m ≤ (B : EReal)) : ∃ μ : ℝ, m = (μ : EReal) := by
  induction m with
  | bot => exact absurd h1 (by simp)
  | top => exact absurd h2 (by simp)
  | coe r => exact ⟨r, rfl⟩

/-- The two maxima: the natural one is the one in base two, scaled. -/
theorem max_scaled (lo : ℕ) (hlo : lo + 384 ≤ 2048) (near : Fin 2048 → Prop) [DecidablePred near]
    (hn : ∀ κ, near κ → lo ≤ κ.val ∧ κ.val < lo + 384) (a : Fin 2048 → ℝ) (c : Fin 256 → ℝ) (s : ℝ) (m M : EReal)
    (hm : ∀ u, m ≤ u ↔ (∀ κ : Fin 384, (a ⟨lo + κ.val, by omega⟩ : EReal) + (if near ⟨lo + κ.val, by omega⟩ then 0 else ⊥) ≤ u)
      ∧ (∀ κ, (c κ : EReal) ≤ u) ∧ (s : EReal) * (((Real.log 2)⁻¹ : ℝ) : EReal) ≤ u)
    (hM : ∀ u, M ≤ u ↔ (∀ κ, (if near κ then (a κ : EReal) * ((Real.log 2 : ℝ) : EReal) else ⊥) ≤ u)
      ∧ (∀ κ, (c κ : EReal) * ((Real.log 2 : ℝ) : EReal) ≤ u) ∧ (s : EReal) ≤ u) :
    ∃ μ : ℝ, m = (μ : EReal) ∧ M = ((μ * Real.log 2 : ℝ) : EReal) := by
  have hl : 0 < Real.log 2 := Real.log_pos (by norm_num)
  have key : ∀ u : ℝ, m ≤ (u : EReal) ↔ M ≤ ((u * Real.log 2 : ℝ) : EReal) := by
    intro u
    rw [hm, hM]
    refine and_congr ⟨fun H κ => ?_, fun H κ => ?_⟩ (and_congr (forall_congr' fun κ => ?_) ?_)
    · by_cases h : near κ
      · rw [if_pos h, ← EReal.coe_mul, EReal.coe_le_coe_iff]
        have hb := hn κ h
        have e : (⟨lo + (⟨κ.val - lo, by omega⟩ : Fin 384).val, by dsimp only; omega⟩ : Fin 2048) = κ := Fin.ext (by dsimp only; omega)
        have := H ⟨κ.val - lo, by omega⟩
        rw [e, if_pos h, add_zero, EReal.coe_le_coe_iff] at this
        exact mul_le_mul_of_nonneg_right this hl.le
      · rw [if_neg h]; exact bot_le
    · by_cases h : near ⟨lo + κ.val, by omega⟩
      · rw [if_pos h, add_zero, EReal.coe_le_coe_iff]
        have := H ⟨lo + κ.val, by omega⟩
        rw [if_pos h, ← EReal.coe_mul, EReal.coe_le_coe_iff] at this
        exact le_of_mul_le_mul_right this hl
      · rw [if_neg h, EReal.add_bot]; exact bot_le
    · rw [← EReal.coe_mul, EReal.coe_le_coe_iff, EReal.coe_le_coe_iff]
      exact (mul_le_mul_iff_of_pos_right hl).symm
    · rw [← EReal.coe_mul, EReal.coe_le_coe_iff, EReal.coe_le_coe_iff, ← div_eq_mul_inv, div_le_iff₀ hl]
  have mc := ((hm m).1 le_rfl).2.1 0
  have Mc := ((hM M).1 le_rfl).2.1 0
  rw [← EReal.coe_mul] at Mc
  have hB : m ≤ ((∑ κ, |a κ| + ∑ κ, |c κ| + |s * (Real.log 2)⁻¹| : ℝ) : EReal) := by
    have ha : 0 ≤ ∑ κ, |a κ| := Finset.sum_nonneg fun κ _ => abs_nonneg (a κ)
    have hc : 0 ≤ ∑ κ, |c κ| := Finset.sum_nonneg fun κ _ => abs_nonneg (c κ)
    have hs := abs_nonneg (s * (Real.log 2)⁻¹)
    rw [hm]
    refine ⟨fun κ => ?_, fun κ => ?_, ?_⟩
    · split_ifs
      · rw [add_zero, EReal.coe_le_coe_iff]
        have := Finset.single_le_sum (f := fun κ => |a κ|) (fun κ _ => abs_nonneg (a κ)) (Finset.mem_univ ⟨lo + κ.val, by omega⟩)
        have := le_abs_self (a ⟨lo + κ.val, by omega⟩)
        linarith
      · rw [EReal.add_bot]; exact bot_le
    · rw [EReal.coe_le_coe_iff]
      have := Finset.single_le_sum (f := fun κ => |c κ|) (fun κ _ => abs_nonneg (c κ)) (Finset.mem_univ κ)
      have := le_abs_self (c κ)
      linarith
    · rw [← EReal.coe_mul, EReal.coe_le_coe_iff]
      have := le_abs_self (s * (Real.log 2)⁻¹)
      linarith
  obtain ⟨μ, rfl⟩ := join_real m _ _ mc hB
  obtain ⟨ν, rfl⟩ := join_real M _ _ Mc ((key _).1 le_rfl)
  refine ⟨μ, rfl, ?_⟩
  have h1 := (key μ).1 le_rfl
  have h2 := (key (ν / Real.log 2)).2 (by rw [div_mul_cancel₀ _ hl.ne'])
  rw [EReal.coe_le_coe_iff] at h1 h2
  rw [le_div_iff₀ hl] at h2
  rw [le_antisymm h1 h2]

/-- A row of the windowed attention in base two over the window's keys is the row of the softmax over all keys. -/
theorem rowOut_eq (lo : ℕ) (hlo : lo + 384 ≤ 2048) (near : Fin 2048 → Prop) [DecidablePred near]
    (hn : ∀ κ, near κ → lo ≤ κ.val ∧ κ.val < lo + 384) (a : Fin 2048 → ℝ) (c : Fin 256 → ℝ) (s : ℝ) (m M : EReal)
    (V : Fin 2048 → EReal) (VC : Fin 256 → EReal)
    (hm : ∀ u, m ≤ u ↔ (∀ κ : Fin 384, (a ⟨lo + κ.val, by omega⟩ : EReal) + (if near ⟨lo + κ.val, by omega⟩ then 0 else ⊥) ≤ u)
      ∧ (∀ κ, (c κ : EReal) ≤ u) ∧ (s : EReal) * (((Real.log 2)⁻¹ : ℝ) : EReal) ≤ u)
    (hM : ∀ u, M ≤ u ↔ (∀ κ, (if near κ then (a κ : EReal) * ((Real.log 2 : ℝ) : EReal) else ⊥) ≤ u)
      ∧ (∀ κ, (c κ : EReal) * ((Real.log 2 : ℝ) : EReal) ≤ u) ∧ (s : EReal) ≤ u) :
    rowOut m (fun κ => (a ⟨lo + κ.val, by omega⟩ : EReal) + (if near ⟨lo + κ.val, by omega⟩ then 0 else ⊥)) (fun κ => (c κ : EReal))
        ((s : EReal) * (((Real.log 2)⁻¹ : ℝ) : EReal)) (fun κ => V ⟨lo + κ.val, by omega⟩) VC
      = Ref.rowOut M (fun κ => if near κ then (a κ : EReal) * ((Real.log 2 : ℝ) : EReal) else ⊥) (fun κ => (c κ : EReal) * ((Real.log 2 : ℝ) : EReal))
        (s : EReal) V VC := by
  have hl : 0 < Real.log 2 := Real.log_pos (by norm_num)
  obtain ⟨μ, rfl, rfl⟩ := max_scaled lo hlo near hn a c s m M hm hM
  set w : Fin 2048 → ℝ := fun κ => if near κ then (2 : ℝ) ^ (a κ - μ) else 0 with hw
  set wc : Fin 256 → ℝ := fun κ => (2 : ℝ) ^ (c κ - μ) with hwc
  set ws : ℝ := (2 : ℝ) ^ (s * (Real.log 2)⁻¹ - μ) with hws
  have k1 (κ : Fin 384) : Ideal.exp2 ((a ⟨lo + κ.val, by omega⟩ : EReal) + (if near ⟨lo + κ.val, by omega⟩ then 0 else ⊥) - (μ : EReal))
      = (w ⟨lo + κ.val, by omega⟩ : EReal) := by
    rw [hw]; dsimp only
    split_ifs
    · rw [add_zero, exp2_real]
    · rw [EReal.add_bot, exp2_bot_sub, EReal.coe_zero]
  have k2 (κ : Fin 256) : Ideal.exp2 ((c κ : EReal) - (μ : EReal)) = (wc κ : EReal) := exp2_real _ _
  have k3 : Ideal.exp2 ((s : EReal) * (((Real.log 2)⁻¹ : ℝ) : EReal) - (μ : EReal)) = (ws : EReal) := by
    rw [← EReal.coe_mul]; exact exp2_real _ _
  have r1 (κ : Fin 2048) : Ideal.exp ((if near κ then (a κ : EReal) * ((Real.log 2 : ℝ) : EReal) else ⊥) - ((μ * Real.log 2 : ℝ) : EReal))
      = (w κ : EReal) := by
    rw [hw]; dsimp only
    split_ifs
    · rw [← EReal.coe_mul, exp_scaled]
    · rw [exp_bot_sub, EReal.coe_zero]
  have r2 (κ : Fin 256) : Ideal.exp ((c κ : EReal) * ((Real.log 2 : ℝ) : EReal) - ((μ * Real.log 2 : ℝ) : EReal)) = (wc κ : EReal) := by
    rw [← EReal.coe_mul, exp_scaled]
  have r3 : Ideal.exp ((s : EReal) - ((μ * Real.log 2 : ℝ) : EReal)) = (ws : EReal) := by
    rw [show s = (s * (Real.log 2)⁻¹) * Real.log 2 by field_simp, exp_scaled, hws]
  have off (P : Fin 2048) (h : ¬(lo ≤ P.val ∧ P.val < lo + 384)) : w P = 0 := by
    rw [hw]; exact if_neg fun hP => h (hn P hP)
  have sw : (∑ κ, w κ) = ∑ κ : Fin 384, w ⟨lo + κ.val, by omega⟩ := FinSumWindow.sum_window lo hlo w off
  have sv : (∑ κ, V κ * (w κ : EReal)) = ∑ κ : Fin 384, V ⟨lo + κ.val, by omega⟩ * (w ⟨lo + κ.val, by omega⟩ : EReal) :=
    FinSumWindow.sum_window lo hlo (fun κ => V κ * (w κ : EReal)) fun P h => by rw [off P h, EReal.coe_zero, mul_zero]
  have pos : 0 < (∑ κ, w κ) + (∑ κ, wc κ) + ws := by
    have h1 : 0 ≤ ∑ κ, w κ := Finset.sum_nonneg fun κ _ => by
      rw [hw]; dsimp only; split_ifs
      · positivity
      · exact le_rfl
    have h2 : 0 ≤ ∑ κ, wc κ := Finset.sum_nonneg fun κ _ => by rw [hwc]; positivity
    have h3 : 0 < ws := by rw [hws]; positivity
    linarith
  unfold rowOut Ref.rowOut
  simp only [k1, k2, k3, r1, r2, r3]
  rw [coe_sum, coe_sum, coe_sum, ← sw, ← EReal.coe_add, ← EReal.coe_add]
  generalize (∑ κ, w κ) + (∑ κ, wc κ) + ws = ℓ at pos
  have hi : 0 ≤ ℓ⁻¹ := (inv_pos.2 pos).le
  simp only [div_real _ ℓ pos.ne']
  simp only [← mul_assoc]
  rw [← sum_mul_real _ _ _ hi, ← sum_mul_real _ _ _ hi, sv,
    ← EReal.right_distrib_of_nonneg_of_ne_top (by exact_mod_cast hi) (EReal.coe_ne_top _)]
  simp only [mul_comm (V _), mul_comm (VC _)]

end Cert.WaProof
-- ==== Proof.WaValue.lean ====
module
public import proofs.«01_k».proof.Defs
public import proofs.«01_k».proof.Proof.WaSoftmax
public import proofs.«01_k».proof.Proof.Gen.Pre_wa_finite
@[expose] public section
set_option maxRecDepth 16384
noncomputable section

/-! The array the windowed attention leaves is the reference's, from finite sinks, queries and keys. -/

namespace Cert.WaProof
open Cert.WaKernelIdeal Cert.WaKernelIdeal.Gen Idealize.ShloMosaic Idealize.ShloMosaic.TcCoe Idealize.SL.Sem
open Idealize.ShloMosaic.Pointwise
local notation "𝕍" => FVec Ideal

/-- Two places of a rectangle with the same row and column numbers hold the same element. -/
theorem same_place {α : Type} {M N : ℕ} (x : Shape.Idx ⟨2, ![M, N]⟩ → α) {a a' : Fin M} {b b' : Fin N} (h : a.val = a'.val) (h' : b.val = b'.val) :
    x (ix2 a b) = x (ix2 a' b') := by
  rw [Fin.ext h, Fin.ext h']

/-- Every element is a real number. -/
def AllReal {s : Shape} {φ : FTy} (x : 𝕍 s φ) : Prop := ∀ i, ∃ r : ℝ, (x i : EReal) = (r : EReal)

/-- An extended real below infinity in absolute value is a real. -/
theorem real_of_abs_lt (x : EReal) (h : BitVec.ofBool (decide ((FloatOps.absf (F := Ideal) (φ := .f32) x : EReal) < Ideal.ofBits FTy.f32 2139095040#32)) = 1#1) :
    ∃ r : ℝ, x = (r : EReal) := by
  rw [show Ideal.ofBits FTy.f32 2139095040#32 = ⊤ by simp [Ideal.ofBits, Ideal.ieee]] at h
  have h' : max x (-x) < ⊤ := by
    by_contra hn
    rw [show decide ((FloatOps.absf (F := Ideal) (φ := .f32) x : EReal) < ⊤) = false from decide_eq_false hn] at h
    exact absurd h (by decide)
  induction x with
  | bot => simp at h'
  | top => simp at h'
  | coe r => exact ⟨r, rfl⟩

/-- The precondition: the sinks are real. -/
theorem sinks_real (x0 : 𝕍 S16 .f32) (x1 : 𝕍 S18432x1024 .bf16) (x2 x3 : 𝕍 S18432x512 .bf16)
    (h : (letI := Cert.Pre_wa_finite.Gen.facts; (Cert.Pre_wa_finite.fn (F := Ideal) x0 x1 x2 x3).1) = fun _ => 1#1) : AllReal x0 := by
  intro i
  have := congrFun h i
  revert this
  unfold Cert.Pre_wa_finite.fn
  pointwise
  exact real_of_abs_lt _

/-- The precondition: the queries are real. -/
theorem queries_real (x0 : 𝕍 S16 .f32) (x1 : 𝕍 S18432x1024 .bf16) (x2 x3 : 𝕍 S18432x512 .bf16)
    (h : (letI := Cert.Pre_wa_finite.Gen.facts; (Cert.Pre_wa_finite.fn (F := Ideal) x0 x1 x2 x3).2.1) = fun _ => 1#1) : AllReal x1 := by
  intro i
  have := congrFun h i
  revert this
  unfold Cert.Pre_wa_finite.fn
  pointwise
  exact real_of_abs_lt _

/-- The precondition: the keys are real. -/
theorem keys_real (x0 : 𝕍 S16 .f32) (x1 : 𝕍 S18432x1024 .bf16) (x2 x3 : 𝕍 S18432x512 .bf16)
    (h : (letI := Cert.Pre_wa_finite.Gen.facts; (Cert.Pre_wa_finite.fn (F := Ideal) x0 x1 x2 x3).2.2) = fun _ => 1#1) : AllReal x2 := by
  intro i
  have := congrFun h i
  revert this
  unfold Cert.Pre_wa_finite.fn
  pointwise
  exact real_of_abs_lt _

/-- A product of real rows is real. -/
theorem dot64_real (f g : Fin 64 → EReal) (hf : ∀ d, ∃ r : ℝ, f d = (r : EReal)) (hg : ∀ d, ∃ r : ℝ, g d = (r : EReal)) :
    ∃ r : ℝ, dot64 f g = (r : EReal) := by
  choose f' hf' using hf
  choose g' hg' using hg
  refine ⟨∑ d, f' d * g' d, ?_⟩
  unfold dot64
  rw [← coe_sum]
  exact Finset.sum_congr rfl fun d _ => by rw [hf', hg', EReal.coe_mul]

/-- The blocks' places, in the sample and the quarter of a grid point. -/
theorem places : ∀ t : Fin cfg0.N, win0_0.index t = ![0] ∧ win0_1.index t = ![4 * (grid0.coords t 0).val + (grid0.coords t 1).val, 0]
    ∧ win0_2.index t = ![(grid0.coords t 0).val, 0] ∧ win0_3.index t = ![(grid0.coords t 0).val, 0]
    ∧ win0_4.index t = ![64 + (grid0.coords t 0).val, 0] ∧ win0_5.index t = ![64 + (grid0.coords t 0).val, 0]
    ∧ win0_6.index t = ![4 * (grid0.coords t 0).val + (grid0.coords t 1).val, 0] :=
  (by decide +kernel : ∀ t : Fin grid0.N, _)

variable (m : (ℓ : Loc nD τ sig) → Buf (Elt Ideal) ℓ)

/-- The query block's element. -/
theorem q_at (c : Dev nD) (t : Fin cfg0.N) (a : Fin 512) (l : Fin 1024) :
   iblk m c 1 t (ix2 a l) = (m ((c : Thread nD τ).loc main_arg1) : 𝕍 S18432x1024 .bf16) (ix2 ⟨2048 * (grid0.coords t 0).val + (512 * (grid0.coords t 1).val + a.val), by have h0 : (grid0.coords t 0).val < 8 := (grid0.coords t 0).isLt; have h1 : (grid0.coords t 1).val < 4 := (grid0.coords t 1).isLt; omega⟩ l) := by
  blk_ext [iblk, V, places t]
/-- The latent key block's element. -/
theorem k_at (c : Dev nD) (t : Fin cfg0.N) (a : Fin 2048) (l : Fin 512) :
   iblk m c 2 t (ix2 a l) = (m ((c : Thread nD τ).loc main_arg2) : 𝕍 S18432x512 .bf16) (ix2 ⟨2048 * (grid0.coords t 0).val + a.val, by have h0 : (grid0.coords t 0).val < 8 := (grid0.coords t 0).isLt; have h1 : (grid0.coords t 1).val < 4 := (grid0.coords t 1).isLt; omega⟩ l) := by
  blk_ext [iblk, V, places t]
/-- The context key block's element. -/
theorem kc_at (c : Dev nD) (t : Fin cfg0.N) (a : Fin 256) (l : Fin 512) :
   iblk m c 4 t (ix2 a l) = (m ((c : Thread nD τ).loc main_arg2) : 𝕍 S18432x512 .bf16) (ix2 ⟨16384 + 256 * (grid0.coords t 0).val + a.val, by have h0 : (grid0.coords t 0).val < 8 := (grid0.coords t 0).isLt; have h1 : (grid0.coords t 1).val < 4 := (grid0.coords t 1).isLt; omega⟩ l) := by
  blk_ext [iblk, V, places t]
/-- The latent value block's element. -/
theorem v_at (c : Dev nD) (t : Fin cfg0.N) (a : Fin 2048) (l : Fin 512) :
   iblk m c 3 t (ix2 a l) = (m ((c : Thread nD τ).loc main_arg3) : 𝕍 S18432x512 .bf16) (ix2 ⟨2048 * (grid0.coords t 0).val + a.val, by have h0 : (grid0.coords t 0).val < 8 := (grid0.coords t 0).isLt; have h1 : (grid0.coords t 1).val < 4 := (grid0.coords t 1).isLt; omega⟩ l) := by
  blk_ext [iblk, V, places t]
/-- The context value block's element. -/
theorem vc_at (c : Dev nD) (t : Fin cfg0.N) (a : Fin 256) (l : Fin 512) :
   iblk m c 5 t (ix2 a l) = (m ((c : Thread nD τ).loc main_arg3) : 𝕍 S18432x512 .bf16) (ix2 ⟨16384 + 256 * (grid0.coords t 0).val + a.val, by have h0 : (grid0.coords t 0).val < 8 := (grid0.coords t 0).isLt; have h1 : (grid0.coords t 1).val < 4 := (grid0.coords t 1).isLt; omega⟩ l) := by
  blk_ext [iblk, V, places t]
/-- The sinks. -/
theorem s_at (c : Dev nD) (t : Fin cfg0.N) (a : Fin 16) :
   iblk m c 0 t (ix1 a) = (m ((c : Thread nD τ).loc main_arg0) : 𝕍 S16 .f32) (ix1 a) := by
  blk_ext [iblk, V, places t]

/-- What a grid point stores for a pair of heads and a query block is the reference's result there. -/
theorem tile_eq (c : Dev nD) (t : Fin cfg0.N) (x0 : 𝕍 S16 .f32) (x1 : 𝕍 S18432x1024 .bf16) (x2 x3 : 𝕍 S18432x512 .bf16)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (hs : AllReal x0) (hq : AllReal x1) (hk : AllReal x2) (p : Fin 8) (b : Fin 4) (r : Fin 128) (j : Fin 2) (d : Fin 64)
    (T : Fin 16384) (hT : T.val = 2048 * (grid0.coords t 0).val + (512 * (grid0.coords t 1).val + (128 * b.val + r.val))) :
    tile (grid0.coords t) (iblk m c 0 t) (iblk m c 1 t) (iblk m c 2 t) (iblk m c 3 t) (iblk m c 4 t) (iblk m c 5 t) p b
        (ix2 r ⟨64 * j.val + d.val, by omega⟩)
      = Cert.WaReferenceIdeal.Read.val_main_v62 (F := Ideal) x0 x1 x2 x3 (ix2 T ⟨128 * p.val + (64 * j.val + d.val), by omega⟩) := by
  have h0 : (grid0.coords t 0).val < 8 := (grid0.coords t 0).isLt
  have h1 : (grid0.coords t 1).val < 4 := (grid0.coords t 1).isLt
  have Eq1 (a : Fin 512) (l : Fin 1024) := q_at m c t a l
  have Ek (a : Fin 2048) (l : Fin 512) := k_at m c t a l
  have Ekc (a : Fin 256) (l : Fin 512) := kc_at m c t a l
  have Ev (a : Fin 2048) (l : Fin 512) := v_at m c t a l
  have Evc (a : Fin 256) (l : Fin 512) := vc_at m c t a l
  have Es (a : Fin 16) := s_at m c t a
  rw [e1] at Eq1; rw [e2] at Ek Ekc; rw [e3] at Ev Evc; rw [e0] at Es
  generalize hs0 : (⟨(grid0.coords t 0).val, h0⟩ : Fin 8) = s
  have hsv : (grid0.coords t 0).val = s.val := by rw [← hs0]
  generalize hn0 : (⟨512 * (grid0.coords t 1).val + (128 * b.val + r.val), by omega⟩ : Fin 2048) = n
  have hnv : 512 * (grid0.coords t 1).val + (128 * b.val + r.val) = n.val := by rw [← hn0]
  generalize hh0 : (⟨2 * p.val + j.val, by omega⟩ : Fin 16) = h
  have hhv : h.val = 2 * p.val + j.val := by rw [← hh0]
  have ra (κ : Fin 2048) := dot64_real (fun d => x1 (ix2 ⟨2048 * s.val + n.val, by omega⟩ ⟨64 * h.val + d.val, by omega⟩))
    (fun d => x2 (ix2 ⟨2048 * s.val + κ.val, by omega⟩ ⟨128 * (h.val / 4) + 64 * (h.val % 2) + d.val, by omega⟩)) (fun _ => hq _) (fun _ => hk _)
  have rc (κ : Fin 256) := dot64_real (fun d => x1 (ix2 ⟨2048 * s.val + n.val, by omega⟩ ⟨64 * h.val + d.val, by omega⟩))
    (fun d => x2 (ix2 ⟨16384 + 256 * s.val + κ.val, by omega⟩ ⟨128 * (h.val / 4) + 64 * (h.val % 2) + d.val, by omega⟩)) (fun _ => hq _) (fun _ => hk _)
  choose a ha using ra
  choose g hg using rc
  obtain ⟨σ, hσ⟩ := hs (ix1 h)
  have hlo : start (grid0.coords t 1).val b.val + 384 ≤ 2048 := by unfold start; omega
  obtain ⟨μ, hm, e⟩ := tile_apply (grid0.coords t) (iblk m c 0 t) (iblk m c 1 t) (iblk m c 2 t) (iblk m c 3 t) (iblk m c 4 t) (iblk m c 5 t) p b r j d
    (fun κ => (a ⟨start (grid0.coords t 1).val b.val + κ.val, by omega⟩ : EReal)
      + (if n.val ≤ (⟨start (grid0.coords t 1).val b.val + κ.val, by omega⟩ : Fin 2048).val + 128 ∧ (⟨start (grid0.coords t 1).val b.val + κ.val, by omega⟩ : Fin 2048).val ≤ n.val + 128 then 0 else ⊥)) (fun κ => (g κ : EReal)) ((σ : EReal) * (((Real.log 2)⁻¹ : ℝ) : EReal))
    (fun κ => by
      rw [← ha]
      simp only [Eq1, Ek]
      refine congrArg₂ (· + ·) (congrArg₂ dot64 (funext fun d => ?_) (funext fun d => ?_)) (if_congr ?_ rfl rfl)
      · exact same_place x1 (by dsimp only; omega) (by dsimp only; omega)
      · exact same_place x2 (by dsimp only; omega) (by dsimp only; omega)
      · omega)
    (fun κ => by
      rw [← hg]
      simp only [Eq1, Ekc]
      refine congrArg₂ dot64 (funext fun d => ?_) (funext fun d => ?_)
      · exact same_place x1 (by dsimp only; omega) (by dsimp only; omega)
      · exact same_place x2 (by dsimp only; omega) (by dsimp only; omega))
    (by rw [Es, ← hσ, ← hh0])
  obtain ⟨M, hM, e'⟩ := Ref.result_apply x0 x1 x2 x3 s h n d
    (fun κ => if n.val ≤ κ.val + 128 ∧ κ.val ≤ n.val + 128 then (a κ : EReal) * ((Real.log 2 : ℝ) : EReal) else ⊥)
    (fun κ => (g κ : EReal) * ((Real.log 2 : ℝ) : EReal)) (σ : EReal)
    (fun κ => by rw [Ref.windowLogit_apply, ← ha]; rfl) (fun κ => by rw [Ref.contextLogit_apply, ← hg]; rfl) hσ
  rw [e]
  simp only [Ev, Evc]
  have hn : ∀ κ : Fin 2048, n.val ≤ κ.val + 128 ∧ κ.val ≤ n.val + 128 →
      start (grid0.coords t 1).val b.val ≤ κ.val ∧ κ.val < start (grid0.coords t 1).val b.val + 384 := by
    intro κ hκ
    unfold start
    omega
  have key := rowOut_eq (start (grid0.coords t 1).val b.val) hlo (fun κ => n.val ≤ κ.val + 128 ∧ κ.val ≤ n.val + 128) hn a g σ μ M
    (fun κ => x3 (ix2 ⟨2048 * s.val + κ.val, by omega⟩ ⟨128 * (h.val / 4) + 64 * (h.val % 2) + d.val, by omega⟩))
    (fun κ => x3 (ix2 ⟨16384 + 256 * s.val + κ.val, by omega⟩ ⟨128 * (h.val / 4) + 64 * (h.val % 2) + d.val, by omega⟩)) hm hM
  refine Eq.trans ?_ (key.trans (e'.symm.trans (same_place _ (by dsimp only; omega) (by dsimp only; omega))))
  refine congrArg₂ (rowOut μ _ _ _) (funext fun κ => ?_) (funext fun κ => ?_)
  · exact same_place x3 (by dsimp only; omega) (by dsimp only; omega)
  · exact same_place x3 (by dsimp only; omega) (by dsimp only; omega)

/-- The array the kernel leaves is the reference's. -/
theorem final (c : Dev nD) (hs : AllReal (s := S16) (φ := .f32) (m ((c : Thread nD τ).loc main_arg0)))
    (hq : AllReal (s := S18432x1024) (φ := .bf16) (m ((c : Thread nD τ).loc main_arg1)))
    (hk : AllReal (s := S18432x512) (φ := .bf16) (m ((c : Thread nD τ).loc main_arg2))) : (dats m 0 c).arrAt 6 cfg0.N
    = Cert.WaReferenceIdeal.Read.val_main_v62 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  rw [out_eq]
  unfold outBlock
  have h0 : (grid0.coords t 0).val < 8 := (grid0.coords t 0).isLt
  have h1 : (grid0.coords t 1).val < 4 := (grid0.coords t 1).isLt
  have y0 : (y 0).val < 512 := (y 0).isLt
  have y1 : (y 1).val < 1024 := (y 1).isLt
  have e := tile_eq m c t _ _ _ _ rfl rfl rfl rfl hs hq hk ⟨(y 1).val / 128, by omega⟩ ⟨(y 0).val / 128, by omega⟩
    ⟨(y 0).val % 128, by omega⟩ ⟨(y 1).val % 128 / 64, by omega⟩ ⟨(y 1).val % 64, by omega⟩
    ⟨2048 * (grid0.coords t 0).val + (512 * (grid0.coords t 1).val + (y 0).val), by omega⟩ (by dsimp only; omega)
  refine Eq.trans ?_ (e.trans ?_)
  · exact same_place _ rfl (by dsimp only; omega)
  · refine congrArg _ ?_
    blk_ext [places t]
    all_goals omega

end Cert.WaProof
-- ==== Proof.FfnRows.lean ====
module
public import Idealize.ShloMosaic.Lib.Pointwise
public import Idealize.ShloMosaic.Lib.MatmulPlain
public import Idealize.ShloMosaic.Lib.ValueLayoutCasts
@[expose] public section
set_option maxRecDepth 16384
noncomputable section

/-! A feed-forward sub-layer on a chunk of `R` rows: the kernels' operations on the chunk, and each read at a row. -/

namespace Cert.FfnProof
open Idealize.ShloMosaic Idealize.ShloMosaic.TcCoe Idealize.SL.Sem
open Idealize.ShloMosaic.Pointwise
local notation "𝕍" => FVec Ideal

/-- The facts about its shapes that the operations on a chunk of `R` rows need. -/
structure Chunk (R : ℕ) : Prop where
  red : (⟨2, ![R, 1024]⟩ : Shape).Reduces [1] ⟨1, ![R]⟩
  cast : (⟨1, ![R]⟩ : Shape).ShapeCasts ⟨2, ![R, 1]⟩
  col : (⟨2, ![R, 1]⟩ : Shape).Broadcasts ⟨2, ![R, 1024]⟩
  row : (⟨2, ![1, 1024]⟩ : Shape).Broadcasts ⟨2, ![R, 1024]⟩
  one : R ≠ 1
  narrow : FTy.bits .bf16 < FTy.bits .f32

variable {R : ℕ} (C : Chunk R)

/-! ## Rows -/

/-- A single-precision constant from its word. -/
def lit (b : BitVec 32) : EReal := Ideal.ofBits .f32 b

/-- The mean of a row of 1024 entries. -/
def meanOf (z : Fin 1024 → EReal) : EReal := Ideal.div (∑ k, z k) (lit 0x44800000#32)

/-- The variance as the kernels compute it: the mean square less the squared mean. -/
def varOf (z : Fin 1024 → EReal) : EReal := meanOf (fun k => z k * z k) - meanOf z * meanOf z

/-- Normalisation with a given variance, then scaled by `g` and shifted by `b`. -/
def scaled (v : EReal) (z g b : Fin 1024 → EReal) (j : Fin 1024) : EReal :=
  (z j - meanOf z) * Ideal.rsqrt (v + lit 0x3727C5AC#32) * g j + b j

/-- The kernels' layer normalisation of a row. -/
def normRow (z g b : Fin 1024 → EReal) (j : Fin 1024) : EReal := scaled (varOf z) z g b j

/-- SwiGLU of a row: `(silu (x u) * (x v)) w`. -/
def swigluRow (x : Fin 1024 → EReal) (u v : Fin 1024 → Fin 2816 → EReal) (w : Fin 2816 → Fin 1024 → EReal) (j : Fin 1024) : EReal :=
  ∑ n, (∑ k, x k * u k n) * Ideal.logistic (∑ k, x k * u k n) * (∑ k, x k * v k n) * w n j

/-- The sub-layer's residual of a row: `√2 z + (t/2) swiglu (z (1 + c) + s)`. -/
def ffnRow (z s c t : Fin 1024 → EReal) (u v : Fin 1024 → Fin 2816 → EReal) (w : Fin 2816 → Fin 1024 → EReal) (j : Fin 1024) : EReal :=
  lit 0x3FB504F3#32 * z j + lit 0x3F000000#32 * t j * swigluRow (fun k => z k * (lit 0x3F800000#32 + c k) + s k) u v w j

/-- The mixer's residual of a row: `√2 h + t (a w)`. -/
def mixRow (h t a : Fin 1024 → EReal) (w : Fin 1024 → Fin 1024 → EReal) (j : Fin 1024) : EReal :=
  lit 0x3FB504F3#32 * h j + t j * ∑ k, a k * w k j

/-! ## Chunks -/

/-- The column of a chunk's row means. -/
def colMean (z : 𝕍 ⟨2, ![R, 1024]⟩ .f32) : 𝕍 ⟨2, ![R, 1]⟩ .f32 :=
  divf (shapeCast ⟨2, ![R, 1]⟩ (multiReduction .add [1] ⟨1, ![R]⟩ z 0x00000000#32 C.red (.inl rfl) rfl) C.cast)
    (broadcast ⟨2, ![R, 1]⟩ (Scalar.ofBits .f32 0x44800000#32))

/-- A row under every row of a chunk. -/
def down (x : 𝕍 ⟨2, ![1, 1024]⟩ .f32) : 𝕍 ⟨2, ![R, 1024]⟩ .f32 := broadcastTo ⟨2, ![R, 1024]⟩ x C.row

/-- A column beside every column of a chunk. -/
def across (x : 𝕍 ⟨2, ![R, 1]⟩ .f32) : 𝕍 ⟨2, ![R, 1024]⟩ .f32 := broadcastTo ⟨2, ![R, 1024]⟩ x C.col

/-- Layer normalisation of a chunk. -/
def norm (z : 𝕍 ⟨2, ![R, 1024]⟩ .f32) (g b : 𝕍 ⟨2, ![1, 1024]⟩ .f32) : 𝕍 ⟨2, ![R, 1024]⟩ .f32 :=
  addf (mulf (mulf (subf z (across C (colMean C z)))
    (across C (rsqrt (addf (subf (colMean C (mulf z z)) (mulf (colMean C z) (colMean C z)))
      (broadcast ⟨2, ![R, 1]⟩ (Scalar.ofBits .f32 0x3727C5AC#32)))))) (down C g)) (down C b)

/-- A chunk times a matrix. -/
def times {K N : ℕ} (x : 𝕍 ⟨2, ![R, K]⟩ .bf16) (w : 𝕍 ⟨2, ![K, N]⟩ .bf16) : 𝕍 ⟨2, ![R, N]⟩ .f32 :=
  matmul (DotDims.plain R K N) none x w (constant ⟨2, ![R, N]⟩ .f32 0x00000000#32)

/-- The gated hidden layer of a chunk: `silu (x u) * (x v)`. -/
def gated (x : 𝕍 ⟨2, ![R, 1024]⟩ .bf16) (u v : 𝕍 ⟨2, ![1024, 2816]⟩ .bf16) : 𝕍 ⟨2, ![R, 2816]⟩ .bf16 :=
  truncf .bf16 (mulf (mulf (times x u) (logistic (times x u))) (times x v)) C.narrow

/-- SwiGLU of a chunk. -/
def swiglu (x : 𝕍 ⟨2, ![R, 1024]⟩ .bf16) (u v : 𝕍 ⟨2, ![1024, 2816]⟩ .bf16) (w : 𝕍 ⟨2, ![2816, 1024]⟩ .bf16) : 𝕍 ⟨2, ![R, 1024]⟩ .f32 :=
  times (gated C x u v) w

/-- The sub-layer's residual of a chunk. -/
def ffn (z : 𝕍 ⟨2, ![R, 1024]⟩ .f32) (s c t : 𝕍 ⟨2, ![1, 1024]⟩ .f32) (u v : 𝕍 ⟨2, ![1024, 2816]⟩ .bf16) (w : 𝕍 ⟨2, ![2816, 1024]⟩ .bf16) :
    𝕍 ⟨2, ![R, 1024]⟩ .f32 :=
  addf (mulf (broadcast ⟨2, ![R, 1024]⟩ (Scalar.ofBits .f32 0x3FB504F3#32)) z)
    (mulf (down C (mulf (broadcast ⟨2, ![1, 1024]⟩ (Scalar.ofBits .f32 0x3F000000#32)) t))
      (swiglu C (truncf .bf16 (addf (mulf z (down C (addf (broadcast ⟨2, ![1, 1024]⟩ (Scalar.ofBits .f32 0x3F800000#32)) c)))
        (down C s)) C.narrow) u v w))

/-- The mixer's residual of a chunk. -/
def mix (h : 𝕍 ⟨2, ![R, 1024]⟩ .f32) (t : 𝕍 ⟨2, ![1, 1024]⟩ .f32) (a : 𝕍 ⟨2, ![R, 1024]⟩ .bf16) (w : 𝕍 ⟨2, ![1024, 1024]⟩ .bf16) :
    𝕍 ⟨2, ![R, 1024]⟩ .f32 :=
  addf (mulf (broadcast ⟨2, ![R, 1024]⟩ (Scalar.ofBits .f32 0x3FB504F3#32)) h) (mulf (down C t) (times a w))

/-! ## Chunks read at a row -/

/-- The column of means read at a row. -/
theorem colMean_apply (z : 𝕍 ⟨2, ![R, 1024]⟩ .f32) (r : Fin R) : colMean C z (ix2 r 0) = meanOf fun k => z (ix2 r k) := by
  unfold colMean meanOf
  refine congrArg₂ Ideal.div ((ValueIdx.shapeCast_a_a1_apply _ C.cast r 0).trans ?_) rfl
  pointwise

/-- A row under every row, read at an entry. -/
theorem down_apply (x : 𝕍 ⟨2, ![1, 1024]⟩ .f32) (r : Fin R) (j : Fin 1024) : down C x (ix2 r j) = x (ix2 0 j) := by
  unfold down; pointwise

/-- A column beside every column, read at an entry. -/
theorem across_apply (x : 𝕍 ⟨2, ![R, 1]⟩ .f32) (r : Fin R) (j : Fin 1024) : across C x (ix2 r j) = x (ix2 r 0) := by
  unfold across
  refine congrArg x ?_
  funext a
  match a with
  | 0 => exact Fin.ext (by simp [C.one])
  | 1 => exact Fin.ext (by simp)

/-- A product read at an entry. -/
theorem times_apply {K N : ℕ} (x : 𝕍 ⟨2, ![R, K]⟩ .bf16) (w : 𝕍 ⟨2, ![K, N]⟩ .bf16) (r : Fin R) (j : Fin N) :
    times x w (ix2 r j) = ∑ k, x (ix2 r k) * w (ix2 k j) := by
  refine (Ideal.matmul_plain_apply none x w _ r j).trans ?_
  have h0 : constant (F := Ideal) ⟨2, ![R, N]⟩ .f32 0x00000000#32 (ix2 r j) = (0 : EReal) := by pointwise
  exact (congrArg (· + _) h0).trans (zero_add _)

/-- Layer normalisation read at an entry. -/
theorem norm_apply (z : 𝕍 ⟨2, ![R, 1024]⟩ .f32) (g b : 𝕍 ⟨2, ![1, 1024]⟩ .f32) (r : Fin R) (j : Fin 1024) :
    norm C z g b (ix2 r j) = normRow (fun k => z (ix2 r k)) (fun k => g (ix2 0 k)) (fun k => b (ix2 0 k)) j := by
  unfold norm
  show (z (ix2 r j) - across C _ (ix2 r j)) * across C _ (ix2 r j) * down C g (ix2 r j) + down C b (ix2 r j) = _
  simp only [across_apply, down_apply]
  show (z (ix2 r j) - colMean C z (ix2 r 0)) * Ideal.rsqrt (colMean C (mulf z z) (ix2 r 0) - colMean C z (ix2 r 0) * colMean C z (ix2 r 0) + _) * _ + _ = _
  simp only [colMean_apply]
  rfl

/-- The gated hidden layer read at an entry. -/
theorem gated_apply (x : 𝕍 ⟨2, ![R, 1024]⟩ .bf16) (u v : 𝕍 ⟨2, ![1024, 2816]⟩ .bf16) (r : Fin R) (n : Fin 2816) :
    gated C x u v (ix2 r n) = (∑ k, x (ix2 r k) * u (ix2 k n)) * Ideal.logistic (∑ k, x (ix2 r k) * u (ix2 k n)) * ∑ k, x (ix2 r k) * v (ix2 k n) := by
  rw [← times_apply x u r n, ← times_apply x v r n]
  unfold gated
  generalize times x u = a
  generalize times x v = b
  pointwise

/-- SwiGLU read at an entry. -/
theorem swiglu_apply (x : 𝕍 ⟨2, ![R, 1024]⟩ .bf16) (u v : 𝕍 ⟨2, ![1024, 2816]⟩ .bf16) (w : 𝕍 ⟨2, ![2816, 1024]⟩ .bf16) (r : Fin R) (j : Fin 1024) :
    swiglu C x u v w (ix2 r j)
      = swigluRow (fun k => x (ix2 r k)) (fun k n => u (ix2 k n)) (fun k n => v (ix2 k n)) (fun n k => w (ix2 n k)) j := by
  refine (times_apply (gated C x u v) w r j).trans ?_
  unfold swigluRow
  exact Finset.sum_congr rfl fun n _ => congrArg (· * w (ix2 n j)) (gated_apply C x u v r n)

/-- The sub-layer's residual read at an entry. -/
theorem ffn_apply (z : 𝕍 ⟨2, ![R, 1024]⟩ .f32) (s c t : 𝕍 ⟨2, ![1, 1024]⟩ .f32) (u v : 𝕍 ⟨2, ![1024, 2816]⟩ .bf16)
    (w : 𝕍 ⟨2, ![2816, 1024]⟩ .bf16) (r : Fin R) (j : Fin 1024) :
    ffn C z s c t u v w (ix2 r j)
      = ffnRow (fun k => z (ix2 r k)) (fun k => s (ix2 0 k)) (fun k => c (ix2 0 k)) (fun k => t (ix2 0 k))
          (fun k n => u (ix2 k n)) (fun k n => v (ix2 k n)) (fun n k => w (ix2 n k)) j := by
  unfold ffn
  show lit _ * z (ix2 r j) + down C _ (ix2 r j) * swiglu C _ u v w (ix2 r j) = _
  rw [swiglu_apply, down_apply]
  unfold ffnRow
  congr 3
  funext k
  show z (ix2 r k) * down C _ (ix2 r k) + down C s (ix2 r k) = _
  rw [down_apply, down_apply]
  rfl

/-- The mixer's residual read at an entry. -/
theorem mix_apply (h : 𝕍 ⟨2, ![R, 1024]⟩ .f32) (t : 𝕍 ⟨2, ![1, 1024]⟩ .f32) (a : 𝕍 ⟨2, ![R, 1024]⟩ .bf16) (w : 𝕍 ⟨2, ![1024, 1024]⟩ .bf16)
    (r : Fin R) (j : Fin 1024) :
    mix C h t a w (ix2 r j) = mixRow (fun k => h (ix2 r k)) (fun k => t (ix2 0 k)) (fun k => a (ix2 r k)) (fun k n => w (ix2 k n)) j := by
  unfold mix
  show lit _ * h (ix2 r j) + down C t (ix2 r j) * times a w (ix2 r j) = _
  rw [times_apply, down_apply]
  rfl

end Cert.FfnProof
-- ==== Proof.FfnLoads.lean ====
module
public import proofs.«01_k».proof.Proof.FfnRows
public import Idealize.ShloMosaic.Lib.Pipeline.ValueKit
@[expose] public section
set_option maxRecDepth 16384
noncomputable section

/-! What a feed-forward body loads from its blocks: rows of the modulation and of the layer normalisations, halves of the
input weight, chunks of tokens. -/

namespace Cert.FfnProof
open Idealize.ShloMosaic Idealize.ShloMosaic.TcCoe Idealize.SL.Sem
open Idealize.ShloMosaic.Pointwise
local notation "𝕍" => FVec Ideal

/-- Row `k` of a sample's modulation. -/
def modRow (x : 𝕍 ⟨4, ![1, 1, 9, 1024]⟩ .f32) (k : ℕ) (hl : ∀ a, (![0, 0, 0, 0] : Fin 4 → ℕ) a + (![1, 1, 9, 1024] : Fin 4 → ℕ) a ≤ (![1, 1, 9, 1024] : Fin 4 → ℕ) a)
    (hc : (⟨4, ![1, 1, 9, 1024]⟩ : Shape).ShapeCasts ⟨2, ![9, 1024]⟩) (hs : (⟨2, ![9, 1024]⟩ : Shape).Slices ![k, 0] ⟨2, ![1, 1024]⟩) : 𝕍 ⟨2, ![1, 1024]⟩ .f32 :=
  extractStridedSlice ⟨2, ![1, 1024]⟩ ![k, 0] (shapeCast ⟨2, ![9, 1024]⟩
    (View.ld (Val := Elt Ideal) (e' := .f32) x (Rect.unit (s := ⟨4, ![1, 1, 9, 1024]⟩) ![0, 0, 0, 0] ![1, 1, 9, 1024] hl)) hc) hs

/-- Row `k` of a layer's scales or offsets. -/
def lnRow (x : 𝕍 ⟨3, ![1, 3, 1024]⟩ .f32) (k : ℕ) (hl : ∀ a, (![0, k, 0] : Fin 3 → ℕ) a + (![1, 1, 1024] : Fin 3 → ℕ) a ≤ (![1, 3, 1024] : Fin 3 → ℕ) a)
    (hc : (⟨3, ![1, 1, 1024]⟩ : Shape).ShapeCasts ⟨2, ![1, 1024]⟩) : 𝕍 ⟨2, ![1, 1024]⟩ .f32 :=
  shapeCast ⟨2, ![1, 1024]⟩ (View.ld (Val := Elt Ideal) (e' := .f32) x (Rect.unit (s := ⟨3, ![1, 3, 1024]⟩) ![0, k, 0] ![1, 1, 1024] hl)) hc

/-- Rows and columns from `(o, p)` on of a matrix. -/
def part {M N : ℕ} {e : EltTy} (x : Vec Ideal ⟨2, ![M, N]⟩ e) (o p R K : ℕ) (h : ∀ a, (![o, p] : Fin 2 → ℕ) a + (![R, K] : Fin 2 → ℕ) a ≤ (![M, N] : Fin 2 → ℕ) a) :
    Vec Ideal ⟨2, ![R, K]⟩ e :=
  View.ld (Val := Elt Ideal) (e' := e) x (Rect.unit (s := ⟨2, ![M, N]⟩) ![o, p] ![R, K] h)

/-- A modulation row's entry. -/
theorem modRow_apply (x : 𝕍 ⟨4, ![1, 1, 9, 1024]⟩ .f32) (k : Fin 9) (hl) (hc) (hs) (j : Fin 1024) : modRow x k hl hc hs (ix2 0 j) = x (ix4 0 0 k j) := by
  unfold modRow
  have e : ∀ y : 𝕍 ⟨2, ![9, 1024]⟩ .f32, extractStridedSlice ⟨2, ![1, 1024]⟩ ![k.val, 0] y hs (ix2 0 j) = y (ix2 k j) := fun y => by
    refine congrArg y ?_
    funext a
    match a with
    | 0 => exact Fin.ext (by simp)
    | 1 => exact Fin.ext (by simp)
  rw [e]
  refine (_root_.Idealize.ShloMosaic.shapeCast_apply _ hc _ (ix4 0 0 k j) ?_).trans ?_
  · rw [Shape.rowMajor_val_two, Shape.rowMajor_val_four]
    simp
  · refine congrArg x ?_
    funext a
    match a with
    | 0 => exact Fin.ext (by simp)
    | 1 => exact Fin.ext (by simp)
    | 2 => exact Fin.ext (by simp)
    | 3 => exact Fin.ext (by simp)

/-- A scale's or offset's entry. -/
theorem lnRow_apply (x : 𝕍 ⟨3, ![1, 3, 1024]⟩ .f32) (k : Fin 3) (hl) (hc) (j : Fin 1024) : lnRow x k hl hc (ix2 0 j) = x (ix3 0 k j) := by
  unfold lnRow
  match k with
  | 0 => pointwise
  | 1 => pointwise
  | 2 => pointwise

/-- A part's entry. -/
theorem part_apply {M N : ℕ} {e : EltTy} (x : Vec Ideal ⟨2, ![M, N]⟩ e) (o p R K : ℕ) (h) (r : Fin R) (j : Fin K) (r' : Fin M) (j' : Fin N)
    (hr : r'.val = o + r.val) (hj : j'.val = p + j.val) : part x o p R K h (ix2 r j) = x (ix2 r' j') := by
  unfold part
  show x _ = _
  refine congrArg x ?_
  funext a
  match a with
  | 0 => exact Fin.ext (hr.symm ▸ by simp)
  | 1 => exact Fin.ext (hj.symm ▸ by simp)

/-- A piece copied out of an array of four axes. -/
theorem castFour_at {A B : ℕ} (z : 𝕍 ⟨4, ![1, 1, A, B]⟩ .f32) (hl : ∀ a, (![0, 0, 0, 0] : Fin 4 → ℕ) a + (![1, 1, A, B] : Fin 4 → ℕ) a ≤ (![1, 1, A, B] : Fin 4 → ℕ) a)
    (hc : (⟨4, ![1, 1, A, B]⟩ : Shape).ShapeCasts ⟨2, ![A, B]⟩) (hb : FTy.bf16.bits < FTy.f32.bits) (y x : (⟨2, ![A, B]⟩ : Shape).Idx)
    (h0 : (y 0).val = (x 0).val) (h1 : (y 1).val = (x 1).val) (T : 𝕍 ⟨2, ![A, B]⟩ .bf16)
    (hT : T = truncf .bf16 (shapeCast ⟨2, ![A, B]⟩ (View.ld (Val := Elt Ideal) (e' := .f32) z (Rect.unit (s := ⟨4, ![1, 1, A, B]⟩) ![0, 0, 0, 0] ![1, 1, A, B] hl)) hc) hb) :
    T x = z (ix4 0 0 (y 0) (y 1)) := by
  subst hT
  have e : ∀ w : 𝕍 ⟨2, ![A, B]⟩ .f32, truncf .bf16 w hb x = w x := fun _ => rfl
  rw [e]
  refine (_root_.Idealize.ShloMosaic.shapeCast_apply _ hc _ (ix4 0 0 (x 0) (x 1)) ?_).trans ?_
  · rw [Shape.rowMajor_val_two, Shape.rowMajor_val_four]
    simp
  · refine congrArg z ?_
    funext a
    match a with
    | 0 => exact Fin.ext (by simp)
    | 1 => exact Fin.ext (by simp)
    | 2 => exact Fin.ext (by simpa using h0.symm)
    | 3 => exact Fin.ext (by simpa using h1.symm)

/-- A piece copied out of an array of three axes. -/
theorem castThree_at {A B : ℕ} (z : 𝕍 ⟨3, ![1, A, B]⟩ .f32) (hl : ∀ a, (![0, 0, 0] : Fin 3 → ℕ) a + (![1, A, B] : Fin 3 → ℕ) a ≤ (![1, A, B] : Fin 3 → ℕ) a)
    (hc : (⟨3, ![1, A, B]⟩ : Shape).ShapeCasts ⟨2, ![A, B]⟩) (hb : FTy.bf16.bits < FTy.f32.bits) (y x : (⟨2, ![A, B]⟩ : Shape).Idx)
    (h0 : (y 0).val = (x 0).val) (h1 : (y 1).val = (x 1).val) (T : 𝕍 ⟨2, ![A, B]⟩ .bf16)
    (hT : T = truncf .bf16 (shapeCast ⟨2, ![A, B]⟩ (View.ld (Val := Elt Ideal) (e' := .f32) z (Rect.unit (s := ⟨3, ![1, A, B]⟩) ![0, 0, 0] ![1, A, B] hl)) hc) hb) :
    T x = z (ix3 0 (y 0) (y 1)) := by
  subst hT
  have e : ∀ w : 𝕍 ⟨2, ![A, B]⟩ .f32, truncf .bf16 w hb x = w x := fun _ => rfl
  rw [e]
  refine (_root_.Idealize.ShloMosaic.shapeCast_apply _ hc _ (ix3 0 (x 0) (x 1)) ?_).trans ?_
  · rw [Shape.rowMajor_val_two, Shape.rowMajor_val_three]
    simp
  · refine congrArg z ?_
    funext a
    match a with
    | 0 => exact Fin.ext (by simp)
    | 1 => exact Fin.ext (by simpa using h0.symm)
    | 2 => exact Fin.ext (by simpa using h1.symm)

/-- The rows of a chunk taken from one of two blocks are those of the block taken. -/
theorem select_part {M N : ℕ} {e : EltTy} (b : BitVec 1) (x y : Vec Ideal ⟨2, ![M, N]⟩ e) (o p R K : ℕ) (h) :
    Scalar.select b (part x o p R K h) (part y o p R K h) = part (Scalar.select b x y) o p R K h := by
  unfold Scalar.select
  split <;> rfl

end Cert.FfnProof
-- ==== Proof.PostBlock.lean ====
module
public import proofs.«01_k».proof.Proof.Gen.PostKernelIdeal.Value
public import Idealize.ShloMosaic.Lib.Pipeline.ValueKit
public import proofs.«01_k».proof.Proof.FfnLoads
@[expose] public section
set_option maxRecDepth 16384
noncomputable section

/-! The body of `post_1` in words: each of its three chunks of rows is the mixer's residual, normalised, then the feed-forward
residual, normalised. -/

namespace Cert.PostProof
open Cert.PostKernelIdeal Cert.PostKernelIdeal.Gen Idealize.ShloMosaic Idealize.ShloMosaic.TcCoe Idealize.SL.Sem
open Idealize.ShloMosaic.Pointwise Cert.FfnProof
local notation "𝕍" => FVec Ideal

/-- The facts about chunks of 128 rows. -/
theorem chunk128 : Chunk 128 := ⟨reduces_S128x1024_S128, shapeCasts_S128_S128x1, broadcasts_S128x1_S128x1024, broadcasts_S1x1024_S128x1024,
  by decide, bitsLt_bf16_f32⟩

/-- The facts about chunks of 256 rows. -/
theorem chunk256 : Chunk 256 := ⟨reduces_S256x1024_S256, shapeCasts_S256_S256x1, broadcasts_S256x1_S256x1024, broadcasts_S1x1024_S256x1024,
  by decide, bitsLt_bf16_f32⟩

/-- What the body stores for the `R` rows from row `o` on, the attention of those rows being `a`. -/
def chunk {R : ℕ} (C : Chunk R) (o : ℕ) (h : ∀ a, (![o, 0] : Fin 2 → ℕ) a + (![R, 1024] : Fin 2 → ℕ) a ≤ (![512, 1024] : Fin 2 → ℕ) a)
    (x0 : Vec Ideal S1x1x9x1024 .f32) (x1 : Vec Ideal S512x1024 .f32) (a : Vec Ideal ⟨2, ![R, 1024]⟩ .bf16) (x3 : Vec Ideal S1024x1024 .bf16)
    (x4 : Vec Ideal S1024x5632 .bf16) (x5 : Vec Ideal S2816x1024 .bf16) (x6 x7 : Vec Ideal S1x3x1024 .f32) : 𝕍 ⟨2, ![R, 1024]⟩ .f32 :=
  norm C (ffn C
      (norm C (mix C (part x1 o 0 R 1024 h) (modRow x0 5 inb_S1x1x9x1024_S1x1x9x1024_0_0_0_0 shapeCasts_S1x1x9x1024_S9x1024 slices_S9x1024_o5_0_S1x1024)
          a (part x3 0 0 1024 1024 inb_S1024x1024_S1024x1024_0_0))
        (lnRow x6 1 inb_S1x3x1024_S1x1x1024_0_1_0 shapeCasts_S1x1x1024_S1x1024) (lnRow x7 1 inb_S1x3x1024_S1x1x1024_0_1_0 shapeCasts_S1x1x1024_S1x1024))
      (modRow x0 6 inb_S1x1x9x1024_S1x1x9x1024_0_0_0_0 shapeCasts_S1x1x9x1024_S9x1024 slices_S9x1024_o6_0_S1x1024)
      (modRow x0 7 inb_S1x1x9x1024_S1x1x9x1024_0_0_0_0 shapeCasts_S1x1x9x1024_S9x1024 slices_S9x1024_o7_0_S1x1024)
      (modRow x0 8 inb_S1x1x9x1024_S1x1x9x1024_0_0_0_0 shapeCasts_S1x1x9x1024_S9x1024 slices_S9x1024_o8_0_S1x1024)
      (part x4 0 0 1024 2816 inb_S1024x5632_S1024x2816_0_0) (part x4 0 2816 1024 2816 inb_S1024x5632_S1024x2816_0_2816)
      (part x5 0 0 2816 1024 inb_S2816x1024_S2816x1024_0_0))
    (lnRow x6 2 inb_S1x3x1024_S1x1x1024_0_2_0 shapeCasts_S1x1x1024_S1x1024) (lnRow x7 2 inb_S1x3x1024_S1x1x1024_0_2_0 shapeCasts_S1x1x1024_S1x1024)

/-- The mixer's residual, normalised, in a row of the block. -/
def midRow (x0 : Vec Ideal S1x1x9x1024 .f32) (x1 : Vec Ideal S512x1024 .f32) (x2 : Vec Ideal S512x1024 .bf16) (x3 : Vec Ideal S1024x1024 .bf16)
    (x4 : Vec Ideal S1024x5632 .bf16) (x5 : Vec Ideal S2816x1024 .bf16) (x6 x7 : Vec Ideal S1x3x1024 .f32) (r : Fin 512) : Fin 1024 → EReal :=
  normRow (mixRow (fun j => x1 (ix2 r j)) (fun j => x0 (ix4 0 0 5 j)) (fun j => x2 (ix2 r j)) (fun k j => x3 (ix2 k j)))
    (fun j => x6 (ix3 0 1 j)) (fun j => x7 (ix3 0 1 j))

/-- What the body stores, in a row of its block. -/
def outBlock (x0 : Vec Ideal S1x1x9x1024 .f32) (x1 : Vec Ideal S512x1024 .f32) (x2 : Vec Ideal S512x1024 .bf16) (x3 : Vec Ideal S1024x1024 .bf16)
    (x4 : Vec Ideal S1024x5632 .bf16) (x5 : Vec Ideal S2816x1024 .bf16) (x6 x7 : Vec Ideal S1x3x1024 .f32) (r : Fin 512) (l : Fin 1024) : EReal :=
  normRow (ffnRow (midRow x0 x1 x2 x3 x4 x5 x6 x7 r) (fun j => x0 (ix4 0 0 6 j)) (fun j => x0 (ix4 0 0 7 j)) (fun j => x0 (ix4 0 0 8 j))
      (fun k n => x4 (ix2 k ⟨n.val, by omega⟩)) (fun k n => x4 (ix2 k ⟨2816 + n.val, by omega⟩)) (fun n k => x5 (ix2 n k)))
    (fun j => x6 (ix3 0 2 j)) (fun j => x7 (ix3 0 2 j)) l

/-- A row of a chunk is the block's at the chunk's place. -/
theorem chunk_row {R : ℕ} (C : Chunk R) (o : ℕ) (h)
    (x0 : Vec Ideal S1x1x9x1024 .f32) (x1 : Vec Ideal S512x1024 .f32) (x2 : Vec Ideal S512x1024 .bf16) (x3 : Vec Ideal S1024x1024 .bf16)
    (x4 : Vec Ideal S1024x5632 .bf16) (x5 : Vec Ideal S2816x1024 .bf16) (x6 x7 : Vec Ideal S1x3x1024 .f32) (a : Fin 512) (r : Fin R) (l : Fin 1024) (h0 : a.val = o + r.val) :
    chunk C o h x0 x1 (part x2 o 0 R 1024 h) x3 x4 x5 x6 x7 (ix2 r l) = outBlock x0 x1 x2 x3 x4 x5 x6 x7 a l := by
  have p1 : ∀ j, part x1 o 0 R 1024 h (ix2 r j) = x1 (ix2 a j) := fun j => part_apply x1 o 0 R 1024 h r j a j h0 (Nat.zero_add _).symm
  have p2 : ∀ j, part x2 o 0 R 1024 h (ix2 r j) = x2 (ix2 a j) := fun j => part_apply x2 o 0 R 1024 h r j a j h0 (Nat.zero_add _).symm
  have p3 : ∀ k j, part x3 0 0 1024 1024 inb_S1024x1024_S1024x1024_0_0 (ix2 k j) = x3 (ix2 k j) := fun k j =>
    part_apply x3 0 0 1024 1024 _ k j k j (Nat.zero_add _).symm (Nat.zero_add _).symm
  have p4 : ∀ (k : Fin 1024) (n : Fin 2816), part x4 0 0 1024 2816 inb_S1024x5632_S1024x2816_0_0 (ix2 k n) = x4 (ix2 k ⟨n.val, by omega⟩) := fun k n =>
    part_apply x4 0 0 1024 2816 _ k n k _ (Nat.zero_add _).symm (Nat.zero_add _).symm
  have p5 : ∀ (k : Fin 1024) (n : Fin 2816), part x4 0 2816 1024 2816 inb_S1024x5632_S1024x2816_0_2816 (ix2 k n) = x4 (ix2 k ⟨2816 + n.val, by omega⟩) := fun k n =>
    part_apply x4 0 2816 1024 2816 _ k n k _ (Nat.zero_add _).symm rfl
  have p6 : ∀ (n : Fin 2816) (k : Fin 1024), part x5 0 0 2816 1024 inb_S2816x1024_S2816x1024_0_0 (ix2 n k) = x5 (ix2 n k) := fun n k =>
    part_apply x5 0 0 2816 1024 _ n k n k (Nat.zero_add _).symm (Nat.zero_add _).symm
  have m5 : ∀ j, modRow x0 5 _ _ _ (ix2 0 j) = x0 (ix4 0 0 5 j) :=
    modRow_apply x0 5 inb_S1x1x9x1024_S1x1x9x1024_0_0_0_0 shapeCasts_S1x1x9x1024_S9x1024 slices_S9x1024_o5_0_S1x1024
  have m6 : ∀ j, modRow x0 6 _ _ _ (ix2 0 j) = x0 (ix4 0 0 6 j) :=
    modRow_apply x0 6 inb_S1x1x9x1024_S1x1x9x1024_0_0_0_0 shapeCasts_S1x1x9x1024_S9x1024 slices_S9x1024_o6_0_S1x1024
  have m7 : ∀ j, modRow x0 7 _ _ _ (ix2 0 j) = x0 (ix4 0 0 7 j) :=
    modRow_apply x0 7 inb_S1x1x9x1024_S1x1x9x1024_0_0_0_0 shapeCasts_S1x1x9x1024_S9x1024 slices_S9x1024_o7_0_S1x1024
  have m8 : ∀ j, modRow x0 8 _ _ _ (ix2 0 j) = x0 (ix4 0 0 8 j) :=
    modRow_apply x0 8 inb_S1x1x9x1024_S1x1x9x1024_0_0_0_0 shapeCasts_S1x1x9x1024_S9x1024 slices_S9x1024_o8_0_S1x1024
  have n1 : ∀ (z : Vec Ideal S1x3x1024 .f32) j, lnRow z 1 inb_S1x3x1024_S1x1x1024_0_1_0 shapeCasts_S1x1x1024_S1x1024 (ix2 0 j) = z (ix3 0 1 j) :=
    fun z => lnRow_apply z 1 _ _
  have n2 : ∀ (z : Vec Ideal S1x3x1024 .f32) j, lnRow z 2 inb_S1x3x1024_S1x1x1024_0_2_0 shapeCasts_S1x1x1024_S1x1024 (ix2 0 j) = z (ix3 0 2 j) :=
    fun z => lnRow_apply z 2 _ _
  unfold chunk outBlock midRow
  rw [norm_apply]
  simp only [ffn_apply, norm_apply, mix_apply, p1, p2, p3, p4, p5, p6, m5, m6, m7, m8, n1, n2]

/-- An element of a chunk is the block's at the chunk's place. -/
theorem chunk_at {R : ℕ} (C : Chunk R) (o : ℕ) (h)
    (x0 : Vec Ideal S1x1x9x1024 .f32) (x1 : Vec Ideal S512x1024 .f32) (x2 : Vec Ideal S512x1024 .bf16) (x3 : Vec Ideal S1024x1024 .bf16)
    (x4 : Vec Ideal S1024x5632 .bf16) (x5 : Vec Ideal S2816x1024 .bf16) (x6 x7 : Vec Ideal S1x3x1024 .f32) (y : S512x1024.Idx) (x : (⟨2, ![R, 1024]⟩ : Shape).Idx)
    (h0 : (y 0).val = o + (x 0).val) (h1 : (y 1).val = (x 1).val) (T : 𝕍 ⟨2, ![R, 1024]⟩ .f32)
    (hT : T = chunk C o h x0 x1 (part x2 o 0 R 1024 h) x3 x4 x5 x6 x7) : T x = outBlock x0 x1 x2 x3 x4 x5 x6 x7 (y 0) (y 1) := by
  subst hT
  have e : x = ix2 (x 0) (x 1) := by funext a; match a with | 0 => rfl | 1 => rfl
  rw [e]
  refine (chunk_row C o h x0 x1 x2 x3 x4 x5 x6 x7 (y 0) (x 0) (x 1) h0).trans ?_
  exact congrArg (outBlock x0 x1 x2 x3 x4 x5 x6 x7 (y 0)) (Fin.ext h1.symm)

set_option maxHeartbeats 4000000 in
/-- The block a grid point leaves: the stored chunks together are `outBlock` of the point's inputs. -/
theorem out_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1024x1024 .bf16) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1x3x1024 .f32) (harg7 : arg7.IsWhole) (arg8 : Memref sig .tc .vmem S1x3x1024 .f32) (harg8 : arg8.IsWhole) (arg9 : Memref sig .tc .vmem S512x1024 .f32) (harg9 : arg9.IsWhole)
    (x0 : Vec Ideal S1x1x9x1024 .f32) (x1 : Vec Ideal S512x1024 .f32) (x2 : Vec Ideal S512x1024 .bf16) (x3 : Vec Ideal S1024x1024 .bf16)
    (x4 : Vec Ideal S1024x5632 .bf16) (x5 : Vec Ideal S2816x1024 .bf16) (x6 x7 : Vec Ideal S1x3x1024 .f32) (y : S512x1024.Idx) :
    out0_A_8 (F := Ideal) c i arg1 harg1 arg2 harg2 arg3 harg3 arg4 harg4 arg5 harg5 arg6 harg6 arg7 harg7 arg8 harg8 arg9 harg9 x0 x1 x2 x3 x4 x5 x6 x7 y = outBlock x0 x1 x2 x3 x4 x5 x6 x7 (y 0) (y 1) := by
  have key : out0_A_8 (F := Ideal) c i arg1 harg1 arg2 harg2 arg3 harg3 arg4 harg4 arg5 harg5 arg6 harg6 arg7 harg7 arg8 harg8 arg9 harg9 x0 x1 x2 x3 x4 x5 x6 x7 y
      = outBlock (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7)) (y 0) (y 1) := by
    frame_open
    rw [View.read_writes_junk_eq_canon]
    canon_tiles x h using cover0_A_8 (F := Ideal) c i arg1 harg1 arg2 harg2 arg3 harg3 arg4 harg4 arg5 harg5 arg6 harg6 arg7 harg7 arg8 harg8 arg9 harg9 x0 x1 x2 x3 x4 x5 x6 x7 y
    · refine chunk_at chunk128 384 inb_S512x1024_S128x1024_384_0 _ _ _ _ _ _ _ _ y x h0 (by first | exact h1 | exact h1.trans (Nat.zero_add _)) _ ?_
      sl_kernel_rfl
    · refine chunk_at chunk256 128 inb_S512x1024_S256x1024_128_0 _ _ _ _ _ _ _ _ y x h0 (by first | exact h1 | exact h1.trans (Nat.zero_add _)) _ ?_
      sl_kernel_rfl
    · refine chunk_at chunk128 0 inb_S512x1024_S128x1024_0_0 _ _ _ _ _ _ _ _ y x (by first | exact h0 | exact h0.trans (Nat.zero_add _).symm) (by first | exact h1 | exact h1.trans (Nat.zero_add _)) _ ?_
      sl_kernel_rfl
  rw [key, harg1.read_unread, harg2.read_unread, harg3.read_unread, harg4.read_unread, harg5.read_unread, harg6.read_unread, harg7.read_unread, harg8.read_unread]

end Cert.PostProof
-- ==== Proof.FfnNorm.lean ====
module
public import proofs.«01_k».proof.Proof.FfnRows
public import proofs.«01_k».proof.Proof.WaSoftmax
@[expose] public section
noncomputable section

/-! On rows of reals the two ways to compute a variance agree, and a sub-layer's rows stay real. -/

namespace Cert.FfnProof
open Idealize.ShloMosaic Cert.WaProof

/-- An extended real that is a real number. -/
def IsReal (x : EReal) : Prop := ∃ r : ℝ, x = (r : EReal)

/-- Every entry of a row is real. -/
def RealRow (z : Fin 1024 → EReal) : Prop := ∀ k, IsReal (z k)

/-- The reference's layer normalisation of a row: its variance is the mean squared distance from the mean. -/
def normRowR (z g b : Fin 1024 → EReal) (j : Fin 1024) : EReal :=
  scaled (meanOf fun k => (z k - meanOf z) * (z k - meanOf z)) z g b j

/-- The sum of two reals is real. -/
theorem IsReal.add {x y : EReal} (hx : IsReal x) (hy : IsReal y) : IsReal (x + y) := by
  obtain ⟨r, rfl⟩ := hx; obtain ⟨s, rfl⟩ := hy
  exact ⟨r + s, (EReal.coe_add r s).symm⟩

/-- The difference of two reals is real. -/
theorem IsReal.sub {x y : EReal} (hx : IsReal x) (hy : IsReal y) : IsReal (x - y) := by
  obtain ⟨r, rfl⟩ := hx; obtain ⟨s, rfl⟩ := hy
  exact ⟨r - s, (EReal.coe_sub r s).symm⟩

/-- The product of two reals is real. -/
theorem IsReal.mul {x y : EReal} (hx : IsReal x) (hy : IsReal y) : IsReal (x * y) := by
  obtain ⟨r, rfl⟩ := hx; obtain ⟨s, rfl⟩ := hy
  exact ⟨r * s, (EReal.coe_mul r s).symm⟩

/-- A finite sum of reals is real. -/
theorem IsReal.sum {ι : Type} [Fintype ι] {f : ι → EReal} (h : ∀ k, IsReal (f k)) : IsReal (∑ k, f k) := by
  choose f' hf' using h
  exact ⟨∑ k, f' k, by rw [← coe_sum]; exact Finset.sum_congr rfl fun k _ => hf' k⟩

/-- The logistic of a real is real. -/
theorem IsReal.logistic {x : EReal} (hx : IsReal x) : IsReal (Ideal.logistic x) := by
  obtain ⟨r, rfl⟩ := hx
  have e : (1 : EReal) + Ideal.exp (-(r : EReal)) = ((1 + Real.exp (-r) : ℝ) : EReal) := by
    rw [← EReal.coe_neg]
    show (1 : EReal) + ((Real.exp (-r) : ℝ) : EReal) = _
    rw [EReal.coe_add, EReal.coe_one]
  refine ⟨1 * (1 + Real.exp (-r))⁻¹, ?_⟩
  unfold Ideal.logistic
  rw [e, div_real _ _ (by positivity), EReal.coe_mul, EReal.coe_one]

/-- The constant 1024. -/
theorem lit_width : lit 0x44800000#32 = ((1024 : ℝ) : EReal) := by
  show Ideal.ofBits .f32 _ = _
  simp [Ideal.ofBits, Ideal.ieee, -EReal.coe_mul]
  norm_num

/-- The constant added to the variance is a positive real. -/
theorem lit_eps : ∃ e : ℝ, 0 < e ∧ lit 0x3727C5AC#32 = (e : EReal) := by
  refine ⟨_, ?_, by
    show Ideal.ofBits .f32 _ = _
    simp only [Ideal.ofBits, Ideal.ieee]
    simp [-EReal.coe_mul]
    rfl⟩
  positivity

/-- The residual's factor is real. -/
theorem lit_alpha : IsReal (lit 0x3FB504F3#32) := by
  refine ⟨_, by
    show Ideal.ofBits .f32 _ = _
    simp only [Ideal.ofBits, Ideal.ieee]
    simp [-EReal.coe_mul]
    rfl⟩

/-- The gate's factor is real. -/
theorem lit_half : IsReal (lit 0x3F000000#32) := by
  refine ⟨_, by
    show Ideal.ofBits .f32 _ = _
    simp only [Ideal.ofBits, Ideal.ieee]
    simp [-EReal.coe_mul]
    rfl⟩

/-- The scale's one is real. -/
theorem lit_one : IsReal (lit 0x3F800000#32) := by
  refine ⟨_, by
    show Ideal.ofBits .f32 _ = _
    simp only [Ideal.ofBits, Ideal.ieee]
    simp [-EReal.coe_mul]
    rfl⟩

/-- The mean of a row of reals. -/
theorem meanOf_coe (z : Fin 1024 → ℝ) : meanOf (fun k => (z k : EReal)) = (((∑ k, z k) * (1024 : ℝ)⁻¹ : ℝ) : EReal) := by
  unfold meanOf
  rw [lit_width, coe_sum, div_real _ _ (by norm_num), EReal.coe_mul]

/-- The mean square less the squared mean is the mean squared distance from the mean. -/
theorem var_coe (z : Fin 1024 → ℝ) :
    (∑ k, z k * z k) * (1024 : ℝ)⁻¹ - (∑ k, z k) * (1024 : ℝ)⁻¹ * ((∑ k, z k) * (1024 : ℝ)⁻¹)
      = (∑ k, (z k - (∑ k, z k) * (1024 : ℝ)⁻¹) * (z k - (∑ k, z k) * (1024 : ℝ)⁻¹)) * (1024 : ℝ)⁻¹ := by
  generalize hs : ∑ k, z k = s
  have h : ∀ k, (z k - s * (1024 : ℝ)⁻¹) * (z k - s * (1024 : ℝ)⁻¹)
      = z k * z k - 2 * (s * (1024 : ℝ)⁻¹) * z k + s * (1024 : ℝ)⁻¹ * (s * (1024 : ℝ)⁻¹) := fun k => by ring
  rw [Finset.sum_congr rfl fun k _ => h k, Finset.sum_add_distrib, Finset.sum_sub_distrib, ← Finset.mul_sum, hs, Finset.sum_const,
    Finset.card_univ, Fintype.card_fin, nsmul_eq_mul]
  push_cast
  ring

/-- On a row of reals the two variances agree. -/
theorem varOf_eq (z : Fin 1024 → EReal) (hz : RealRow z) : varOf z = meanOf fun k => (z k - meanOf z) * (z k - meanOf z) := by
  choose z' hz' using hz
  obtain rfl : z = fun k => (z' k : EReal) := funext hz'
  unfold varOf
  have e1 : (fun k => (z' k : EReal) * (z' k : EReal)) = fun k => ((z' k * z' k : ℝ) : EReal) := by funext k; rw [EReal.coe_mul]
  have e2 : (fun k => ((z' k : EReal) - meanOf fun k => (z' k : EReal)) * ((z' k : EReal) - meanOf fun k => (z' k : EReal)))
      = fun k => (((z' k - (∑ k, z' k) * (1024 : ℝ)⁻¹) * (z' k - (∑ k, z' k) * (1024 : ℝ)⁻¹) : ℝ) : EReal) := by
    funext k; rw [meanOf_coe, ← EReal.coe_sub, ← EReal.coe_mul]
  rw [e1, e2, meanOf_coe, meanOf_coe, meanOf_coe, ← EReal.coe_mul, ← EReal.coe_sub, var_coe]

/-- On a row of reals the kernels' and the reference's layer normalisations agree. -/
theorem normRow_eq (z g b : Fin 1024 → EReal) (hz : RealRow z) : normRow z g b = normRowR z g b := by
  funext j
  unfold normRow normRowR
  rw [varOf_eq z hz]

/-- Layer normalisation keeps rows real. -/
theorem normRowR_real (z g b : Fin 1024 → EReal) (hz : RealRow z) (hg : RealRow g) (hb : RealRow b) : RealRow (normRowR z g b) := by
  intro j
  choose z' hz' using hz
  obtain rfl : z = fun k => (z' k : EReal) := funext hz'
  unfold normRowR scaled
  have e2 : (fun k => ((z' k : EReal) - meanOf fun k => (z' k : EReal)) * ((z' k : EReal) - meanOf fun k => (z' k : EReal)))
      = fun k => (((z' k - (∑ k, z' k) * (1024 : ℝ)⁻¹) * (z' k - (∑ k, z' k) * (1024 : ℝ)⁻¹) : ℝ) : EReal) := by
    funext k; rw [meanOf_coe, ← EReal.coe_sub, ← EReal.coe_mul]
  rw [e2, meanOf_coe, meanOf_coe]
  obtain ⟨e, he, h⟩ := lit_eps
  rw [h, ← EReal.coe_add]
  have hv : 0 ≤ (∑ k, (z' k - (∑ k, z' k) * (1024 : ℝ)⁻¹) * (z' k - (∑ k, z' k) * (1024 : ℝ)⁻¹)) * (1024 : ℝ)⁻¹ :=
    mul_nonneg (Finset.sum_nonneg fun k _ => mul_self_nonneg _) (by norm_num)
  generalize (∑ k, (z' k - (∑ k, z' k) * (1024 : ℝ)⁻¹) * (z' k - (∑ k, z' k) * (1024 : ℝ)⁻¹)) * (1024 : ℝ)⁻¹ = v at hv ⊢
  have hr : IsReal (Ideal.rsqrt ((v + e : ℝ) : EReal)) := by
    refine ⟨(Real.sqrt (v + e))⁻¹, ?_⟩
    show (if v + e < 0 then (⊥ : EReal) else if v + e = 0 then ⊤ else ((Real.sqrt (v + e))⁻¹ : ℝ)) = _
    rw [if_neg (by linarith), if_neg (by linarith)]
  exact (((IsReal.sub ⟨z' j, rfl⟩ ⟨_, rfl⟩).mul hr).mul (hg j)).add (hb j)

/-- SwiGLU of a real row with real weights is real. -/
theorem swigluRow_real (x : Fin 1024 → EReal) (u v : Fin 1024 → Fin 2816 → EReal) (w : Fin 2816 → Fin 1024 → EReal)
    (hx : RealRow x) (hu : ∀ k n, IsReal (u k n)) (hv : ∀ k n, IsReal (v k n)) (hw : ∀ n k, IsReal (w n k)) : RealRow (swigluRow x u v w) := by
  intro j
  refine IsReal.sum fun n => ?_
  have a : IsReal (∑ k, x k * u k n) := IsReal.sum fun k => (hx k).mul (hu k n)
  exact ((a.mul a.logistic).mul (IsReal.sum fun k => (hx k).mul (hv k n))).mul (hw n j)

/-- The sub-layer's residual of real rows is real. -/
theorem ffnRow_real (z s c t : Fin 1024 → EReal) (u v : Fin 1024 → Fin 2816 → EReal) (w : Fin 2816 → Fin 1024 → EReal)
    (hz : RealRow z) (hs : RealRow s) (hc : RealRow c) (ht : RealRow t)
    (hu : ∀ k n, IsReal (u k n)) (hv : ∀ k n, IsReal (v k n)) (hw : ∀ n k, IsReal (w n k)) : RealRow (ffnRow z s c t u v w) := fun j =>
  (lit_alpha.mul (hz j)).add ((lit_half.mul (ht j)).mul
    (swigluRow_real _ u v w (fun k => ((hz k).mul (lit_one.add (hc k))).add (hs k)) hu hv hw j))

/-- The mixer's residual of real rows is real. -/
theorem mixRow_real (h t a : Fin 1024 → EReal) (w : Fin 1024 → Fin 1024 → EReal)
    (hh : RealRow h) (ht : RealRow t) (ha : RealRow a) (hw : ∀ k n, IsReal (w k n)) : RealRow (mixRow h t a w) := fun j =>
  (lit_alpha.mul (hh j)).add ((ht j).mul (IsReal.sum fun k => (ha k).mul (hw k j)))

end Cert.FfnProof
-- ==== Proof.FfnReference.lean ====
module
public import Idealize.ShloMosaic.Lib.Pipeline.ValueKit
public import Idealize.ShloMosaic.Lib.Pointwise
public import Idealize.ShloMosaic.Lib.StackMember
public import proofs.«01_k».proof.Proof.FfnNorm
@[expose] public section
set_option maxRecDepth 16384
noncomputable section

/-! The reference's layer normalisation and feed-forward sub-layer, for any number `S` of tokens a sample has, read at a token. -/

namespace Cert.FfnProof.Ref
open Idealize.ShloMosaic Idealize.ShloMosaic.TcCoe Idealize.SL.Sem
open Idealize.ShloMosaic.Pointwise Cert.FfnProof
local notation "𝕍" => FVec Ideal

/-- The facts of shapes the stages of `S` tokens use. -/
structure Tokens (S : ℕ) : Prop where
  red : (⟨3, ![8, S, 1024]⟩ : Shape).ReducesTo [2] ⟨2, ![8, S]⟩
  first : 0 < (⟨0, ![]⟩ : Shape).numel
  cast : (⟨2, ![8, S]⟩ : Shape).BroadcastsInDim ⟨3, ![8, S, 1]⟩ (![0, 1] : Fin 2 → Fin 3)
  scalar1 : (⟨0, ![]⟩ : Shape).BroadcastsInDim ⟨3, ![8, S, 1]⟩ (![] : Fin 0 → Fin 3)
  col : (⟨3, ![8, S, 1]⟩ : Shape).BroadcastsInDim ⟨3, ![8, S, 1024]⟩ (![0, 1, 2] : Fin 3 → Fin 3)
  lift : (⟨1, ![1024]⟩ : Shape).BroadcastsInDim ⟨3, ![1, 1, 1024]⟩ (![2] : Fin 1 → Fin 3)
  row : (⟨3, ![1, 1, 1024]⟩ : Shape).BroadcastsInDim ⟨3, ![8, S, 1024]⟩ (![0, 1, 2] : Fin 3 → Fin 3)
  one : S ≠ 1

variable {S : ℕ} (C : Tokens S)

/-- The mean of every token. -/
def mean (z : 𝕍 ⟨3, ![8, S, 1024]⟩ .f32) : 𝕍 ⟨3, ![8, S, 1]⟩ .f32 :=
  Host.divf (broadcastInDim ⟨3, ![8, S, 1]⟩ ![0, 1] C.cast (Host.reduceAdd z (constant ⟨0, ![]⟩ .f32 0x00000000#32) C.red C.first))
    (broadcastInDim ⟨3, ![8, S, 1]⟩ ![] C.scalar1 (constant ⟨0, ![]⟩ .f32 0x44800000#32))

/-- A number beside every entry of its token. -/
def across (x : 𝕍 ⟨3, ![8, S, 1]⟩ .f32) : 𝕍 ⟨3, ![8, S, 1024]⟩ .f32 := broadcastInDim ⟨3, ![8, S, 1024]⟩ ![0, 1, 2] C.col x

/-- A row at every token. -/
def down (x : 𝕍 ⟨1, ![1024]⟩ .f32) : 𝕍 ⟨3, ![8, S, 1024]⟩ .f32 :=
  broadcastInDim ⟨3, ![8, S, 1024]⟩ ![0, 1, 2] C.row (broadcastInDim ⟨3, ![1, 1, 1024]⟩ ![2] C.lift x)

/-- The squared distances from the mean. -/
def square (z : 𝕍 ⟨3, ![8, S, 1024]⟩ .f32) : 𝕍 ⟨3, ![8, S, 1024]⟩ .f32 :=
  mulf (subf z (across C (mean C z))) (subf z (across C (mean C z)))

/-- The reference's layer normalisation. -/
def norm (z : 𝕍 ⟨3, ![8, S, 1024]⟩ .f32) (g b : 𝕍 ⟨1, ![1024]⟩ .f32) : 𝕍 ⟨3, ![8, S, 1024]⟩ .f32 :=
  addf (mulf (mulf (subf z (across C (mean C z))) (across C (Host.rsqrt (addf
    (mean C (square C z))
    (broadcastInDim ⟨3, ![8, S, 1]⟩ ![] C.scalar1 (constant ⟨0, ![]⟩ .f32 0x3727C5AC#32)))))) (down C g)) (down C b)

/-- Tokens times a matrix. -/
def dots {K N : ℕ} (wf : DotDims.WF ⟨3, ![8, S, K]⟩ ⟨2, ![K, N]⟩ ⟨3, ![8, S, N]⟩ [2] [0] [0, 1] [1] [] []) :
    DotDims ⟨3, ![8, S, K]⟩ ⟨2, ![K, N]⟩ ⟨3, ![8, S, N]⟩ where
  lhsContracting := [2]
  rhsContracting := [0]
  lhsNonContracting := [0, 1]
  rhsNonContracting := [1]
  lhsBatch := []
  rhsBatch := []
  wf := wf

/-- The facts of shapes the feed-forward sub-layer of `S` tokens uses, its modulation in `B` samples. -/
structure Ffn (S B : ℕ) : Prop where
  scalar : (⟨0, ![]⟩ : Shape).BroadcastsInDim ⟨3, ![8, S, 1024]⟩ (![] : Fin 0 → Fin 3)
  hidden : (⟨0, ![]⟩ : Shape).BroadcastsInDim ⟨3, ![8, S, 2816]⟩ (![] : Fin 0 → Fin 3)
  mods : (⟨0, ![]⟩ : Shape).BroadcastsInDim ⟨3, ![B, 1, 1024]⟩ (![] : Fin 0 → Fin 3)
  bcast : (⟨3, ![B, 1, 1024]⟩ : Shape).BroadcastsInDim ⟨3, ![8, S, 1024]⟩ (![0, 1, 2] : Fin 3 → Fin 3)
  left : (⟨3, ![8, S, 5632]⟩ : Shape).Slices ![0, 0, 0] ⟨3, ![8, S, 2816]⟩
  right : (⟨3, ![8, S, 5632]⟩ : Shape).Slices ![0, 0, 2816] ⟨3, ![8, S, 2816]⟩
  wide : DotDims.WF ⟨3, ![8, S, 1024]⟩ ⟨2, ![1024, 5632]⟩ ⟨3, ![8, S, 5632]⟩ [2] [0] [0, 1] [1] [] []
  back : DotDims.WF ⟨3, ![8, S, 2816]⟩ ⟨2, ![2816, 1024]⟩ ⟨3, ![8, S, 1024]⟩ [2] [0] [0, 1] [1] [] []

variable {B : ℕ} (E : Ffn S B)

/-- The hidden layer, gated, of what the first matrix gives. -/
def gated (y : 𝕍 ⟨3, ![8, S, 5632]⟩ .f32) : 𝕍 ⟨3, ![8, S, 2816]⟩ .f32 :=
  mulf (mulf (extractStridedSlice ⟨3, ![8, S, 2816]⟩ ![0, 0, 0] y E.left)
    (Host.divf (broadcastInDim ⟨3, ![8, S, 2816]⟩ ![] E.hidden (constant ⟨0, ![]⟩ .f32 0x3F800000#32))
      (addf (broadcastInDim ⟨3, ![8, S, 2816]⟩ ![] E.hidden (constant ⟨0, ![]⟩ .f32 0x3F800000#32))
        (Host.exp (Host.negf (extractStridedSlice ⟨3, ![8, S, 2816]⟩ ![0, 0, 0] y E.left))))))
    (extractStridedSlice ⟨3, ![8, S, 2816]⟩ ![0, 0, 2816] y E.right)

/-- A modulation at every token. -/
def spread (x : 𝕍 ⟨3, ![B, 1, 1024]⟩ .f32) : 𝕍 ⟨3, ![8, S, 1024]⟩ .f32 := broadcastInDim ⟨3, ![8, S, 1024]⟩ ![0, 1, 2] E.bcast x

/-- The tokens as they enter the first matrix. -/
def entering (z : 𝕍 ⟨3, ![8, S, 1024]⟩ .f32) (s c : 𝕍 ⟨3, ![B, 1, 1024]⟩ .f32) : 𝕍 ⟨3, ![8, S, 1024]⟩ .f32 :=
  addf (mulf z (spread E (addf (broadcastInDim ⟨3, ![B, 1, 1024]⟩ ![] E.mods (constant ⟨0, ![]⟩ .f32 0x3F800000#32)) c))) (spread E s)

/-- The reference's feed-forward residual. -/
def ffn (z : 𝕍 ⟨3, ![8, S, 1024]⟩ .f32) (s c t : 𝕍 ⟨3, ![B, 1, 1024]⟩ .f32) (w : 𝕍 ⟨2, ![1024, 5632]⟩ .f32) (o : 𝕍 ⟨2, ![2816, 1024]⟩ .f32) :
    𝕍 ⟨3, ![8, S, 1024]⟩ .f32 :=
  addf (mulf (broadcastInDim ⟨3, ![8, S, 1024]⟩ ![] E.scalar (constant ⟨0, ![]⟩ .f32 0x3FB504F3#32)) z)
    (mulf (spread E (mulf (broadcastInDim ⟨3, ![B, 1, 1024]⟩ ![] E.mods (constant ⟨0, ![]⟩ .f32 0x3F000000#32)) t))
      (Host.dotGeneral (dots E.back) none (gated E (Host.dotGeneral (dots E.wide) none (entering E z s c) w)) o))

/-- A number beside every entry of its token, read. -/
theorem across_apply (x : 𝕍 ⟨3, ![8, S, 1]⟩ .f32) (s : Fin 8) (n : Fin S) (j : Fin 1024) : across C x (ix3 s n j) = x (ix3 s n 0) :=
  broadcastInDim_apply _ C.col x (ix3 s n j) (ix3 s n 0) fun a => by
    match a with
    | 0 => rfl
    | 1 => exact (if_neg C.one).symm
    | 2 => rfl

/-- A row at every token, read. -/
theorem down_apply (x : 𝕍 ⟨1, ![1024]⟩ .f32) (s : Fin 8) (n : Fin S) (j : Fin 1024) : down C x (ix3 s n j) = x (ix1 j) := by
  unfold down
  pointwise

/-- The mean read at a token. -/
theorem mean_apply (z : 𝕍 ⟨3, ![8, S, 1024]⟩ .f32) (s : Fin 8) (n : Fin S) : mean C z (ix3 s n 0) = meanOf fun k => z (ix3 s n k) := by
  unfold mean meanOf
  refine congrArg₂ Ideal.div ((broadcastInDim_apply _ C.cast _ (ix3 s n 0) (ix2 s n) fun a => by
    match a with
    | 0 => rfl
    | 1 => exact (if_neg C.one).symm).trans ?_) rfl
  pointwise

/-- The squared distance from the mean read at an entry. -/
theorem square_apply (z : 𝕍 ⟨3, ![8, S, 1024]⟩ .f32) (s : Fin 8) (n : Fin S) (j : Fin 1024) :
    square C z (ix3 s n j)
      = (z (ix3 s n j) - meanOf fun k => z (ix3 s n k)) * (z (ix3 s n j) - meanOf fun k => z (ix3 s n k)) := by
  show (z (ix3 s n j) - across C _ (ix3 s n j)) * (z (ix3 s n j) - across C _ (ix3 s n j)) = _
  rw [across_apply, mean_apply]

/-- The reference's layer normalisation read at an entry. -/
theorem norm_apply (z : 𝕍 ⟨3, ![8, S, 1024]⟩ .f32) (g b : 𝕍 ⟨1, ![1024]⟩ .f32) (s : Fin 8) (n : Fin S) (j : Fin 1024) :
    norm C z g b (ix3 s n j) = normRowR (fun k => z (ix3 s n k)) (fun k => g (ix1 k)) (fun k => b (ix1 k)) j := by
  unfold norm
  show (z (ix3 s n j) - across C _ (ix3 s n j)) * across C _ (ix3 s n j) * down C g (ix3 s n j) + down C b (ix3 s n j) = _
  simp only [across_apply, down_apply]
  show (z (ix3 s n j) - mean C z (ix3 s n 0)) * Ideal.rsqrt (mean C (square C z) (ix3 s n 0) + lit 0x3727C5AC#32) * _ + _ = _
  rw [mean_apply C z s n, mean_apply C (square C z) s n]
  simp only [square_apply]
  unfold normRowR scaled
  rfl

/-- Tokens times a matrix, read at an entry. -/
theorem dots_apply {K N : ℕ} (wf : DotDims.WF ⟨3, ![8, S, K]⟩ ⟨2, ![K, N]⟩ ⟨3, ![8, S, N]⟩ [2] [0] [0, 1] [1] [] [])
    (x : 𝕍 ⟨3, ![8, S, K]⟩ .f32) (w : 𝕍 ⟨2, ![K, N]⟩ .f32) (s : Fin 8) (n : Fin S) (j : Fin N) :
    Host.dotGeneral (dots wf) none x w (ix3 s n j) = ∑ k, x (ix3 s n k) * w (ix2 k j) := by
  show FloatOps.dotGeneral _ none _ x w (ix3 s n j) = _
  rw [Ideal.dotGeneral_apply, ← Equiv.sum_comp (ValueIdx.contrEquiv1 (dots wf) K rfl rfl).symm]
  refine Finset.sum_congr rfl fun c _ => ?_
  have c2 := ValueIdx.contrEquiv1_symm_val (dots wf) K rfl rfl c
  have l2 : (dots wf).lhsIdx (ix3 s n j) ((ValueIdx.contrEquiv1 _ K rfl rfl).symm c) = ix3 s n c := by
    funext ax; apply Fin.ext
    match ax with
    | ⟨0, _⟩ => simp [DotDims.lhsIdx, dots]; rfl
    | ⟨1, _⟩ => simp [DotDims.lhsIdx, dots]; rfl
    | ⟨2, _⟩ => simp [DotDims.lhsIdx, dots]; exact c2
  have r2 : (dots wf).rhsIdx (ix3 s n j) ((ValueIdx.contrEquiv1 _ K rfl rfl).symm c) = ix2 c j := by
    funext ax; apply Fin.ext
    match ax with
    | ⟨0, _⟩ => simp [DotDims.rhsIdx, dots]; exact c2
    | ⟨1, _⟩ => simp [DotDims.rhsIdx, dots]; rfl
  rw [l2, r2]

/-- A half of the hidden layer read at an entry. -/
theorem half_apply (p : ℕ) (y : 𝕍 ⟨3, ![8, S, 5632]⟩ .f32) (h : (⟨3, ![8, S, 5632]⟩ : Shape).Slices ![0, 0, p] ⟨3, ![8, S, 2816]⟩)
    (s : Fin 8) (n : Fin S) (j : Fin 2816) (j' : Fin 5632) (e : j'.val = p + j.val) :
    extractStridedSlice ⟨3, ![8, S, 2816]⟩ ![0, 0, p] y h (ix3 s n j) = y (ix3 s n j') :=
  extractStridedSlice_apply _ y h _ _ fun a => by
    match a with
    | 0 => exact (Nat.zero_add _).symm
    | 1 => exact (Nat.zero_add _).symm
    | 2 => exact e

/-- The number one. -/
theorem lit_one_eq : lit 0x3F800000#32 = (1 : EReal) := by
  show Ideal.ofBits .f32 _ = _
  simp [Ideal.ofBits, Ideal.ieee, -EReal.coe_mul]
  norm_num

/-- The gated hidden layer read at an entry. -/
theorem gated_apply (y : 𝕍 ⟨3, ![8, S, 5632]⟩ .f32) (s : Fin 8) (n : Fin S) (j : Fin 2816) :
    gated E y (ix3 s n j) = y (ix3 s n ⟨j.val, by omega⟩) * Ideal.logistic (y (ix3 s n ⟨j.val, by omega⟩)) * y (ix3 s n ⟨2816 + j.val, by omega⟩) := by
  rw [← half_apply 0 y E.left s n j ⟨j.val, by omega⟩ (Nat.zero_add _).symm, ← half_apply 2816 y E.right s n j ⟨2816 + j.val, by omega⟩ rfl]
  unfold gated
  generalize extractStridedSlice ⟨3, ![8, S, 2816]⟩ ![0, 0, 0] y E.left = a
  generalize extractStridedSlice ⟨3, ![8, S, 2816]⟩ ![0, 0, 2816] y E.right = b
  unfold Ideal.logistic
  pointwise

/-- The reference's feed-forward residual read at an entry, where sample `s` reads the modulation of sample `p`. -/
theorem ffn_apply (z : 𝕍 ⟨3, ![8, S, 1024]⟩ .f32) (a c t : 𝕍 ⟨3, ![B, 1, 1024]⟩ .f32) (w : 𝕍 ⟨2, ![1024, 5632]⟩ .f32) (o : 𝕍 ⟨2, ![2816, 1024]⟩ .f32)
    (s : Fin 8) (n : Fin S) (p : Fin B) (hp : p.val = if B = 1 then 0 else s.val) (j : Fin 1024) :
    ffn E z a c t w o (ix3 s n j) = ffnRow (fun k => z (ix3 s n k)) (fun k => a (ix3 p 0 k)) (fun k => c (ix3 p 0 k)) (fun k => t (ix3 p 0 k))
      (fun k i => w (ix2 k ⟨i.val, by omega⟩)) (fun k i => w (ix2 k ⟨2816 + i.val, by omega⟩)) (fun i k => o (ix2 i k)) j := by
  have hs (x : 𝕍 ⟨3, ![B, 1, 1024]⟩ .f32) (k : Fin 1024) : spread E x (ix3 s n k) = x (ix3 p 0 k) :=
    broadcastInDim_apply _ E.bcast x (ix3 s n k) (ix3 p 0 k) fun ax => by
      match ax with
      | 0 => exact hp
      | 1 => rfl
      | 2 => rfl
  have hz (k : Fin 1024) : entering E z a c (ix3 s n k) = z (ix3 s n k) * (lit 0x3F800000#32 + c (ix3 p 0 k)) + a (ix3 p 0 k) := by
    show z (ix3 s n k) * spread E _ (ix3 s n k) + spread E a (ix3 s n k) = _
    rw [hs, hs]
    rfl
  unfold ffn
  show lit 0x3FB504F3#32 * z (ix3 s n j) + spread E _ (ix3 s n j) * Host.dotGeneral (dots E.back) none _ o (ix3 s n j) = _
  rw [hs, dots_apply]
  refine congrArg (lit 0x3FB504F3#32 * z (ix3 s n j) + ·) (congrArg (lit 0x3F000000#32 * t (ix3 p 0 j) * ·) ?_)
  refine Finset.sum_congr rfl fun i _ => congrArg (· * o (ix2 i j)) ?_
  rw [gated_apply, dots_apply, dots_apply]
  simp only [hz]

/-- The reference's mixer residual. -/
def mixer (wf : DotDims.WF ⟨3, ![8, S, 1024]⟩ ⟨2, ![1024, 1024]⟩ ⟨3, ![8, S, 1024]⟩ [2] [0] [0, 1] [1] [] []) (h : 𝕍 ⟨3, ![8, S, 1024]⟩ .f32)
    (t : 𝕍 ⟨3, ![B, 1, 1024]⟩ .f32) (a : 𝕍 ⟨3, ![8, S, 1024]⟩ .f32) (w : 𝕍 ⟨2, ![1024, 1024]⟩ .f32) : 𝕍 ⟨3, ![8, S, 1024]⟩ .f32 :=
  addf (mulf (broadcastInDim ⟨3, ![8, S, 1024]⟩ ![] E.scalar (constant ⟨0, ![]⟩ .f32 0x3FB504F3#32)) h)
    (mulf (spread E t) (Host.dotGeneral (dots wf) none a w))

/-- The reference's mixer residual read at an entry, where sample `s` reads the modulation of sample `p`. -/
theorem mixer_apply (wf) (h : 𝕍 ⟨3, ![8, S, 1024]⟩ .f32) (t : 𝕍 ⟨3, ![B, 1, 1024]⟩ .f32) (a : 𝕍 ⟨3, ![8, S, 1024]⟩ .f32) (w : 𝕍 ⟨2, ![1024, 1024]⟩ .f32)
    (s : Fin 8) (n : Fin S) (p : Fin B) (hp : p.val = if B = 1 then 0 else s.val) (j : Fin 1024) :
    mixer E wf h t a w (ix3 s n j)
      = mixRow (fun k => h (ix3 s n k)) (fun k => t (ix3 p 0 k)) (fun k => a (ix3 s n k)) (fun k i => w (ix2 k i)) j := by
  have hs : spread E t (ix3 s n j) = t (ix3 p 0 j) :=
    broadcastInDim_apply _ E.bcast t (ix3 s n j) (ix3 p 0 j) fun ax => by
      match ax with
      | 0 => exact hp
      | 1 => rfl
      | 2 => rfl
  unfold mixer
  show lit 0x3FB504F3#32 * h (ix3 s n j) + spread E t (ix3 s n j) * Host.dotGeneral (dots wf) none a w (ix3 s n j) = _
  rw [hs, dots_apply]
  rfl

/-- The reference's layer from the mixer's attention on: the mixer's residual, normalised, then the feed-forward residual, normalised. -/
def closing (wf : DotDims.WF ⟨3, ![8, S, 1024]⟩ ⟨2, ![1024, 1024]⟩ ⟨3, ![8, S, 1024]⟩ [2] [0] [0, 1] [1] [] []) (h : 𝕍 ⟨3, ![8, S, 1024]⟩ .f32)
    (g : 𝕍 ⟨3, ![B, 1, 1024]⟩ .f32) (a : 𝕍 ⟨3, ![8, S, 1024]⟩ .f32) (v : 𝕍 ⟨2, ![1024, 1024]⟩ .f32) (γ β : 𝕍 ⟨1, ![1024]⟩ .f32)
    (s c t : 𝕍 ⟨3, ![B, 1, 1024]⟩ .f32) (w : 𝕍 ⟨2, ![1024, 5632]⟩ .f32) (o : 𝕍 ⟨2, ![2816, 1024]⟩ .f32) (γ' β' : 𝕍 ⟨1, ![1024]⟩ .f32) :
    𝕍 ⟨3, ![8, S, 1024]⟩ .f32 :=
  norm C (ffn E (norm C (mixer E wf h g a v) γ β) s c t w o) γ' β'

/-- The reference's layer from the mixer's attention on read at an entry, where sample `s` reads the modulation of sample `p`. -/
theorem closing_apply (wf) (h : 𝕍 ⟨3, ![8, S, 1024]⟩ .f32)
    (g : 𝕍 ⟨3, ![B, 1, 1024]⟩ .f32) (a : 𝕍 ⟨3, ![8, S, 1024]⟩ .f32) (v : 𝕍 ⟨2, ![1024, 1024]⟩ .f32) (γ β : 𝕍 ⟨1, ![1024]⟩ .f32)
    (b c t : 𝕍 ⟨3, ![B, 1, 1024]⟩ .f32) (w : 𝕍 ⟨2, ![1024, 5632]⟩ .f32) (o : 𝕍 ⟨2, ![2816, 1024]⟩ .f32) (γ' β' : 𝕍 ⟨1, ![1024]⟩ .f32)
    (s : Fin 8) (n : Fin S) (p : Fin B) (hp : p.val = if B = 1 then 0 else s.val) (j : Fin 1024) :
    closing C E wf h g a v γ β b c t w o γ' β' (ix3 s n j)
      = normRowR (ffnRow (normRowR (mixRow (fun k => h (ix3 s n k)) (fun k => g (ix3 p 0 k)) (fun k => a (ix3 s n k)) (fun k i => v (ix2 k i)))
            (fun k => γ (ix1 k)) (fun k => β (ix1 k)))
          (fun k => b (ix3 p 0 k)) (fun k => c (ix3 p 0 k)) (fun k => t (ix3 p 0 k))
          (fun k i => w (ix2 k ⟨i.val, by omega⟩)) (fun k i => w (ix2 k ⟨2816 + i.val, by omega⟩)) (fun i k => o (ix2 i k)))
        (fun k => γ' (ix1 k)) (fun k => β' (ix1 k)) j := by
  unfold closing
  rw [norm_apply]
  simp only [ffn_apply E _ _ _ _ _ _ s n p hp, norm_apply, mixer_apply E wf _ _ _ _ s n p hp]

/-- The sample whose modulation token `T` takes: its own for a latent token, the ninth for a context token. -/
def modsOf (T : Fin 18432) : Fin 16 := ⟨min (T.val / 2048) 8, by omega⟩

/-- The latent tokens followed by the context tokens, read at a latent token. -/
theorem join_latent (y : 𝕍 ⟨3, ![8, 2048, 1024]⟩ .f32) (z : 𝕍 ⟨3, ![8, 256, 1024]⟩ .f32)
    (hy : (⟨3, ![8, 2048, 1024]⟩ : Shape).ShapeCasts ⟨2, ![16384, 1024]⟩) (hz : (⟨3, ![8, 256, 1024]⟩ : Shape).ShapeCasts ⟨2, ![2048, 1024]⟩)
    (hc) (T : Fin 18432) (j : Fin 1024) (h : T.val < 16384) :
    concatenate (⟨2, ![18432, 1024]⟩ : Shape) 0 [⟨(⟨2, ![16384, 1024]⟩ : Shape), shapeCast ⟨2, ![16384, 1024]⟩ y hy⟩,
        ⟨(⟨2, ![2048, 1024]⟩ : Shape), shapeCast ⟨2, ![2048, 1024]⟩ z hz⟩] hc (ix2 T j)
      = y (ix3 (⟨T.val / 2048, by omega⟩ : Fin 8) (⟨T.val % 2048, by omega⟩ : Fin 2048) j) := by
  refine (concatenate_pair_apply_left (t := ⟨2, ![18432, 1024]⟩) (s₁ := ⟨2, ![16384, 1024]⟩) (s₂ := ⟨2, ![2048, 1024]⟩) 0 (shapeCast ⟨2, ![16384, 1024]⟩ y hy)
    (shapeCast ⟨2, ![2048, 1024]⟩ z hz) hc (ix2 T j) rfl (ix2 ⟨T.val, h⟩ j) ?_).trans ?_
  · intro b
    match b with
    | 0 => rfl
    | 1 => rfl
  · refine _root_.Idealize.ShloMosaic.shapeCast_apply _ hy _ _ ?_
    rw [Shape.rowMajor_val_two, Shape.rowMajor_val_three]
    show (T.val / 2048 * 2048 + T.val % 2048) * 1024 + j.val = T.val * 1024 + j.val
    omega

/-- The latent tokens followed by the context tokens, read at a context token. -/
theorem join_context (y : 𝕍 ⟨3, ![8, 2048, 1024]⟩ .f32) (z : 𝕍 ⟨3, ![8, 256, 1024]⟩ .f32)
    (hy : (⟨3, ![8, 2048, 1024]⟩ : Shape).ShapeCasts ⟨2, ![16384, 1024]⟩) (hz : (⟨3, ![8, 256, 1024]⟩ : Shape).ShapeCasts ⟨2, ![2048, 1024]⟩)
    (hc) (T : Fin 18432) (j : Fin 1024) (h : ¬ T.val < 16384) :
    concatenate (⟨2, ![18432, 1024]⟩ : Shape) 0 [⟨(⟨2, ![16384, 1024]⟩ : Shape), shapeCast ⟨2, ![16384, 1024]⟩ y hy⟩,
        ⟨(⟨2, ![2048, 1024]⟩ : Shape), shapeCast ⟨2, ![2048, 1024]⟩ z hz⟩] hc (ix2 T j)
      = z (ix3 (⟨(T.val - 16384) / 256, by omega⟩ : Fin 8) (⟨(T.val - 16384) % 256, by omega⟩ : Fin 256) j) := by
  refine (concatenate_pair_apply_right (t := ⟨2, ![18432, 1024]⟩) (s₁ := ⟨2, ![16384, 1024]⟩) (s₂ := ⟨2, ![2048, 1024]⟩) 0 (shapeCast ⟨2, ![16384, 1024]⟩ y hy)
    (shapeCast ⟨2, ![2048, 1024]⟩ z hz) hc (ix2 T j) rfl rfl (ix2 (⟨T.val - 16384, by omega⟩ : Fin 2048) j) ?_ ?_).trans ?_
  · intro b hb
    match b with
    | 0 => exact absurd rfl hb
    | 1 => rfl
  · show T.val - 16384 + 16384 = T.val
    omega
  · refine _root_.Idealize.ShloMosaic.shapeCast_apply _ hz _ _ ?_
    rw [Shape.rowMajor_val_two, Shape.rowMajor_val_three]
    show ((T.val - 16384) / 256 * 256 + (T.val - 16384) % 256) * 1024 + j.val = (T.val - 16384) * 1024 + j.val
    omega

end Cert.FfnProof.Ref
-- ==== Proof.PostReferenceRows.lean ====
module
public import proofs.«01_k».proof.Proof.Gen.PostReferenceIdeal.Read
public import Idealize.ShloMosaic.Lib.Pointwise
public import proofs.«01_k».proof.Proof.FfnReference
@[expose] public section
set_option maxRecDepth 16384
noncomputable section

/-! The reference of the last sub-layers: its array read at a token. -/

namespace Cert.PostProof.Ref
open Cert.PostReferenceIdeal Cert.PostReferenceIdeal.Gen Cert.PostReferenceIdeal.Read Idealize.ShloMosaic Idealize.ShloMosaic.TcCoe Idealize.SL.Sem
open Idealize.ShloMosaic.Pointwise Cert.FfnProof Cert.FfnProof.Ref
local notation "𝕍" => FVec Ideal

/-- The facts of shapes of a sample's 2048 tokens. -/
theorem tokens : Tokens 2048 := ⟨reducesTo_S8x2048x1024_S8x2048_d2, h_S_, bcast_S8x2048_S8x2048x1_0_1, bcast_S_S8x2048x1,
  bcast_S8x2048x1_S8x2048x1024_0_1_2, bcast_S1024_S1x1x1024_2, bcast_S1x1x1024_S8x2048x1024_0_1_2, by decide⟩

/-- The facts of shapes of the feed-forward sub-layer. -/
theorem sublayer : Ffn 2048 8 := ⟨bcast_S_S8x2048x1024, bcast_S_S8x2048x2816, bcast_S_S8x1x1024, bcast_S8x1x1024_S8x2048x1024_0_1_2,
  slices_S8x2048x5632_S8x2048x2816_0_0_0, slices_S8x2048x5632_S8x2048x2816_0_0_2816,
  dot_S8x2048x1024_S1024x5632_S8x2048x5632_2_0_01_1_n_n_wf, dot_S8x2048x2816_S2816x1024_S8x2048x1024_2_0_01_1_n_n_wf⟩

variable (x0 : 𝕍 S2x16x9x1024 .f32) (x1 : 𝕍 S18432x1024 .f32) (x2 : 𝕍 S16384x1024 .bf16) (x3 : 𝕍 S1024x1024 .bf16)
  (x4 : 𝕍 S1024x5632 .bf16) (x5 : 𝕍 S2816x1024 .bf16) (x6 x7 : 𝕍 S2x3x1024 .f32)

/-- The mixer's residual, normalised, is the layer normalisation. -/
theorem mid_eq : val_main_v67 (F := Ideal) x0 x1 x2 x3 x6 x7
    = norm tokens (val_main_v39 (F := Ideal) x0 x1 x2 x3) (val_main_v41 (F := Ideal) x6) (val_main_v43 (F := Ideal) x7) := rfl

/-- The feed-forward residual is the sub-layer's. -/
theorem residual_eq : val_main_v90 (F := Ideal) x0 x1 x2 x3 x4 x5 x6 x7
    = ffn sublayer (val_main_v67 (F := Ideal) x0 x1 x2 x3 x6 x7) (val_main_v20 (F := Ideal) x0) (val_main_v23 (F := Ideal) x0) (val_main_v26 (F := Ideal) x0)
      (val_main_v28 (F := Ideal) x4) (val_main_v29 (F := Ideal) x5) := rfl

/-- The result is the layer normalisation. -/
theorem out_eq : val_main_v114 (F := Ideal) x0 x1 x2 x3 x4 x5 x6 x7
    = norm tokens (val_main_v90 (F := Ideal) x0 x1 x2 x3 x4 x5 x6 x7) (val_main_v69 (F := Ideal) x6) (val_main_v71 (F := Ideal) x7) := rfl

/-- A token of the residual stream. -/
theorem token_apply (s : Fin 8) (n : Fin 2048) (k : Fin 1024) :
    val_main_v31 (F := Ideal) x1 (ix3 s n k) = x1 (ix2 ⟨2048 * s.val + n.val, by omega⟩ k) := by
  unfold val_main_v31 val_main_v30
  pointwise
  exact congrArg₂ (fun a b => x1 (ix2 a b)) (Fin.ext (by dsimp only; omega)) (Fin.ext (by dsimp only))

/-- A token of the attention. -/
theorem attention_apply (s : Fin 8) (n : Fin 2048) (k : Fin 1024) :
    val_main_v33 (F := Ideal) x2 (ix3 s n k) = x2 (ix2 ⟨2048 * s.val + n.val, by omega⟩ k) := by
  unfold val_main_v33 val_main_v32
  pointwise
  exact congrArg₂ (fun a b => x2 (ix2 a b)) (Fin.ext (by dsimp only; omega)) (Fin.ext (by dsimp only))

/-- The modulation rows. -/
theorem mods_apply (s : Fin 8) (k : Fin 1024) :
    val_main_v17 (F := Ideal) x0 (ix3 s 0 k) = x0 (ix4 1 ⟨s.val, by omega⟩ 5 k) ∧ val_main_v20 (F := Ideal) x0 (ix3 s 0 k) = x0 (ix4 1 ⟨s.val, by omega⟩ 6 k)
    ∧ val_main_v23 (F := Ideal) x0 (ix3 s 0 k) = x0 (ix4 1 ⟨s.val, by omega⟩ 7 k) ∧ val_main_v26 (F := Ideal) x0 (ix3 s 0 k) = x0 (ix4 1 ⟨s.val, by omega⟩ 8 k) := by
  refine ⟨?_, ?_, ?_, ?_⟩
  · unfold val_main_v17 val_main_v16 val_main_v15
    pointwise
  · unfold val_main_v20 val_main_v19 val_main_v18
    pointwise
  · unfold val_main_v23 val_main_v22 val_main_v21
    pointwise
  · unfold val_main_v26 val_main_v25 val_main_v24
    pointwise

/-- The scales and offsets of the layer normalisations. -/
theorem affine_apply (k : Fin 1024) :
    val_main_v41 (F := Ideal) x6 (ix1 k) = x6 (ix3 1 1 k) ∧ val_main_v43 (F := Ideal) x7 (ix1 k) = x7 (ix3 1 1 k)
    ∧ val_main_v69 (F := Ideal) x6 (ix1 k) = x6 (ix3 1 2 k) ∧ val_main_v71 (F := Ideal) x7 (ix1 k) = x7 (ix3 1 2 k) := by
  refine ⟨?_, ?_, ?_, ?_⟩
  · unfold val_main_v41 val_main_v40
    pointwise
  · unfold val_main_v43 val_main_v42
    pointwise
  · unfold val_main_v69 val_main_v68
    pointwise
  · unfold val_main_v71 val_main_v70
    pointwise

/-- The mixer's residual read at an entry. -/
theorem mix_apply (s : Fin 8) (n : Fin 2048) (j : Fin 1024) : val_main_v39 (F := Ideal) x0 x1 x2 x3 (ix3 s n j)
    = mixRow (fun k => x1 (ix2 ⟨2048 * s.val + n.val, by omega⟩ k)) (fun k => x0 (ix4 1 ⟨s.val, by omega⟩ 5 k))
      (fun k => x2 (ix2 ⟨2048 * s.val + n.val, by omega⟩ k)) (fun k i => x3 (ix2 k i)) j := by
  have hd := dots_apply dot_S8x2048x1024_S1024x1024_S8x2048x1024_2_0_01_1_n_n_wf (val_main_v33 (F := Ideal) x2) (val_main_v27 (F := Ideal) x3) s n j
  simp only [attention_apply] at hd
  have hm : val_main_v37 (F := Ideal) x0 (ix3 s n j) = val_main_v17 (F := Ideal) x0 (ix3 s 0 j) := by
    unfold val_main_v37
    pointwise
  rw [(mods_apply x0 s j).1] at hm
  exact congrArg₂ (· + ·) (congrArg (lit 0x3FB504F3#32 * ·) (token_apply x1 s n j)) (congrArg₂ (· * ·) hm hd)

/-- The mixer's residual of token `n` of sample `s`, normalised. -/
def midRow (s : Fin 8) (T : Fin 18432) (T' : Fin 16384) : Fin 1024 → EReal :=
  normRowR (mixRow (fun k => x1 (ix2 T k)) (fun k => x0 (ix4 1 ⟨s.val, by omega⟩ 5 k)) (fun k => x2 (ix2 T' k)) (fun k i => x3 (ix2 k i)))
    (fun k => x6 (ix3 1 1 k)) (fun k => x7 (ix3 1 1 k))

/-- The feed-forward residual of a token. -/
def residualRow (s : Fin 8) (T : Fin 18432) (T' : Fin 16384) : Fin 1024 → EReal :=
  ffnRow (midRow x0 x1 x2 x3 x6 x7 s T T') (fun k => x0 (ix4 1 ⟨s.val, by omega⟩ 6 k)) (fun k => x0 (ix4 1 ⟨s.val, by omega⟩ 7 k))
    (fun k => x0 (ix4 1 ⟨s.val, by omega⟩ 8 k)) (fun k i => x4 (ix2 k ⟨i.val, by omega⟩)) (fun k i => x4 (ix2 k ⟨2816 + i.val, by omega⟩))
    (fun i k => x5 (ix2 i k))

/-- The reference's array read at a token. -/
theorem result_apply (s : Fin 8) (n : Fin 2048) (j : Fin 1024) :
    val_main_v115 (F := Ideal) x0 x1 x2 x3 x4 x5 x6 x7 (ix2 ⟨2048 * s.val + n.val, by omega⟩ j)
      = normRowR (residualRow x0 x1 x2 x3 x4 x5 x6 x7 s ⟨2048 * s.val + n.val, by omega⟩ ⟨2048 * s.val + n.val, by omega⟩)
        (fun k => x6 (ix3 1 2 k)) (fun k => x7 (ix3 1 2 k)) j := by
  have e1 (k : Fin 1024) : val_main_v67 (F := Ideal) x0 x1 x2 x3 x6 x7 (ix3 s n k) = midRow x0 x1 x2 x3 x6 x7 s ⟨2048 * s.val + n.val, by omega⟩ ⟨2048 * s.val + n.val, by omega⟩ k := by
    rw [mid_eq, Cert.FfnProof.Ref.norm_apply]
    simp only [mix_apply, affine_apply x6 x7]
    rfl
  have e2 (k : Fin 1024) : val_main_v90 (F := Ideal) x0 x1 x2 x3 x4 x5 x6 x7 (ix3 s n k) = residualRow x0 x1 x2 x3 x4 x5 x6 x7 s ⟨2048 * s.val + n.val, by omega⟩ ⟨2048 * s.val + n.val, by omega⟩ k := by
    rw [residual_eq, ffn_apply sublayer _ _ _ _ _ _ s n s (if_neg (by decide)).symm]
    simp only [e1, mods_apply]
    rfl
  have e3 (k : Fin 1024) : val_main_v114 (F := Ideal) x0 x1 x2 x3 x4 x5 x6 x7 (ix3 s n k)
      = normRowR (residualRow x0 x1 x2 x3 x4 x5 x6 x7 s ⟨2048 * s.val + n.val, by omega⟩ ⟨2048 * s.val + n.val, by omega⟩)
        (fun k => x6 (ix3 1 2 k)) (fun k => x7 (ix3 1 2 k)) k := by
    rw [out_eq, Cert.FfnProof.Ref.norm_apply]
    simp only [e2, affine_apply x6 x7]
  rw [← e3, val_main_v115_apply]
  generalize val_main_v114 (F := Ideal) x0 x1 x2 x3 x4 x5 x6 x7 = y
  refine congrArg y (funext fun a => ?_)
  match a with
  | 0 => exact Fin.ext (by show ((2048 * s.val + n.val) * 1024 + j.val) / 2097152 = s.val; omega)
  | 1 => exact Fin.ext (by show ((2048 * s.val + n.val) * 1024 + j.val) / 1024 % 2048 = n.val; omega)
  | 2 => exact Fin.ext (by show ((2048 * s.val + n.val) * 1024 + j.val) % 1024 = j.val; omega)

end Cert.PostProof.Ref
-- ==== Proof.PostValue.lean ====
module
public import proofs.«01_k».proof.Defs
public import proofs.«01_k».proof.Proof.WaValue
public import proofs.«01_k».proof.Proof.PostBlock
public import proofs.«01_k».proof.Proof.PostReferenceRows
public import proofs.«01_k».proof.Proof.Gen.Pre_post_finite
@[expose] public section
set_option maxRecDepth 16384
noncomputable section

/-! The array `post_1` leaves is the reference's, from finite modulation, tokens, attention and weights. -/

namespace Cert.PostProof
open Cert.PostKernelIdeal Cert.PostKernelIdeal.Gen Idealize.ShloMosaic Idealize.ShloMosaic.TcCoe Idealize.SL.Sem
open Idealize.ShloMosaic.Pointwise Cert.FfnProof Cert.WaProof
local notation "𝕍" => FVec Ideal

/-- What the precondition makes real. -/
structure Finite (x0 : 𝕍 S2x16x9x1024 .f32) (x1 : 𝕍 S18432x1024 .f32) (x2 : 𝕍 S16384x1024 .bf16) (x3 : 𝕍 S1024x1024 .bf16)
    (x4 : 𝕍 S1024x5632 .bf16) (x5 : 𝕍 S2816x1024 .bf16) (x6 x7 : 𝕍 S2x3x1024 .f32) : Prop where
  mods (s : Fin 8) (k : Fin 4) (j : Fin 1024) : IsReal (x0 (ix4 1 ⟨s.val, by omega⟩ ⟨5 + k.val, by omega⟩ j))
  tokens (T : Fin 16384) (j : Fin 1024) : IsReal (x1 (ix2 ⟨T.val, by omega⟩ j))
  attention (T : Fin 16384) (j : Fin 1024) : IsReal (x2 (ix2 T j))
  project (k j : Fin 1024) : IsReal (x3 (ix2 k j))
  wide (k : Fin 1024) (j : Fin 5632) : IsReal (x4 (ix2 k j))
  back (k : Fin 2816) (j : Fin 1024) : IsReal (x5 (ix2 k j))
  scale (j : Fin 1024) : IsReal (x6 (ix3 1 1 j))
  offset (j : Fin 1024) : IsReal (x7 (ix3 1 1 j))

variable (x0 : 𝕍 S2x16x9x1024 .f32) (x1 : 𝕍 S18432x1024 .f32) (x2 : 𝕍 S16384x1024 .bf16) (x3 : 𝕍 S1024x1024 .bf16)
  (x4 : 𝕍 S1024x5632 .bf16) (x5 : 𝕍 S2816x1024 .bf16) (x6 x7 : 𝕍 S2x3x1024 .f32)

/-- What the precondition says of each array, entry by entry. -/
def checks := (letI := Cert.Pre_post_finite.Gen.facts; Cert.Pre_post_finite.fn (F := Ideal) x0 x1 x2 x3 x4 x5 x6 x7)

/-- The precondition makes it real. -/
theorem finite_of (h : let p := checks x0 x1 x2 x3 x4 x5 x6 x7
    p.1 = (fun _ => 1#1) ∧ p.2.1 = (fun _ => 1#1) ∧ p.2.2.1 = (fun _ => 1#1) ∧ p.2.2.2.1 = (fun _ => 1#1) ∧ p.2.2.2.2.1 = (fun _ => 1#1)
      ∧ p.2.2.2.2.2.1 = (fun _ => 1#1) ∧ p.2.2.2.2.2.2.1 = (fun _ => 1#1) ∧ p.2.2.2.2.2.2.2 = (fun _ => 1#1)) : Finite x0 x1 x2 x3 x4 x5 x6 x7 := by
  obtain ⟨h0, h1, h2, h3, h4, h5, h6, h7⟩ := h
  unfold checks Cert.Pre_post_finite.fn Cert.Pre_post_finite.fn_part1 at h0 h1 h2 h3 h4 h5 h6 h7
  refine ⟨fun s k j => ?_, fun T j => ?_, fun T j => ?_, fun k j => ?_, fun k j => ?_, fun k j => ?_, fun j => ?_, fun j => ?_⟩
  · have := congrFun h0 (ix3 s k j); revert this; pointwise; exact real_of_abs_lt _
  · have := congrFun h1 (ix2 T j); revert this; pointwise; exact real_of_abs_lt _
  · have := congrFun h2 (ix2 T j); revert this; pointwise; exact real_of_abs_lt _
  · have := congrFun h3 (ix2 k j); revert this; pointwise; exact real_of_abs_lt _
  · have := congrFun h4 (ix2 k j); revert this; pointwise; exact real_of_abs_lt _
  · have := congrFun h5 (ix2 k j); revert this; pointwise; exact real_of_abs_lt _
  · have := congrFun h6 (ix1 j); revert this; pointwise; exact real_of_abs_lt _
  · have := congrFun h7 (ix1 j); revert this; pointwise; exact real_of_abs_lt _

/-- The blocks' places. -/
theorem places : ∀ t : Fin cfg0.N, win0_0.index t = ![1, t.val / 4, 0, 0] ∧ win0_1.index t = ![t.val, 0] ∧ win0_2.index t = ![t.val, 0]
    ∧ win0_3.index t = ![0, 0] ∧ win0_4.index t = ![0, 0] ∧ win0_5.index t = ![0, 0] ∧ win0_6.index t = ![1, 0, 0] ∧ win0_7.index t = ![1, 0, 0]
    ∧ win0_8.index t = ![t.val, 0] :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 1 ⟨t.val / 4, by have : t.val < 32 := t.isLt; omega⟩ k j) := by
  blk_ext [iblk, V, places t]

/-- The token block's element. -/
theorem tokens_at (c : Dev nD) (t : Fin cfg0.N) (r : Fin 512) (j : Fin 1024) :
    iblk m c 1 t (ix2 r j) = (m ((c : Thread nD τ).loc main_arg1) : 𝕍 S18432x1024 .f32) (ix2 ⟨512 * t.val + r.val, by have : t.val < 32 := t.isLt; omega⟩ j) := by
  blk_ext [iblk, V, places t]

/-- The attention block's element. -/
theorem attention_at (c : Dev nD) (t : Fin cfg0.N) (r : Fin 512) (j : Fin 1024) :
    iblk m c 2 t (ix2 r j) = (m ((c : Thread nD τ).loc main_arg2) : 𝕍 S16384x1024 .bf16) (ix2 ⟨512 * t.val + r.val, by have : t.val < 32 := t.isLt; omega⟩ j) := by
  blk_ext [iblk, V, places t]

/-- The projection. -/
theorem project_at (c : Dev nD) (t : Fin cfg0.N) (k j : Fin 1024) :
    iblk m c 3 t (ix2 k j) = (m ((c : Thread nD τ).loc main_arg3) : 𝕍 S1024x1024 .bf16) (ix2 k j) := by
  blk_ext [iblk, V, places t]

/-- The first feed-forward matrix. -/
theorem wide_at (c : Dev nD) (t : Fin cfg0.N) (k : Fin 1024) (j : Fin 5632) :
    iblk m c 4 t (ix2 k j) = (m ((c : Thread nD τ).loc main_arg4) : 𝕍 S1024x5632 .bf16) (ix2 k j) := by
  blk_ext [iblk, V, places t]

/-- The second feed-forward matrix. -/
theorem back_at (c : Dev nD) (t : Fin cfg0.N) (k : Fin 2816) (j : Fin 1024) :
    iblk m c 5 t (ix2 k j) = (m ((c : Thread nD τ).loc main_arg5) : 𝕍 S2816x1024 .bf16) (ix2 k j) := by
  blk_ext [iblk, V, places t]

/-- The scales of the layer normalisations. -/
theorem scale_at (c : Dev nD) (t : Fin cfg0.N) (k : Fin 3) (j : Fin 1024) :
    iblk m c 6 t (ix3 0 k j) = (m ((c : Thread nD τ).loc main_arg6) : 𝕍 S2x3x1024 .f32) (ix3 1 k j) := by
  blk_ext [iblk, V, places t]

/-- The offsets of the layer normalisations. -/
theorem offset_at (c : Dev nD) (t : Fin cfg0.N) (k : Fin 3) (j : Fin 1024) :
    iblk m c 7 t (ix3 0 k j) = (m ((c : Thread nD τ).loc main_arg7) : 𝕍 S2x3x1024 .f32) (ix3 1 k j) := by
  blk_ext [iblk, V, places t]

/-- A row the kernel stores is the reference's. -/
theorem row_eq (c : Dev nD) (t : Fin cfg0.N) (e0 : m ((c : Thread nD τ).loc main_arg0) = x0) (e1 : m ((c : Thread nD τ).loc main_arg1) = x1)
    (e2 : m ((c : Thread nD τ).loc main_arg2) = x2) (e3 : m ((c : Thread nD τ).loc main_arg3) = x3) (e4 : m ((c : Thread nD τ).loc main_arg4) = x4)
    (e5 : m ((c : Thread nD τ).loc main_arg5) = x5) (e6 : m ((c : Thread nD τ).loc main_arg6) = x6) (e7 : m ((c : Thread nD τ).loc main_arg7) = x7)
    (hf : Finite x0 x1 x2 x3 x4 x5 x6 x7) (r : Fin 512) (l : Fin 1024) (T : Fin 16384) (hT : T.val = 512 * t.val + r.val) :
    outBlock (iblk m c 0 t) (iblk m c 1 t) (iblk m c 2 t) (iblk m c 3 t) (iblk m c 4 t) (iblk m c 5 t) (iblk m c 6 t) (iblk m c 7 t) r l
      = Cert.PostReferenceIdeal.Read.val_main_v115 (F := Ideal) x0 x1 x2 x3 x4 x5 x6 x7 (ix2 T l) := by
  have ht : t.val < 32 := t.isLt
  have E0 := mods_at m c t
  have E1 := tokens_at m c t
  have E2 := attention_at m c t
  have E3 := project_at m c t
  have E4 := wide_at m c t
  have E5 := back_at m c t
  have E6 := scale_at m c t
  have E7 := offset_at m c t
  rw [e0] at E0; rw [e1] at E1; rw [e2] at E2; rw [e3] at E3; rw [e4] at E4; rw [e5] at E5; rw [e6] at E6; rw [e7] at E7
  obtain ⟨s, hs⟩ : ∃ s : Fin 8, s.val = t.val / 4 := ⟨⟨t.val / 4, by omega⟩, rfl⟩
  obtain ⟨n, hn⟩ : ∃ n : Fin 2048, n.val = 512 * (t.val % 4) + r.val := ⟨⟨512 * (t.val % 4) + r.val, by omega⟩, rfl⟩
  have e : T = ⟨2048 * s.val + n.val, by omega⟩ := Fin.ext (by dsimp only; omega)
  rw [e, Ref.result_apply]
  have f0 (k : Fin 9) (j : Fin 1024) : iblk m c 0 t (ix4 0 0 k j) = x0 (ix4 1 ⟨s.val, by omega⟩ k j) := by
    rw [E0]; exact congrArg (fun a => x0 (ix4 1 a k j)) (Fin.ext hs.symm)
  have f1 (j : Fin 1024) : iblk m c 1 t (ix2 r j) = x1 (ix2 ⟨2048 * s.val + n.val, by omega⟩ j) := by
    rw [E1]; exact congrArg (fun a => x1 (ix2 a j)) (Fin.ext (by dsimp only; omega))
  have f2 (j : Fin 1024) : iblk m c 2 t (ix2 r j) = x2 (ix2 ⟨2048 * s.val + n.val, by omega⟩ j) := by
    rw [E2]; exact congrArg (fun a => x2 (ix2 a j)) (Fin.ext (by dsimp only; omega))
  have h1 : RealRow (mixRow (fun k => x1 (ix2 ⟨2048 * s.val + n.val, by omega⟩ k)) (fun k => x0 (ix4 1 ⟨s.val, by omega⟩ 5 k))
      (fun k => x2 (ix2 ⟨2048 * s.val + n.val, by omega⟩ k)) (fun k i => x3 (ix2 k i))) :=
    mixRow_real _ _ _ _ (hf.tokens ⟨2048 * s.val + n.val, by omega⟩) (hf.mods s 0) (hf.attention _) hf.project
  have h2 : RealRow (Ref.residualRow x0 x1 x2 x3 x4 x5 x6 x7 s ⟨2048 * s.val + n.val, by omega⟩ ⟨2048 * s.val + n.val, by omega⟩) :=
    ffnRow_real _ _ _ _ _ _ _ (normRowR_real _ _ _ h1 hf.scale hf.offset) (hf.mods s 1) (hf.mods s 2) (hf.mods s 3)
      (fun k _ => hf.wide k _) (fun k _ => hf.wide k _) hf.back
  rw [← normRow_eq _ _ _ h2]
  unfold outBlock Ref.residualRow midRow Ref.midRow
  rw [← normRow_eq _ _ _ h1]
  simp only [f0, f1, f2, E3, E4, E5, E6, E7]

/-- The array the kernel leaves is the reference's. -/
theorem final (c : Dev nD) (hfin : Finite (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7))) : (dats m 0 c).arrAt 8 cfg0.N
    = Cert.PostReferenceIdeal.Read.val_main_v115 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  unfold outsAt0
  rw [out_eq]
  have ht : t.val < 32 := t.isLt
  have y0 : (y 0).val < 512 := (y 0).isLt
  have y1 : (y 1).val < 1024 := (y 1).isLt
  refine (row_eq _ _ _ _ _ _ _ _ m c t rfl rfl rfl rfl rfl rfl rfl rfl hfin (y 0) (y 1) ⟨512 * t.val + (y 0).val, by omega⟩ rfl).trans ?_
  refine congrArg _ ?_
  blk_ext [places t]

end Cert.PostProof
-- ==== Proof.PreBlock.lean ====
module
public import proofs.«01_k».proof.Proof.Gen.PreKernelIdeal.Value
public import Idealize.ShloMosaic.Lib.Pipeline.ValueKit
public import proofs.«01_k».proof.Proof.FfnLoads
@[expose] public section
set_option maxRecDepth 16384
noncomputable section

/-! The body of `ffn_pre_1` in words: each of its three chunks of rows is the feed-forward residual, normalised; and four
copies of pieces of the next calls' weights. -/

namespace Cert.PreProof
open Cert.PreKernelIdeal Cert.PreKernelIdeal.Gen Idealize.ShloMosaic Idealize.ShloMosaic.TcCoe Idealize.SL.Sem
open Idealize.ShloMosaic.Pointwise Cert.FfnProof
local notation "𝕍" => FVec Ideal

/-- The facts about chunks of 128 rows. -/
theorem chunk128 : Chunk 128 := ⟨reduces_S128x1024_S128, shapeCasts_S128_S128x1, broadcasts_S128x1_S128x1024, broadcasts_S1x1024_S128x1024,
  by decide, bitsLt_bf16_f32⟩

/-- The facts about chunks of 256 rows. -/
theorem chunk256 : Chunk 256 := ⟨reduces_S256x1024_S256, shapeCasts_S256_S256x1, broadcasts_S256x1_S256x1024, broadcasts_S1x1024_S256x1024,
  by decide, bitsLt_bf16_f32⟩

/-- What the body stores for `R` rows of tokens `a`. -/
def chunk {R : ℕ} (C : Chunk R) (x0 : Vec Ideal S1x1x9x1024 .f32) (a : 𝕍 ⟨2, ![R, 1024]⟩ .f32) (x2 : Vec Ideal S1024x5632 .bf16) (x3 : Vec Ideal S2816x1024 .bf16)
    (x4 x5 : Vec Ideal S1x3x1024 .f32) : 𝕍 ⟨2, ![R, 1024]⟩ .f32 :=
  norm C (ffn C a
      (modRow x0 0 inb_S1x1x9x1024_S1x1x9x1024_0_0_0_0 shapeCasts_S1x1x9x1024_S9x1024 slices_S9x1024_o0_0_S1x1024)
      (modRow x0 1 inb_S1x1x9x1024_S1x1x9x1024_0_0_0_0 shapeCasts_S1x1x9x1024_S9x1024 slices_S9x1024_o1_0_S1x1024)
      (modRow x0 2 inb_S1x1x9x1024_S1x1x9x1024_0_0_0_0 shapeCasts_S1x1x9x1024_S9x1024 slices_S9x1024_o2_0_S1x1024)
      (part x2 0 0 1024 2816 inb_S1024x5632_S1024x2816_0_0) (part x2 0 2816 1024 2816 inb_S1024x5632_S1024x2816_0_2816)
      (part x3 0 0 2816 1024 inb_S2816x1024_S2816x1024_0_0))
    (lnRow x4 0 inb_S1x3x1024_S1x1x1024_0_0_0 shapeCasts_S1x1x1024_S1x1024) (lnRow x5 0 inb_S1x3x1024_S1x1x1024_0_0_0 shapeCasts_S1x1x1024_S1x1024)

/-- What the body stores, in a row of its block. -/
def outBlock (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (r : Fin 512) (l : Fin 1024) : EReal :=
  normRow (ffnRow (fun j => x1 (ix2 r j)) (fun j => x0 (ix4 0 0 0 j)) (fun j => x0 (ix4 0 0 1 j)) (fun j => x0 (ix4 0 0 2 j))
      (fun k n => x2 (ix2 k ⟨n.val, by omega⟩)) (fun k n => x2 (ix2 k ⟨2816 + n.val, by omega⟩)) (fun n k => x3 (ix2 n k)))
    (fun j => x4 (ix3 0 0 j)) (fun j => x5 (ix3 0 0 j)) l

/-- A row of a chunk is the block's at the chunk's place. -/
theorem chunk_row {R : ℕ} (C : Chunk R) (o : ℕ) (h)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (a : Fin 512) (r : Fin R) (l : Fin 1024) (h0 : a.val = o + r.val) :
    chunk C x0 (part x1 o 0 R 1024 h) x2 x3 x4 x5 (ix2 r l) = outBlock x0 x1 x2 x3 x4 x5 a l := by
  have p1 : ∀ j, part x1 o 0 R 1024 h (ix2 r j) = x1 (ix2 a j) := fun j => part_apply x1 o 0 R 1024 h r j a j h0 (Nat.zero_add _).symm
  have p4 : ∀ (k : Fin 1024) (n : Fin 2816), part x2 0 0 1024 2816 inb_S1024x5632_S1024x2816_0_0 (ix2 k n) = x2 (ix2 k ⟨n.val, by omega⟩) := fun k n =>
    part_apply x2 0 0 1024 2816 _ k n k _ (Nat.zero_add _).symm (Nat.zero_add _).symm
  have p5 : ∀ (k : Fin 1024) (n : Fin 2816), part x2 0 2816 1024 2816 inb_S1024x5632_S1024x2816_0_2816 (ix2 k n) = x2 (ix2 k ⟨2816 + n.val, by omega⟩) := fun k n =>
    part_apply x2 0 2816 1024 2816 _ k n k _ (Nat.zero_add _).symm rfl
  have p6 : ∀ (n : Fin 2816) (k : Fin 1024), part x3 0 0 2816 1024 inb_S2816x1024_S2816x1024_0_0 (ix2 n k) = x3 (ix2 n k) := fun n k =>
    part_apply x3 0 0 2816 1024 _ n k n k (Nat.zero_add _).symm (Nat.zero_add _).symm
  have m0 : ∀ j, modRow x0 0 _ _ _ (ix2 0 j) = x0 (ix4 0 0 0 j) :=
    modRow_apply x0 0 inb_S1x1x9x1024_S1x1x9x1024_0_0_0_0 shapeCasts_S1x1x9x1024_S9x1024 slices_S9x1024_o0_0_S1x1024
  have m1 : ∀ j, modRow x0 1 _ _ _ (ix2 0 j) = x0 (ix4 0 0 1 j) :=
    modRow_apply x0 1 inb_S1x1x9x1024_S1x1x9x1024_0_0_0_0 shapeCasts_S1x1x9x1024_S9x1024 slices_S9x1024_o1_0_S1x1024
  have m2 : ∀ j, modRow x0 2 _ _ _ (ix2 0 j) = x0 (ix4 0 0 2 j) :=
    modRow_apply x0 2 inb_S1x1x9x1024_S1x1x9x1024_0_0_0_0 shapeCasts_S1x1x9x1024_S9x1024 slices_S9x1024_o2_0_S1x1024
  have n0 : ∀ (z : Vec Ideal S1x3x1024 .f32) j, lnRow z 0 inb_S1x3x1024_S1x1x1024_0_0_0 shapeCasts_S1x1x1024_S1x1024 (ix2 0 j) = z (ix3 0 0 j) :=
    fun z => lnRow_apply z 0 _ _
  unfold chunk outBlock
  rw [norm_apply]
  simp only [ffn_apply, p1, p4, p5, p6, m0, m1, m2, n0]

/-- An element of a chunk is the block's at the chunk's place. -/
theorem chunk_at {R : ℕ} (C : Chunk R) (o : ℕ) (h)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (y : S512x1024.Idx) (x : (⟨2, ![R, 1024]⟩ : Shape).Idx)
    (h0 : (y 0).val = o + (x 0).val) (h1 : (y 1).val = (x 1).val) (T : 𝕍 ⟨2, ![R, 1024]⟩ .f32)
    (hT : T = chunk C x0 (part x1 o 0 R 1024 h) x2 x3 x4 x5) : T x = outBlock x0 x1 x2 x3 x4 x5 (y 0) (y 1) := by
  subst hT
  have e : x = ix2 (x 0) (x 1) := by funext a; match a with | 0 => rfl | 1 => rfl
  rw [e]
  refine (chunk_row C o h x0 x1 x2 x3 x4 x5 (y 0) (x 0) (x 1) h0).trans ?_
  exact congrArg (outBlock x0 x1 x2 x3 x4 x5 (y 0)) (Fin.ext h1.symm)

set_option maxHeartbeats 4000000 in
/-- The block a grid point leaves: the stored chunks together are `outBlock` of the point's inputs. -/
theorem out_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x32x5632 .f32) (harg7 : arg7.IsWhole) (arg8 : Memref sig .tc .vmem S1x1x176x1024 .f32) (harg8 : arg8.IsWhole) (arg9 : Memref sig .tc .vmem S1x32x1536 .f32) (harg9 : arg9.IsWhole) (arg10 : Memref sig .tc .vmem S1x32x1024 .f32) (harg10 : arg10.IsWhole) (arg11 : Memref sig .tc .vmem S512x1024 .f32) (harg11 : arg11.IsWhole) (arg12 : Memref sig .tc .vmem S32x5632 .bf16) (harg12 : arg12.IsWhole) (arg13 : Memref sig .tc .vmem S176x1024 .bf16) (harg13 : arg13.IsWhole) (arg14 : Memref sig .tc .vmem S32x1536 .bf16) (harg14 : arg14.IsWhole) (arg15 : Memref sig .tc .vmem S32x1024 .bf16) (harg15 : arg15.IsWhole)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (x6 : Vec Ideal S1x1x32x5632 .f32) (x7 : Vec Ideal S1x1x176x1024 .f32) (x8 : Vec Ideal S1x32x1536 .f32) (x9 : Vec Ideal S1x32x1024 .f32) (y : S512x1024.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = outBlock x0 x1 x2 x3 x4 x5 (y 0) (y 1) := by
  have key : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = outBlock (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (y 0) (y 1) := by
    frame_open
    rw [View.read_writes_junk_eq_canon]
    canon_tiles x h using cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    · refine chunk_at chunk128 384 inb_S512x1024_S128x1024_384_0 _ _ _ _ _ _ y x h0 (by first | exact h1 | exact h1.trans (Nat.zero_add _)) _ ?_
      sl_kernel_rfl
    · refine chunk_at chunk256 128 inb_S512x1024_S256x1024_128_0 _ _ _ _ _ _ y x h0 (by first | exact h1 | exact h1.trans (Nat.zero_add _)) _ ?_
      sl_kernel_rfl
    · refine chunk_at chunk128 0 inb_S512x1024_S128x1024_0_0 _ _ _ _ _ _ y x (by first | exact h0 | exact h0.trans (Nat.zero_add _).symm) (by first | exact h1 | exact h1.trans (Nat.zero_add _)) _ ?_
      sl_kernel_rfl
  rw [key, harg1.read_unread, harg2.read_unread, harg3.read_unread, harg4.read_unread, harg5.read_unread, harg6.read_unread]

/-- The block a grid point leaves of the first feed-forward matrix's copy: the piece it fetched. -/
theorem copy11_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x32x5632 .f32) (harg7 : arg7.IsWhole) (arg8 : Memref sig .tc .vmem S1x1x176x1024 .f32) (harg8 : arg8.IsWhole) (arg9 : Memref sig .tc .vmem S1x32x1536 .f32) (harg9 : arg9.IsWhole) (arg10 : Memref sig .tc .vmem S1x32x1024 .f32) (harg10 : arg10.IsWhole) (arg11 : Memref sig .tc .vmem S512x1024 .f32) (harg11 : arg11.IsWhole) (arg12 : Memref sig .tc .vmem S32x5632 .bf16) (harg12 : arg12.IsWhole) (arg13 : Memref sig .tc .vmem S176x1024 .bf16) (harg13 : arg13.IsWhole) (arg14 : Memref sig .tc .vmem S32x1536 .bf16) (harg14 : arg14.IsWhole) (arg15 : Memref sig .tc .vmem S32x1024 .bf16) (harg15 : arg15.IsWhole)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (x6 : Vec Ideal S1x1x32x5632 .f32) (x7 : Vec Ideal S1x1x176x1024 .f32) (x8 : Vec Ideal S1x32x1536 .f32) (x9 : Vec Ideal S1x32x1024 .f32) (y : S32x5632.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = x6 (ix4 0 0 (y 0) (y 1)) := by
  have key : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = (arg7.view.read (Elt Ideal) (harg7.unread x6)) (ix4 0 0 (y 0) (y 1)) := by
    frame_open
    rw [View.read_writes_junk_eq_canon]
    canon_tiles x h using cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    refine castFour_at (A := 32) (B := 5632) _ inb_S1x1x32x5632_S1x1x32x5632_0_0_0_0 shapeCasts_S1x1x32x5632_S32x5632 bitsLt_bf16_f32 y x h0 h1 _ ?_
    sl_kernel_rfl
  rw [key, harg7.read_unread]

/-- The block a grid point leaves of the second feed-forward matrix's copy: the piece it fetched. -/
theorem copy12_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x32x5632 .f32) (harg7 : arg7.IsWhole) (arg8 : Memref sig .tc .vmem S1x1x176x1024 .f32) (harg8 : arg8.IsWhole) (arg9 : Memref sig .tc .vmem S1x32x1536 .f32) (harg9 : arg9.IsWhole) (arg10 : Memref sig .tc .vmem S1x32x1024 .f32) (harg10 : arg10.IsWhole) (arg11 : Memref sig .tc .vmem S512x1024 .f32) (harg11 : arg11.IsWhole) (arg12 : Memref sig .tc .vmem S32x5632 .bf16) (harg12 : arg12.IsWhole) (arg13 : Memref sig .tc .vmem S176x1024 .bf16) (harg13 : arg13.IsWhole) (arg14 : Memref sig .tc .vmem S32x1536 .bf16) (harg14 : arg14.IsWhole) (arg15 : Memref sig .tc .vmem S32x1024 .bf16) (harg15 : arg15.IsWhole)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (x6 : Vec Ideal S1x1x32x5632 .f32) (x7 : Vec Ideal S1x1x176x1024 .f32) (x8 : Vec Ideal S1x32x1536 .f32) (x9 : Vec Ideal S1x32x1024 .f32) (y : S176x1024.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = x7 (ix4 0 0 (y 0) (y 1)) := by
  have key : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = (arg8.view.read (Elt Ideal) (harg8.unread x7)) (ix4 0 0 (y 0) (y 1)) := by
    frame_open
    rw [View.read_writes_junk_eq_canon]
    canon_tiles x h using cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    refine castFour_at (A := 176) (B := 1024) _ inb_S1x1x176x1024_S1x1x176x1024_0_0_0_0 shapeCasts_S1x1x176x1024_S176x1024 bitsLt_bf16_f32 y x h0 h1 _ ?_
    sl_kernel_rfl
  rw [key, harg8.read_unread]

/-- The block a grid point leaves of the mixer's first projection's copy: the piece it fetched. -/
theorem copy13_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x32x5632 .f32) (harg7 : arg7.IsWhole) (arg8 : Memref sig .tc .vmem S1x1x176x1024 .f32) (harg8 : arg8.IsWhole) (arg9 : Memref sig .tc .vmem S1x32x1536 .f32) (harg9 : arg9.IsWhole) (arg10 : Memref sig .tc .vmem S1x32x1024 .f32) (harg10 : arg10.IsWhole) (arg11 : Memref sig .tc .vmem S512x1024 .f32) (harg11 : arg11.IsWhole) (arg12 : Memref sig .tc .vmem S32x5632 .bf16) (harg12 : arg12.IsWhole) (arg13 : Memref sig .tc .vmem S176x1024 .bf16) (harg13 : arg13.IsWhole) (arg14 : Memref sig .tc .vmem S32x1536 .bf16) (harg14 : arg14.IsWhole) (arg15 : Memref sig .tc .vmem S32x1024 .bf16) (harg15 : arg15.IsWhole)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (x6 : Vec Ideal S1x1x32x5632 .f32) (x7 : Vec Ideal S1x1x176x1024 .f32) (x8 : Vec Ideal S1x32x1536 .f32) (x9 : Vec Ideal S1x32x1024 .f32) (y : S32x1536.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = x8 (ix3 0 (y 0) (y 1)) := by
  have key : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = (arg9.view.read (Elt Ideal) (harg9.unread x8)) (ix3 0 (y 0) (y 1)) := by
    frame_open
    rw [View.read_writes_junk_eq_canon]
    canon_tiles x h using cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    refine castThree_at (A := 32) (B := 1536) _ inb_S1x32x1536_S1x32x1536_0_0_0 shapeCasts_S1x32x1536_S32x1536 bitsLt_bf16_f32 y x h0 h1 _ ?_
    sl_kernel_rfl
  rw [key, harg9.read_unread]

/-- The block a grid point leaves of the mixer's second projection's copy: the piece it fetched. -/
theorem copy14_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x32x5632 .f32) (harg7 : arg7.IsWhole) (arg8 : Memref sig .tc .vmem S1x1x176x1024 .f32) (harg8 : arg8.IsWhole) (arg9 : Memref sig .tc .vmem S1x32x1536 .f32) (harg9 : arg9.IsWhole) (arg10 : Memref sig .tc .vmem S1x32x1024 .f32) (harg10 : arg10.IsWhole) (arg11 : Memref sig .tc .vmem S512x1024 .f32) (harg11 : arg11.IsWhole) (arg12 : Memref sig .tc .vmem S32x5632 .bf16) (harg12 : arg12.IsWhole) (arg13 : Memref sig .tc .vmem S176x1024 .bf16) (harg13 : arg13.IsWhole) (arg14 : Memref sig .tc .vmem S32x1536 .bf16) (harg14 : arg14.IsWhole) (arg15 : Memref sig .tc .vmem S32x1024 .bf16) (harg15 : arg15.IsWhole)
    (x0 : Vec Ideal S1x1x9x1024 .f32) (x1 : Vec Ideal S512x1024 .f32) (x2 : Vec Ideal S1024x5632 .bf16) (x3 : Vec Ideal S2816x1024 .bf16)
    (x4 x5 : Vec Ideal S1x3x1024 .f32) (x6 : Vec Ideal S1x1x32x5632 .f32) (x7 : Vec Ideal S1x1x176x1024 .f32) (x8 : Vec Ideal S1x32x1536 .f32) (x9 : Vec Ideal S1x32x1024 .f32) (y : S32x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y = x9 (ix3 0 (y 0) (y 1)) := by
  have key : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
      = (arg10.view.read (Elt Ideal) (harg10.unread x9)) (ix3 0 (y 0) (y 1)) := by
    frame_open
    rw [View.read_writes_junk_eq_canon]
    canon_tiles x h using cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y
    refine castThree_at (A := 32) (B := 1024) _ inb_S1x32x1024_S1x32x1024_0_0_0 shapeCasts_S1x32x1024_S32x1024 bitsLt_bf16_f32 y x h0 h1 _ ?_
    sl_kernel_rfl
  rw [key, harg10.read_unread]

end Cert.PreProof
-- ==== Proof.PreReferenceRows.lean ====
module
public import proofs.«01_k».proof.Proof.Gen.PreReferenceIdeal.Read
public import Idealize.ShloMosaic.Lib.Pointwise
public import proofs.«01_k».proof.Proof.FfnReference
@[expose] public section
set_option maxRecDepth 16384
noncomputable section

/-! The reference of the first sub-layer: its arrays read at an entry. -/

namespace Cert.PreProof.Ref
open Cert.PreReferenceIdeal Cert.PreReferenceIdeal.Gen Cert.PreReferenceIdeal.Read Idealize.ShloMosaic Idealize.ShloMosaic.TcCoe Idealize.SL.Sem
open Idealize.ShloMosaic.Pointwise Cert.FfnProof Cert.FfnProof.Ref
local notation "𝕍" => FVec Ideal

/-- The facts of shapes of a sample's 2048 latent tokens. -/
theorem tokens : Tokens 2048 := ⟨reducesTo_S8x2048x1024_S8x2048_d2, h_S_, bcast_S8x2048_S8x2048x1_0_1, bcast_S_S8x2048x1,
  bcast_S8x2048x1_S8x2048x1024_0_1_2, bcast_S1024_S1x1x1024_2, bcast_S1x1x1024_S8x2048x1024_0_1_2, by decide⟩

/-- The facts of shapes of the latent tokens' sub-layer. -/
theorem sublayer : Ffn 2048 8 := ⟨bcast_S_S8x2048x1024, bcast_S_S8x2048x2816, bcast_S_S8x1x1024, bcast_S8x1x1024_S8x2048x1024_0_1_2,
  slices_S8x2048x5632_S8x2048x2816_0_0_0, slices_S8x2048x5632_S8x2048x2816_0_0_2816,
  dot_S8x2048x1024_S1024x5632_S8x2048x5632_2_0_01_1_n_n_wf, dot_S8x2048x2816_S2816x1024_S8x2048x1024_2_0_01_1_n_n_wf⟩

/-- The facts of shapes of a sample's 256 context tokens. -/
theorem context : Tokens 256 := ⟨reducesTo_S8x256x1024_S8x256_d2, h_S_, bcast_S8x256_S8x256x1_0_1, bcast_S_S8x256x1,
  bcast_S8x256x1_S8x256x1024_0_1_2, bcast_S1024_S1x1x1024_2, bcast_S1x1x1024_S8x256x1024_0_1_2, by decide⟩

/-- The facts of shapes of the context tokens' sub-layer. -/
theorem contextSublayer : Ffn 256 1 := ⟨bcast_S_S8x256x1024, bcast_S_S8x256x2816, bcast_S_S1x1x1024, bcast_S1x1x1024_S8x256x1024_0_1_2,
  slices_S8x256x5632_S8x256x2816_0_0_0, slices_S8x256x5632_S8x256x2816_0_0_2816,
  dot_S8x256x1024_S1024x5632_S8x256x5632_2_0_01_1_n_n_wf, dot_S8x256x2816_S2816x1024_S8x256x1024_2_0_01_1_n_n_wf⟩

variable (x0 : 𝕍 S2x16x9x1024 .f32) (x1 : 𝕍 S18432x1024 .f32) (x2 : 𝕍 S1024x5632 .bf16) (x3 : 𝕍 S2816x1024 .bf16) (x4 x5 : 𝕍 S2x3x1024 .f32)

/-- The latent tokens' residual is the sub-layer's. -/
theorem residual_eq : val_main_v44 (F := Ideal) x0 x1 x2 x3
    = ffn sublayer (val_main_v21 (F := Ideal) x1) (val_main_v4 (F := Ideal) x0) (val_main_v7 (F := Ideal) x0) (val_main_v10 (F := Ideal) x0)
      (val_main_v0 (F := Ideal) x2) (val_main_v1 (F := Ideal) x3) := rfl

/-- The latent tokens' result is the layer normalisation. -/
theorem out_eq : val_main_v68 (F := Ideal) x0 x1 x2 x3 x4 x5
    = norm tokens (val_main_v44 (F := Ideal) x0 x1 x2 x3) (val_main_v23 (F := Ideal) x4) (val_main_v25 (F := Ideal) x5) := rfl

/-- The context tokens' residual is the sub-layer's. -/
theorem context_residual_eq : val_main_v93 (F := Ideal) x0 x1 x2 x3
    = ffn contextSublayer (val_main_v70 (F := Ideal) x1) (val_main_v13 (F := Ideal) x0) (val_main_v16 (F := Ideal) x0) (val_main_v19 (F := Ideal) x0)
      (val_main_v0 (F := Ideal) x2) (val_main_v1 (F := Ideal) x3) := rfl

/-- The context tokens' result is the layer normalisation. -/
theorem context_out_eq : val_main_v117 (F := Ideal) x0 x1 x2 x3 x4 x5
    = norm context (val_main_v93 (F := Ideal) x0 x1 x2 x3) (val_main_v72 (F := Ideal) x4) (val_main_v74 (F := Ideal) x5) := rfl

/-- A latent token. -/
theorem token_apply (s : Fin 8) (n : Fin 2048) (k : Fin 1024) :
    val_main_v21 (F := Ideal) x1 (ix3 s n k) = x1 (ix2 ⟨2048 * s.val + n.val, by omega⟩ k) := by
  unfold val_main_v21 val_main_v20
  pointwise
  exact congrArg₂ (fun a b => x1 (ix2 a b)) (Fin.ext (by dsimp only; omega)) (Fin.ext (by dsimp only))

/-- A context token. -/
theorem context_apply (s : Fin 8) (n : Fin 256) (k : Fin 1024) :
    val_main_v70 (F := Ideal) x1 (ix3 s n k) = x1 (ix2 ⟨16384 + (256 * s.val + n.val), by omega⟩ k) := by
  unfold val_main_v70 val_main_v69
  pointwise
  exact congrArg₂ (fun a b => x1 (ix2 a b)) (Fin.ext (by dsimp only; omega)) (Fin.ext (by dsimp only))

/-- The modulation rows of the latent tokens. -/
theorem mods_apply (s : Fin 8) (k : Fin 1024) :
    val_main_v4 (F := Ideal) x0 (ix3 s 0 k) = x0 (ix4 1 ⟨s.val, by omega⟩ 0 k) ∧ val_main_v7 (F := Ideal) x0 (ix3 s 0 k) = x0 (ix4 1 ⟨s.val, by omega⟩ 1 k)
    ∧ val_main_v10 (F := Ideal) x0 (ix3 s 0 k) = x0 (ix4 1 ⟨s.val, by omega⟩ 2 k) := by
  refine ⟨?_, ?_, ?_⟩
  · unfold val_main_v4 val_main_v3 val_main_v2
    pointwise
  · unfold val_main_v7 val_main_v6 val_main_v5
    pointwise
  · unfold val_main_v10 val_main_v9 val_main_v8
    pointwise

/-- The modulation rows of the context tokens. -/
theorem context_mods_apply (k : Fin 1024) :
    val_main_v13 (F := Ideal) x0 (ix3 0 0 k) = x0 (ix4 1 8 0 k) ∧ val_main_v16 (F := Ideal) x0 (ix3 0 0 k) = x0 (ix4 1 8 1 k)
    ∧ val_main_v19 (F := Ideal) x0 (ix3 0 0 k) = x0 (ix4 1 8 2 k) := by
  refine ⟨?_, ?_, ?_⟩
  · unfold val_main_v13 val_main_v12 val_main_v11
    pointwise
  · unfold val_main_v16 val_main_v15 val_main_v14
    pointwise
  · unfold val_main_v19 val_main_v18 val_main_v17
    pointwise

/-- The scales and offsets of the layer normalisation. -/
theorem affine_apply (k : Fin 1024) :
    val_main_v23 (F := Ideal) x4 (ix1 k) = x4 (ix3 1 0 k) ∧ val_main_v25 (F := Ideal) x5 (ix1 k) = x5 (ix3 1 0 k)
    ∧ val_main_v72 (F := Ideal) x4 (ix1 k) = x4 (ix3 1 0 k) ∧ val_main_v74 (F := Ideal) x5 (ix1 k) = x5 (ix3 1 0 k) := by
  refine ⟨?_, ?_, ?_, ?_⟩
  · unfold val_main_v23 val_main_v22
    pointwise
  · unfold val_main_v25 val_main_v24
    pointwise
  · unfold val_main_v72 val_main_v71
    pointwise
  · unfold val_main_v74 val_main_v73
    pointwise

/-- The feed-forward residual of token `T` under modulation `s`. -/
def residualRow (s : Fin 16) (T : Fin 18432) : Fin 1024 → EReal :=
  ffnRow (fun k => x1 (ix2 T k)) (fun k => x0 (ix4 1 s 0 k)) (fun k => x0 (ix4 1 s 1 k)) (fun k => x0 (ix4 1 s 2 k))
    (fun k i => x2 (ix2 k ⟨i.val, by omega⟩)) (fun k i => x2 (ix2 k ⟨2816 + i.val, by omega⟩)) (fun i k => x3 (ix2 i k))

/-- What the layer leaves at token `T` under modulation `s`. -/
def resultRow (s : Fin 16) (T : Fin 18432) : Fin 1024 → EReal :=
  normRowR (residualRow x0 x1 x2 x3 s T) (fun k => x4 (ix3 1 0 k)) (fun k => x5 (ix3 1 0 k))

/-- The latent tokens' array read at a token. -/
theorem latent_apply (s : Fin 8) (n : Fin 2048) (j : Fin 1024) :
    val_main_v68 (F := Ideal) x0 x1 x2 x3 x4 x5 (ix3 s n j) = resultRow x0 x1 x2 x3 x4 x5 ⟨s.val, by omega⟩ ⟨2048 * s.val + n.val, by omega⟩ j := by
  have e (k : Fin 1024) : val_main_v44 (F := Ideal) x0 x1 x2 x3 (ix3 s n k) = residualRow x0 x1 x2 x3 ⟨s.val, by omega⟩ ⟨2048 * s.val + n.val, by omega⟩ k := by
    rw [residual_eq, ffn_apply sublayer _ _ _ _ _ _ s n s (if_neg (by decide)).symm]
    simp only [token_apply, mods_apply]
    rfl
  rw [out_eq, Cert.FfnProof.Ref.norm_apply]
  simp only [e, affine_apply x4 x5]
  rfl

/-- The context tokens' array read at a token. -/
theorem context_latent_apply (s : Fin 8) (n : Fin 256) (j : Fin 1024) :
    val_main_v117 (F := Ideal) x0 x1 x2 x3 x4 x5 (ix3 s n j) = resultRow x0 x1 x2 x3 x4 x5 8 ⟨16384 + (256 * s.val + n.val), by omega⟩ j := by
  have e (k : Fin 1024) : val_main_v93 (F := Ideal) x0 x1 x2 x3 (ix3 s n k) = residualRow x0 x1 x2 x3 8 ⟨16384 + (256 * s.val + n.val), by omega⟩ k := by
    rw [context_residual_eq, ffn_apply contextSublayer _ _ _ _ _ _ s n 0 (if_pos rfl).symm]
    simp only [context_apply, context_mods_apply]
    rfl
  rw [context_out_eq, Cert.FfnProof.Ref.norm_apply]
  simp only [e, affine_apply x4 x5]
  rfl

/-- The reference's tokens. -/
theorem result_apply (T : Fin 18432) (j : Fin 1024) :
    val_main_v120 (F := Ideal) x0 x1 x2 x3 x4 x5 (ix2 T j) = resultRow x0 x1 x2 x3 x4 x5 (modsOf T) T j := by
  unfold val_main_v120 val_main_v118 val_main_v119
  by_cases h : T.val < 16384
  · refine (join_latent _ _ _ _ _ T j h).trans ((latent_apply x0 x1 x2 x3 x4 x5 ⟨T.val / 2048, by omega⟩ ⟨T.val % 2048, by omega⟩ j).trans ?_)
    exact congrArg₂ (fun a b => resultRow x0 x1 x2 x3 x4 x5 a b j) (Fin.ext (by unfold modsOf; dsimp only; omega)) (Fin.ext (by dsimp only; omega))
  · refine (join_context _ _ _ _ _ T j h).trans ((context_latent_apply x0 x1 x2 x3 x4 x5 ⟨(T.val - 16384) / 256, by omega⟩ ⟨(T.val - 16384) % 256, by omega⟩ j).trans ?_)
    exact congrArg₂ (fun a b => resultRow x0 x1 x2 x3 x4 x5 a b j) (Fin.ext (by unfold modsOf; show 8 = min (T.val / 2048) 8; omega)) (Fin.ext (by dsimp only; omega))

/-- The copies of the next calls' weights, entry by entry. -/
theorem copies_apply (x6 : 𝕍 S2x2x1024x5632 .f32) (x7 : 𝕍 S2x2x2816x1024 .f32) (x8 : 𝕍 S1x1024x1536 .f32) (x9 : 𝕍 S1x1024x1024 .f32) :
    (∀ (a : Fin 1024) (b : Fin 5632), val_main_v123 (F := Ideal) x6 (ix2 a b) = x6 (ix4 1 1 a b))
    ∧ (∀ (a : Fin 2816) (b : Fin 1024), val_main_v126 (F := Ideal) x7 (ix2 a b) = x7 (ix4 1 1 a b))
    ∧ (∀ (a : Fin 1024) (b : Fin 1536), val_main_v128 (F := Ideal) x8 (ix2 a b) = x8 (ix3 0 a b))
    ∧ (∀ (a b : Fin 1024), val_main_v130 (F := Ideal) x9 (ix2 a b) = x9 (ix3 0 a b)) := by
  refine ⟨fun a b => ?_, fun a b => ?_, fun a b => ?_, fun a b => ?_⟩
  · unfold val_main_v123 val_main_v122 val_main_v121
    pointwise
  · unfold val_main_v126 val_main_v125 val_main_v124
    pointwise
  · unfold val_main_v128 val_main_v127
    pointwise
  · unfold val_main_v130 val_main_v129
    pointwise

end Cert.PreProof.Ref
-- ==== Proof.PreValue.lean ====
module
public import proofs.«01_k».proof.Defs
public import proofs.«01_k».proof.Proof.WaValue
public import proofs.«01_k».proof.Proof.PreBlock
public import proofs.«01_k».proof.Proof.PreReferenceRows
public import proofs.«01_k».proof.Proof.Gen.Pre_pre_finite
@[expose] public section
set_option maxRecDepth 16384
noncomputable section

/-! The arrays `ffn_pre_1` leaves are the reference's: the tokens from finite modulation, tokens and weights, the copies of
the next calls' weights from any. -/

namespace Cert.PreProof
open Cert.PreKernelIdeal Cert.PreKernelIdeal.Gen Idealize.ShloMosaic Idealize.ShloMosaic.TcCoe Idealize.SL.Sem
open Idealize.ShloMosaic.Pointwise Cert.FfnProof Cert.WaProof
local notation "𝕍" => FVec Ideal

variable (x0 : 𝕍 S2x16x9x1024 .f32) (x1 : 𝕍 S18432x1024 .f32) (x2 : 𝕍 S1024x5632 .bf16) (x3 : 𝕍 S2816x1024 .bf16) (x4 x5 : 𝕍 S2x3x1024 .f32)

/-- What the precondition makes real. -/
structure Finite : Prop where
  mods (s : Fin 9) (k : Fin 3) (j : Fin 1024) : IsReal (x0 (ix4 1 ⟨s.val, by omega⟩ ⟨k.val, by omega⟩ j))
  tokens (T : Fin 18432) (j : Fin 1024) : IsReal (x1 (ix2 T j))
  wide (k : Fin 1024) (j : Fin 5632) : IsReal (x2 (ix2 k j))
  back (k : Fin 2816) (j : Fin 1024) : IsReal (x3 (ix2 k j))

/-- What the precondition says of each array, entry by entry. -/
def checks (x6 : 𝕍 S2x2x1024x5632 .f32) (x7 : 𝕍 S2x2x2816x1024 .f32) (x8 : 𝕍 S1x1024x1536 .f32) (x9 : 𝕍 S1x1024x1024 .f32) :=
  (letI := Cert.Pre_pre_finite.Gen.facts; Cert.Pre_pre_finite.fn (F := Ideal) x0 x1 x2 x3 x4 x5 x6 x7 x8 x9)

/-- The precondition makes it real. -/
theorem finite_of (x6 : 𝕍 S2x2x1024x5632 .f32) (x7 : 𝕍 S2x2x2816x1024 .f32) (x8 : 𝕍 S1x1024x1536 .f32) (x9 : 𝕍 S1x1024x1024 .f32)
    (h : let p := checks x0 x1 x2 x3 x4 x5 x6 x7 x8 x9
      p.1 = (fun _ => 1#1) ∧ p.2.1 = (fun _ => 1#1) ∧ p.2.2.1 = (fun _ => 1#1) ∧ p.2.2.2 = (fun _ => 1#1)) : Finite x0 x1 x2 x3 := by
  obtain ⟨h0, h1, h2, h3⟩ := h
  unfold checks Cert.Pre_pre_finite.fn at h0 h1 h2 h3
  refine ⟨fun s k j => ?_, fun T j => ?_, fun k j => ?_, fun k j => ?_⟩
  · have := congrFun h0 (ix3 s k j); revert this; pointwise; exact real_of_abs_lt _
  · have := congrFun h1 (ix2 T j); revert this; pointwise; exact real_of_abs_lt _
  · have := congrFun h2 (ix2 k j); revert this; pointwise; exact real_of_abs_lt _
  · have := congrFun h3 (ix2 k j); revert this; pointwise; exact real_of_abs_lt _

/-- The blocks' places. -/
theorem places : ∀ t : Fin cfg0.N, win0_0.index t = ![1, min (t.val / 4) 8, 0, 0] ∧ win0_1.index t = ![t.val, 0] ∧ win0_2.index t = ![0, 0]
    ∧ win0_3.index t = ![0, 0] ∧ win0_4.index t = ![1, 0, 0] ∧ win0_5.index t = ![1, 0, 0] ∧ win0_6.index t = ![1, 1, min t.val 31, 0]
    ∧ win0_7.index t = ![1, 1, min t.val 15, 0] ∧ win0_8.index t = ![0, min t.val 31, 0] ∧ win0_9.index t = ![0, min t.val 31, 0]
    ∧ win0_10.index t = ![t.val, 0] ∧ win0_11.index t = ![min t.val 31, 0] ∧ win0_12.index t = ![min t.val 15, 0]
    ∧ win0_13.index t = ![min t.val 31, 0] ∧ win0_14.index t = ![min t.val 31, 0] :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 1 ⟨min (t.val / 4) 8, by omega⟩ k j) := by
  blk_ext [iblk, V, places t]

/-- The token block's element. -/
theorem tokens_at (c : Dev nD) (t : Fin cfg0.N) (r : Fin 512) (j : Fin 1024) :
    iblk m c 1 t (ix2 r j) = (m ((c : Thread nD τ).loc main_arg1) : 𝕍 S18432x1024 .f32) (ix2 ⟨512 * t.val + r.val, by have : t.val < 36 := t.isLt; omega⟩ j) := by
  blk_ext [iblk, V, places t]

/-- The first feed-forward matrix. -/
theorem wide_at (c : Dev nD) (t : Fin cfg0.N) (k : Fin 1024) (j : Fin 5632) :
    iblk m c 2 t (ix2 k j) = (m ((c : Thread nD τ).loc main_arg2) : 𝕍 S1024x5632 .bf16) (ix2 k j) := by
  blk_ext [iblk, V, places t]

/-- The second feed-forward matrix. -/
theorem back_at (c : Dev nD) (t : Fin cfg0.N) (k : Fin 2816) (j : Fin 1024) :
    iblk m c 3 t (ix2 k j) = (m ((c : Thread nD τ).loc main_arg3) : 𝕍 S2816x1024 .bf16) (ix2 k j) := by
  blk_ext [iblk, V, places t]

/-- The scales of the layer normalisations. -/
theorem scale_at (c : Dev nD) (t : Fin cfg0.N) (k : Fin 3) (j : Fin 1024) :
    iblk m c 4 t (ix3 0 k j) = (m ((c : Thread nD τ).loc main_arg4) : 𝕍 S2x3x1024 .f32) (ix3 1 k j) := by
  blk_ext [iblk, V, places t]

/-- The offsets of the layer normalisations. -/
theorem offset_at (c : Dev nD) (t : Fin cfg0.N) (k : Fin 3) (j : Fin 1024) :
    iblk m c 5 t (ix3 0 k j) = (m ((c : Thread nD τ).loc main_arg5) : 𝕍 S2x3x1024 .f32) (ix3 1 k j) := by
  blk_ext [iblk, V, places t]

/-- The piece of the next first feed-forward matrix. -/
theorem nextWide_at (c : Dev nD) (t : Fin cfg0.N) (a : Fin 32) (b : Fin 5632) :
    iblk m c 6 t (ix4 0 0 a b) = (m ((c : Thread nD τ).loc main_arg6) : 𝕍 S2x2x1024x5632 .f32) (ix4 1 1 ⟨32 * min t.val 31 + a.val, by omega⟩ b) := by
  blk_ext [iblk, V, places t]

/-- The piece of the next second feed-forward matrix. -/
theorem nextBack_at (c : Dev nD) (t : Fin cfg0.N) (a : Fin 176) (b : Fin 1024) :
    iblk m c 7 t (ix4 0 0 a b) = (m ((c : Thread nD τ).loc main_arg7) : 𝕍 S2x2x2816x1024 .f32) (ix4 1 1 ⟨176 * min t.val 15 + a.val, by omega⟩ b) := by
  blk_ext [iblk, V, places t]

/-- The piece of the mixer's first projection. -/
theorem mixerIn_at (c : Dev nD) (t : Fin cfg0.N) (a : Fin 32) (b : Fin 1536) :
    iblk m c 8 t (ix3 0 a b) = (m ((c : Thread nD τ).loc main_arg8) : 𝕍 S1x1024x1536 .f32) (ix3 0 ⟨32 * min t.val 31 + a.val, by omega⟩ b) := by
  blk_ext [iblk, V, places t]

/-- The piece of the mixer's second projection. -/
theorem mixerOut_at (c : Dev nD) (t : Fin cfg0.N) (a : Fin 32) (b : Fin 1024) :
    iblk m c 9 t (ix3 0 a b) = (m ((c : Thread nD τ).loc main_arg9) : 𝕍 S1x1024x1024 .f32) (ix3 0 ⟨32 * min t.val 31 + a.val, by omega⟩ b) := by
  blk_ext [iblk, V, places t]

/-- A row the kernel stores is the reference's. -/
theorem row_eq (c : Dev nD) (t : Fin cfg0.N) (e0 : m ((c : Thread nD τ).loc main_arg0) = x0) (e1 : m ((c : Thread nD τ).loc main_arg1) = x1)
    (e2 : m ((c : Thread nD τ).loc main_arg2) = x2) (e3 : m ((c : Thread nD τ).loc main_arg3) = x3) (e4 : m ((c : Thread nD τ).loc main_arg4) = x4)
    (e5 : m ((c : Thread nD τ).loc main_arg5) = x5) (hf : Finite x0 x1 x2 x3) (r : Fin 512) (l : Fin 1024) (T : Fin 18432) (hT : T.val = 512 * t.val + r.val) :
    outBlock (iblk m c 0 t) (iblk m c 1 t) (iblk m c 2 t) (iblk m c 3 t) (iblk m c 4 t) (iblk m c 5 t) r l
      = Cert.PreReferenceIdeal.Read.val_main_v120 (F := Ideal) x0 x1 x2 x3 x4 x5 (ix2 T l) := by
  have ht : t.val < 36 := t.isLt
  have E0 := mods_at m c t
  have E1 := tokens_at m c t
  have E2 := wide_at m c t
  have E3 := back_at m c t
  have E4 := scale_at m c t
  have E5 := offset_at m c t
  rw [e0] at E0; rw [e1] at E1; rw [e2] at E2; rw [e3] at E3; rw [e4] at E4; rw [e5] at E5
  obtain ⟨s, hs⟩ : ∃ s : Fin 9, s.val = min (t.val / 4) 8 := ⟨⟨min (t.val / 4) 8, by omega⟩, rfl⟩
  have e : Ref.modsOf T = ⟨s.val, by omega⟩ := Fin.ext (by show min (T.val / 2048) 8 = s.val; omega)
  rw [Ref.result_apply, e]
  have f0 (k : Fin 9) (j : Fin 1024) : iblk m c 0 t (ix4 0 0 k j) = x0 (ix4 1 ⟨s.val, by omega⟩ k j) := by
    rw [E0]; exact congrArg (fun a => x0 (ix4 1 a k j)) (Fin.ext hs.symm)
  have f1 (j : Fin 1024) : iblk m c 1 t (ix2 r j) = x1 (ix2 T j) := by
    rw [E1]; exact congrArg (fun a => x1 (ix2 a j)) (Fin.ext hT.symm)
  have h : RealRow (Ref.residualRow x0 x1 x2 x3 ⟨s.val, by omega⟩ T) :=
    ffnRow_real _ _ _ _ _ _ _ (hf.tokens T) (hf.mods s 0) (hf.mods s 1) (hf.mods s 2)
      (fun k _ => hf.wide k _) (fun k _ => hf.wide k _) hf.back
  unfold Ref.resultRow
  rw [← normRow_eq _ _ _ h]
  unfold outBlock Ref.residualRow
  simp only [f0, f1, E2, E3, E4, E5]

/-- The tokens the kernel leaves are the reference's. -/
theorem final (c : Dev nD) (hfin : Finite (m ((c : Thread nD τ).loc main_arg0)) (m ((c : Thread nD τ).loc main_arg1)) (m ((c : Thread nD τ).loc main_arg2))
      (m ((c : Thread nD τ).loc main_arg3))) : (dats m 0 c).arrAt 10 cfg0.N
    = Cert.PreReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  unfold outsAt0
  dsimp only
  rw [out_eq]
  have ht : t.val < 36 := t.isLt
  have y0 : (y 0).val < 512 := (y 0).isLt
  have y1 : (y 1).val < 1024 := (y 1).isLt
  refine (row_eq _ _ _ _ _ _ m c t rfl rfl rfl rfl rfl rfl hfin (y 0) (y 1) ⟨512 * t.val + (y 0).val, by omega⟩ rfl).trans ?_
  refine congrArg _ ?_
  blk_ext [places t]

/-- The copy of the next first feed-forward matrix is the reference's. -/
theorem wide_final (c : Dev nD) : (dats m 0 c).arrAt 11 cfg0.N
    = Cert.PreReferenceIdeal.Read.val_main_v123 (F := Ideal) (m ((c : Thread nD τ).loc main_arg6)) := by
  refine (dats m 0 c).arrAt_eq_of_covers 11 _ (by decide +kernel) fun t hf y => ?_
  blk_simp
  rw [after0_11]
  unfold outsAt0
  dsimp only
  rw [copy11_eq]
  have y0 : (y 0).val < 32 := (y 0).isLt
  refine (nextWide_at m c t (y 0) (y 1)).trans ((Ref.copies_apply (m ((c : Thread nD τ).loc main_arg6)) (m ((c : Thread nD τ).loc main_arg7))
    (m ((c : Thread nD τ).loc main_arg8)) (m ((c : Thread nD τ).loc main_arg9))).1 ⟨32 * min t.val 31 + (y 0).val, by omega⟩ (y 1)).symm |>.trans ?_
  refine congrArg _ ?_
  blk_ext [places t]

/-- The copy of the next second feed-forward matrix is the reference's. -/
theorem back_final (c : Dev nD) : (dats m 0 c).arrAt 12 cfg0.N
    = Cert.PreReferenceIdeal.Read.val_main_v126 (F := Ideal) (m ((c : Thread nD τ).loc main_arg7)) := by
  refine (dats m 0 c).arrAt_eq_of_covers 12 _ (by decide +kernel) fun t hf y => ?_
  blk_simp
  rw [after0_12]
  unfold outsAt0
  dsimp only
  rw [copy12_eq]
  have y0 : (y 0).val < 176 := (y 0).isLt
  refine (nextBack_at m c t (y 0) (y 1)).trans ((Ref.copies_apply (m ((c : Thread nD τ).loc main_arg6)) (m ((c : Thread nD τ).loc main_arg7))
    (m ((c : Thread nD τ).loc main_arg8)) (m ((c : Thread nD τ).loc main_arg9))).2.1 ⟨176 * min t.val 15 + (y 0).val, by omega⟩ (y 1)).symm |>.trans ?_
  refine congrArg _ ?_
  blk_ext [places t]

/-- The copy of the mixer's first projection is the reference's. -/
theorem mixerIn_final (c : Dev nD) : (dats m 0 c).arrAt 13 cfg0.N
    = Cert.PreReferenceIdeal.Read.val_main_v128 (F := Ideal) (m ((c : Thread nD τ).loc main_arg8)) := by
  refine (dats m 0 c).arrAt_eq_of_covers 13 _ (by decide +kernel) fun t hf y => ?_
  blk_simp
  rw [after0_13]
  unfold outsAt0
  dsimp only
  rw [copy13_eq]
  have y0 : (y 0).val < 32 := (y 0).isLt
  refine (mixerIn_at m c t (y 0) (y 1)).trans ((Ref.copies_apply (m ((c : Thread nD τ).loc main_arg6)) (m ((c : Thread nD τ).loc main_arg7))
    (m ((c : Thread nD τ).loc main_arg8)) (m ((c : Thread nD τ).loc main_arg9))).2.2.1 ⟨32 * min t.val 31 + (y 0).val, by omega⟩ (y 1)).symm |>.trans ?_
  refine congrArg _ ?_
  blk_ext [places t]

/-- The copy of the mixer's second projection is the reference's. -/
theorem mixerOut_final (c : Dev nD) : (dats m 0 c).arrAt 14 cfg0.N
    = Cert.PreReferenceIdeal.Read.val_main_v130 (F := Ideal) (m ((c : Thread nD τ).loc main_arg9)) := by
  refine (dats m 0 c).arrAt_eq_of_covers 14 _ (by decide +kernel) fun t hf y => ?_
  blk_simp
  rw [after0_14]
  unfold outsAt0
  dsimp only
  rw [copy14_eq]
  have y0 : (y 0).val < 32 := (y 0).isLt
  refine (mixerOut_at m c t (y 0) (y 1)).trans ((Ref.copies_apply (m ((c : Thread nD τ).loc main_arg6)) (m ((c : Thread nD τ).loc main_arg7))
    (m ((c : Thread nD τ).loc main_arg8)) (m ((c : Thread nD τ).loc main_arg9))).2.2.2 ⟨32 * min t.val 31 + (y 0).val, by omega⟩ (y 1)).symm |>.trans ?_
  refine congrArg _ ?_
  blk_ext [places t]

end Cert.PreProof
-- ==== Proof.PostFirstBlock.lean ====
module
public import proofs.«01_k».proof.Proof.Gen.PostFirstKernelIdeal.Value
public import proofs.«01_k».proof.Proof.PostBlock
@[expose] public section
set_option maxRecDepth 16384
noncomputable section

/-! The body of `post_0` in words: what `post_1` computes, with the attention from one of two blocks; and two copies of pieces
of the next call's weights. -/

namespace Cert.PostFirstProof
open Cert.PostFirstKernelIdeal Cert.PostFirstKernelIdeal.Gen Idealize.ShloMosaic Idealize.ShloMosaic.TcCoe Idealize.SL.Sem
open Idealize.ShloMosaic.Pointwise Cert.FfnProof
local notation "𝕍" => FVec Ideal

/-- Whether a grid point is one of the latent tokens'. -/
def early (i : grid0.Coords) : BitVec 1 := Scalar.cmpi .slt (BitVec.ofNat 32 (i 0).val) 32#32

/-- An element of a chunk, its attention taken from one of two blocks, is the block's at the chunk's place. -/
theorem chunk_at {R : ℕ} (C : Chunk R) (o : ℕ) (h) (b : BitVec 1)
    (x0 : Vec Ideal S1x1x9x1024 .f32) (x1 : Vec Ideal S512x1024 .f32) (x2 x3 : Vec Ideal S512x1024 .bf16) (x4 : Vec Ideal S1024x1024 .bf16)
    (x5 : Vec Ideal S1024x5632 .bf16) (x6 : Vec Ideal S2816x1024 .bf16) (x7 x8 : Vec Ideal S1x3x1024 .f32) (y : S512x1024.Idx) (x : (⟨2, ![R, 1024]⟩ : Shape).Idx)
    (h0 : (y 0).val = o + (x 0).val) (h1 : (y 1).val = (x 1).val) (T : 𝕍 ⟨2, ![R, 1024]⟩ .f32)
    (hT : T = Cert.PostProof.chunk C o h x0 x1 (Scalar.select b (part x2 o 0 R 1024 h) (part x3 o 0 R 1024 h)) x4 x5 x6 x7 x8) :
    T x = Cert.PostProof.outBlock x0 x1 (Scalar.select b x2 x3) x4 x5 x6 x7 x8 (y 0) (y 1) :=
  Cert.PostProof.chunk_at C o h x0 x1 (Scalar.select b x2 x3) x4 x5 x6 x7 x8 y x h0 h1 T
    (hT.trans (congrArg (fun a => Cert.PostProof.chunk C o h x0 x1 a x4 x5 x6 x7 x8) (select_part b x2 x3 o 0 R 1024 h)))

set_option maxHeartbeats 4000000 in
/-- The block a grid point leaves: the stored chunks together are `outBlock` of the point's inputs. -/
theorem out_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x3x1024 .f32) (harg8 : arg8.IsWhole) (arg9 : Memref sig .tc .vmem S1x3x1024 .f32) (harg9 : arg9.IsWhole) (arg10 : Memref sig .tc .vmem S1x1x32x5632 .f32) (harg10 : arg10.IsWhole) (arg11 : Memref sig .tc .vmem S1x1x176x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole)
    (x0 : Vec Ideal S1x1x9x1024 .f32) (x1 : Vec Ideal S512x1024 .f32) (x2 : Vec Ideal S512x1024 .bf16) (x3 : Vec Ideal S512x1024 .bf16) (x4 : Vec Ideal S1024x1024 .bf16) (x5 : Vec Ideal S1024x5632 .bf16) (x6 : Vec Ideal S2816x1024 .bf16) (x7 : Vec Ideal S1x3x1024 .f32) (x8 : Vec Ideal S1x3x1024 .f32) (x9 : Vec Ideal S1x1x32x5632 .f32) (x10 : Vec Ideal S1x1x176x1024 .f32) (y : S512x1024.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y = Cert.PostProof.outBlock x0 x1 (Scalar.select (early i) x2 x3) x4 x5 x6 x7 x8 (y 0) (y 1) := by
  have key : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
      = Cert.PostProof.outBlock (arg1.view.read (Elt Ideal) (harg1.unread x0)) (arg2.view.read (Elt Ideal) (harg2.unread x1)) (Scalar.select (early i) (arg3.view.read (Elt Ideal) (harg3.unread x2)) (arg4.view.read (Elt Ideal) (harg4.unread x3))) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (y 0) (y 1) := by
    frame_open
    rw [View.read_writes_junk_eq_canon]
    canon_tiles x h using cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
    · refine chunk_at Cert.PostProof.chunk128 384 inb_S512x1024_S128x1024_384_0 (early i) _ _ _ _ _ _ _ _ _ y x h0 (by first | exact h1 | exact h1.trans (Nat.zero_add _)) _ ?_
      sl_kernel_rfl
    · refine chunk_at Cert.PostProof.chunk256 128 inb_S512x1024_S256x1024_128_0 (early i) _ _ _ _ _ _ _ _ _ y x h0 (by first | exact h1 | exact h1.trans (Nat.zero_add _)) _ ?_
      sl_kernel_rfl
    · refine chunk_at Cert.PostProof.chunk128 0 inb_S512x1024_S128x1024_0_0 (early i) _ _ _ _ _ _ _ _ _ y x (by first | exact h0 | exact h0.trans (Nat.zero_add _).symm) (by first | exact h1 | exact h1.trans (Nat.zero_add _)) _ ?_
      sl_kernel_rfl
  rw [key, harg1.read_unread, harg2.read_unread, harg3.read_unread, harg4.read_unread, harg5.read_unread, harg6.read_unread, harg7.read_unread, harg8.read_unread, harg9.read_unread]

/-- The block a grid point leaves of the first feed-forward matrix's copy: the piece it fetched. -/
theorem copy12_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x3x1024 .f32) (harg8 : arg8.IsWhole) (arg9 : Memref sig .tc .vmem S1x3x1024 .f32) (harg9 : arg9.IsWhole) (arg10 : Memref sig .tc .vmem S1x1x32x5632 .f32) (harg10 : arg10.IsWhole) (arg11 : Memref sig .tc .vmem S1x1x176x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole)
    (x0 : Vec Ideal S1x1x9x1024 .f32) (x1 : Vec Ideal S512x1024 .f32) (x2 : Vec Ideal S512x1024 .bf16) (x3 : Vec Ideal S512x1024 .bf16) (x4 : Vec Ideal S1024x1024 .bf16) (x5 : Vec Ideal S1024x5632 .bf16) (x6 : Vec Ideal S2816x1024 .bf16) (x7 : Vec Ideal S1x3x1024 .f32) (x8 : Vec Ideal S1x3x1024 .f32) (x9 : Vec Ideal S1x1x32x5632 .f32) (x10 : Vec Ideal S1x1x176x1024 .f32) (y : S32x5632.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y = x9 (ix4 0 0 (y 0) (y 1)) := by
  have key : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
      = (arg10.view.read (Elt Ideal) (harg10.unread x9)) (ix4 0 0 (y 0) (y 1)) := by
    frame_open
    rw [View.read_writes_junk_eq_canon]
    canon_tiles x h using cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
    refine castFour_at (A := 32) (B := 5632) _ inb_S1x1x32x5632_S1x1x32x5632_0_0_0_0 shapeCasts_S1x1x32x5632_S32x5632 bitsLt_bf16_f32 y x h0 h1 _ ?_
    sl_kernel_rfl
  rw [key, harg10.read_unread]

/-- The block a grid point leaves of the second feed-forward matrix's copy: the piece it fetched. -/
theorem copy13_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x3x1024 .f32) (harg8 : arg8.IsWhole) (arg9 : Memref sig .tc .vmem S1x3x1024 .f32) (harg9 : arg9.IsWhole) (arg10 : Memref sig .tc .vmem S1x1x32x5632 .f32) (harg10 : arg10.IsWhole) (arg11 : Memref sig .tc .vmem S1x1x176x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole)
    (x0 : Vec Ideal S1x1x9x1024 .f32) (x1 : Vec Ideal S512x1024 .f32) (x2 : Vec Ideal S512x1024 .bf16) (x3 : Vec Ideal S512x1024 .bf16) (x4 : Vec Ideal S1024x1024 .bf16) (x5 : Vec Ideal S1024x5632 .bf16) (x6 : Vec Ideal S2816x1024 .bf16) (x7 : Vec Ideal S1x3x1024 .f32) (x8 : Vec Ideal S1x3x1024 .f32) (x9 : Vec Ideal S1x1x32x5632 .f32) (x10 : Vec Ideal S1x1x176x1024 .f32) (y : S176x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y = x10 (ix4 0 0 (y 0) (y 1)) := by
  have key : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
      = (arg11.view.read (Elt Ideal) (harg11.unread x10)) (ix4 0 0 (y 0) (y 1)) := by
    frame_open
    rw [View.read_writes_junk_eq_canon]
    canon_tiles x h using cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y
    refine castFour_at (A := 176) (B := 1024) _ inb_S1x1x176x1024_S1x1x176x1024_0_0_0_0 shapeCasts_S1x1x176x1024_S176x1024 bitsLt_bf16_f32 y x h0 h1 _ ?_
    sl_kernel_rfl
  rw [key, harg11.read_unread]

end Cert.PostFirstProof
-- ==== Proof.PostFirstReferenceRows.lean ====
module
public import proofs.«01_k».proof.Proof.Gen.PostFirstReferenceIdeal.Read
public import Idealize.ShloMosaic.Lib.Pointwise
public import proofs.«01_k».proof.Proof.PreReferenceRows
@[expose] public section
set_option maxRecDepth 16384
noncomputable section

/-! The reference of the first layer from the mixer's attention on: its arrays read at an entry. -/

namespace Cert.PostFirstProof.Ref
open Cert.PostFirstReferenceIdeal Cert.PostFirstReferenceIdeal.Gen Cert.PostFirstReferenceIdeal.Read Idealize.ShloMosaic Idealize.ShloMosaic.TcCoe Idealize.SL.Sem
open Idealize.ShloMosaic.Pointwise Cert.FfnProof Cert.FfnProof.Ref
local notation "𝕍" => FVec Ideal

variable (x0 : 𝕍 S2x16x9x1024 .f32) (x1 : 𝕍 S18432x1024 .f32) (x2 : 𝕍 S16384x1024 .bf16) (x3 : 𝕍 S2048x1024 .bf16) (x4 : 𝕍 S1024x1024 .bf16)
  (x5 : 𝕍 S1024x5632 .bf16) (x6 : 𝕍 S2816x1024 .bf16) (x7 x8 : 𝕍 S2x3x1024 .f32)

/-- The latent tokens' array is the layer's. -/
theorem latent_eq : val_main_v115 (F := Ideal) x0 x1 x2 x4 x5 x6 x7 x8
    = closing Cert.PreProof.Ref.tokens Cert.PreProof.Ref.sublayer dot_S8x2048x1024_S1024x1024_S8x2048x1024_2_0_01_1_n_n_wf
      (val_main_v28 (F := Ideal) x1) (val_main_v5 (F := Ideal) x0) (val_main_v30 (F := Ideal) x2) (val_main_v0 (F := Ideal) x4)
      (val_main_v42 (F := Ideal) x7) (val_main_v44 (F := Ideal) x8) (val_main_v8 (F := Ideal) x0) (val_main_v11 (F := Ideal) x0) (val_main_v14 (F := Ideal) x0)
      (val_main_v1 (F := Ideal) x5) (val_main_v2 (F := Ideal) x6) (val_main_v70 (F := Ideal) x7) (val_main_v72 (F := Ideal) x8) := rfl

/-- The context tokens' array is the layer's. -/
theorem context_eq : val_main_v204 (F := Ideal) x0 x1 x3 x4 x5 x6 x7 x8
    = closing Cert.PreProof.Ref.context Cert.PreProof.Ref.contextSublayer dot_S8x256x1024_S1024x1024_S8x256x1024_2_0_01_1_n_n_wf
      (val_main_v117 (F := Ideal) x1) (val_main_v17 (F := Ideal) x0) (val_main_v119 (F := Ideal) x3) (val_main_v0 (F := Ideal) x4)
      (val_main_v131 (F := Ideal) x7) (val_main_v133 (F := Ideal) x8) (val_main_v20 (F := Ideal) x0) (val_main_v23 (F := Ideal) x0) (val_main_v26 (F := Ideal) x0)
      (val_main_v1 (F := Ideal) x5) (val_main_v2 (F := Ideal) x6) (val_main_v159 (F := Ideal) x7) (val_main_v161 (F := Ideal) x8) := rfl

/-- A latent token, in the residual stream and in the attention. -/
theorem token_apply (s : Fin 8) (n : Fin 2048) (k : Fin 1024) :
    val_main_v28 (F := Ideal) x1 (ix3 s n k) = x1 (ix2 ⟨2048 * s.val + n.val, by omega⟩ k)
    ∧ val_main_v30 (F := Ideal) x2 (ix3 s n k) = x2 (ix2 ⟨2048 * s.val + n.val, by omega⟩ k) := by
  refine ⟨?_, ?_⟩
  · unfold val_main_v28 val_main_v27
    pointwise
    exact congrArg₂ (fun a b => x1 (ix2 a b)) (Fin.ext (by dsimp only; omega)) (Fin.ext (by dsimp only))
  · unfold val_main_v30 val_main_v29
    pointwise
    exact congrArg₂ (fun a b => x2 (ix2 a b)) (Fin.ext (by dsimp only; omega)) (Fin.ext (by dsimp only))

/-- A context token, in the residual stream and in the attention. -/
theorem context_token_apply (s : Fin 8) (n : Fin 256) (k : Fin 1024) :
    val_main_v117 (F := Ideal) x1 (ix3 s n k) = x1 (ix2 ⟨16384 + (256 * s.val + n.val), by omega⟩ k)
    ∧ val_main_v119 (F := Ideal) x3 (ix3 s n k) = x3 (ix2 ⟨256 * s.val + n.val, by omega⟩ k) := by
  refine ⟨?_, ?_⟩
  · unfold val_main_v117 val_main_v116
    pointwise
    exact congrArg₂ (fun a b => x1 (ix2 a b)) (Fin.ext (by dsimp only; omega)) (Fin.ext (by dsimp only))
  · unfold val_main_v119 val_main_v118
    pointwise
    exact congrArg₂ (fun a b => x3 (ix2 a b)) (Fin.ext (by dsimp only; omega)) (Fin.ext (by dsimp only))

/-- The modulation rows of the latent tokens. -/
theorem mods_apply (s : Fin 8) (k : Fin 1024) :
    val_main_v5 (F := Ideal) x0 (ix3 s 0 k) = x0 (ix4 0 ⟨s.val, by omega⟩ 5 k) ∧ val_main_v8 (F := Ideal) x0 (ix3 s 0 k) = x0 (ix4 0 ⟨s.val, by omega⟩ 6 k)
    ∧ val_main_v11 (F := Ideal) x0 (ix3 s 0 k) = x0 (ix4 0 ⟨s.val, by omega⟩ 7 k) ∧ val_main_v14 (F := Ideal) x0 (ix3 s 0 k) = x0 (ix4 0 ⟨s.val, by omega⟩ 8 k) := by
  refine ⟨?_, ?_, ?_, ?_⟩
  · unfold val_main_v5 val_main_v4 val_main_v3
    pointwise
  · unfold val_main_v8 val_main_v7 val_main_v6
    pointwise
  · unfold val_main_v11 val_main_v10 val_main_v9
    pointwise
  · unfold val_main_v14 val_main_v13 val_main_v12
    pointwise

/-- The modulation rows of the context tokens. -/
theorem context_mods_apply (k : Fin 1024) :
    val_main_v17 (F := Ideal) x0 (ix3 0 0 k) = x0 (ix4 0 8 5 k) ∧ val_main_v20 (F := Ideal) x0 (ix3 0 0 k) = x0 (ix4 0 8 6 k)
    ∧ val_main_v23 (F := Ideal) x0 (ix3 0 0 k) = x0 (ix4 0 8 7 k) ∧ val_main_v26 (F := Ideal) x0 (ix3 0 0 k) = x0 (ix4 0 8 8 k) := by
  refine ⟨?_, ?_, ?_, ?_⟩
  · unfold val_main_v17 val_main_v16 val_main_v15
    pointwise
  · unfold val_main_v20 val_main_v19 val_main_v18
    pointwise
  · unfold val_main_v23 val_main_v22 val_main_v21
    pointwise
  · unfold val_main_v26 val_main_v25 val_main_v24
    pointwise

/-- The scales and offsets of the latent tokens' layer normalisations. -/
theorem affine_apply (k : Fin 1024) :
    val_main_v42 (F := Ideal) x7 (ix1 k) = x7 (ix3 0 1 k) ∧ val_main_v44 (F := Ideal) x8 (ix1 k) = x8 (ix3 0 1 k)
    ∧ val_main_v70 (F := Ideal) x7 (ix1 k) = x7 (ix3 0 2 k) ∧ val_main_v72 (F := Ideal) x8 (ix1 k) = x8 (ix3 0 2 k) := by
  refine ⟨?_, ?_, ?_, ?_⟩
  · unfold val_main_v42 val_main_v41 val_main_v32 val_main_v31
    pointwise
  · unfold val_main_v44 val_main_v43 val_main_v34 val_main_v33
    pointwise
  · unfold val_main_v70 val_main_v69 val_main_v32 val_main_v31
    pointwise
  · unfold val_main_v72 val_main_v71 val_main_v34 val_main_v33
    pointwise

/-- The scales and offsets of the context tokens' layer normalisations are the latent tokens'. -/
theorem context_affine : val_main_v131 (F := Ideal) x7 = val_main_v42 (F := Ideal) x7 ∧ val_main_v133 (F := Ideal) x8 = val_main_v44 (F := Ideal) x8
    ∧ val_main_v159 (F := Ideal) x7 = val_main_v70 (F := Ideal) x7 ∧ val_main_v161 (F := Ideal) x8 = val_main_v72 (F := Ideal) x8 :=
  ⟨rfl, rfl, rfl, rfl⟩

/-- The attention of token `T`: the latent tokens', then the context tokens'. -/
def attentionRow (T : Fin 18432) (k : Fin 1024) : EReal :=
  if h : T.val < 16384 then x2 (ix2 ⟨T.val, h⟩ k) else x3 (ix2 ⟨T.val - 16384, by omega⟩ k)

/-- The mixer's residual of token `T` under modulation `s`. -/
def mixedRow (s : Fin 16) (T : Fin 18432) : Fin 1024 → EReal :=
  mixRow (fun k => x1 (ix2 T k)) (fun k => x0 (ix4 0 s 5 k)) (fun k => attentionRow x2 x3 T k) (fun k i => x4 (ix2 k i))

/-- The feed-forward residual of token `T` under modulation `s`. -/
def residualRow (s : Fin 16) (T : Fin 18432) : Fin 1024 → EReal :=
  ffnRow (normRowR (mixedRow x0 x1 x2 x3 x4 s T) (fun k => x7 (ix3 0 1 k)) (fun k => x8 (ix3 0 1 k)))
    (fun k => x0 (ix4 0 s 6 k)) (fun k => x0 (ix4 0 s 7 k)) (fun k => x0 (ix4 0 s 8 k))
    (fun k i => x5 (ix2 k ⟨i.val, by omega⟩)) (fun k i => x5 (ix2 k ⟨2816 + i.val, by omega⟩)) (fun i k => x6 (ix2 i k))

/-- What the layer leaves at token `T` under modulation `s`. -/
def resultRow (s : Fin 16) (T : Fin 18432) : Fin 1024 → EReal :=
  normRowR (residualRow x0 x1 x2 x3 x4 x5 x6 x7 x8 s T) (fun k => x7 (ix3 0 2 k)) (fun k => x8 (ix3 0 2 k))

/-- The latent tokens' array read at a token. -/
theorem latent_apply (s : Fin 8) (n : Fin 2048) (j : Fin 1024) : val_main_v115 (F := Ideal) x0 x1 x2 x4 x5 x6 x7 x8 (ix3 s n j)
    = resultRow x0 x1 x2 x3 x4 x5 x6 x7 x8 ⟨s.val, by omega⟩ ⟨2048 * s.val + n.val, by omega⟩ j := by
  have e (k : Fin 1024) : attentionRow x2 x3 ⟨2048 * s.val + n.val, by omega⟩ k = x2 (ix2 ⟨2048 * s.val + n.val, by omega⟩ k) :=
    dif_pos (show 2048 * s.val + n.val < 16384 by omega)
  rw [latent_eq, closing_apply _ _ _ _ _ _ _ _ _ _ _ _ _ _ _ _ s n s (if_neg (by decide)).symm]
  unfold resultRow residualRow mixedRow
  simp only [e, (token_apply x1 x2 s n _).1, (token_apply x1 x2 s n _).2, mods_apply, affine_apply x7 x8]
  rfl

/-- The context tokens' array read at a token. -/
theorem context_apply (s : Fin 8) (n : Fin 256) (j : Fin 1024) : val_main_v204 (F := Ideal) x0 x1 x3 x4 x5 x6 x7 x8 (ix3 s n j)
    = resultRow x0 x1 x2 x3 x4 x5 x6 x7 x8 8 ⟨16384 + (256 * s.val + n.val), by omega⟩ j := by
  have e (k : Fin 1024) : attentionRow x2 x3 ⟨16384 + (256 * s.val + n.val), by omega⟩ k = x3 (ix2 ⟨256 * s.val + n.val, by omega⟩ k) :=
    (dif_neg (show ¬ 16384 + (256 * s.val + n.val) < 16384 by omega)).trans
      (congrArg (fun a => x3 (ix2 a k)) (Fin.ext (show 16384 + (256 * s.val + n.val) - 16384 = 256 * s.val + n.val by omega)))
  have a := context_affine x7 x8
  rw [context_eq, closing_apply _ _ _ _ _ _ _ _ _ _ _ _ _ _ _ _ s n 0 (if_pos rfl).symm, a.1, a.2.1, a.2.2.1, a.2.2.2]
  unfold resultRow residualRow mixedRow
  simp only [e, (context_token_apply x1 x3 s n _).1, (context_token_apply x1 x3 s n _).2, context_mods_apply, affine_apply x7 x8]
  rfl

/-- The reference's tokens. -/
theorem result_apply (T : Fin 18432) (j : Fin 1024) : val_main_v207 (F := Ideal) x0 x1 x2 x3 x4 x5 x6 x7 x8 (ix2 T j)
    = resultRow x0 x1 x2 x3 x4 x5 x6 x7 x8 (modsOf T) T j := by
  unfold val_main_v207 val_main_v205 val_main_v206
  by_cases h : T.val < 16384
  · refine (join_latent _ _ _ _ _ T j h).trans ((latent_apply x0 x1 x2 x3 x4 x5 x6 x7 x8 ⟨T.val / 2048, by omega⟩ ⟨T.val % 2048, by omega⟩ j).trans ?_)
    exact congrArg₂ (fun a b => resultRow x0 x1 x2 x3 x4 x5 x6 x7 x8 a b j) (Fin.ext (by unfold modsOf; dsimp only; omega)) (Fin.ext (by dsimp only; omega))
  · refine (join_context _ _ _ _ _ T j h).trans ((context_apply x0 x1 x2 x3 x4 x5 x6 x7 x8 ⟨(T.val - 16384) / 256, by omega⟩ ⟨(T.val - 16384) % 256, by omega⟩ j).trans ?_)
    exact congrArg₂ (fun a b => resultRow x0 x1 x2 x3 x4 x5 x6 x7 x8 a b j) (Fin.ext (by unfold modsOf; show 8 = min (T.val / 2048) 8; omega)) (Fin.ext (by dsimp only; omega))

/-- The copies of the next call's weights, entry by entry. -/
theorem copies_apply (x9 : 𝕍 S2x2x1024x5632 .f32) (x10 : 𝕍 S2x2x2816x1024 .f32) :
    (∀ (a : Fin 1024) (b : Fin 5632), val_main_v210 (F := Ideal) x9 (ix2 a b) = x9 (ix4 1 0 a b))
    ∧ (∀ (a : Fin 2816) (b : Fin 1024), val_main_v213 (F := Ideal) x10 (ix2 a b) = x10 (ix4 1 0 a b)) := by
  refine ⟨fun a b => ?_, fun a b => ?_⟩
  · unfold val_main_v210 val_main_v209 val_main_v208
    pointwise
  · unfold val_main_v213 val_main_v212 val_main_v211
    pointwise

end Cert.PostFirstProof.Ref
-- ==== Proof.PostFirstValue.lean ====
module
public import proofs.«01_k».proof.Defs
public import proofs.«01_k».proof.Proof.WaValue
public import proofs.«01_k».proof.Proof.PostFirstBlock
public import proofs.«01_k».proof.Proof.PostFirstReferenceRows
public import proofs.«01_k».proof.Proof.Gen.Pre_post_first_finite
@[expose] public section
set_option maxRecDepth 16384
noncomputable section

/-! The arrays `post_0` leaves are the reference's: the tokens from finite modulation, tokens, attention and weights, the
copies of the next call's weights from any. -/

namespace Cert.PostFirstProof
open Cert.PostFirstKernelIdeal Cert.PostFirstKernelIdeal.Gen Idealize.ShloMosaic Idealize.ShloMosaic.TcCoe Idealize.SL.Sem
open Idealize.ShloMosaic.Pointwise Cert.FfnProof Cert.FfnProof.Ref Cert.WaProof
local notation "𝕍" => FVec Ideal

variable (x0 : 𝕍 S2x16x9x1024 .f32) (x1 : 𝕍 S18432x1024 .f32) (x2 : 𝕍 S16384x1024 .bf16) (x3 : 𝕍 S2048x1024 .bf16) (x4 : 𝕍 S1024x1024 .bf16)
  (x5 : 𝕍 S1024x5632 .bf16) (x6 : 𝕍 S2816x1024 .bf16) (x7 x8 : 𝕍 S2x3x1024 .f32)

/-- What the precondition makes real. -/
structure Finite : Prop where
  mods (s : Fin 9) (k : Fin 4) (j : Fin 1024) : IsReal (x0 (ix4 0 ⟨s.val, by omega⟩ ⟨5 + k.val, by omega⟩ j))
  tokens (T : Fin 18432) (j : Fin 1024) : IsReal (x1 (ix2 T j))
  latent (T : Fin 16384) (j : Fin 1024) : IsReal (x2 (ix2 T j))
  context (T : Fin 2048) (j : Fin 1024) : IsReal (x3 (ix2 T j))
  project (k j : Fin 1024) : IsReal (x4 (ix2 k j))
  wide (k : Fin 1024) (j : Fin 5632) : IsReal (x5 (ix2 k j))
  back (k : Fin 2816) (j : Fin 1024) : IsReal (x6 (ix2 k j))
  scale (j : Fin 1024) : IsReal (x7 (ix3 0 1 j))
  offset (j : Fin 1024) : IsReal (x8 (ix3 0 1 j))

/-- What the precondition says of each array, entry by entry. -/
def checks (x9 : 𝕍 S2x2x1024x5632 .f32) (x10 : 𝕍 S2x2x2816x1024 .f32) :=
  (letI := Cert.Pre_post_first_finite.Gen.facts; Cert.Pre_post_first_finite.fn (F := Ideal) x0 x1 x2 x3 x4 x5 x6 x7 x8 x9 x10)

/-- The precondition makes it real. -/
theorem finite_of (x9 : 𝕍 S2x2x1024x5632 .f32) (x10 : 𝕍 S2x2x2816x1024 .f32) (h : let p := checks x0 x1 x2 x3 x4 x5 x6 x7 x8 x9 x10
    p.1 = (fun _ => 1#1) ∧ p.2.1 = (fun _ => 1#1) ∧ p.2.2.1 = (fun _ => 1#1) ∧ p.2.2.2.1 = (fun _ => 1#1) ∧ p.2.2.2.2.1 = (fun _ => 1#1)
      ∧ p.2.2.2.2.2.1 = (fun _ => 1#1) ∧ p.2.2.2.2.2.2.1 = (fun _ => 1#1) ∧ p.2.2.2.2.2.2.2.1 = (fun _ => 1#1)
      ∧ p.2.2.2.2.2.2.2.2 = (fun _ => 1#1)) : Finite x0 x1 x2 x3 x4 x5 x6 x7 x8 := by
  obtain ⟨h0, h1, h2, h3, h4, h5, h6, h7, h8⟩ := h
  unfold checks Cert.Pre_post_first_finite.fn Cert.Pre_post_first_finite.fn_part1 at h0 h1 h2 h3 h4 h5 h6 h7 h8
  refine ⟨fun s k j => ?_, fun T j => ?_, fun T j => ?_, fun T j => ?_, fun k j => ?_, fun k j => ?_, fun k j => ?_, fun j => ?_, fun j => ?_⟩
  · have := congrFun h0 (ix3 s k j); revert this; pointwise; exact real_of_abs_lt _
  · have := congrFun h1 (ix2 T j); revert this; pointwise; exact real_of_abs_lt _
  · have := congrFun h2 (ix2 T j); revert this; pointwise; exact real_of_abs_lt _
  · have := congrFun h3 (ix2 T j); revert this; pointwise; exact real_of_abs_lt _
  · have := congrFun h4 (ix2 k j); revert this; pointwise; exact real_of_abs_lt _
  · have := congrFun h5 (ix2 k j); revert this; pointwise; exact real_of_abs_lt _
  · have := congrFun h6 (ix2 k j); revert this; pointwise; exact real_of_abs_lt _
  · have := congrFun h7 (ix1 j); revert this; pointwise; exact real_of_abs_lt _
  · have := congrFun h8 (ix1 j); revert this; pointwise; exact real_of_abs_lt _

/-- Token `T`'s attention is real. -/
theorem attention_real (hf : Finite x0 x1 x2 x3 x4 x5 x6 x7 x8) (T : Fin 18432) (k : Fin 1024) : IsReal (Ref.attentionRow x2 x3 T k) := by
  unfold Ref.attentionRow
  split
  · exact hf.latent _ k
  · exact hf.context _ k

/-- The blocks' places. -/
theorem places : ∀ t : Fin cfg0.N, win0_0.index t = ![0, min (t.val / 4) 8, 0, 0] ∧ win0_1.index t = ![t.val, 0] ∧ win0_2.index t = ![min t.val 31, 0]
    ∧ win0_3.index t = ![t.val - 32, 0] ∧ win0_4.index t = ![0, 0] ∧ win0_5.index t = ![0, 0] ∧ win0_6.index t = ![0, 0] ∧ win0_7.index t = ![0, 0, 0]
    ∧ win0_8.index t = ![0, 0, 0] ∧ win0_9.index t = ![1, 0, min t.val 31, 0] ∧ win0_10.index t = ![1, 0, min t.val 15, 0]
    ∧ win0_11.index t = ![t.val, 0] ∧ win0_12.index t = ![min t.val 31, 0] ∧ win0_13.index t = ![min t.val 15, 0] :=
  (by decide +kernel : ∀ t : Fin grid0.N, _)

/-- Which grid points are the latent tokens'. -/
theorem early_eq : ∀ t : Fin cfg0.N, early (grid0.coords t) = if t.val < 32 then 1#1 else 0#1 :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 0 ⟨min (t.val / 4) 8, by omega⟩ k j) := by
  blk_ext [iblk, V, places t]

/-- The token block's element. -/
theorem tokens_at (c : Dev nD) (t : Fin cfg0.N) (r : Fin 512) (j : Fin 1024) :
    iblk m c 1 t (ix2 r j) = (m ((c : Thread nD τ).loc main_arg1) : 𝕍 S18432x1024 .f32) (ix2 ⟨512 * t.val + r.val, by have : t.val < 36 := t.isLt; omega⟩ j) := by
  blk_ext [iblk, V, places t]

/-- The latent attention block's element. -/
theorem latent_at (c : Dev nD) (t : Fin cfg0.N) (r : Fin 512) (j : Fin 1024) :
    iblk m c 2 t (ix2 r j) = (m ((c : Thread nD τ).loc main_arg2) : 𝕍 S16384x1024 .bf16) (ix2 ⟨512 * min t.val 31 + r.val, by omega⟩ j) := by
  blk_ext [iblk, V, places t]

/-- The context attention block's element. -/
theorem context_at (c : Dev nD) (t : Fin cfg0.N) (r : Fin 512) (j : Fin 1024) :
    iblk m c 3 t (ix2 r j) = (m ((c : Thread nD τ).loc main_arg3) : 𝕍 S2048x1024 .bf16) (ix2 ⟨512 * (t.val - 32) + r.val, by have : t.val < 36 := t.isLt; omega⟩ j) := by
  blk_ext [iblk, V, places t]

/-- The attention the grid point takes is its tokens'. -/
theorem attention_at (c : Dev nD) (t : Fin cfg0.N) (r : Fin 512) (j : Fin 1024) (T : Fin 18432) (hT : T.val = 512 * t.val + r.val) :
    (Scalar.select (early (grid0.coords t)) (iblk m c 2 t : 𝕍 S512x1024 .bf16) (iblk m c 3 t)) (ix2 r j)
      = Ref.attentionRow (m ((c : Thread nD τ).loc main_arg2)) (m ((c : Thread nD τ).loc main_arg3)) T j := by
  have ht : t.val < 36 := t.isLt
  unfold Ref.attentionRow
  rw [early_eq]
  by_cases h : t.val < 32
  · rw [if_pos h, dif_pos (by omega)]
    refine (latent_at m c t r j).trans (congrArg (fun a => (m ((c : Thread nD τ).loc main_arg2) : 𝕍 S16384x1024 .bf16) (ix2 a j)) (Fin.ext ?_))
    show 512 * min t.val 31 + r.val = T.val
    omega
  · rw [if_neg h, dif_neg (by omega)]
    refine (context_at m c t r j).trans (congrArg (fun a => (m ((c : Thread nD τ).loc main_arg3) : 𝕍 S2048x1024 .bf16) (ix2 a j)) (Fin.ext ?_))
    show 512 * (t.val - 32) + r.val = T.val - 16384
    omega

/-- The projection. -/
theorem project_at (c : Dev nD) (t : Fin cfg0.N) (k j : Fin 1024) :
    iblk m c 4 t (ix2 k j) = (m ((c : Thread nD τ).loc main_arg4) : 𝕍 S1024x1024 .bf16) (ix2 k j) := by
  blk_ext [iblk, V, places t]

/-- The first feed-forward matrix. -/
theorem wide_at (c : Dev nD) (t : Fin cfg0.N) (k : Fin 1024) (j : Fin 5632) :
    iblk m c 5 t (ix2 k j) = (m ((c : Thread nD τ).loc main_arg5) : 𝕍 S1024x5632 .bf16) (ix2 k j) := by
  blk_ext [iblk, V, places t]

/-- The second feed-forward matrix. -/
theorem back_at (c : Dev nD) (t : Fin cfg0.N) (k : Fin 2816) (j : Fin 1024) :
    iblk m c 6 t (ix2 k j) = (m ((c : Thread nD τ).loc main_arg6) : 𝕍 S2816x1024 .bf16) (ix2 k j) := by
  blk_ext [iblk, V, places t]

/-- The scales of the layer normalisations. -/
theorem scale_at (c : Dev nD) (t : Fin cfg0.N) (k : Fin 3) (j : Fin 1024) :
    iblk m c 7 t (ix3 0 k j) = (m ((c : Thread nD τ).loc main_arg7) : 𝕍 S2x3x1024 .f32) (ix3 0 k j) := by
  blk_ext [iblk, V, places t]

/-- The offsets of the layer normalisations. -/
theorem offset_at (c : Dev nD) (t : Fin cfg0.N) (k : Fin 3) (j : Fin 1024) :
    iblk m c 8 t (ix3 0 k j) = (m ((c : Thread nD τ).loc main_arg8) : 𝕍 S2x3x1024 .f32) (ix3 0 k j) := by
  blk_ext [iblk, V, places t]

/-- The piece of the next first feed-forward matrix. -/
theorem nextWide_at (c : Dev nD) (t : Fin cfg0.N) (a : Fin 32) (b : Fin 5632) :
    iblk m c 9 t (ix4 0 0 a b) = (m ((c : Thread nD τ).loc main_arg9) : 𝕍 S2x2x1024x5632 .f32) (ix4 1 0 ⟨32 * min t.val 31 + a.val, by omega⟩ b) := by
  blk_ext [iblk, V, places t]

/-- The piece of the next second feed-forward matrix. -/
theorem nextBack_at (c : Dev nD) (t : Fin cfg0.N) (a : Fin 176) (b : Fin 1024) :
    iblk m c 10 t (ix4 0 0 a b) = (m ((c : Thread nD τ).loc main_arg10) : 𝕍 S2x2x2816x1024 .f32) (ix4 1 0 ⟨176 * min t.val 15 + a.val, by omega⟩ b) := by
  blk_ext [iblk, V, places t]

/-- A row the kernel stores is the reference's. -/
theorem row_eq (c : Dev nD) (t : Fin cfg0.N) (e0 : m ((c : Thread nD τ).loc main_arg0) = x0)
    (e1 : m ((c : Thread nD τ).loc main_arg1) = x1) (e2 : m ((c : Thread nD τ).loc main_arg2) = x2) (e3 : m ((c : Thread nD τ).loc main_arg3) = x3)
    (e4 : m ((c : Thread nD τ).loc main_arg4) = x4) (e5 : m ((c : Thread nD τ).loc main_arg5) = x5) (e6 : m ((c : Thread nD τ).loc main_arg6) = x6)
    (e7 : m ((c : Thread nD τ).loc main_arg7) = x7) (e8 : m ((c : Thread nD τ).loc main_arg8) = x8)
    (hf : Finite x0 x1 x2 x3 x4 x5 x6 x7 x8) (r : Fin 512) (l : Fin 1024) (T : Fin 18432) (hT : T.val = 512 * t.val + r.val) :
    Cert.PostProof.outBlock (iblk m c 0 t) (iblk m c 1 t) (Scalar.select (early (grid0.coords t)) (iblk m c 2 t) (iblk m c 3 t)) (iblk m c 4 t) (iblk m c 5 t) (iblk m c 6 t) (iblk m c 7 t) (iblk m c 8 t) r l
      = Cert.PostFirstReferenceIdeal.Read.val_main_v207 (F := Ideal) x0 x1 x2 x3 x4 x5 x6 x7 x8 (ix2 T l) := by
  have ht : t.val < 36 := t.isLt
  have E0 := mods_at m c t
  have E1 := tokens_at m c t
  have E2 := fun j => attention_at m c t r j T hT
  have E4 := project_at m c t
  have E5 := wide_at m c t
  have E6 := back_at m c t
  have E7 := scale_at m c t
  have E8 := offset_at m c t
  rw [e0] at E0; rw [e1] at E1; rw [e2, e3] at E2; rw [e4] at E4; rw [e5] at E5; rw [e6] at E6; rw [e7] at E7; rw [e8] at E8
  obtain ⟨s, hs⟩ : ∃ s : Fin 9, s.val = min (t.val / 4) 8 := ⟨⟨min (t.val / 4) 8, by omega⟩, rfl⟩
  have e : modsOf T = ⟨s.val, by omega⟩ := Fin.ext (by show min (T.val / 2048) 8 = s.val; omega)
  rw [Ref.result_apply, e]
  have f0 (k : Fin 9) (j : Fin 1024) : iblk m c 0 t (ix4 0 0 k j) = x0 (ix4 0 ⟨s.val, by omega⟩ k j) := by
    rw [E0]; exact congrArg (fun a => x0 (ix4 0 a k j)) (Fin.ext hs.symm)
  have f1 (j : Fin 1024) : iblk m c 1 t (ix2 r j) = x1 (ix2 T j) := by
    rw [E1]; exact congrArg (fun a => x1 (ix2 a j)) (Fin.ext hT.symm)
  have h1 : RealRow (Ref.mixedRow x0 x1 x2 x3 x4 ⟨s.val, by omega⟩ T) :=
    mixRow_real _ _ _ _ (hf.tokens T) (hf.mods s 0) (attention_real _ _ _ _ _ _ _ _ _ hf T) hf.project
  have h2 : RealRow (Ref.residualRow x0 x1 x2 x3 x4 x5 x6 x7 x8 ⟨s.val, by omega⟩ T) :=
    ffnRow_real _ _ _ _ _ _ _ (normRowR_real _ _ _ h1 hf.scale hf.offset) (hf.mods s 1) (hf.mods s 2) (hf.mods s 3)
      (fun k _ => hf.wide k _) (fun k _ => hf.wide k _) hf.back
  unfold Ref.resultRow
  rw [← normRow_eq _ _ _ h2]
  unfold Cert.PostProof.outBlock Ref.residualRow Cert.PostProof.midRow
  rw [← normRow_eq _ _ _ h1]
  unfold Ref.mixedRow
  simp only [f0, f1, E2, E4, E5, E6, E7, E8]

/-- The tokens the kernel leaves are the reference's. -/
theorem final (c : Dev nD) (hfin : Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : (dats m 0 c).arrAt 11 cfg0.N
    = Cert.PostFirstReferenceIdeal.Read.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  unfold outsAt0
  dsimp only
  rw [out_eq]
  have ht : t.val < 36 := t.isLt
  have y0 : (y 0).val < 512 := (y 0).isLt
  have y1 : (y 1).val < 1024 := (y 1).isLt
  refine (row_eq _ _ _ _ _ _ _ _ _ m c t rfl rfl rfl rfl rfl rfl rfl rfl rfl hfin (y 0) (y 1) ⟨512 * t.val + (y 0).val, by omega⟩ rfl).trans ?_
  refine congrArg _ ?_
  blk_ext [places t]

/-- The copy of the next first feed-forward matrix is the reference's. -/
theorem wide_final (c : Dev nD) : (dats m 0 c).arrAt 12 cfg0.N
    = Cert.PostFirstReferenceIdeal.Read.val_main_v210 (F := Ideal) (m ((c : Thread nD τ).loc main_arg9)) := by
  refine (dats m 0 c).arrAt_eq_of_covers 12 _ (by decide +kernel) fun t hf y => ?_
  blk_simp
  rw [after0_12]
  unfold outsAt0
  dsimp only
  rw [copy12_eq]
  have y0 : (y 0).val < 32 := (y 0).isLt
  refine (nextWide_at m c t (y 0) (y 1)).trans ((Ref.copies_apply (m ((c : Thread nD τ).loc main_arg9)) (m ((c : Thread nD τ).loc main_arg10))).1
    ⟨32 * min t.val 31 + (y 0).val, by omega⟩ (y 1)).symm |>.trans ?_
  refine congrArg _ ?_
  blk_ext [places t]

/-- The copy of the next second feed-forward matrix is the reference's. -/
theorem back_final (c : Dev nD) : (dats m 0 c).arrAt 13 cfg0.N
    = Cert.PostFirstReferenceIdeal.Read.val_main_v213 (F := Ideal) (m ((c : Thread nD τ).loc main_arg10)) := by
  refine (dats m 0 c).arrAt_eq_of_covers 13 _ (by decide +kernel) fun t hf y => ?_
  blk_simp
  rw [after0_13]
  unfold outsAt0
  dsimp only
  rw [copy13_eq]
  have y0 : (y 0).val < 176 := (y 0).isLt
  refine (nextBack_at m c t (y 0) (y 1)).trans ((Ref.copies_apply (m ((c : Thread nD τ).loc main_arg9)) (m ((c : Thread nD τ).loc main_arg10))).2
    ⟨176 * min t.val 15 + (y 0).val, by omega⟩ (y 1)).symm |>.trans ?_
  refine congrArg _ ?_
  blk_ext [places t]

end Cert.PostFirstProof
-- ==== Proof.PreFirstBlock.lean ====
module
public import proofs.«01_k».proof.Proof.Gen.PreFirstKernelIdeal.Value
public import proofs.«01_k».proof.Proof.PreBlock
@[expose] public section
set_option maxRecDepth 16384
noncomputable section

/-! The body of `ffn_pre_0` in words: what `ffn_pre_1` computes, with the tokens from one of two blocks; and four copies of
pieces of the next calls' weights. -/

namespace Cert.PreFirstProof
open Cert.PreFirstKernelIdeal Cert.PreFirstKernelIdeal.Gen Idealize.ShloMosaic Idealize.ShloMosaic.TcCoe Idealize.SL.Sem
open Idealize.ShloMosaic.Pointwise Cert.FfnProof
local notation "𝕍" => FVec Ideal

/-- Whether a grid point is one of the latent tokens'. -/
def early (i : grid0.Coords) : BitVec 1 := Scalar.cmpi .slt (BitVec.ofNat 32 (i 0).val) 32#32

/-- An element of a chunk, its tokens taken from one of two blocks, is the block's at the chunk's place. -/
theorem chunk_at {R : ℕ} (C : Chunk R) (o : ℕ) (h) (b : BitVec 1)
    (x0 : Vec Ideal S1x1x9x1024 .f32) (x1 x2 : Vec Ideal S512x1024 .f32) (x3 : Vec Ideal S1024x5632 .bf16) (x4 : Vec Ideal S2816x1024 .bf16)
    (x5 x6 : Vec Ideal S1x3x1024 .f32) (y : S512x1024.Idx) (x : (⟨2, ![R, 1024]⟩ : Shape).Idx)
    (h0 : (y 0).val = o + (x 0).val) (h1 : (y 1).val = (x 1).val) (T : 𝕍 ⟨2, ![R, 1024]⟩ .f32)
    (hT : T = Cert.PreProof.chunk C x0 (Scalar.select b (part x1 o 0 R 1024 h) (part x2 o 0 R 1024 h)) x3 x4 x5 x6) :
    T x = Cert.PreProof.outBlock x0 (Scalar.select b x1 x2) x3 x4 x5 x6 (y 0) (y 1) :=
  Cert.PreProof.chunk_at C o h x0 (Scalar.select b x1 x2) x3 x4 x5 x6 y x h0 h1 T
    (hT.trans (congrArg (fun a => Cert.PreProof.chunk C x0 a x3 x4 x5 x6) (select_part b x1 x2 o 0 R 1024 h)))

set_option maxHeartbeats 4000000 in
/-- The block a grid point leaves: the stored chunks together are `outBlock` of the point's inputs. -/
theorem out_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x3x1024 .f32) (harg6 : arg6.IsWhole) (arg7 : Memref sig .tc .vmem S1x3x1024 .f32) (harg7 : arg7.IsWhole) (arg8 : Memref sig .tc .vmem S1x1x32x5632 .f32) (harg8 : arg8.IsWhole) (arg9 : Memref sig .tc .vmem S1x1x176x1024 .f32) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x3072 .bf16) (harg15 : arg15.IsWhole) (arg16 : Memref sig .tc .vmem S32x1024 .bf16) (harg16 : arg16.IsWhole)
    (x0 : Vec Ideal S1x1x9x1024 .f32) (x1 : Vec Ideal S512x1024 .f32) (x2 : Vec Ideal S512x1024 .f32) (x3 : Vec Ideal S1024x5632 .bf16) (x4 : Vec Ideal S2816x1024 .bf16) (x5 : Vec Ideal S1x3x1024 .f32) (x6 : Vec Ideal S1x3x1024 .f32) (x7 : Vec Ideal S1x1x32x5632 .f32) (x8 : Vec Ideal S1x1x176x1024 .f32) (x9 : Vec Ideal S1x32x3072 .f32) (x10 : Vec Ideal S1x32x1024 .f32) (y : S512x1024.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = Cert.PreProof.outBlock x0 (Scalar.select (early i) x1 x2) x3 x4 x5 x6 (y 0) (y 1) := by
  have key : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = Cert.PreProof.outBlock (arg1.view.read (Elt Ideal) (harg1.unread x0)) (Scalar.select (early i) (arg2.view.read (Elt Ideal) (harg2.unread x1)) (arg3.view.read (Elt Ideal) (harg3.unread x2))) (arg4.view.read (Elt Ideal) (harg4.unread x3)) (arg5.view.read (Elt Ideal) (harg5.unread x4)) (arg6.view.read (Elt Ideal) (harg6.unread x5)) (arg7.view.read (Elt Ideal) (harg7.unread x6)) (y 0) (y 1) := by
    frame_open
    rw [View.read_writes_junk_eq_canon]
    canon_tiles x h using cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
    · refine chunk_at Cert.PreProof.chunk128 384 inb_S512x1024_S128x1024_384_0 (early i) _ _ _ _ _ _ _ y x h0 (by first | exact h1 | exact h1.trans (Nat.zero_add _)) _ ?_
      sl_kernel_rfl
    · refine chunk_at Cert.PreProof.chunk256 128 inb_S512x1024_S256x1024_128_0 (early i) _ _ _ _ _ _ _ y x h0 (by first | exact h1 | exact h1.trans (Nat.zero_add _)) _ ?_
      sl_kernel_rfl
    · refine chunk_at Cert.PreProof.chunk128 0 inb_S512x1024_S128x1024_0_0 (early i) _ _ _ _ _ _ _ y x (by first | exact h0 | exact h0.trans (Nat.zero_add _).symm) (by first | exact h1 | exact h1.trans (Nat.zero_add _)) _ ?_
      sl_kernel_rfl
  rw [key, harg1.read_unread, harg2.read_unread, harg3.read_unread, harg4.read_unread, harg5.read_unread, harg6.read_unread, harg7.read_unread]

/-- The block a grid point leaves of the first feed-forward matrix's copy: the piece it fetched. -/
theorem copy12_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x3x1024 .f32) (harg6 : arg6.IsWhole) (arg7 : Memref sig .tc .vmem S1x3x1024 .f32) (harg7 : arg7.IsWhole) (arg8 : Memref sig .tc .vmem S1x1x32x5632 .f32) (harg8 : arg8.IsWhole) (arg9 : Memref sig .tc .vmem S1x1x176x1024 .f32) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x3072 .bf16) (harg15 : arg15.IsWhole) (arg16 : Memref sig .tc .vmem S32x1024 .bf16) (harg16 : arg16.IsWhole)
    (x0 : Vec Ideal S1x1x9x1024 .f32) (x1 : Vec Ideal S512x1024 .f32) (x2 : Vec Ideal S512x1024 .f32) (x3 : Vec Ideal S1024x5632 .bf16) (x4 : Vec Ideal S2816x1024 .bf16) (x5 : Vec Ideal S1x3x1024 .f32) (x6 : Vec Ideal S1x3x1024 .f32) (x7 : Vec Ideal S1x1x32x5632 .f32) (x8 : Vec Ideal S1x1x176x1024 .f32) (x9 : Vec Ideal S1x32x3072 .f32) (x10 : Vec Ideal S1x32x1024 .f32) (y : S32x5632.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = x7 (ix4 0 0 (y 0) (y 1)) := by
  have key : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = (arg8.view.read (Elt Ideal) (harg8.unread x7)) (ix4 0 0 (y 0) (y 1)) := by
    frame_open
    rw [View.read_writes_junk_eq_canon]
    canon_tiles x h using cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
    refine castFour_at (A := 32) (B := 5632) _ inb_S1x1x32x5632_S1x1x32x5632_0_0_0_0 shapeCasts_S1x1x32x5632_S32x5632 bitsLt_bf16_f32 y x h0 h1 _ ?_
    sl_kernel_rfl
  rw [key, harg8.read_unread]

/-- The block a grid point leaves of the second feed-forward matrix's copy: the piece it fetched. -/
theorem copy13_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x3x1024 .f32) (harg6 : arg6.IsWhole) (arg7 : Memref sig .tc .vmem S1x3x1024 .f32) (harg7 : arg7.IsWhole) (arg8 : Memref sig .tc .vmem S1x1x32x5632 .f32) (harg8 : arg8.IsWhole) (arg9 : Memref sig .tc .vmem S1x1x176x1024 .f32) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x3072 .bf16) (harg15 : arg15.IsWhole) (arg16 : Memref sig .tc .vmem S32x1024 .bf16) (harg16 : arg16.IsWhole)
    (x0 : Vec Ideal S1x1x9x1024 .f32) (x1 : Vec Ideal S512x1024 .f32) (x2 : Vec Ideal S512x1024 .f32) (x3 : Vec Ideal S1024x5632 .bf16) (x4 : Vec Ideal S2816x1024 .bf16) (x5 : Vec Ideal S1x3x1024 .f32) (x6 : Vec Ideal S1x3x1024 .f32) (x7 : Vec Ideal S1x1x32x5632 .f32) (x8 : Vec Ideal S1x1x176x1024 .f32) (x9 : Vec Ideal S1x32x3072 .f32) (x10 : Vec Ideal S1x32x1024 .f32) (y : S176x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = x8 (ix4 0 0 (y 0) (y 1)) := by
  have key : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = (arg9.view.read (Elt Ideal) (harg9.unread x8)) (ix4 0 0 (y 0) (y 1)) := by
    frame_open
    rw [View.read_writes_junk_eq_canon]
    canon_tiles x h using cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
    refine castFour_at (A := 176) (B := 1024) _ inb_S1x1x176x1024_S1x1x176x1024_0_0_0_0 shapeCasts_S1x1x176x1024_S176x1024 bitsLt_bf16_f32 y x h0 h1 _ ?_
    sl_kernel_rfl
  rw [key, harg9.read_unread]

/-- The block a grid point leaves of the mixer's first projection's copy: the piece it fetched. -/
theorem copy14_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x3x1024 .f32) (harg6 : arg6.IsWhole) (arg7 : Memref sig .tc .vmem S1x3x1024 .f32) (harg7 : arg7.IsWhole) (arg8 : Memref sig .tc .vmem S1x1x32x5632 .f32) (harg8 : arg8.IsWhole) (arg9 : Memref sig .tc .vmem S1x1x176x1024 .f32) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x3072 .bf16) (harg15 : arg15.IsWhole) (arg16 : Memref sig .tc .vmem S32x1024 .bf16) (harg16 : arg16.IsWhole)
    (x0 : Vec Ideal S1x1x9x1024 .f32) (x1 : Vec Ideal S512x1024 .f32) (x2 : Vec Ideal S512x1024 .f32) (x3 : Vec Ideal S1024x5632 .bf16) (x4 : Vec Ideal S2816x1024 .bf16) (x5 : Vec Ideal S1x3x1024 .f32) (x6 : Vec Ideal S1x3x1024 .f32) (x7 : Vec Ideal S1x1x32x5632 .f32) (x8 : Vec Ideal S1x1x176x1024 .f32) (x9 : Vec Ideal S1x32x3072 .f32) (x10 : Vec Ideal S1x32x1024 .f32) (y : S32x3072.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = x9 (ix3 0 (y 0) (y 1)) := by
  have key : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = (arg10.view.read (Elt Ideal) (harg10.unread x9)) (ix3 0 (y 0) (y 1)) := by
    frame_open
    rw [View.read_writes_junk_eq_canon]
    canon_tiles x h using cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
    refine castThree_at (A := 32) (B := 3072) _ inb_S1x32x3072_S1x32x3072_0_0_0 shapeCasts_S1x32x3072_S32x3072 bitsLt_bf16_f32 y x h0 h1 _ ?_
    sl_kernel_rfl
  rw [key, harg10.read_unread]

/-- The block a grid point leaves of the mixer's second projection's copy: the piece it fetched. -/
theorem copy15_eq (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x3x1024 .f32) (harg6 : arg6.IsWhole) (arg7 : Memref sig .tc .vmem S1x3x1024 .f32) (harg7 : arg7.IsWhole) (arg8 : Memref sig .tc .vmem S1x1x32x5632 .f32) (harg8 : arg8.IsWhole) (arg9 : Memref sig .tc .vmem S1x1x176x1024 .f32) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S32x3072 .bf16) (harg15 : arg15.IsWhole) (arg16 : Memref sig .tc .vmem S32x1024 .bf16) (harg16 : arg16.IsWhole)
    (x0 : Vec Ideal S1x1x9x1024 .f32) (x1 : Vec Ideal S512x1024 .f32) (x2 : Vec Ideal S512x1024 .f32) (x3 : Vec Ideal S1024x5632 .bf16) (x4 : Vec Ideal S2816x1024 .bf16) (x5 : Vec Ideal S1x3x1024 .f32) (x6 : Vec Ideal S1x3x1024 .f32) (x7 : Vec Ideal S1x1x32x5632 .f32) (x8 : Vec Ideal S1x1x176x1024 .f32) (x9 : Vec Ideal S1x32x3072 .f32) (x10 : Vec Ideal S1x32x1024 .f32) (y : S32x1024.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y = x10 (ix3 0 (y 0) (y 1)) := by
  have key : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
      = (arg11.view.read (Elt Ideal) (harg11.unread x10)) (ix3 0 (y 0) (y 1)) := by
    frame_open
    rw [View.read_writes_junk_eq_canon]
    canon_tiles x h using cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y
    refine castThree_at (A := 32) (B := 1024) _ inb_S1x32x1024_S1x32x1024_0_0_0 shapeCasts_S1x32x1024_S32x1024 bitsLt_bf16_f32 y x h0 h1 _ ?_
    sl_kernel_rfl
  rw [key, harg11.read_unread]

end Cert.PreFirstProof
-- ==== Proof.PreFirstReferenceRows.lean ====
module
public import proofs.«01_k».proof.Proof.Gen.PreFirstReferenceIdeal.Read
public import Idealize.ShloMosaic.Lib.Pointwise
public import proofs.«01_k».proof.Proof.PreReferenceRows
@[expose] public section
set_option maxRecDepth 16384
noncomputable section

/-! The reference of the first layer's first sub-layer: its arrays read at an entry. -/

namespace Cert.PreFirstProof.Ref
open Cert.PreFirstReferenceIdeal Cert.PreFirstReferenceIdeal.Gen Cert.PreFirstReferenceIdeal.Read Idealize.ShloMosaic Idealize.ShloMosaic.TcCoe Idealize.SL.Sem
open Idealize.ShloMosaic.Pointwise Cert.FfnProof Cert.FfnProof.Ref
local notation "𝕍" => FVec Ideal

variable (x0 : 𝕍 S2x16x9x1024 .f32) (x1 : 𝕍 S16384x1024 .f32) (x2 : 𝕍 S2048x1024 .f32) (x3 : 𝕍 S1024x5632 .bf16) (x4 : 𝕍 S2816x1024 .bf16) (x5 x6 : 𝕍 S2x3x1024 .f32)

/-- The latent tokens' residual is the sub-layer's. -/
theorem residual_eq : val_main_v43 (F := Ideal) x0 x1 x3 x4
    = ffn Cert.PreProof.Ref.sublayer (val_main_v20 (F := Ideal) x1) (val_main_v4 (F := Ideal) x0) (val_main_v7 (F := Ideal) x0) (val_main_v10 (F := Ideal) x0)
      (val_main_v0 (F := Ideal) x3) (val_main_v1 (F := Ideal) x4) := rfl

/-- The latent tokens' result is the layer normalisation. -/
theorem out_eq : val_main_v67 (F := Ideal) x0 x1 x3 x4 x5 x6
    = norm Cert.PreProof.Ref.tokens (val_main_v43 (F := Ideal) x0 x1 x3 x4) (val_main_v22 (F := Ideal) x5) (val_main_v24 (F := Ideal) x6) := rfl

/-- The context tokens' residual is the sub-layer's. -/
theorem context_residual_eq : val_main_v91 (F := Ideal) x0 x2 x3 x4
    = ffn Cert.PreProof.Ref.contextSublayer (val_main_v68 (F := Ideal) x2) (val_main_v13 (F := Ideal) x0) (val_main_v16 (F := Ideal) x0) (val_main_v19 (F := Ideal) x0)
      (val_main_v0 (F := Ideal) x3) (val_main_v1 (F := Ideal) x4) := rfl

/-- The context tokens' result is the layer normalisation. -/
theorem context_out_eq : val_main_v115 (F := Ideal) x0 x2 x3 x4 x5 x6
    = norm Cert.PreProof.Ref.context (val_main_v91 (F := Ideal) x0 x2 x3 x4) (val_main_v70 (F := Ideal) x5) (val_main_v72 (F := Ideal) x6) := rfl

/-- A latent token. -/
theorem token_apply (s : Fin 8) (n : Fin 2048) (k : Fin 1024) :
    val_main_v20 (F := Ideal) x1 (ix3 s n k) = x1 (ix2 ⟨2048 * s.val + n.val, by omega⟩ k) := by
  unfold val_main_v20
  pointwise
  exact congrArg₂ (fun a b => x1 (ix2 a b)) (Fin.ext (by dsimp only; omega)) (Fin.ext (by dsimp only))

/-- A context token. -/
theorem context_apply (s : Fin 8) (n : Fin 256) (k : Fin 1024) :
    val_main_v68 (F := Ideal) x2 (ix3 s n k) = x2 (ix2 ⟨256 * s.val + n.val, by omega⟩ k) := by
  unfold val_main_v68
  pointwise
  exact congrArg₂ (fun a b => x2 (ix2 a b)) (Fin.ext (by dsimp only; omega)) (Fin.ext (by dsimp only))

/-- The modulation rows of the latent tokens. -/
theorem mods_apply (s : Fin 8) (k : Fin 1024) :
    val_main_v4 (F := Ideal) x0 (ix3 s 0 k) = x0 (ix4 0 ⟨s.val, by omega⟩ 0 k) ∧ val_main_v7 (F := Ideal) x0 (ix3 s 0 k) = x0 (ix4 0 ⟨s.val, by omega⟩ 1 k)
    ∧ val_main_v10 (F := Ideal) x0 (ix3 s 0 k) = x0 (ix4 0 ⟨s.val, by omega⟩ 2 k) := by
  refine ⟨?_, ?_, ?_⟩
  · unfold val_main_v4 val_main_v3 val_main_v2
    pointwise
  · unfold val_main_v7 val_main_v6 val_main_v5
    pointwise
  · unfold val_main_v10 val_main_v9 val_main_v8
    pointwise

/-- The modulation rows of the context tokens. -/
theorem context_mods_apply (k : Fin 1024) :
    val_main_v13 (F := Ideal) x0 (ix3 0 0 k) = x0 (ix4 0 8 0 k) ∧ val_main_v16 (F := Ideal) x0 (ix3 0 0 k) = x0 (ix4 0 8 1 k)
    ∧ val_main_v19 (F := Ideal) x0 (ix3 0 0 k) = x0 (ix4 0 8 2 k) := by
  refine ⟨?_, ?_, ?_⟩
  · unfold val_main_v13 val_main_v12 val_main_v11
    pointwise
  · unfold val_main_v16 val_main_v15 val_main_v14
    pointwise
  · unfold val_main_v19 val_main_v18 val_main_v17
    pointwise

/-- The scales and offsets of the layer normalisation. -/
theorem affine_apply (k : Fin 1024) :
    val_main_v22 (F := Ideal) x5 (ix1 k) = x5 (ix3 0 0 k) ∧ val_main_v24 (F := Ideal) x6 (ix1 k) = x6 (ix3 0 0 k)
    ∧ val_main_v70 (F := Ideal) x5 (ix1 k) = x5 (ix3 0 0 k) ∧ val_main_v72 (F := Ideal) x6 (ix1 k) = x6 (ix3 0 0 k) := by
  refine ⟨?_, ?_, ?_, ?_⟩
  · unfold val_main_v22 val_main_v21
    pointwise
  · unfold val_main_v24 val_main_v23
    pointwise
  · unfold val_main_v70 val_main_v69
    pointwise
  · unfold val_main_v72 val_main_v71
    pointwise

/-- Token `T`: the latent tokens', then the context tokens'. -/
def tokenRow (T : Fin 18432) (k : Fin 1024) : EReal :=
  if h : T.val < 16384 then x1 (ix2 ⟨T.val, h⟩ k) else x2 (ix2 ⟨T.val - 16384, by omega⟩ k)

/-- The feed-forward residual of token `T` under modulation `s`. -/
def residualRow (s : Fin 16) (T : Fin 18432) : Fin 1024 → EReal :=
  ffnRow (fun k => tokenRow x1 x2 T k) (fun k => x0 (ix4 0 s 0 k)) (fun k => x0 (ix4 0 s 1 k)) (fun k => x0 (ix4 0 s 2 k))
    (fun k i => x3 (ix2 k ⟨i.val, by omega⟩)) (fun k i => x3 (ix2 k ⟨2816 + i.val, by omega⟩)) (fun i k => x4 (ix2 i k))

/-- What the layer leaves at token `T` under modulation `s`. -/
def resultRow (s : Fin 16) (T : Fin 18432) : Fin 1024 → EReal :=
  normRowR (residualRow x0 x1 x2 x3 x4 s T) (fun k => x5 (ix3 0 0 k)) (fun k => x6 (ix3 0 0 k))

/-- The latent tokens' array read at a token. -/
theorem latent_apply (s : Fin 8) (n : Fin 2048) (j : Fin 1024) :
    val_main_v67 (F := Ideal) x0 x1 x3 x4 x5 x6 (ix3 s n j) = resultRow x0 x1 x2 x3 x4 x5 x6 ⟨s.val, by omega⟩ ⟨2048 * s.val + n.val, by omega⟩ j := by
  have t (k : Fin 1024) : tokenRow x1 x2 ⟨2048 * s.val + n.val, by omega⟩ k = x1 (ix2 ⟨2048 * s.val + n.val, by omega⟩ k) :=
    dif_pos (show 2048 * s.val + n.val < 16384 by omega)
  have e (k : Fin 1024) : val_main_v43 (F := Ideal) x0 x1 x3 x4 (ix3 s n k) = residualRow x0 x1 x2 x3 x4 ⟨s.val, by omega⟩ ⟨2048 * s.val + n.val, by omega⟩ k := by
    rw [residual_eq, ffn_apply Cert.PreProof.Ref.sublayer _ _ _ _ _ _ s n s (if_neg (by decide)).symm]
    unfold residualRow
    simp only [t, token_apply, mods_apply]
    rfl
  rw [out_eq, Cert.FfnProof.Ref.norm_apply]
  simp only [e, affine_apply x5 x6]
  rfl

/-- The context tokens' array read at a token. -/
theorem context_latent_apply (s : Fin 8) (n : Fin 256) (j : Fin 1024) :
    val_main_v115 (F := Ideal) x0 x2 x3 x4 x5 x6 (ix3 s n j) = resultRow x0 x1 x2 x3 x4 x5 x6 8 ⟨16384 + (256 * s.val + n.val), by omega⟩ j := by
  have t (k : Fin 1024) : tokenRow x1 x2 ⟨16384 + (256 * s.val + n.val), by omega⟩ k = x2 (ix2 ⟨256 * s.val + n.val, by omega⟩ k) :=
    (dif_neg (show ¬ 16384 + (256 * s.val + n.val) < 16384 by omega)).trans
      (congrArg (fun a => x2 (ix2 a k)) (Fin.ext (show 16384 + (256 * s.val + n.val) - 16384 = 256 * s.val + n.val by omega)))
  have e (k : Fin 1024) : val_main_v91 (F := Ideal) x0 x2 x3 x4 (ix3 s n k) = residualRow x0 x1 x2 x3 x4 8 ⟨16384 + (256 * s.val + n.val), by omega⟩ k := by
    rw [context_residual_eq, ffn_apply Cert.PreProof.Ref.contextSublayer _ _ _ _ _ _ s n 0 (if_pos rfl).symm]
    unfold residualRow
    simp only [t, context_apply, context_mods_apply]
    rfl
  rw [context_out_eq, Cert.FfnProof.Ref.norm_apply]
  simp only [e, affine_apply x5 x6]
  rfl

/-- The reference's tokens. -/
theorem result_apply (T : Fin 18432) (j : Fin 1024) :
    val_main_v118 (F := Ideal) x0 x1 x2 x3 x4 x5 x6 (ix2 T j) = resultRow x0 x1 x2 x3 x4 x5 x6 (modsOf T) T j := by
  unfold val_main_v118 val_main_v116 val_main_v117
  by_cases h : T.val < 16384
  · refine (join_latent _ _ _ _ _ T j h).trans ((latent_apply x0 x1 x2 x3 x4 x5 x6 ⟨T.val / 2048, by omega⟩ ⟨T.val % 2048, by omega⟩ j).trans ?_)
    exact congrArg₂ (fun a b => resultRow x0 x1 x2 x3 x4 x5 x6 a b j) (Fin.ext (by unfold modsOf; dsimp only; omega)) (Fin.ext (by dsimp only; omega))
  · refine (join_context _ _ _ _ _ T j h).trans ((context_latent_apply x0 x1 x2 x3 x4 x5 x6 ⟨(T.val - 16384) / 256, by omega⟩ ⟨(T.val - 16384) % 256, by omega⟩ j).trans ?_)
    exact congrArg₂ (fun a b => resultRow x0 x1 x2 x3 x4 x5 x6 a b j) (Fin.ext (by unfold modsOf; show 8 = min (T.val / 2048) 8; omega)) (Fin.ext (by dsimp only; omega))

/-- The copies of the next calls' weights, entry by entry. -/
theorem copies_apply (x7 : 𝕍 S2x2x1024x5632 .f32) (x8 : 𝕍 S2x2x2816x1024 .f32) (x9 : 𝕍 S1x1024x3072 .f32) (x10 : 𝕍 S1x1024x1024 .f32) :
    (∀ (a : Fin 1024) (b : Fin 5632), val_main_v121 (F := Ideal) x7 (ix2 a b) = x7 (ix4 0 1 a b))
    ∧ (∀ (a : Fin 2816) (b : Fin 1024), val_main_v124 (F := Ideal) x8 (ix2 a b) = x8 (ix4 0 1 a b))
    ∧ (∀ (a : Fin 1024) (b : Fin 3072), val_main_v126 (F := Ideal) x9 (ix2 a b) = x9 (ix3 0 a b))
    ∧ (∀ (a b : Fin 1024), val_main_v128 (F := Ideal) x10 (ix2 a b) = x10 (ix3 0 a b)) := by
  refine ⟨fun a b => ?_, fun a b => ?_, fun a b => ?_, fun a b => ?_⟩
  · unfold val_main_v121 val_main_v120 val_main_v119
    pointwise
  · unfold val_main_v124 val_main_v123 val_main_v122
    pointwise
  · unfold val_main_v126 val_main_v125
    pointwise
  · unfold val_main_v128 val_main_v127
    pointwise

end Cert.PreFirstProof.Ref
-- ==== Proof.PreFirstValue.lean ====
module
public import proofs.«01_k».proof.Defs
public import proofs.«01_k».proof.Proof.WaValue
public import proofs.«01_k».proof.Proof.PreFirstBlock
public import proofs.«01_k».proof.Proof.PreFirstReferenceRows
public import proofs.«01_k».proof.Proof.Gen.Pre_pre_first_finite
@[expose] public section
set_option maxRecDepth 16384
noncomputable section

/-! The arrays `ffn_pre_0` leaves are the reference's: the tokens from finite modulation, tokens and weights, the copies of
the next calls' weights from any. -/

namespace Cert.PreFirstProof
open Cert.PreFirstKernelIdeal Cert.PreFirstKernelIdeal.Gen Idealize.ShloMosaic Idealize.ShloMosaic.TcCoe Idealize.SL.Sem
open Idealize.ShloMosaic.Pointwise Cert.FfnProof Cert.FfnProof.Ref Cert.WaProof
local notation "𝕍" => FVec Ideal

variable (x0 : 𝕍 S2x16x9x1024 .f32) (x1 : 𝕍 S16384x1024 .f32) (x2 : 𝕍 S2048x1024 .f32) (x3 : 𝕍 S1024x5632 .bf16) (x4 : 𝕍 S2816x1024 .bf16) (x5 x6 : 𝕍 S2x3x1024 .f32)

/-- What the precondition makes real. -/
structure Finite : Prop where
  mods (s : Fin 9) (k : Fin 3) (j : Fin 1024) : IsReal (x0 (ix4 0 ⟨s.val, by omega⟩ ⟨k.val, by omega⟩ j))
  latent (T : Fin 16384) (j : Fin 1024) : IsReal (x1 (ix2 T j))
  context (T : Fin 2048) (j : Fin 1024) : IsReal (x2 (ix2 T j))
  wide (k : Fin 1024) (j : Fin 5632) : IsReal (x3 (ix2 k j))
  back (k : Fin 2816) (j : Fin 1024) : IsReal (x4 (ix2 k j))

/-- What the precondition says of each array, entry by entry. -/
def checks (x7 : 𝕍 S2x2x1024x5632 .f32) (x8 : 𝕍 S2x2x2816x1024 .f32) (x9 : 𝕍 S1x1024x3072 .f32) (x10 : 𝕍 S1x1024x1024 .f32) :=
  (letI := Cert.Pre_pre_first_finite.Gen.facts; Cert.Pre_pre_first_finite.fn (F := Ideal) x0 x1 x2 x3 x4 x5 x6 x7 x8 x9 x10)

/-- The precondition makes it real. -/
theorem finite_of (x7 : 𝕍 S2x2x1024x5632 .f32) (x8 : 𝕍 S2x2x2816x1024 .f32) (x9 : 𝕍 S1x1024x3072 .f32) (x10 : 𝕍 S1x1024x1024 .f32)
    (h : let p := checks x0 x1 x2 x3 x4 x5 x6 x7 x8 x9 x10
      p.1 = (fun _ => 1#1) ∧ p.2.1 = (fun _ => 1#1) ∧ p.2.2.1 = (fun _ => 1#1) ∧ p.2.2.2.1 = (fun _ => 1#1) ∧ p.2.2.2.2 = (fun _ => 1#1)) :
    Finite x0 x1 x2 x3 x4 := by
  obtain ⟨h0, h1, h2, h3, h4⟩ := h
  unfold checks Cert.Pre_pre_first_finite.fn at h0 h1 h2 h3 h4
  refine ⟨fun s k j => ?_, fun T j => ?_, fun T j => ?_, fun k j => ?_, fun k j => ?_⟩
  · have := congrFun h0 (ix3 s k j); revert this; pointwise; exact real_of_abs_lt _
  · have := congrFun h1 (ix2 T j); revert this; pointwise; exact real_of_abs_lt _
  · have := congrFun h2 (ix2 T j); revert this; pointwise; exact real_of_abs_lt _
  · have := congrFun h3 (ix2 k j); revert this; pointwise; exact real_of_abs_lt _
  · have := congrFun h4 (ix2 k j); revert this; pointwise; exact real_of_abs_lt _

/-- Token `T` is real. -/
theorem token_real (hf : Finite x0 x1 x2 x3 x4) (T : Fin 18432) (k : Fin 1024) : IsReal (Ref.tokenRow x1 x2 T k) := by
  unfold Ref.tokenRow
  split
  · exact hf.latent _ k
  · exact hf.context _ k

/-- The blocks' places. -/
theorem places : ∀ t : Fin cfg0.N, win0_0.index t = ![0, min (t.val / 4) 8, 0, 0] ∧ win0_1.index t = ![min t.val 31, 0] ∧ win0_2.index t = ![t.val - 32, 0]
    ∧ win0_3.index t = ![0, 0] ∧ win0_4.index t = ![0, 0] ∧ win0_5.index t = ![0, 0, 0] ∧ win0_6.index t = ![0, 0, 0] ∧ win0_7.index t = ![0, 1, min t.val 31, 0]
    ∧ win0_8.index t = ![0, 1, min t.val 15, 0] ∧ win0_9.index t = ![0, min t.val 31, 0] ∧ win0_10.index t = ![0, min t.val 31, 0]
    ∧ win0_11.index t = ![t.val, 0] ∧ win0_12.index t = ![min t.val 31, 0] ∧ win0_13.index t = ![min t.val 15, 0]
    ∧ win0_14.index t = ![min t.val 31, 0] ∧ win0_15.index t = ![min t.val 31, 0] :=
  (by decide +kernel : ∀ t : Fin grid0.N, _)

/-- Which grid points are the latent tokens'. -/
theorem early_eq : ∀ t : Fin cfg0.N, early (grid0.coords t) = if t.val < 32 then 1#1 else 0#1 :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 0 ⟨min (t.val / 4) 8, by omega⟩ k j) := by
  blk_ext [iblk, V, places t]

/-- The latent token block's element. -/
theorem latent_at (c : Dev nD) (t : Fin cfg0.N) (r : Fin 512) (j : Fin 1024) :
    iblk m c 1 t (ix2 r j) = (m ((c : Thread nD τ).loc main_arg1) : 𝕍 S16384x1024 .f32) (ix2 ⟨512 * min t.val 31 + r.val, by omega⟩ j) := by
  blk_ext [iblk, V, places t]

/-- The context token block's element. -/
theorem context_at (c : Dev nD) (t : Fin cfg0.N) (r : Fin 512) (j : Fin 1024) :
    iblk m c 2 t (ix2 r j) = (m ((c : Thread nD τ).loc main_arg2) : 𝕍 S2048x1024 .f32) (ix2 ⟨512 * (t.val - 32) + r.val, by have : t.val < 36 := t.isLt; omega⟩ j) := by
  blk_ext [iblk, V, places t]

/-- The tokens the grid point takes are its own. -/
theorem tokens_at (c : Dev nD) (t : Fin cfg0.N) (r : Fin 512) (j : Fin 1024) (T : Fin 18432) (hT : T.val = 512 * t.val + r.val) :
    (Scalar.select (early (grid0.coords t)) (iblk m c 1 t : 𝕍 S512x1024 .f32) (iblk m c 2 t)) (ix2 r j)
      = Ref.tokenRow (m ((c : Thread nD τ).loc main_arg1)) (m ((c : Thread nD τ).loc main_arg2)) T j := by
  have ht : t.val < 36 := t.isLt
  unfold Ref.tokenRow
  rw [early_eq]
  by_cases h : t.val < 32
  · rw [if_pos h, dif_pos (by omega)]
    refine (latent_at m c t r j).trans (congrArg (fun a => (m ((c : Thread nD τ).loc main_arg1) : 𝕍 S16384x1024 .f32) (ix2 a j)) (Fin.ext ?_))
    show 512 * min t.val 31 + r.val = T.val
    omega
  · rw [if_neg h, dif_neg (by omega)]
    refine (context_at m c t r j).trans (congrArg (fun a => (m ((c : Thread nD τ).loc main_arg2) : 𝕍 S2048x1024 .f32) (ix2 a j)) (Fin.ext ?_))
    show 512 * (t.val - 32) + r.val = T.val - 16384
    omega

/-- The first feed-forward matrix. -/
theorem wide_at (c : Dev nD) (t : Fin cfg0.N) (k : Fin 1024) (j : Fin 5632) :
    iblk m c 3 t (ix2 k j) = (m ((c : Thread nD τ).loc main_arg3) : 𝕍 S1024x5632 .bf16) (ix2 k j) := by
  blk_ext [iblk, V, places t]

/-- The second feed-forward matrix. -/
theorem back_at (c : Dev nD) (t : Fin cfg0.N) (k : Fin 2816) (j : Fin 1024) :
    iblk m c 4 t (ix2 k j) = (m ((c : Thread nD τ).loc main_arg4) : 𝕍 S2816x1024 .bf16) (ix2 k j) := by
  blk_ext [iblk, V, places t]

/-- The scales of the layer normalisations. -/
theorem scale_at (c : Dev nD) (t : Fin cfg0.N) (k : Fin 3) (j : Fin 1024) :
    iblk m c 5 t (ix3 0 k j) = (m ((c : Thread nD τ).loc main_arg5) : 𝕍 S2x3x1024 .f32) (ix3 0 k j) := by
  blk_ext [iblk, V, places t]

/-- The offsets of the layer normalisations. -/
theorem offset_at (c : Dev nD) (t : Fin cfg0.N) (k : Fin 3) (j : Fin 1024) :
    iblk m c 6 t (ix3 0 k j) = (m ((c : Thread nD τ).loc main_arg6) : 𝕍 S2x3x1024 .f32) (ix3 0 k j) := by
  blk_ext [iblk, V, places t]

/-- The piece of the next first feed-forward matrix. -/
theorem nextWide_at (c : Dev nD) (t : Fin cfg0.N) (a : Fin 32) (b : Fin 5632) :
    iblk m c 7 t (ix4 0 0 a b) = (m ((c : Thread nD τ).loc main_arg7) : 𝕍 S2x2x1024x5632 .f32) (ix4 0 1 ⟨32 * min t.val 31 + a.val, by omega⟩ b) := by
  blk_ext [iblk, V, places t]

/-- The piece of the next second feed-forward matrix. -/
theorem nextBack_at (c : Dev nD) (t : Fin cfg0.N) (a : Fin 176) (b : Fin 1024) :
    iblk m c 8 t (ix4 0 0 a b) = (m ((c : Thread nD τ).loc main_arg8) : 𝕍 S2x2x2816x1024 .f32) (ix4 0 1 ⟨176 * min t.val 15 + a.val, by omega⟩ b) := by
  blk_ext [iblk, V, places t]

/-- The piece of the mixer's first projection. -/
theorem mixerIn_at (c : Dev nD) (t : Fin cfg0.N) (a : Fin 32) (b : Fin 3072) :
    iblk m c 9 t (ix3 0 a b) = (m ((c : Thread nD τ).loc main_arg9) : 𝕍 S1x1024x3072 .f32) (ix3 0 ⟨32 * min t.val 31 + a.val, by omega⟩ b) := by
  blk_ext [iblk, V, places t]

/-- The piece of the mixer's second projection. -/
theorem mixerOut_at (c : Dev nD) (t : Fin cfg0.N) (a : Fin 32) (b : Fin 1024) :
    iblk m c 10 t (ix3 0 a b) = (m ((c : Thread nD τ).loc main_arg10) : 𝕍 S1x1024x1024 .f32) (ix3 0 ⟨32 * min t.val 31 + a.val, by omega⟩ b) := by
  blk_ext [iblk, V, places t]

/-- A row the kernel stores is the reference's. -/
theorem row_eq (c : Dev nD) (t : Fin cfg0.N) (e0 : m ((c : Thread nD τ).loc main_arg0) = x0) (e1 : m ((c : Thread nD τ).loc main_arg1) = x1)
    (e2 : m ((c : Thread nD τ).loc main_arg2) = x2) (e3 : m ((c : Thread nD τ).loc main_arg3) = x3) (e4 : m ((c : Thread nD τ).loc main_arg4) = x4)
    (e5 : m ((c : Thread nD τ).loc main_arg5) = x5) (e6 : m ((c : Thread nD τ).loc main_arg6) = x6) (hf : Finite x0 x1 x2 x3 x4)
    (r : Fin 512) (l : Fin 1024) (T : Fin 18432) (hT : T.val = 512 * t.val + r.val) :
    Cert.PreProof.outBlock (iblk m c 0 t) (Scalar.select (early (grid0.coords t)) (iblk m c 1 t) (iblk m c 2 t)) (iblk m c 3 t) (iblk m c 4 t)
        (iblk m c 5 t) (iblk m c 6 t) r l
      = Cert.PreFirstReferenceIdeal.Read.val_main_v118 (F := Ideal) x0 x1 x2 x3 x4 x5 x6 (ix2 T l) := by
  have ht : t.val < 36 := t.isLt
  have E0 := mods_at m c t
  have E1 := fun j => tokens_at m c t r j T hT
  have E3 := wide_at m c t
  have E4 := back_at m c t
  have E5 := scale_at m c t
  have E6 := offset_at m c t
  rw [e0] at E0; rw [e1, e2] at E1; rw [e3] at E3; rw [e4] at E4; rw [e5] at E5; rw [e6] at E6
  obtain ⟨s, hs⟩ : ∃ s : Fin 9, s.val = min (t.val / 4) 8 := ⟨⟨min (t.val / 4) 8, by omega⟩, rfl⟩
  have e : modsOf T = ⟨s.val, by omega⟩ := Fin.ext (by show min (T.val / 2048) 8 = s.val; omega)
  rw [Ref.result_apply, e]
  have f0 (k : Fin 9) (j : Fin 1024) : iblk m c 0 t (ix4 0 0 k j) = x0 (ix4 0 ⟨s.val, by omega⟩ k j) := by
    rw [E0]; exact congrArg (fun a => x0 (ix4 0 a k j)) (Fin.ext hs.symm)
  have h : RealRow (Ref.residualRow x0 x1 x2 x3 x4 ⟨s.val, by omega⟩ T) :=
    ffnRow_real _ _ _ _ _ _ _ (token_real _ _ _ _ _ hf T) (hf.mods s 0) (hf.mods s 1) (hf.mods s 2)
      (fun k _ => hf.wide k _) (fun k _ => hf.wide k _) hf.back
  unfold Ref.resultRow
  rw [← normRow_eq _ _ _ h]
  unfold Cert.PreProof.outBlock Ref.residualRow
  simp only [f0, E1, E3, E4, E5, E6]

/-- The tokens the kernel leaves are the reference's. -/
theorem final (c : Dev nD) (hfin : Finite (m ((c : Thread nD τ).loc main_arg0)) (m ((c : Thread nD τ).loc main_arg1)) (m ((c : Thread nD τ).loc main_arg2)) (m ((c : Thread nD τ).loc main_arg3)) (m ((c : Thread nD τ).loc main_arg4))) : (dats m 0 c).arrAt 11 cfg0.N
    = Cert.PreFirstReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  unfold outsAt0
  dsimp only
  rw [out_eq]
  have ht : t.val < 36 := t.isLt
  have y0 : (y 0).val < 512 := (y 0).isLt
  have y1 : (y 1).val < 1024 := (y 1).isLt
  refine (row_eq _ _ _ _ _ _ _ m c t rfl rfl rfl rfl rfl rfl rfl hfin (y 0) (y 1) ⟨512 * t.val + (y 0).val, by omega⟩ rfl).trans ?_
  refine congrArg _ ?_
  blk_ext [places t]

/-- The copy of the next first feed-forward matrix is the reference's. -/
theorem wide_final (c : Dev nD) : (dats m 0 c).arrAt 12 cfg0.N
    = Cert.PreFirstReferenceIdeal.Read.val_main_v121 (F := Ideal) (m ((c : Thread nD τ).loc main_arg7)) := by
  refine (dats m 0 c).arrAt_eq_of_covers 12 _ (by decide +kernel) fun t hf y => ?_
  blk_simp
  rw [after0_12]
  unfold outsAt0
  dsimp only
  rw [copy12_eq]
  have y0 : (y 0).val < 32 := (y 0).isLt
  refine (nextWide_at m c t (y 0) (y 1)).trans ((Ref.copies_apply (m ((c : Thread nD τ).loc main_arg7)) (m ((c : Thread nD τ).loc main_arg8))
    (m ((c : Thread nD τ).loc main_arg9)) (m ((c : Thread nD τ).loc main_arg10))).1 ⟨32 * min t.val 31 + (y 0).val, by omega⟩ (y 1)).symm |>.trans ?_
  refine congrArg _ ?_
  blk_ext [places t]

/-- The copy of the next second feed-forward matrix is the reference's. -/
theorem back_final (c : Dev nD) : (dats m 0 c).arrAt 13 cfg0.N
    = Cert.PreFirstReferenceIdeal.Read.val_main_v124 (F := Ideal) (m ((c : Thread nD τ).loc main_arg8)) := by
  refine (dats m 0 c).arrAt_eq_of_covers 13 _ (by decide +kernel) fun t hf y => ?_
  blk_simp
  rw [after0_13]
  unfold outsAt0
  dsimp only
  rw [copy13_eq]
  have y0 : (y 0).val < 176 := (y 0).isLt
  refine (nextBack_at m c t (y 0) (y 1)).trans ((Ref.copies_apply (m ((c : Thread nD τ).loc main_arg7)) (m ((c : Thread nD τ).loc main_arg8))
    (m ((c : Thread nD τ).loc main_arg9)) (m ((c : Thread nD τ).loc main_arg10))).2.1 ⟨176 * min t.val 15 + (y 0).val, by omega⟩ (y 1)).symm |>.trans ?_
  refine congrArg _ ?_
  blk_ext [places t]

/-- The copy of the mixer's first projection is the reference's. -/
theorem mixerIn_final (c : Dev nD) : (dats m 0 c).arrAt 14 cfg0.N
    = Cert.PreFirstReferenceIdeal.Read.val_main_v126 (F := Ideal) (m ((c : Thread nD τ).loc main_arg9)) := by
  refine (dats m 0 c).arrAt_eq_of_covers 14 _ (by decide +kernel) fun t hf y => ?_
  blk_simp
  rw [after0_14]
  unfold outsAt0
  dsimp only
  rw [copy14_eq]
  have y0 : (y 0).val < 32 := (y 0).isLt
  refine (mixerIn_at m c t (y 0) (y 1)).trans ((Ref.copies_apply (m ((c : Thread nD τ).loc main_arg7)) (m ((c : Thread nD τ).loc main_arg8))
    (m ((c : Thread nD τ).loc main_arg9)) (m ((c : Thread nD τ).loc main_arg10))).2.2.1 ⟨32 * min t.val 31 + (y 0).val, by omega⟩ (y 1)).symm |>.trans ?_
  refine congrArg _ ?_
  blk_ext [places t]

/-- The copy of the mixer's second projection is the reference's. -/
theorem mixerOut_final (c : Dev nD) : (dats m 0 c).arrAt 15 cfg0.N
    = Cert.PreFirstReferenceIdeal.Read.val_main_v128 (F := Ideal) (m ((c : Thread nD τ).loc main_arg10)) := by
  refine (dats m 0 c).arrAt_eq_of_covers 15 _ (by decide +kernel) fun t hf y => ?_
  blk_simp
  rw [after0_15]
  unfold outsAt0
  dsimp only
  rw [copy15_eq]
  have y0 : (y 0).val < 32 := (y 0).isLt
  refine (mixerOut_at m c t (y 0) (y 1)).trans ((Ref.copies_apply (m ((c : Thread nD τ).loc main_arg7)) (m ((c : Thread nD τ).loc main_arg8))
    (m ((c : Thread nD τ).loc main_arg9)) (m ((c : Thread nD τ).loc main_arg10))).2.2.2 ⟨32 * min t.val 31 + (y 0).val, by omega⟩ (y 1)).symm |>.trans ?_
  refine congrArg _ ?_
  blk_ext [places t]

end Cert.PreFirstProof
-- ==== Proof.QkvNaBlock.lean ====
module
public import proofs.«01_k».proof.Proof.Gen.QkvNaKernelIdeal.Value
public import proofs.«01_k».proof.Proof.PreBlock
@[expose] public section
set_option maxRecDepth 16384
noncomputable section

/-! The body of `qkv_na_0` in words: a block of tokens, modulated, times one matrix; the three thirds of the product are the
queries, scaled, the keys and the values. -/

namespace Cert.QkvNaProof
open Cert.QkvNaKernelIdeal Cert.QkvNaKernelIdeal.Gen Idealize.ShloMosaic Idealize.ShloMosaic.TcCoe Idealize.SL.Sem
open Idealize.ShloMosaic.Pointwise Cert.FfnProof
local notation "𝕍" => FVec Ideal

/-- A row times a matrix after its modulation: `(z (1 + c) + s) w`. -/
def projected {N : ℕ} (z s c : Fin 1024 → EReal) (w : Fin 1024 → Fin N → EReal) (n : Fin N) : EReal :=
  ∑ k, (z k * (lit 0x3F800000#32 + c k) + s k) * w k n

/-- The facts of shapes for a block of 512 rows. -/
theorem chunk512 : Chunk 512 where
  red := by decide
  cast := by decide
  col := by decide
  row := by decide
  one := by decide
  narrow := by decide

/-- The product a grid point computes. -/
def product (x0 : 𝕍 S1x1x9x1024 .f32) (x1 : 𝕍 S512x1024 .f32) (x2 : 𝕍 S1024x3072 .bf16) : 𝕍 S512x3072 .f32 :=
  k0_pay1 (F := Ideal) (View.ld (Val := Elt Ideal) (e' := .f32) x0 r0_0) (View.ld (Val := Elt Ideal) (e' := .f32) x1 r0_1) (View.ld (Val := Elt Ideal) (e' := .bf16) x2 r0_2)

/-- The product read at an entry. -/
theorem product_apply (x0 : 𝕍 S1x1x9x1024 .f32) (x1 : 𝕍 S512x1024 .f32) (x2 : 𝕍 S1024x3072 .bf16) (r : Fin 512) (n : Fin 3072) :
    product x0 x1 x2 (ix2 r n)
      = projected (fun k => x1 (ix2 r k)) (fun k => x0 (ix4 0 0 3 k)) (fun k => x0 (ix4 0 0 4 k)) (fun k n => x2 (ix2 k n)) n := by
  have e : product x0 x1 x2 = times (R := 512) (truncf .bf16 (addf (mulf (part (e := .f32) x1 0 0 512 1024 inb_S512x1024_S512x1024_0_0)
      (down chunk512 (addf (broadcast ⟨2, ![1, 1024]⟩ (Scalar.ofBits .f32 0x3F800000#32))
        (modRow x0 4 inb_S1x1x9x1024_S1x1x9x1024_0_0_0_0 shapeCasts_S1x1x9x1024_S9x1024 slices_S9x1024_o4_0_S1x1024))))
      (down chunk512 (modRow x0 3 inb_S1x1x9x1024_S1x1x9x1024_0_0_0_0 shapeCasts_S1x1x9x1024_S9x1024 slices_S9x1024_o3_0_S1x1024))) chunk512.narrow)
      (part (e := .bf16) x2 0 0 1024 3072 inb_S1024x3072_S1024x3072_0_0) := by
    unfold product k0_pay1 times down modRow part
    rfl
  rw [e, times_apply]
  unfold projected
  refine Finset.sum_congr rfl fun k _ => congrArg₂ (· * ·) ?_ (part_apply (e := .bf16) x2 0 0 1024 3072 _ k n k n (Nat.zero_add _).symm (Nat.zero_add _).symm)
  show part (e := .f32) x1 0 0 512 1024 _ (ix2 r k) * down chunk512 _ (ix2 r k) + down chunk512 _ (ix2 r k) = _
  rw [down_apply, down_apply, part_apply (e := .f32) x1 0 0 512 1024 _ r k r k (Nat.zero_add _).symm (Nat.zero_add _).symm]
  show _ * (lit 0x3F800000#32 + modRow x0 _ _ _ _ (ix2 0 k)) + _ = _
  exact congrArg₂ (fun a b => x1 (ix2 r k) * (lit 0x3F800000#32 + a) + b) (modRow_apply x0 4 _ _ _ k) (modRow_apply x0 3 _ _ _ k)

/-- A buffer one store fills holds what was stored. -/
theorem stored (p : 𝕍 S512x1024 .bf16) (y : S512x1024.Idx) : View.canon (Val := Elt Ideal) (e := .bf16) [⟨r0_1, p⟩] y = p y := by
  have h : r0_1.emb y = y := by
    funext a
    match a with
    | 0 => exact Fin.ext (by simp)
    | 1 => exact Fin.ext (by simp)
  have e := View.canon_cons_emb (Val := Elt Ideal) (e := .bf16) r0_1 p [] y
  rw [h] at e
  exact e

/-- A third of the product's columns read at an entry. -/
theorem third (z : 𝕍 S512x3072 .f32) (p : ℕ) (h : S512x3072.Slices ![0, p] S512x1024) (r : Fin 512) (j : Fin 1024) (n : Fin 3072) (hn : n.val = p + j.val) :
    extractStridedSlice S512x1024 ![0, p] z h (ix2 r j) = z (ix2 r n) :=
  extractStridedSlice_apply _ z h _ _ fun a => by
    match a with
    | 0 => exact (Nat.zero_add _).symm
    | 1 => exact hn

variable (x0 : 𝕍 S1x1x9x1024 .f32) (x1 : 𝕍 S512x1024 .f32) (x2 : 𝕍 S1024x3072 .bf16) (y : S512x1024.Idx)

/-- The queries a grid point leaves: the product's first third, scaled. -/
theorem queries_apply (n : Fin 3072) (hn : n.val = 0 + (y 1).val) :
    out0_3 (F := Ideal) x0 x1 x2 y = product x0 x1 x2 (ix2 (y 0) n) * (((8 * Real.log 2)⁻¹ : ℝ) : EReal) := by
  rw [← third (product x0 x1 x2) 0 slices_S512x3072_o0_0_S512x1024 (y 0) (y 1) n hn, ix2_eta]
  exact stored _ _

/-- The keys a grid point leaves: the product's second third. -/
theorem keys_apply (n : Fin 3072) (hn : n.val = 1024 + (y 1).val) : out0_4 (F := Ideal) x0 x1 x2 y = product x0 x1 x2 (ix2 (y 0) n) := by
  rw [← third (product x0 x1 x2) 1024 slices_S512x3072_o0_1024_S512x1024 (y 0) (y 1) n hn, ix2_eta]
  exact stored _ _

/-- The values a grid point leaves: the product's last third. -/
theorem values_apply (n : Fin 3072) (hn : n.val = 2048 + (y 1).val) : out0_5 (F := Ideal) x0 x1 x2 y = product x0 x1 x2 (ix2 (y 0) n) := by
  rw [← third (product x0 x1 x2) 2048 slices_S512x3072_o0_2048_S512x1024 (y 0) (y 1) n hn, ix2_eta]
  exact stored _ _

end Cert.QkvNaProof
-- ==== Proof.QkvNaReferenceRows.lean ====
module
public import proofs.«01_k».proof.Proof.Gen.QkvNaReferenceIdeal.Read
public import Idealize.ShloMosaic.Lib.Pointwise
public import proofs.«01_k».proof.Proof.QkvNaBlock
public import proofs.«01_k».proof.Proof.PreReferenceRows
public import proofs.«01_k».proof.Proof.WaReferenceRows
@[expose] public section
set_option maxRecDepth 16384
noncomputable section

/-! The reference of the first mixer's queries, keys and values: its arrays read at an entry. -/

namespace Cert.QkvNaProof.Ref
open Cert.QkvNaReferenceIdeal Cert.QkvNaReferenceIdeal.Gen Cert.QkvNaReferenceIdeal.Read Idealize.ShloMosaic Idealize.ShloMosaic.TcCoe Idealize.SL.Sem
open Idealize.ShloMosaic.Pointwise Cert.FfnProof Cert.FfnProof.Ref
local notation "𝕍" => FVec Ideal

variable (x0 : 𝕍 S2x16x9x1024 .f32) (x1 : 𝕍 S18432x1024 .f32) (x2 : 𝕍 S1024x3072 .bf16)

/-- A row of the product: token `T` modulated as sample `s`, times the matrix. -/
def productRow (s : Fin 16) (T : Fin 18432) (n : Fin 3072) : EReal :=
  projected (fun k => x1 (ix2 T k)) (fun k => x0 (ix4 0 s 3 k)) (fun k => x0 (ix4 0 s 4 k)) (fun k n => x2 (ix2 k n)) n

/-- The latent tokens' product. -/
theorem latent_apply (s : Fin 8) (t : Fin 2048) (n : Fin 3072) :
    val_main_v29 (F := Ideal) x0 x1 x2 (ix3 s t n) = productRow x0 x1 x2 ⟨s.val, by omega⟩ ⟨2048 * s.val + t.val, by omega⟩ n := by
  have h (k : Fin 1024) : val_main_v20 (F := Ideal) x0 x1 (ix3 s t k)
      = x1 (ix2 ⟨2048 * s.val + t.val, by omega⟩ k) * (lit 0x3F800000#32 + x0 (ix4 0 ⟨s.val, by omega⟩ 4 k)) + x0 (ix4 0 ⟨s.val, by omega⟩ 3 k) := by
    unfold val_main_v20 val_main_v19 val_main_v18 val_main_v17 val_main_v16 val_main_v15 val_main_cst val_main_v14 val_main_v13
      val_main_v6 val_main_v5 val_main_v4 val_main_v3 val_main_v2 val_main_v1
    pointwise
    exact congrArg₂ (fun (a : Fin 18432) (b : EReal) => x1 (ix2 a k) * (b + x0 (ix4 0 ⟨s.val, by omega⟩ 4 k)) + x0 (ix4 0 ⟨s.val, by omega⟩ 3 k))
      (Fin.ext (by dsimp only; omega)) lit_one_eq.symm
  unfold val_main_v29 productRow projected
  refine (dots_apply dot_S8x2048x1024_S1024x3072_S8x2048x3072_2_0_01_1_n_n.wf _ _ s t n).trans ?_
  exact Finset.sum_congr rfl fun k _ => congrArg (· * _) (h k)

/-- The context tokens' product. -/
theorem context_apply (s : Fin 8) (t : Fin 256) (n : Fin 3072) :
    val_main_v31 (F := Ideal) x0 x1 x2 (ix3 s t n) = productRow x0 x1 x2 8 ⟨16384 + (256 * s.val + t.val), by omega⟩ n := by
  have h (k : Fin 1024) : val_main_v28 (F := Ideal) x0 x1 (ix3 s t k)
      = x1 (ix2 ⟨16384 + (256 * s.val + t.val), by omega⟩ k) * (lit 0x3F800000#32 + x0 (ix4 0 8 4 k)) + x0 (ix4 0 8 3 k) := by
    unfold val_main_v28 val_main_v27 val_main_v26 val_main_v25 val_main_v24 val_main_v23 val_main_cst_0 val_main_v22 val_main_v21
      val_main_v12 val_main_v11 val_main_v10 val_main_v9 val_main_v8 val_main_v7
    pointwise
    exact congrArg₂ (fun (a : Fin 18432) (b : EReal) => x1 (ix2 a k) * (b + x0 (ix4 0 8 4 k)) + x0 (ix4 0 8 3 k))
      (Fin.ext (by dsimp only; omega)) lit_one_eq.symm
  unfold val_main_v31 productRow projected
  refine (dots_apply dot_S8x256x1024_S1024x3072_S8x256x3072_2_0_01_1_n_n.wf _ _ s t n).trans ?_
  exact Finset.sum_congr rfl fun k _ => congrArg (· * _) (h k)

/-- The product of all tokens, its columns in thirds. -/
theorem joined_apply (T : Fin 18432) (c : Fin 3) (j : Fin 1024) :
    val_main_v33 (F := Ideal) x0 x1 x2 (ix3 T c j) = productRow x0 x1 x2 (modsOf T) T ⟨1024 * c.val + j.val, by omega⟩ := by
  unfold val_main_v33
  by_cases h : T.val < 16384
  · refine (concatenate_pair_apply_left (t := S18432x3x1024) (s₁ := S16384x3x1024) (s₂ := S2048x3x1024) 0 (val_main_v30 (F := Ideal) x0 x1 x2)
      (val_main_v32 (F := Ideal) x0 x1 x2) _ (ix3 T c j) rfl (ix3 ⟨T.val, h⟩ c j) ?_).trans ?_
    · intro b
      match b with
      | 0 => rfl
      | 1 => rfl
      | 2 => rfl
    · unfold val_main_v30
      refine (_root_.Idealize.ShloMosaic.shapeCast_apply _ _ _ (ix3 (⟨T.val / 2048, by omega⟩ : Fin 8) (⟨T.val % 2048, by omega⟩ : Fin 2048)
        (⟨1024 * c.val + j.val, by omega⟩ : Fin 3072)) ?_).trans ((latent_apply x0 x1 x2 _ _ _).trans ?_)
      · rw [Shape.rowMajor_val_three, Shape.rowMajor_val_three]
        show (T.val / 2048 * 2048 + T.val % 2048) * 3072 + (1024 * c.val + j.val) = (T.val * 3 + c.val) * 1024 + j.val
        omega
      · exact congrArg₂ (fun a b => productRow x0 x1 x2 a b _) (Fin.ext (by unfold modsOf; dsimp only; omega)) (Fin.ext (by dsimp only; omega))
  · refine (concatenate_pair_apply_right (t := S18432x3x1024) (s₁ := S16384x3x1024) (s₂ := S2048x3x1024) 0 (val_main_v30 (F := Ideal) x0 x1 x2)
      (val_main_v32 (F := Ideal) x0 x1 x2) _ (ix3 T c j) rfl rfl (ix3 (⟨T.val - 16384, by omega⟩ : Fin 2048) c j) ?_ ?_).trans ?_
    · intro b hb
      match b with
      | 0 => exact absurd rfl hb
      | 1 => rfl
      | 2 => rfl
    · show T.val - 16384 + 16384 = T.val
      omega
    · unfold val_main_v32
      refine (_root_.Idealize.ShloMosaic.shapeCast_apply _ _ _ (ix3 (⟨(T.val - 16384) / 256, by omega⟩ : Fin 8) (⟨(T.val - 16384) % 256, by omega⟩ : Fin 256)
        (⟨1024 * c.val + j.val, by omega⟩ : Fin 3072)) ?_).trans ((context_apply x0 x1 x2 _ _ _).trans ?_)
      · rw [Shape.rowMajor_val_three, Shape.rowMajor_val_three]
        show ((T.val - 16384) / 256 * 256 + (T.val - 16384) % 256) * 3072 + (1024 * c.val + j.val) = ((T.val - 16384) * 3 + c.val) * 1024 + j.val
        omega
      · exact congrArg₂ (fun a b => productRow x0 x1 x2 a b _) (Fin.ext (by unfold modsOf; show 8 = min (T.val / 2048) 8; omega)) (Fin.ext (by dsimp only; omega))

/-- One third of the product, as a matrix, read at an entry. -/
theorem third_apply (z : 𝕍 S18432x3x1024 .f32) (c : Fin 3) (h : S18432x3x1024.Slices ![0, c.val, 0] S18432x1x1024)
    (hc : S18432x1x1024.ShapeCasts S18432x1024) (T : Fin 18432) (j : Fin 1024) :
    shapeCast S18432x1024 (extractStridedSlice S18432x1x1024 ![0, c.val, 0] z h) hc (ix2 T j) = z (ix3 T c j) := by
  refine (_root_.Idealize.ShloMosaic.shapeCast_apply _ hc _ (ix3 T 0 j) ?_).trans (extractStridedSlice_apply _ z h _ _ fun a => ?_)
  · rw [Shape.rowMajor_val_two, Shape.rowMajor_val_three]
    show (T.val * 1 + 0) * 1024 + j.val = T.val * 1024 + j.val
    omega
  · match a with
    | 0 => exact (Nat.zero_add _).symm
    | 1 => exact (Nat.add_zero _).symm
    | 2 => exact (Nat.zero_add _).symm

/-- An eighth. -/
theorem lit_eighth : Ideal.ofBits FTy.f32 0x3E000000#32 = (((8 : ℝ)⁻¹ : ℝ) : EReal) := by
  simp [Ideal.ofBits, Ideal.ieee, -EReal.coe_mul]
  norm_num

/-- Scaling by an eighth and dividing by the logarithm of two is scaling once. -/
theorem scaled_eq (z : EReal) : Ideal.div (z * Ideal.ofBits FTy.f32 0x3E000000#32) (Ideal.log (Ideal.ofBits FTy.f32 0x40000000#32))
    = z * (((8 * Real.log 2)⁻¹ : ℝ) : EReal) := by
  have hl : Real.log 2 ≠ 0 := (Real.log_pos (by norm_num)).ne'
  rw [lit_eighth, show Ideal.log (Ideal.ofBits FTy.f32 0x40000000#32) = ((Real.log 2 : ℝ) : EReal) from Cert.WaProof.Ref.log_two]
  unfold Ideal.div
  rw [if_neg (by exact_mod_cast hl), ← EReal.coe_inv, mul_assoc, ← EReal.coe_mul, mul_inv]

/-- The reference's queries, keys and values read at an entry. -/
theorem results_apply (T : Fin 18432) (j : Fin 1024) :
    val_main_v41 (F := Ideal) x0 x1 x2 (ix2 T j) = productRow x0 x1 x2 (modsOf T) T ⟨j.val, by omega⟩ * (((8 * Real.log 2)⁻¹ : ℝ) : EReal)
    ∧ val_main_v44 (F := Ideal) x0 x1 x2 (ix2 T j) = productRow x0 x1 x2 (modsOf T) T ⟨1024 + j.val, by omega⟩
    ∧ val_main_v47 (F := Ideal) x0 x1 x2 (ix2 T j) = productRow x0 x1 x2 (modsOf T) T ⟨2048 + j.val, by omega⟩ := by
  have h (c : Fin 3) (hs hc) (n : Fin 3072) (hn : n.val = 1024 * c.val + j.val) :
      shapeCast S18432x1024 (extractStridedSlice S18432x1x1024 ![0, c.val, 0] (val_main_v33 (F := Ideal) x0 x1 x2) hs) hc (ix2 T j)
        = productRow x0 x1 x2 (modsOf T) T n :=
    (third_apply _ c hs hc T j).trans ((joined_apply x0 x1 x2 T c j).trans (congrArg _ (Fin.ext hn.symm)))
  refine ⟨?_, ?_, ?_⟩
  · rw [← h 0 slices_S18432x3x1024_S18432x1x1024_0_0_0 shapeCasts_S18432x1x1024_S18432x1024 ⟨j.val, by omega⟩ (by simp), ← scaled_eq]
    unfold val_main_v41 val_main_v40 val_main_v37 val_main_v36 val_main_cst_1 val_main_v39 val_main_v38 val_main_cst_2 val_main_v35 val_main_v34
    generalize val_main_v33 (F := Ideal) x0 x1 x2 = z
    pointwise
  · exact h 1 slices_S18432x3x1024_S18432x1x1024_0_1_0 shapeCasts_S18432x1x1024_S18432x1024 _ rfl
  · exact h 2 slices_S18432x3x1024_S18432x1x1024_0_2_0 shapeCasts_S18432x1x1024_S18432x1024 _ rfl

end Cert.QkvNaProof.Ref
-- ==== Proof.QkvNaValue.lean ====
module
public import proofs.«01_k».proof.Defs
public import proofs.«01_k».proof.Proof.QkvNaReferenceRows
@[expose] public section
set_option maxRecDepth 16384
noncomputable section

/-! The arrays `qkv_na_0` leaves are the reference's queries, keys and values. -/

namespace Cert.QkvNaProof
open Cert.QkvNaKernelIdeal Cert.QkvNaKernelIdeal.Gen Idealize.ShloMosaic Idealize.ShloMosaic.TcCoe Idealize.SL.Sem
open Idealize.ShloMosaic.Pointwise Cert.FfnProof Cert.FfnProof.Ref
local notation "𝕍" => FVec Ideal

/-- The blocks' places. -/
theorem places : ∀ t : Fin cfg0.N, win0_0.index t = ![0, min (t.val / 4) 8, 0, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 0 ⟨min (t.val / 4) 8, by omega⟩ k j) := by
  blk_ext [iblk, V, places t]

/-- The token block's element. -/
theorem tokens_at (c : Dev nD) (t : Fin cfg0.N) (r : Fin 512) (j : Fin 1024) :
    iblk m c 1 t (ix2 r j) = (m ((c : Thread nD τ).loc main_arg1) : 𝕍 S18432x1024 .f32) (ix2 ⟨512 * t.val + r.val, by have : t.val < 36 := t.isLt; omega⟩ j) := by
  blk_ext [iblk, V, places t]

/-- The matrix. -/
theorem matrix_at (c : Dev nD) (t : Fin cfg0.N) (k : Fin 1024) (n : Fin 3072) :
    iblk m c 2 t (ix2 k n) = (m ((c : Thread nD τ).loc main_arg2) : 𝕍 S1024x3072 .bf16) (ix2 k n) := by
  blk_ext [iblk, V, places t]

/-- A row of the product is the reference's. -/
theorem product_eq (c : Dev nD) (t : Fin cfg0.N) (r : Fin 512) (n : Fin 3072) (T : Fin 18432) (hT : T.val = 512 * t.val + r.val) :
    product (iblk m c 0 t) (iblk m c 1 t) (iblk m c 2 t) (ix2 r n)
      = Ref.productRow (m ((c : Thread nD τ).loc main_arg0)) (m ((c : Thread nD τ).loc main_arg1)) (m ((c : Thread nD τ).loc main_arg2)) (modsOf T) T n := by
  have ht : t.val < 36 := t.isLt
  have hs : (⟨min (t.val / 4) 8, by omega⟩ : Fin 16) = modsOf T := Fin.ext (by show min (t.val / 4) 8 = min (T.val / 2048) 8; omega)
  have hr : (⟨512 * t.val + r.val, by omega⟩ : Fin 18432) = T := Fin.ext hT.symm
  rw [product_apply]
  unfold Ref.productRow
  simp only [mods_at, tokens_at, matrix_at, hs, hr]

/-- What a grid point leaves is the reference's queries, keys and values of its tokens. -/
theorem outs_eq (c : Dev nD) (t : Fin cfg0.N) (y : S512x1024.Idx) (T : Fin 18432) (hT : T.val = 512 * t.val + (y 0).val) :
    out0_3 (F := Ideal) (iblk m c 0 t) (iblk m c 1 t) (iblk m c 2 t) y
      = Cert.QkvNaReferenceIdeal.Read.val_main_v41 (F := Ideal) (m ((c : Thread nD τ).loc main_arg0)) (m ((c : Thread nD τ).loc main_arg1)) (m ((c : Thread nD τ).loc main_arg2)) (ix2 T (y 1))
    ∧ out0_4 (F := Ideal) (iblk m c 0 t) (iblk m c 1 t) (iblk m c 2 t) y
      = Cert.QkvNaReferenceIdeal.Read.val_main_v44 (F := Ideal) (m ((c : Thread nD τ).loc main_arg0)) (m ((c : Thread nD τ).loc main_arg1)) (m ((c : Thread nD τ).loc main_arg2)) (ix2 T (y 1))
    ∧ out0_5 (F := Ideal) (iblk m c 0 t) (iblk m c 1 t) (iblk m c 2 t) y
      = Cert.QkvNaReferenceIdeal.Read.val_main_v47 (F := Ideal) (m ((c : Thread nD τ).loc main_arg0)) (m ((c : Thread nD τ).loc main_arg1)) (m ((c : Thread nD τ).loc main_arg2)) (ix2 T (y 1)) := by
  have y1 : (y 1).val < 1024 := (y 1).isLt
  obtain ⟨q, k, v⟩ := Ref.results_apply (m ((c : Thread nD τ).loc main_arg0)) (m ((c : Thread nD τ).loc main_arg1)) (m ((c : Thread nD τ).loc main_arg2)) T (y 1)
  rw [q, k, v, queries_apply _ _ _ y ⟨(y 1).val, by omega⟩ (Nat.zero_add _).symm, keys_apply _ _ _ y ⟨1024 + (y 1).val, by omega⟩ rfl,
    values_apply _ _ _ y ⟨2048 + (y 1).val, by omega⟩ rfl]
  exact ⟨congrArg (· * _) (product_eq m c t (y 0) _ T hT), product_eq m c t (y 0) _ T hT, product_eq m c t (y 0) _ T hT⟩

/-- The queries the kernel leaves are the reference's. -/
theorem queries_final (c : Dev nD) : (dats m 0 c).arrAt 3 cfg0.N
    = Cert.QkvNaReferenceIdeal.Read.val_main_v41 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 36 := t.isLt
  have y0 : (y 0).val < 512 := (y 0).isLt
  refine (outs_eq m c t y ⟨512 * t.val + (y 0).val, by omega⟩ rfl).1.trans ?_
  refine congrArg _ ?_
  blk_ext [places t]

/-- The keys the kernel leaves are the reference's. -/
theorem keys_final (c : Dev nD) : (dats m 0 c).arrAt 4 cfg0.N
    = Cert.QkvNaReferenceIdeal.Read.val_main_v44 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht : t.val < 36 := t.isLt
  have y0 : (y 0).val < 512 := (y 0).isLt
  refine (outs_eq m c t y ⟨512 * t.val + (y 0).val, by omega⟩ rfl).2.1.trans ?_
  refine congrArg _ ?_
  blk_ext [places t]

/-- The values the kernel leaves are the reference's. -/
theorem values_final (c : Dev nD) : (dats m 0 c).arrAt 5 cfg0.N
    = Cert.QkvNaReferenceIdeal.Read.val_main_v47 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht : t.val < 36 := t.isLt
  have y0 : (y 0).val < 512 := (y 0).isLt
  refine (outs_eq m c t y ⟨512 * t.val + (y 0).val, by omega⟩ rfl).2.2.trans ?_
  refine congrArg _ ?_
  blk_ext [places t]

end Cert.QkvNaProof
-- ==== Proof.QkvWaRows.lean ====
module
public import proofs.«01_k».proof.Proof.Gen.QkvWaKernelIdeal.Value
public import proofs.«01_k».proof.Proof.QkvNaBlock
@[expose] public section
set_option maxRecDepth 16384
noncomputable section

/-! The body of `qkv_wa_1` in words: a chunk of tokens, modulated, times one matrix; the product's columns, 128 at a time,
turned by the angles of the tokens' places; and heads written twice, side by side. -/

namespace Cert.QkvWaProof
open Cert.QkvWaKernelIdeal Cert.QkvWaKernelIdeal.Gen Idealize.ShloMosaic Idealize.ShloMosaic.TcCoe Idealize.SL.Sem
open Idealize.ShloMosaic.Pointwise Cert.FfnProof Cert.QkvNaProof
local notation "𝕍" => FVec Ideal

/-- The facts of shapes for a chunk of `R` rows of 128 lanes. -/
structure Lanes (R : ℕ) : Prop where
  chunk : Chunk R
  same : (⟨2, ![R, 128]⟩ : Shape).ShapeCasts ⟨2, ![R, 128]⟩
  rot : (⟨2, ![R, 128]⟩ : Shape).Rotates 1 none
  spread : (⟨2, ![R, 128]⟩ : Shape).Broadcasts ⟨2, ![R, 128]⟩
  count : (⟨2, ![R, 128]⟩ : Shape).Iotas .tc 32 [1]

variable {R : ℕ} (L : Lanes R)

/-- The lanes of the first half of each 32. -/
def firstHalf : IVec ⟨2, ![R, 128]⟩ 1 :=
  let w : BitVec 32 := Scalar.select (Scalar.cmpi .eq 32#32 0#32) 1#32 32#32
  have v22 : IVec ⟨2, ![R, 128]⟩ 32 := remsi (iota .tc ⟨2, ![R, 128]⟩ 32 [1] L.count) (broadcast ⟨2, ![R, 128]⟩ w)
  have v31 : IVec ⟨2, ![R, 128]⟩ 1 := andi (xori (cmpi .slt v22 (broadcast ⟨2, ![R, 128]⟩ 0#32))
    (broadcastTo ⟨2, ![R, 128]⟩ (broadcast ⟨2, ![R, 128]⟩ (Scalar.cmpi .slt w 0#32)) L.spread)) (cmpi .ne v22 (broadcast ⟨2, ![R, 128]⟩ 0#32))
  cmpi .slt (select v31 (addi v22 (broadcast ⟨2, ![R, 128]⟩ w)) v22) (broadcast ⟨2, ![R, 128]⟩ 16#32)

/-- The lanes of the first of two heads. -/
def low : IVec ⟨2, ![R, 128]⟩ 1 := cmpi .slt (iota .tc ⟨2, ![R, 128]⟩ 32 [1] L.count) (broadcast ⟨2, ![R, 128]⟩ 64#32)

/-- Which lanes those are. -/
theorem firstHalf_apply (r : Fin R) (l : Fin 128) : firstHalf L (ix2 r l) = if l.val % 32 < 16 then 1#1 else 0#1 := by
  unfold firstHalf
  pointwise
  revert l
  decide +kernel

/-- Which lanes those are. -/
theorem low_apply (r : Fin R) (l : Fin 128) : low L (ix2 r l) = if l.val < 64 then 1#1 else 0#1 := by
  unfold low
  pointwise
  revert l
  decide +kernel

/-- A chunk's columns turned: each pair of columns 16 apart, by the angle its tables give. -/
def turn (x cos sin : 𝕍 ⟨2, ![R, 128]⟩ .f32) : 𝕍 ⟨2, ![R, 128]⟩ .f32 :=
  addf (mulf x cos) (mulf (select (firstHalf L) (dynamicRotate 1 112#32 none x L.rot) (dynamicRotate 1 16#32 none x L.rot)) sin)

/-- The lane a lane is turned with. -/
def partner (l : Fin 128) : Fin 128 := if l.val % 32 < 16 then ⟨(l.val + 16) % 128, by omega⟩ else ⟨(l.val + 112) % 128, by omega⟩

/-- A rotation of the lanes read at an entry. -/
theorem rolled (n : BitVec 32) (x : 𝕍 ⟨2, ![R, 128]⟩ .f32) (h : (⟨2, ![R, 128]⟩ : Shape).Rotates 1 none) (r : Fin R) (l l' : Fin 128)
    (hl : l'.val = (l.val + 128 - n.toNat % 128) % 128) : dynamicRotate 1 n none x h (ix2 r l) = x (ix2 r l') := by
  rw [Pointwise.dynamicRotate_apply]
  refine congrArg x ?_
  funext a
  match a with
  | 0 => rfl
  | 1 => exact Fin.ext hl.symm

/-- The turned columns read at an entry. -/
theorem turn_apply (x cos sin : 𝕍 ⟨2, ![R, 128]⟩ .f32) (r : Fin R) (l : Fin 128) :
    turn L x cos sin (ix2 r l) = x (ix2 r l) * cos (ix2 r l) + x (ix2 r (partner l)) * sin (ix2 r l) := by
  unfold turn
  show _ + Scalar.select (firstHalf L (ix2 r l)) (dynamicRotate 1 112#32 none x L.rot (ix2 r l)) (dynamicRotate 1 16#32 none x L.rot (ix2 r l)) * _ = _
  rw [firstHalf_apply]
  refine congrArg (fun a => x (ix2 r l) * cos (ix2 r l) + a * sin (ix2 r l)) ?_
  unfold partner
  split
  · exact rolled 112#32 x L.rot r l _ (by show (l.val + 16) % 128 = (l.val + 128 - 112 % 128) % 128; omega)
  · exact rolled 16#32 x L.rot r l _ (by show (l.val + 112) % 128 = (l.val + 128 - 16 % 128) % 128; omega)

/-- The first of two heads, twice. -/
def firstTwice (x : 𝕍 ⟨2, ![R, 128]⟩ .f32) : 𝕍 ⟨2, ![R, 128]⟩ .bf16 :=
  truncf .bf16 (select (low L) x (dynamicRotate 1 64#32 none x L.rot)) L.chunk.narrow

/-- The second of two heads, twice. -/
def secondTwice (x : 𝕍 ⟨2, ![R, 128]⟩ .f32) : 𝕍 ⟨2, ![R, 128]⟩ .bf16 :=
  truncf .bf16 (select (low L) (dynamicRotate 1 64#32 none x L.rot) x) L.chunk.narrow

/-- The first of two heads, twice, read at an entry. -/
theorem firstTwice_apply (x : 𝕍 ⟨2, ![R, 128]⟩ .f32) (r : Fin R) (l : Fin 128) :
    firstTwice L x (ix2 r l) = x (ix2 r ⟨l.val % 64, by omega⟩) := by
  unfold firstTwice
  show Scalar.select (low L (ix2 r l)) (x (ix2 r l)) (dynamicRotate 1 64#32 none x L.rot (ix2 r l)) = _
  rw [low_apply]
  split
  · exact congrArg (fun a => x (ix2 r a)) (Fin.ext (by dsimp only; omega))
  · exact rolled 64#32 x L.rot r l _ (by show l.val % 64 = (l.val + 128 - 64 % 128) % 128; omega)

/-- The second of two heads, twice, read at an entry. -/
theorem secondTwice_apply (x : 𝕍 ⟨2, ![R, 128]⟩ .f32) (r : Fin R) (l : Fin 128) :
    secondTwice L x (ix2 r l) = x (ix2 r ⟨64 + l.val % 64, by omega⟩) := by
  unfold secondTwice
  show Scalar.select (low L (ix2 r l)) (dynamicRotate 1 64#32 none x L.rot (ix2 r l)) (x (ix2 r l)) = _
  rw [low_apply]
  split
  · exact rolled 64#32 x L.rot r l _ (by show 64 + l.val % 64 = (l.val + 128 - 64 % 128) % 128; omega)
  · exact congrArg (fun a => x (ix2 r a)) (Fin.ext (by dsimp only; omega))

/-! ## A chunk -/

variable (x0 : Vec Ideal S1x1x9x1024 .f32) (x1 : Vec Ideal S512x1024 .f32) (x2 x3 : Vec Ideal S512x128 .f32) (x4 : Vec Ideal S1024x1536 .bf16)

/-- A chunk's product. -/
def chunkProduct (a : 𝕍 ⟨2, ![R, 1024]⟩ .f32) : 𝕍 ⟨2, ![R, 1536]⟩ .f32 :=
  times (R := R) (truncf .bf16 (addf (mulf a (down L.chunk (addf (broadcast ⟨2, ![1, 1024]⟩ (Scalar.ofBits .f32 0x3F800000#32))
      (modRow x0 4 inb_S1x1x9x1024_S1x1x9x1024_0_0_0_0 shapeCasts_S1x1x9x1024_S9x1024 slices_S9x1024_o4_0_S1x1024))))
      (down L.chunk (modRow x0 3 inb_S1x1x9x1024_S1x1x9x1024_0_0_0_0 shapeCasts_S1x1x9x1024_S9x1024 slices_S9x1024_o3_0_S1x1024))) L.chunk.narrow)
    (part (e := .bf16) x4 0 0 1024 1536 inb_S1024x1536_S1024x1536_0_0)

/-- A block's product, at token `a` of the block and column `n`. -/
def blockProduct (a : Fin 512) (n : ℕ) : EReal :=
  projected (N := 1536) (fun k => x1 (ix2 a k)) (fun k => x0 (ix4 0 0 3 k)) (fun k => x0 (ix4 0 0 4 k)) (fun k j => x4 (ix2 k j)) ⟨n % 1536, Nat.mod_lt _ (by decide)⟩

/-- A block's product, its columns turned. -/
def blockTurned (a : Fin 512) (n : ℕ) : EReal :=
  blockProduct x0 x1 x4 a n * x2 (ix2 a ⟨n % 128, Nat.mod_lt _ (by decide)⟩)
    + blockProduct x0 x1 x4 a (n / 128 * 128 + (partner ⟨n % 128, Nat.mod_lt _ (by decide)⟩).val) * x3 (ix2 a ⟨n % 128, Nat.mod_lt _ (by decide)⟩)

variable (o p : ℕ) (h : ∀ a, (![o, 0] : Fin 2 → ℕ) a + (![R, 1024] : Fin 2 → ℕ) a ≤ (![512, 1024] : Fin 2 → ℕ) a)
  (hc : ∀ a, (![o, 0] : Fin 2 → ℕ) a + (![R, 128] : Fin 2 → ℕ) a ≤ (![512, 128] : Fin 2 → ℕ) a)
  (hs : (⟨2, ![R, 1536]⟩ : Shape).Slices ![0, p] ⟨2, ![R, 128]⟩)

/-- 128 columns of a chunk's product. -/
def columns : 𝕍 ⟨2, ![R, 128]⟩ .f32 := extractStridedSlice ⟨2, ![R, 128]⟩ ![0, p] (chunkProduct L x0 x4 (part (e := .f32) x1 o 0 R 1024 h)) hs

/-- 128 columns of a chunk's product, turned. -/
def turned : 𝕍 ⟨2, ![R, 128]⟩ .f32 :=
  turn L (columns L x0 x1 x4 o p h hs) (shapeCast ⟨2, ![R, 128]⟩ (part (e := .f32) x2 o 0 R 128 hc) L.same) (shapeCast ⟨2, ![R, 128]⟩ (part (e := .f32) x3 o 0 R 128 hc) L.same)

/-- 128 columns of a chunk's product, turned and scaled: queries. -/
def queries : 𝕍 ⟨2, ![R, 128]⟩ .bf16 :=
  truncf .bf16 (mulf (turned L x0 x1 x2 x3 x4 o p h hc hs) (broadcast ⟨2, ![R, 128]⟩ (Named.named κ "qscale" 0x3E38AA3B#32 : Ideal .f32))) L.chunk.narrow

/-- The columns read at an entry. -/
theorem columns_apply (a : Fin 512) (r : Fin R) (l : Fin 128) (h0 : a.val = o + r.val) :
    columns L x0 x1 x4 o p h hs (ix2 r l) = blockProduct x0 x1 x4 a (p + l.val) := by
  have hp : p + 128 ≤ 1536 := hs.2 1
  unfold columns
  rw [extractStridedSlice_apply _ _ hs _ (ix2 r ⟨p + l.val, by omega⟩) fun a => by
    match a with
    | 0 => exact (Nat.zero_add _).symm
    | 1 => rfl]
  unfold chunkProduct blockProduct projected
  rw [times_apply]
  refine Finset.sum_congr rfl fun k _ => congrArg₂ (· * ·) ?_ ((part_apply (e := .bf16) x4 0 0 1024 1536 _ k _ k ⟨p + l.val, by omega⟩ (Nat.zero_add _).symm (Nat.zero_add _).symm).trans
    (congrArg (fun a => x4 (ix2 k a)) (Fin.ext (by dsimp only; omega))))
  show part (e := .f32) x1 o 0 R 1024 _ (ix2 r k) * down L.chunk _ (ix2 r k) + down L.chunk _ (ix2 r k) = _
  rw [down_apply, down_apply, part_apply (e := .f32) x1 o 0 R 1024 _ r k a k h0 (Nat.zero_add _).symm]
  show _ * (lit 0x3F800000#32 + modRow x0 _ _ _ _ (ix2 0 k)) + _ = _
  exact congrArg₂ (fun c b => x1 (ix2 a k) * (lit 0x3F800000#32 + c) + b) (modRow_apply x0 4 _ _ _ k) (modRow_apply x0 3 _ _ _ k)

/-- The turned columns read at an entry. -/
theorem turned_apply (a : Fin 512) (r : Fin R) (l : Fin 128) (h0 : a.val = o + r.val) (hp : p % 128 = 0) :
    turned L x0 x1 x2 x3 x4 o p h hc hs (ix2 r l) = blockTurned x0 x1 x2 x3 x4 a (p + l.val) := by
  have hl : (⟨(p + l.val) % 128, Nat.mod_lt _ (by decide)⟩ : Fin 128) = l := Fin.ext (by dsimp only; omega)
  have t (x : Vec Ideal S512x128 .f32) : shapeCast ⟨2, ![R, 128]⟩ (part (e := .f32) x o 0 R 128 hc) L.same (ix2 r l) = x (ix2 a l) :=
    (_root_.Idealize.ShloMosaic.shapeCast_apply _ L.same _ (ix2 r l) rfl).trans (part_apply (e := .f32) x o 0 R 128 hc r l a l h0 (Nat.zero_add _).symm)
  unfold turned blockTurned
  rw [turn_apply, columns_apply L x0 x1 x4 o p h hs a r l h0, columns_apply L x0 x1 x4 o p h hs a r (partner l) h0, t, t, hl,
    show (p + l.val) / 128 * 128 = p by omega]

variable (y : S512x1024.Idx) (x : (⟨2, ![R, 128]⟩ : Shape).Idx)

/-- A stored piece of queries is the block's at the piece's place. -/
theorem query_at (h0 : (y 0).val = o + (x 0).val) (h1 : (y 1).val = p + (x 1).val) (hp : p % 128 = 0) (T : 𝕍 ⟨2, ![R, 128]⟩ .bf16)
    (hT : T = queries L x0 x1 x2 x3 x4 o p h hc hs) :
    T x = blockTurned x0 x1 x2 x3 x4 (y 0) (y 1).val * (((8 * Real.log 2)⁻¹ : ℝ) : EReal) := by
  subst hT
  rw [eq_ix2 x, h1]
  exact congrArg (· * _) (turned_apply L x0 x1 x2 x3 x4 o p h hc hs (y 0) (x 0) (x 1) h0 hp)

variable (q : ℕ) (z : S512x512.Idx)
  (hk : (⟨2, ![R, 1536]⟩ : Shape).Slices ![0, 1024 + q / 256 * 128] ⟨2, ![R, 128]⟩) (hv : (⟨2, ![R, 1536]⟩ : Shape).Slices ![0, 1280 + q / 256 * 128] ⟨2, ![R, 128]⟩)

/-- One of two heads, twice: the first where the piece's column begins an even head's. -/
def twice (v : 𝕍 ⟨2, ![R, 128]⟩ .f32) : 𝕍 ⟨2, ![R, 128]⟩ .bf16 := if q % 256 = 0 then firstTwice L v else secondTwice L v

/-- A head, twice, read at an entry. -/
theorem twice_apply (hq : q % 128 = 0) (v : 𝕍 ⟨2, ![R, 128]⟩ .f32) (r : Fin R) (l : Fin 128) :
    twice L q v (ix2 r l) = v (ix2 r ⟨q % 256 / 2 + l.val % 64, by omega⟩) := by
  unfold twice
  split
  · exact (firstTwice_apply L v r l).trans (congrArg (fun a => v (ix2 r a)) (Fin.ext (by dsimp only; omega)))
  · exact (secondTwice_apply L v r l).trans (congrArg (fun a => v (ix2 r a)) (Fin.ext (by dsimp only; omega)))

/-- A stored piece of keys is the block's at the piece's place. -/
theorem key_at (h0 : (z 0).val = o + (x 0).val) (h1 : (z 1).val = q + (x 1).val) (hq : q % 128 = 0) (T : 𝕍 ⟨2, ![R, 128]⟩ .bf16)
    (hT : T = twice L q (turned L x0 x1 x2 x3 x4 o (1024 + q / 256 * 128) h hc hk)) :
    T x = blockTurned x0 x1 x2 x3 x4 (z 0) (1024 + 64 * ((z 1).val / 128) + (z 1).val % 64) := by
  subst hT
  have hx : (x 1).val < 128 := (x 1).isLt
  rw [eq_ix2 x]
  refine (twice_apply L q hq _ (x 0) (x 1)).trans ((turned_apply L x0 x1 x2 x3 x4 o _ h hc hk (z 0) (x 0) _ h0 (by omega)).trans (congrArg _ ?_))
  dsimp only
  omega

/-- A stored piece of values is the block's at the piece's place. -/
theorem value_at (h0 : (z 0).val = o + (x 0).val) (h1 : (z 1).val = q + (x 1).val) (hq : q % 128 = 0) (T : 𝕍 ⟨2, ![R, 128]⟩ .bf16)
    (hT : T = twice L q (columns L x0 x1 x4 o (1280 + q / 256 * 128) h hv)) :
    T x = blockProduct x0 x1 x4 (z 0) (1280 + 64 * ((z 1).val / 128) + (z 1).val % 64) := by
  subst hT
  have hx : (x 1).val < 128 := (x 1).isLt
  rw [eq_ix2 x]
  refine (twice_apply L q hq _ (x 0) (x 1)).trans ((columns_apply L x0 x1 x4 o _ h hv (z 0) (x 0) _ h0).trans (congrArg _ ?_))
  dsimp only
  omega

end Cert.QkvWaProof
-- ==== Proof.QkvWaBlock.lean ====
module
public import proofs.«01_k».proof.Proof.QkvWaRows
@[expose] public section
set_option maxRecDepth 16384
noncomputable section

/-! The blocks a grid point of `qkv_wa_1` leaves: its queries, its keys and its values. -/

namespace Cert.QkvWaProof
open Cert.QkvWaKernelIdeal Cert.QkvWaKernelIdeal.Gen Idealize.ShloMosaic Idealize.ShloMosaic.TcCoe Idealize.SL.Sem
open Idealize.ShloMosaic.Pointwise Cert.FfnProof Cert.QkvNaProof

/-- The facts of shapes for a chunk of 128 rows. -/
theorem lanes128 : Lanes 128 where
  chunk := Cert.PreProof.chunk128
  same := by decide
  rot := by decide
  spread := by decide
  count := by decide

/-- The facts of shapes for a chunk of 256 rows. -/
theorem lanes256 : Lanes 256 where
  chunk := Cert.PreProof.chunk256
  same := by decide
  rot := by decide
  spread := by decide
  count := by decide

set_option maxHeartbeats 4000000 in
/-- The queries a grid point leaves. -/
theorem query_block (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x1536 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .bf16) (harg8 : arg8.IsWhole)
    (x0 : Vec Ideal S1x1x9x1024 .f32) (x1 : Vec Ideal S512x1024 .f32) (x2 : Vec Ideal S512x128 .f32) (x3 : Vec Ideal S512x128 .f32) (x4 : Vec Ideal S1024x1536 .bf16) (y : S512x1024.Idx) :
    out0_A_5 (F := Ideal) c i arg1 harg1 arg2 harg2 arg3 harg3 arg4 harg4 arg5 harg5 arg6 harg6 arg7 harg7 arg8 harg8 x0 x1 x2 x3 x4 y = blockTurned x0 x1 x2 x3 x4 (y 0) (y 1).val * (((8 * Real.log 2)⁻¹ : ℝ) : EReal) := by
  have key : out0_A_5 (F := Ideal) c i arg1 harg1 arg2 harg2 arg3 harg3 arg4 harg4 arg5 harg5 arg6 harg6 arg7 harg7 arg8 harg8 x0 x1 x2 x3 x4 y
      = blockTurned (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (y 0) (y 1).val * (((8 * Real.log 2)⁻¹ : ℝ) : EReal) := by
    frame_open
    rw [View.read_writes_junk_eq_canon]
    canon_tiles x h using cover0_A_5 (F := Ideal) c i arg1 harg1 arg2 harg2 arg3 harg3 arg4 harg4 arg5 harg5 arg6 harg6 arg7 harg7 arg8 harg8 x0 x1 x2 x3 x4 y
    all_goals first
      | refine query_at lanes128 _ _ _ _ _ _ _ (by decide) (by decide) (by decide) y x h0 h1 (by decide) _ ?_
      | refine query_at lanes128 _ _ _ _ _ _ _ (by decide) (by decide) (by decide) y x h0 (h1.trans (Nat.zero_add _).symm) (by decide) _ ?_
      | refine query_at lanes128 _ _ _ _ _ _ _ (by decide) (by decide) (by decide) y x (h0.trans (Nat.zero_add _).symm) h1 (by decide) _ ?_
      | refine query_at lanes128 _ _ _ _ _ _ _ (by decide) (by decide) (by decide) y x (h0.trans (Nat.zero_add _).symm) (h1.trans (Nat.zero_add _).symm) (by decide) _ ?_
      | refine query_at lanes256 _ _ _ _ _ _ _ (by decide) (by decide) (by decide) y x h0 h1 (by decide) _ ?_
      | refine query_at lanes256 _ _ _ _ _ _ _ (by decide) (by decide) (by decide) y x h0 (h1.trans (Nat.zero_add _).symm) (by decide) _ ?_
      | refine query_at lanes256 _ _ _ _ _ _ _ (by decide) (by decide) (by decide) y x (h0.trans (Nat.zero_add _).symm) h1 (by decide) _ ?_
      | refine query_at lanes256 _ _ _ _ _ _ _ (by decide) (by decide) (by decide) y x (h0.trans (Nat.zero_add _).symm) (h1.trans (Nat.zero_add _).symm) (by decide) _ ?_
    all_goals sl_kernel_rfl
  rw [key, harg1.read_unread, harg2.read_unread, harg3.read_unread, harg4.read_unread, harg5.read_unread]

set_option maxHeartbeats 4000000 in
/-- The keys a grid point leaves. -/
theorem key_block (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x1536 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .bf16) (harg8 : arg8.IsWhole)
    (x0 : Vec Ideal S1x1x9x1024 .f32) (x1 : Vec Ideal S512x1024 .f32) (x2 : Vec Ideal S512x128 .f32) (x3 : Vec Ideal S512x128 .f32) (x4 : Vec Ideal S1024x1536 .bf16) (y : S512x512.Idx) :
    out0_A_6 (F := Ideal) c i arg1 harg1 arg2 harg2 arg3 harg3 arg4 harg4 arg5 harg5 arg6 harg6 arg7 harg7 arg8 harg8 x0 x1 x2 x3 x4 y = blockTurned x0 x1 x2 x3 x4 (y 0) (1024 + 64 * ((y 1).val / 128) + (y 1).val % 64) := by
  have key : out0_A_6 (F := Ideal) c i arg1 harg1 arg2 harg2 arg3 harg3 arg4 harg4 arg5 harg5 arg6 harg6 arg7 harg7 arg8 harg8 x0 x1 x2 x3 x4 y
      = blockTurned (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (y 0) (1024 + 64 * ((y 1).val / 128) + (y 1).val % 64) := by
    frame_open
    rw [View.read_writes_junk_eq_canon]
    canon_tiles x h using cover0_A_6 (F := Ideal) c i arg1 harg1 arg2 harg2 arg3 harg3 arg4 harg4 arg5 harg5 arg6 harg6 arg7 harg7 arg8 harg8 x0 x1 x2 x3 x4 y
    all_goals first
      | refine key_at lanes128 _ _ _ _ _ _ (by decide) (by decide) x _ y (by decide) h0 h1 (by decide) _ ?_
      | refine key_at lanes128 _ _ _ _ _ _ (by decide) (by decide) x _ y (by decide) h0 (h1.trans (Nat.zero_add _).symm) (by decide) _ ?_
      | refine key_at lanes128 _ _ _ _ _ _ (by decide) (by decide) x _ y (by decide) (h0.trans (Nat.zero_add _).symm) h1 (by decide) _ ?_
      | refine key_at lanes128 _ _ _ _ _ _ (by decide) (by decide) x _ y (by decide) (h0.trans (Nat.zero_add _).symm) (h1.trans (Nat.zero_add _).symm) (by decide) _ ?_
      | refine key_at lanes256 _ _ _ _ _ _ (by decide) (by decide) x _ y (by decide) h0 h1 (by decide) _ ?_
      | refine key_at lanes256 _ _ _ _ _ _ (by decide) (by decide) x _ y (by decide) h0 (h1.trans (Nat.zero_add _).symm) (by decide) _ ?_
      | refine key_at lanes256 _ _ _ _ _ _ (by decide) (by decide) x _ y (by decide) (h0.trans (Nat.zero_add _).symm) h1 (by decide) _ ?_
      | refine key_at lanes256 _ _ _ _ _ _ (by decide) (by decide) x _ y (by decide) (h0.trans (Nat.zero_add _).symm) (h1.trans (Nat.zero_add _).symm) (by decide) _ ?_
    all_goals sl_kernel_rfl
  rw [key, harg1.read_unread, harg2.read_unread, harg3.read_unread, harg4.read_unread, harg5.read_unread]

set_option maxHeartbeats 4000000 in
/-- The values a grid point leaves. -/
theorem value_block (c : Dev nD) (i : grid0.Coords) (arg1 : Memref sig .tc .vmem S1x1x9x1024 .f32) (harg1 : arg1.IsWhole) (arg2 : Memref sig .tc .vmem S512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1024x1536 .bf16) (harg5 : arg5.IsWhole) (arg6 : Memref sig .tc .vmem S512x1024 .bf16) (harg6 : arg6.IsWhole) (arg7 : Memref sig .tc .vmem S512x512 .bf16) (harg7 : arg7.IsWhole) (arg8 : Memref sig .tc .vmem S512x512 .bf16) (harg8 : arg8.IsWhole)
    (x0 : Vec Ideal S1x1x9x1024 .f32) (x1 : Vec Ideal S512x1024 .f32) (x2 : Vec Ideal S512x128 .f32) (x3 : Vec Ideal S512x128 .f32) (x4 : Vec Ideal S1024x1536 .bf16) (y : S512x512.Idx) :
    out0_A_7 (F := Ideal) c i arg1 harg1 arg2 harg2 arg3 harg3 arg4 harg4 arg5 harg5 arg6 harg6 arg7 harg7 arg8 harg8 x0 x1 x2 x3 x4 y = blockProduct x0 x1 x4 (y 0) (1280 + 64 * ((y 1).val / 128) + (y 1).val % 64) := by
  have key : out0_A_7 (F := Ideal) c i arg1 harg1 arg2 harg2 arg3 harg3 arg4 harg4 arg5 harg5 arg6 harg6 arg7 harg7 arg8 harg8 x0 x1 x2 x3 x4 y
      = blockProduct (arg1.view.read (Elt Ideal) (harg1.unread x0)) (arg2.view.read (Elt Ideal) (harg2.unread x1)) (arg5.view.read (Elt Ideal) (harg5.unread x4)) (y 0) (1280 + 64 * ((y 1).val / 128) + (y 1).val % 64) := by
    frame_open
    rw [View.read_writes_junk_eq_canon]
    canon_tiles x h using cover0_A_7 (F := Ideal) c i arg1 harg1 arg2 harg2 arg3 harg3 arg4 harg4 arg5 harg5 arg6 harg6 arg7 harg7 arg8 harg8 x0 x1 x2 x3 x4 y
    all_goals first
      | refine value_at lanes128 _ _ _ _ (by decide) x _ y (by decide) h0 h1 (by decide) _ ?_
      | refine value_at lanes128 _ _ _ _ (by decide) x _ y (by decide) h0 (h1.trans (Nat.zero_add _).symm) (by decide) _ ?_
      | refine value_at lanes128 _ _ _ _ (by decide) x _ y (by decide) (h0.trans (Nat.zero_add _).symm) h1 (by decide) _ ?_
      | refine value_at lanes128 _ _ _ _ (by decide) x _ y (by decide) (h0.trans (Nat.zero_add _).symm) (h1.trans (Nat.zero_add _).symm) (by decide) _ ?_
      | refine value_at lanes256 _ _ _ _ (by decide) x _ y (by decide) h0 h1 (by decide) _ ?_
      | refine value_at lanes256 _ _ _ _ (by decide) x _ y (by decide) h0 (h1.trans (Nat.zero_add _).symm) (by decide) _ ?_
      | refine value_at lanes256 _ _ _ _ (by decide) x _ y (by decide) (h0.trans (Nat.zero_add _).symm) h1 (by decide) _ ?_
      | refine value_at lanes256 _ _ _ _ (by decide) x _ y (by decide) (h0.trans (Nat.zero_add _).symm) (h1.trans (Nat.zero_add _).symm) (by decide) _ ?_
    all_goals sl_kernel_rfl
  rw [key, harg1.read_unread, harg2.read_unread, harg5.read_unread]

end Cert.QkvWaProof
-- ==== Proof.QkvWaHost.lean ====
module
public import proofs.«01_k».proof.Proof.QkvWaBlock
public import proofs.«01_k».proof.Proof.QkvNaReferenceRows
public import proofs.«01_k».proof.Proof.Gen.QkvWaReferenceIdeal.Read
@[expose] public section
set_option maxRecDepth 16384
noncomputable section

/-! The tables of cosines and signed sines that `qkv_wa_1` takes: what the program computes before the call. -/

namespace Cert.QkvWaProof
open Cert.QkvWaKernelIdeal Cert.QkvWaKernelIdeal.Gen Idealize.ShloMosaic Idealize.ShloMosaic.TcCoe Idealize.ShloMosaic.Tactic Idealize.SL.Sem
open Idealize.ShloMosaic.Pointwise Cert.FfnProof Cert.FfnProof.Ref Cert.QkvWaReferenceIdeal.Read
local notation "𝕍" => FVec Ideal

/-- The angles of the rows and of the columns of the places, side by side, each twice. -/
def angles (a b : 𝕍 S2048x16 .f32) : 𝕍 S2048x64 .f32 :=
  concatenate S2048x64 1 [⟨S2048x16, a⟩, ⟨S2048x16, a⟩, ⟨S2048x16, b⟩, ⟨S2048x16, b⟩] concatenates_S2048x16_S2048x16_S2048x16_S2048x16_S2048x64_d1

/-- A table for the latent tokens' places, rows for the context tokens under it, twice side by side. -/
def widened (a : 𝕍 S2048x64 .f32) (b : 𝕍 S512x64 .f32) : 𝕍 S2560x128 .f32 :=
  shapeCast S2560x128 (broadcastInDim S1x2560x2x64 ![0, 1, 2, 3] bcast_S1x2560x1x64_S1x2560x2x64_0_1_2_3
    (shapeCast S1x2560x1x64 (concatenate S2560x64 0 [⟨S2048x64, a⟩, ⟨S512x64, b⟩] concatenates_S2048x64_S512x64_S2560x64_d0) shapeCasts_S2560x64_S1x2560x1x64)) shapeCasts_S1x2560x2x64_S2560x128

/-- The signs of the sines: minus one in the first half of each 32 lanes. -/
def signs : 𝕍 S64 .f32 :=
  shapeCast S64 (broadcastInDim S2x32 ![0, 1] bcast_S1x32_S2x32_0_1 (shapeCast S1x32 (concatenate S32 0
    [⟨S16, Host.negf (broadcastInDim S16 ![] bcast_S_S16 (constant (F := Ideal) S_ .f32 0x3F800000#32))⟩,
     ⟨S16, broadcastInDim S16 ![] bcast_S_S16 (constant (F := Ideal) S_ .f32 0x3F800000#32)⟩] concatenates_S16_S16_S32_d0) shapeCasts_S32_S1x32)) shapeCasts_S2x32_S64

variable (m : (ℓ : Loc nD τ sig) → Buf (Elt Ideal) ℓ)

set_option maxHeartbeats 4000000 in
/-- The table of cosines. -/
theorem cosines_eq (c : Dev nD) : V m c main_v40 = widened (Host.cos (angles (val_main_v49 (F := Ideal)) (val_main_v72 (F := Ideal))))
    (broadcastInDim S512x64 ![] bcast_S_S512x64 (constant S_ .f32 0x3F800000#32)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

set_option maxHeartbeats 4000000 in
/-- The table of signed sines. -/
theorem sines_eq (c : Dev nD) : V m c main_v43 = widened (mulf (Host.sin (angles (val_main_v49 (F := Ideal)) (val_main_v72 (F := Ideal))))
      (broadcastInDim S2048x64 ![0, 1] bcast_S1x64_S2048x64_0_1 (broadcastInDim S1x64 ![1] bcast_S64_S1x64_1 signs)))
    (broadcastInDim S512x64 ![] bcast_S_S512x64 (constant S_ .f32 0x00000000#32)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

end Cert.QkvWaProof
-- ==== Proof.QkvWaTables.lean ====
module
public import proofs.«01_k».proof.Proof.QkvWaHost
@[expose] public section
set_option maxRecDepth 16384
noncomputable section

/-! The tables of cosines and signed sines read at an entry. -/

namespace Cert.QkvWaProof
open Cert.QkvWaKernelIdeal Cert.QkvWaKernelIdeal.Gen Idealize.ShloMosaic Idealize.ShloMosaic.TcCoe Idealize.ShloMosaic.Tactic Idealize.SL.Sem
open Idealize.ShloMosaic.Pointwise Cert.FfnProof Cert.FfnProof.Ref Cert.QkvWaReferenceIdeal.Read
local notation "𝕍" => FVec Ideal

/-- The angles read at an entry. -/
theorem angles_apply (a b : 𝕍 S2048x16 .f32) (t : Fin 2048) (l : Fin 64) :
    angles a b (ix2 t l) = (if l.val < 32 then a else b) (ix2 t ⟨l.val % 16, by omega⟩) := by
  unfold angles
  pointwise
  by_cases h : l.val < 32
  · rw [if_pos h]
    split_ifs <;> first
      | omega
      | exact congrArg a (congrArg (ix2 t) (Fin.ext (show l.val = l.val % 16 by omega)))
      | exact congrArg a (congrArg (ix2 t) (Fin.ext (show l.val - 16 = l.val % 16 by omega)))
  · rw [if_neg h]
    split_ifs <;> first
      | omega
      | exact congrArg b (congrArg (ix2 t) (Fin.ext (show l.val - 16 - 16 = l.val % 16 by omega)))
      | exact congrArg b (congrArg (ix2 t) (Fin.ext (show l.val - 16 - 16 - 16 = l.val % 16 by omega)))

/-- A table read at an entry. -/
theorem widened_apply (a : 𝕍 S2048x64 .f32) (b : 𝕍 S512x64 .f32) (t : Fin 2560) (l : Fin 128) :
    widened a b (ix2 t l) = if h : t.val < 2048 then a (ix2 ⟨t.val, h⟩ ⟨l.val % 64, by omega⟩) else b (ix2 ⟨t.val - 2048, by omega⟩ ⟨l.val % 64, by omega⟩) := by
  unfold widened
  pointwise

/-- The signs read at an entry. -/
theorem signs_apply (l : Fin 64) : signs (ix1 l) = if l.val % 32 < 16 then -1 else 1 := by
  unfold signs
  pointwise
  rfl

/-- The signs in every row read at an entry. -/
theorem spread_apply (z : 𝕍 S64 .f32) (t : Fin 2048) (l : Fin 64) :
    broadcastInDim S2048x64 ![0, 1] bcast_S1x64_S2048x64_0_1 (broadcastInDim S1x64 ![1] bcast_S64_S1x64_1 z) (ix2 t l) = z (ix1 l) := by
  pointwise

variable (m : (ℓ : Loc nD τ sig) → Buf (Elt Ideal) ℓ)

/-- The angle by which column `n` of a token at place `t` is turned: the place's row for the first half of a head's columns, its
column for the second. -/
def angle (t : Fin 2048) (n : ℕ) : EReal :=
  (if n % 64 < 32 then val_main_v49 (F := Ideal) else val_main_v72 (F := Ideal)) (ix2 t ⟨n % 16, Nat.mod_lt _ (by decide)⟩)

/-- The sign of a column's sine. -/
def sign (n : ℕ) : EReal := if n % 32 < 16 then -1 else 1

/-- The table of cosines read at an entry. -/
theorem cosine_apply (c : Dev nD) (t : Fin 2560) (l : Fin 128) :
    (V m c main_v40 : 𝕍 S2560x128 .f32) (ix2 t l) = if h : t.val < 2048 then Ideal.cos (angle ⟨t.val, h⟩ l.val) else 1 := by
  rw [cosines_eq, widened_apply]
  split
  · show Ideal.cos (angles _ _ (ix2 _ _)) = _
    rw [angles_apply]
    unfold angle
    exact congrArg (fun i => Ideal.cos ((if l.val % 64 < 32 then val_main_v49 (F := Ideal) else val_main_v72 (F := Ideal)) (ix2 ⟨t.val, ‹_›⟩ i))) (Fin.ext (by dsimp only; omega))
  · exact lit_one_eq

/-- The table of signed sines read at an entry. -/
theorem sine_apply (c : Dev nD) (t : Fin 2560) (l : Fin 128) :
    (V m c main_v43 : 𝕍 S2560x128 .f32) (ix2 t l) = if h : t.val < 2048 then Ideal.sin (angle ⟨t.val, h⟩ l.val) * sign l.val else 0 := by
  rw [sines_eq, widened_apply]
  split
  · show Ideal.sin (angles _ _ (ix2 _ _)) * (broadcastInDim S2048x64 ![0, 1] bcast_S1x64_S2048x64_0_1 (broadcastInDim S1x64 ![1] bcast_S64_S1x64_1 signs) (ix2 _ _)) = _
    rw [angles_apply, spread_apply, signs_apply]
    unfold angle sign
    dsimp only
    rw [show l.val % 64 % 32 = l.val % 32 by omega]
    exact congrArg (fun i => Ideal.sin ((if l.val % 64 < 32 then val_main_v49 (F := Ideal) else val_main_v72 (F := Ideal)) (ix2 ⟨t.val, ‹_›⟩ i)) * _) (Fin.ext (by dsimp only; omega))
  · show Ideal.ofBits FTy.f32 0x00000000#32 = 0
    simp [Ideal.ofBits, Ideal.ieee]

end Cert.QkvWaProof
-- ==== Proof.QkvWaReferenceRows.lean ====
module
public import proofs.«01_k».proof.Proof.QkvWaTables
@[expose] public section
set_option maxRecDepth 16384
noncomputable section

/-! The reference of the second mixer's queries, keys and values: its arrays read at an entry. -/

namespace Cert.QkvWaProof.Ref
open Cert.QkvWaReferenceIdeal Cert.QkvWaReferenceIdeal.Gen Cert.QkvWaReferenceIdeal.Read Idealize.ShloMosaic Idealize.ShloMosaic.TcCoe Idealize.SL.Sem
open Idealize.ShloMosaic.Pointwise Cert.FfnProof Cert.FfnProof.Ref Cert.QkvNaProof
local notation "𝕍" => FVec Ideal

variable (x0 : 𝕍 S2x16x9x1024 .f32) (x1 : 𝕍 S18432x1024 .f32) (x2 : 𝕍 S1024x1536 .bf16)

/-- A row of the product: token `T` modulated as sample `s`, times the matrix. -/
def productRow (s : Fin 16) (T : Fin 18432) (n : Fin 1536) : EReal :=
  projected (fun k => x1 (ix2 T k)) (fun k => x0 (ix4 1 s 3 k)) (fun k => x0 (ix4 1 s 4 k)) (fun k n => x2 (ix2 k n)) n

/-- The latent tokens' product. -/
theorem latent_apply (s : Fin 8) (t : Fin 2048) (n : Fin 1536) :
    val_main_v21 (F := Ideal) x0 x1 x2 (ix3 s t n) = productRow x0 x1 x2 ⟨s.val, by omega⟩ ⟨2048 * s.val + t.val, by omega⟩ n := by
  have h (k : Fin 1024) : val_main_v20 (F := Ideal) x0 x1 (ix3 s t k)
      = x1 (ix2 ⟨2048 * s.val + t.val, by omega⟩ k) * (lit 0x3F800000#32 + x0 (ix4 1 ⟨s.val, by omega⟩ 4 k)) + x0 (ix4 1 ⟨s.val, by omega⟩ 3 k) := by
    unfold val_main_v20 val_main_v19 val_main_v18 val_main_v17 val_main_v16 val_main_v15 val_main_cst val_main_v14 val_main_v13
      val_main_v6 val_main_v5 val_main_v4 val_main_v3 val_main_v2 val_main_v1
    pointwise
    exact congrArg₂ (fun (a : Fin 18432) (b : EReal) => x1 (ix2 a k) * (b + x0 (ix4 1 ⟨s.val, by omega⟩ 4 k)) + x0 (ix4 1 ⟨s.val, by omega⟩ 3 k))
      (Fin.ext (by dsimp only; omega)) lit_one_eq.symm
  unfold val_main_v21 productRow projected
  refine (dots_apply dot_S8x2048x1024_S1024x1536_S8x2048x1536_2_0_01_1_n_n.wf _ _ s t n).trans ?_
  exact Finset.sum_congr rfl fun k _ => congrArg (· * _) (h k)

/-- The context tokens' product. -/
theorem context_apply (s : Fin 8) (t : Fin 256) (n : Fin 1536) :
    val_main_v30 (F := Ideal) x0 x1 x2 (ix3 s t n) = productRow x0 x1 x2 8 ⟨16384 + (256 * s.val + t.val), by omega⟩ n := by
  have h (k : Fin 1024) : val_main_v29 (F := Ideal) x0 x1 (ix3 s t k)
      = x1 (ix2 ⟨16384 + (256 * s.val + t.val), by omega⟩ k) * (lit 0x3F800000#32 + x0 (ix4 1 8 4 k)) + x0 (ix4 1 8 3 k) := by
    unfold val_main_v29 val_main_v28 val_main_v27 val_main_v26 val_main_v25 val_main_v24 val_main_cst_0 val_main_v23 val_main_v22
      val_main_v12 val_main_v11 val_main_v10 val_main_v9 val_main_v8 val_main_v7
    pointwise
    exact congrArg₂ (fun (a : Fin 18432) (b : EReal) => x1 (ix2 a k) * (b + x0 (ix4 1 8 4 k)) + x0 (ix4 1 8 3 k))
      (Fin.ext (by dsimp only; omega)) lit_one_eq.symm
  unfold val_main_v30 productRow projected
  refine (dots_apply dot_S8x256x1024_S1024x1536_S8x256x1536_2_0_01_1_n_n.wf _ _ s t n).trans ?_
  exact Finset.sum_congr rfl fun k _ => congrArg (· * _) (h k)

/-- Rows at equal places are equal. -/
theorem row_congr {s s' : Fin 16} {T T' : Fin 18432} {n n' : Fin 1536} (hs : s.val = s'.val) (hT : T.val = T'.val) (hn : n.val = n'.val) :
    productRow x0 x1 x2 s T n = productRow x0 x1 x2 s' T' n' := by
  obtain rfl := Fin.ext hs
  obtain rfl := Fin.ext hT
  obtain rfl := Fin.ext hn
  rfl

/-- An entry of the product, at any column. -/
def product (T : Fin 18432) (n : ℕ) : EReal := productRow x0 x1 x2 (modsOf T) T ⟨n % 1536, Nat.mod_lt _ (by decide)⟩

/-- An entry of the product at a turned column. -/
def turnedAt (T : Fin 18432) (n : ℕ) : EReal :=
  if T.val < 16384 then
    product x0 x1 x2 T n * Ideal.cos (angle ⟨T.val % 2048, Nat.mod_lt _ (by decide)⟩ n)
      + product x0 x1 x2 T (n / 128 * 128 + (partner ⟨n % 128, Nat.mod_lt _ (by decide)⟩).val) * (Ideal.sin (angle ⟨T.val % 2048, Nat.mod_lt _ (by decide)⟩ n) * sign n)
  else product x0 x1 x2 T n

/-- Taking a product away adds it with the sign of its second factor turned. -/
theorem minus_eq (p q r : EReal) : p - q * r = p + q * (r * -1) := by
  rw [sub_eq_add_neg, mul_neg, mul_neg, mul_one]

set_option maxHeartbeats 1600000 in
/-- The heads of the latent tokens' queries and keys, turned. -/
theorem heads_apply (s : Fin 8) (t : Fin 2048) (h : Fin 20) (e : Fin 64) :
    val_main_v90 (F := Ideal) x0 x1 x2 (ix4 s t h e)
      = val_main_v21 (F := Ideal) x0 x1 x2 (ix3 s t ⟨64 * h.val + e.val, by omega⟩) * Ideal.cos (angle t e.val)
        + val_main_v21 (F := Ideal) x0 x1 x2 (ix3 s t ⟨64 * h.val + (if e.val % 32 < 16 then e.val + 16 else e.val - 16), by split_ifs <;> omega⟩)
          * (Ideal.sin (angle t e.val) * sign e.val) := by
  unfold val_main_v90 val_main_v89 val_main_v88 val_main_v87 val_main_v86 val_main_v85 val_main_v84 val_main_v83 val_main_v82 val_main_v81 val_main_v80
    val_main_v79 val_main_v78 val_main_v77 val_main_v76 val_main_v75 val_main_v74 val_main_v73 val_main_v67 val_main_v66 val_main_v65 val_main_v64 val_main_v63
    val_main_v62 val_main_v61 val_main_v60 val_main_v59 val_main_v58 val_main_v57 val_main_v56 val_main_v55 val_main_v54 val_main_v53 val_main_v52 val_main_v51
    val_main_v50 val_main_v44 val_main_v32 val_main_v31
  unfold angle sign
  generalize val_main_v21 (F := Ideal) x0 x1 x2 = z
  generalize val_main_v49 (F := Ideal) = a
  generalize val_main_v72 (F := Ideal) = b
  pointwise
  have cz {p q : Fin 1536} (h : p.val = q.val) : z (ix3 s t p) = z (ix3 s t q) := congrArg (fun p => z (ix3 s t p)) (Fin.ext h)
  have cc {w : 𝕍 S2048x16 .f32} {p q : Fin 16} (h : p.val = q.val) : Ideal.cos (w (ix2 t p)) = Ideal.cos (w (ix2 t q)) :=
    congrArg (fun p => Ideal.cos (w (ix2 t p))) (Fin.ext h)
  have cs {w : 𝕍 S2048x16 .f32} {p q : Fin 16} {v : EReal} (h : p.val = q.val) : Ideal.sin (w (ix2 t p)) * v = Ideal.sin (w (ix2 t q)) * v :=
    congrArg (fun p => Ideal.sin (w (ix2 t p)) * v) (Fin.ext h)
  have he := e.isLt
  by_cases h32 : e.val < 32
  all_goals
    by_cases h16 : e.val % 32 < 16
    all_goals
      simp only [h16, if_true, if_false]
      first | rw [if_pos (show e.val % 64 < 32 by omega)] | rw [if_neg (show ¬ e.val % 64 < 32 by omega)]
      split_ifs
      all_goals first
        | omega
        | exact (minus_eq _ _ _).trans (congrArg₂ (· + ·) (congrArg₂ (· * ·) (cz (by dsimp only; omega)) (cc (by dsimp only; omega)))
            (congrArg₂ (· * ·) (cz (by dsimp only; omega)) (cs (by dsimp only; omega))))
        | exact congrArg₂ (· + ·) (congrArg₂ (· * ·) (cz (by dsimp only; omega)) (cc (by dsimp only; omega)))
            (congrArg₂ (· * ·) (cz (by dsimp only; omega)) ((mul_one _).symm.trans (cs (by dsimp only; omega))))

/-- The angle of a column is that of its place in its head. -/
theorem angle_mod (t : Fin 2048) (n : ℕ) : angle t (n % 64) = angle t n := by
  unfold angle
  rw [Nat.mod_mod]
  exact congrArg (fun p => (if n % 64 < 32 then val_main_v49 (F := Ideal) else val_main_v72 (F := Ideal)) (ix2 t p)) (Fin.ext (by dsimp only; omega))

/-- The sign of a column is that of its place in its head. -/
theorem sign_mod (n : ℕ) : sign (n % 64) = sign n := by
  unfold sign
  rw [show n % 64 % 32 = n % 32 by omega]

/-- Two blocks of rows, one over the other, read at an entry. -/
theorem stacked_apply {N : ℕ} (w : 𝕍 (⟨2, ![16384, N]⟩ : Shape) .f32) (z : 𝕍 (⟨2, ![2048, N]⟩ : Shape) .f32) (h) (T : Fin 18432) (n : Fin N) :
    (concatenate (⟨2, ![18432, N]⟩ : Shape) 0 [⟨⟨2, ![16384, N]⟩, w⟩, ⟨⟨2, ![2048, N]⟩, z⟩] h : 𝕍 _ .f32) (ix2 T n)
      = if h : T.val < 16384 then w (ix2 ⟨T.val, h⟩ n) else z (ix2 ⟨T.val - 16384, by omega⟩ n) := by
  split
  · rename_i hT
    refine concatenate_pair_apply_left (t := ⟨2, ![18432, N]⟩) (s₁ := ⟨2, ![16384, N]⟩) (s₂ := ⟨2, ![2048, N]⟩) 0 w z h (ix2 T n) rfl (ix2 ⟨T.val, hT⟩ n) fun b => ?_
    match b with
    | 0 => rfl
    | 1 => rfl
  · rename_i hT
    refine concatenate_pair_apply_right (t := ⟨2, ![18432, N]⟩) (s₁ := ⟨2, ![16384, N]⟩) (s₂ := ⟨2, ![2048, N]⟩) 0 w z h (ix2 T n) rfl rfl (ix2 ⟨T.val - 16384, by omega⟩ n) (fun b hb => ?_) ?_
    · match b with
      | 0 => exact absurd rfl hb
      | 1 => rfl
    · show T.val - 16384 + 16384 = T.val
      omega

/-- The queries and keys of all tokens, turned. -/
theorem joined_apply (T : Fin 18432) (n : Fin 1280) :
    val_main_v94 (F := Ideal) x0 x1 x2 (ix2 T n) = turnedAt x0 x1 x2 T n.val := by
  have context (u : Fin 2048) : val_main_v93 (F := Ideal) x0 x1 x2 (ix2 u n)
      = val_main_v30 (F := Ideal) x0 x1 x2 (ix3 ⟨u.val / 256, by omega⟩ ⟨u.val % 256, by omega⟩ ⟨n.val, by omega⟩) := by
    unfold val_main_v93 val_main_v92
    generalize val_main_v30 (F := Ideal) x0 x1 x2 = z
    pointwise
  have h : val_main_v94 (F := Ideal) x0 x1 x2 (ix2 T n)
      = if h : T.val < 16384 then val_main_v90 (F := Ideal) x0 x1 x2 (ix4 ⟨T.val / 2048, by omega⟩ ⟨T.val % 2048, by omega⟩ ⟨n.val / 64, by omega⟩ ⟨n.val % 64, by omega⟩)
        else val_main_v30 (F := Ideal) x0 x1 x2 (ix3 ⟨(T.val - 16384) / 256, by omega⟩ ⟨(T.val - 16384) % 256, by omega⟩ ⟨n.val, by omega⟩) := by
    unfold val_main_v94
    refine (stacked_apply (N := 1280) _ _ _ T n).trans ?_
    unfold val_main_v91
    generalize val_main_v90 (F := Ideal) x0 x1 x2 = w
    by_cases hT : T.val < 16384
    · rw [dif_pos hT, dif_pos hT]
      pointwise
    · rw [dif_neg hT, dif_neg hT]
      exact context _
  rw [h]
  unfold turnedAt
  split
  · rename_i hT
    rw [heads_apply, latent_apply, latent_apply]
    dsimp only
    rw [angle_mod, sign_mod]
    unfold product
    refine congrArg₂ (· + ·) (congrArg (· * _) ?_) (congrArg (· * _) ?_)
    · exact row_congr x0 x1 x2 (by show T.val / 2048 = min (T.val / 2048) 8; omega) (by dsimp only; omega) (by dsimp only; omega)
    · refine row_congr x0 x1 x2 (by show T.val / 2048 = min (T.val / 2048) 8; omega) (by dsimp only; omega) ?_
      unfold partner
      dsimp only
      rw [show n.val % 128 % 32 = n.val % 64 % 32 by omega]
      split <;> dsimp only <;> omega
  · rw [context_apply]
    unfold product
    exact row_congr x0 x1 x2 (by show 8 = min (T.val / 2048) 8; omega) (by dsimp only; omega) (by dsimp only; omega)

/-- The values of all tokens. -/
theorem values_apply (T : Fin 18432) (n : Fin 256) :
    val_main_v99 (F := Ideal) x0 x1 x2 (ix2 T n) = product x0 x1 x2 T (1280 + n.val) := by
  have context (u : Fin 2048) : val_main_v98 (F := Ideal) x0 x1 x2 (ix2 u n)
      = val_main_v30 (F := Ideal) x0 x1 x2 (ix3 ⟨u.val / 256, by omega⟩ ⟨u.val % 256, by omega⟩ ⟨1280 + n.val, by omega⟩) := by
    unfold val_main_v98 val_main_v97
    generalize val_main_v30 (F := Ideal) x0 x1 x2 = z
    pointwise
  have h : val_main_v99 (F := Ideal) x0 x1 x2 (ix2 T n)
      = if h : T.val < 16384 then val_main_v21 (F := Ideal) x0 x1 x2 (ix3 ⟨T.val / 2048, by omega⟩ ⟨T.val % 2048, by omega⟩ ⟨1280 + n.val, by omega⟩)
        else val_main_v30 (F := Ideal) x0 x1 x2 (ix3 ⟨(T.val - 16384) / 256, by omega⟩ ⟨(T.val - 16384) % 256, by omega⟩ ⟨1280 + n.val, by omega⟩) := by
    unfold val_main_v99
    refine (stacked_apply (N := 256) _ _ _ T n).trans ?_
    unfold val_main_v96 val_main_v95
    generalize val_main_v21 (F := Ideal) x0 x1 x2 = w
    by_cases hT : T.val < 16384
    · rw [dif_pos hT, dif_pos hT]
      pointwise
    · rw [dif_neg hT, dif_neg hT]
      exact context _
  rw [h]
  unfold product
  split
  · rw [latent_apply]
    exact row_congr x0 x1 x2 (by show T.val / 2048 = min (T.val / 2048) 8; omega) (by dsimp only; omega) (by dsimp only; omega)
  · rw [context_apply]
    exact row_congr x0 x1 x2 (by show 8 = min (T.val / 2048) 8; omega) (by dsimp only; omega) (by dsimp only; omega)

/-- The reference's queries. -/
theorem queries_apply (T : Fin 18432) (j : Fin 1024) :
    val_main_v115 (F := Ideal) x0 x1 x2 (ix2 T j) = turnedAt x0 x1 x2 T j.val * (((8 * Real.log 2)⁻¹ : ℝ) : EReal) := by
  rw [← joined_apply x0 x1 x2 T ⟨j.val, by omega⟩, ← Cert.QkvNaProof.Ref.scaled_eq]
  unfold val_main_v115 val_main_v105 val_main_v104 val_main_v103 val_main_cst_5 val_main_v102 val_main_v101 val_main_cst_4 val_main_v100
  generalize val_main_v94 (F := Ideal) x0 x1 x2 = z
  pointwise

/-- The reference's keys, every head twice. -/
theorem keys_apply (T : Fin 18432) (j : Fin 512) :
    val_main_v111 (F := Ideal) x0 x1 x2 (ix2 T j) = turnedAt x0 x1 x2 T (1024 + 64 * (j.val / 128) + j.val % 64) := by
  rw [← joined_apply x0 x1 x2 T ⟨1024 + 64 * (j.val / 128) + j.val % 64, by omega⟩]
  unfold val_main_v111 val_main_v110 val_main_v109 val_main_v107 val_main_v106
  generalize val_main_v94 (F := Ideal) x0 x1 x2 = z
  pointwise
  split_ifs <;> exact congrArg (fun n => z (ix2 T n)) (Fin.ext (by dsimp only; omega))

/-- The reference's values, every head twice. -/
theorem doubled_apply (T : Fin 18432) (j : Fin 512) :
    val_main_v114 (F := Ideal) x0 x1 x2 (ix2 T j) = product x0 x1 x2 T (1280 + 64 * (j.val / 128) + j.val % 64) := by
  rw [show 1280 + 64 * (j.val / 128) + j.val % 64 = 1280 + (64 * (j.val / 128) + j.val % 64) by omega,
    ← values_apply x0 x1 x2 T ⟨64 * (j.val / 128) + j.val % 64, by omega⟩]
  unfold val_main_v114 val_main_v113 val_main_v112 val_main_v108
  generalize val_main_v99 (F := Ideal) x0 x1 x2 = z
  pointwise
  split_ifs <;> exact congrArg (fun n => z (ix2 T n)) (Fin.ext (by dsimp only; omega))

end Cert.QkvWaProof.Ref
-- ==== Proof.QkvWaValue.lean ====
module
public import proofs.«01_k».proof.Defs
public import proofs.«01_k».proof.Proof.QkvWaBlock
public import proofs.«01_k».proof.Proof.QkvWaReferenceRows
@[expose] public section
set_option maxRecDepth 16384
noncomputable section

/-! The arrays `qkv_wa_1` leaves are the reference's queries, keys and values. -/

namespace Cert.QkvWaProof
open Cert.QkvWaKernelIdeal Cert.QkvWaKernelIdeal.Gen Idealize.ShloMosaic Idealize.ShloMosaic.TcCoe Idealize.SL.Sem
open Idealize.ShloMosaic.Pointwise Cert.FfnProof Cert.FfnProof.Ref Cert.QkvNaProof
local notation "𝕍" => FVec Ideal

/-- The blocks' places. -/
theorem places : ∀ t : Fin cfg0.N, win0_0.index t = ![1, min (t.val / 4) 8, 0, 0] ∧ win0_1.index t = ![t.val, 0]
    ∧ win0_2.index t = ![if t.val < 32 then t.val % 4 else 4, 0] ∧ win0_3.index t = ![if t.val < 32 then t.val % 4 else 4, 0]
    ∧ win0_4.index t = ![0, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

/-- The modulation block's element. -/
theorem mods_at (c : Dev nD) (t : Fin cfg0.N) (k : Fin 9) (j : Fin 1024) :
    iblk m c 0 t (ix4 0 0 k j) = (m ((c : Thread nD τ).loc main_arg0) : 𝕍 S2x16x9x1024 .f32) (ix4 1 ⟨min (t.val / 4) 8, by omega⟩ k j) := by
  refine Eq.trans ?_ (congrFun (V_main_arg0 m c) _)
  unfold iblk
  generalize V m c = W
  blk_ext [places t]

/-- The token block's element. -/
theorem tokens_at (c : Dev nD) (t : Fin cfg0.N) (r : Fin 512) (j : Fin 1024) :
    iblk m c 1 t (ix2 r j) = (m ((c : Thread nD τ).loc main_arg1) : 𝕍 S18432x1024 .f32) (ix2 ⟨512 * t.val + r.val, by have : t.val < 36 := t.isLt; omega⟩ j) := by
  refine Eq.trans ?_ (congrFun (V_main_arg1 m c) _)
  unfold iblk
  generalize V m c = W
  blk_ext [places t]

/-- The matrix. -/
theorem matrix_at (c : Dev nD) (t : Fin cfg0.N) (k : Fin 1024) (n : Fin 1536) :
    iblk m c 4 t (ix2 k n) = (m ((c : Thread nD τ).loc main_arg2) : 𝕍 S1024x1536 .bf16) (ix2 k n) := by
  refine Eq.trans ?_ (congrFun (V_main_arg2 m c) _)
  unfold iblk
  generalize V m c = W
  blk_ext [places t]

/-- The row of the tables that a block's row takes. -/
def tableRow (t : Fin cfg0.N) (r : Fin 512) : Fin 2560 :=
  ⟨512 * (if t.val < 32 then t.val % 4 else 4) + r.val, by split_ifs <;> omega⟩

/-- The block of cosines. -/
theorem cosines_at (c : Dev nD) (t : Fin cfg0.N) (r : Fin 512) (l : Fin 128) :
    iblk m c 2 t (ix2 r l) = if h : (tableRow t r).val < 2048 then Ideal.cos (angle ⟨(tableRow t r).val, h⟩ l.val) else 1 := by
  refine Eq.trans ?_ (cosine_apply m c (tableRow t r) l)
  unfold iblk tableRow
  generalize V m c = W
  blk_ext [places t]

/-- The block of sines. -/
theorem sines_at (c : Dev nD) (t : Fin cfg0.N) (r : Fin 512) (l : Fin 128) :
    iblk m c 3 t (ix2 r l) = if h : (tableRow t r).val < 2048 then Ideal.sin (angle ⟨(tableRow t r).val, h⟩ l.val) * sign l.val else 0 := by
  refine Eq.trans ?_ (sine_apply m c (tableRow t r) l)
  unfold iblk tableRow
  generalize V m c = W
  blk_ext [places t]

/-- A row of the product is the reference's. -/
theorem product_eq (c : Dev nD) (t : Fin cfg0.N) (r : Fin 512) (n : ℕ) (T : Fin 18432) (hT : T.val = 512 * t.val + r.val) :
    blockProduct (iblk m c 0 t) (iblk m c 1 t) (iblk m c 4 t) r n
      = Ref.product (m ((c : Thread nD τ).loc main_arg0)) (m ((c : Thread nD τ).loc main_arg1)) (m ((c : Thread nD τ).loc main_arg2)) T n := by
  have ht : t.val < 36 := t.isLt
  have hs : (⟨min (t.val / 4) 8, by omega⟩ : Fin 16) = modsOf T := Fin.ext (by show min (t.val / 4) 8 = min (T.val / 2048) 8; omega)
  have hr : (⟨512 * t.val + r.val, by omega⟩ : Fin 18432) = T := Fin.ext hT.symm
  unfold blockProduct Ref.product Ref.productRow
  simp only [mods_at, tokens_at, matrix_at, hs, hr]

/-- A row of the product, its columns turned, is the reference's. -/
theorem turned_eq (c : Dev nD) (t : Fin cfg0.N) (r : Fin 512) (n : ℕ) (T : Fin 18432) (hT : T.val = 512 * t.val + r.val) :
    blockTurned (iblk m c 0 t) (iblk m c 1 t) (iblk m c 2 t) (iblk m c 3 t) (iblk m c 4 t) r n
      = Ref.turnedAt (m ((c : Thread nD τ).loc main_arg0)) (m ((c : Thread nD τ).loc main_arg1)) (m ((c : Thread nD τ).loc main_arg2)) T n := by
  have ht : t.val < 36 := t.isLt
  have hr := r.isLt
  unfold blockTurned Ref.turnedAt
  rw [product_eq m c t r _ T hT, product_eq m c t r _ T hT, cosines_at, sines_at]
  by_cases h : T.val < 16384
  · have h2 : (tableRow t r).val = T.val % 2048 := by
      unfold tableRow
      dsimp only
      rw [if_pos (by omega)]
      omega
    have h3 (l : ℕ) (hl) : angle ⟨(tableRow t r).val, hl⟩ (l % 128) = angle ⟨T.val % 2048, Nat.mod_lt _ (by decide)⟩ l := by
      rw [← Ref.angle_mod, ← Ref.angle_mod _ l, show l % 128 % 64 = l % 64 by omega]
      exact congrArg (fun p => angle p (l % 64)) (Fin.ext h2)
    have h4 : sign (n % 128) = sign n := by
      rw [← Ref.sign_mod, ← Ref.sign_mod n, show n % 128 % 64 = n % 64 by omega]
    have hl : (tableRow t r).val < 2048 := by omega
    rw [if_pos h, dif_pos hl, dif_pos hl, h3, h4]
  · have hl : ¬ (tableRow t r).val < 2048 := by
      unfold tableRow
      dsimp only
      rw [if_neg (by omega)]
      omega
    rw [if_neg h, dif_neg hl, dif_neg hl, mul_one, mul_zero, add_zero]

/-- The queries the kernel leaves are the reference's. -/
theorem queries_final (c : Dev nD) : (dats m 0 c).arrAt 5 cfg0.N
    = Cert.QkvWaReferenceIdeal.Read.val_main_v115 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  simp only [outsAt0]
  have ht : t.val < 36 := t.isLt
  have y0 : (y 0).val < 512 := (y 0).isLt
  rw [query_block]
  rw [turned_eq m c t (y 0) _ ⟨512 * t.val + (y 0).val, by omega⟩ rfl]
  refine (Ref.queries_apply _ _ _ _ (y 1)).symm.trans (congrArg _ ?_)
  blk_ext [places t]

/-- The keys the kernel leaves are the reference's. -/
theorem keys_final (c : Dev nD) : (dats m 0 c).arrAt 6 cfg0.N
    = Cert.QkvWaReferenceIdeal.Read.val_main_v111 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  simp only [outsAt0]
  have ht : t.val < 36 := t.isLt
  have y0 : (y 0).val < 512 := (y 0).isLt
  rw [key_block]
  rw [turned_eq m c t (y 0) _ ⟨512 * t.val + (y 0).val, by omega⟩ rfl]
  refine (Ref.keys_apply _ _ _ _ (y 1)).symm.trans (congrArg _ ?_)
  blk_ext [places t]

/-- The values the kernel leaves are the reference's. -/
theorem values_final (c : Dev nD) : (dats m 0 c).arrAt 7 cfg0.N
    = Cert.QkvWaReferenceIdeal.Read.val_main_v114 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  simp only [outsAt0]
  have ht : t.val < 36 := t.isLt
  have y0 : (y 0).val < 512 := (y 0).isLt
  rw [value_block]
  rw [product_eq m c t (y 0) _ ⟨512 * t.val + (y 0).val, by omega⟩ rfl]
  refine (Ref.doubled_apply _ _ _ _ (y 1)).symm.trans (congrArg _ ?_)
  blk_ext [places t]

end Cert.QkvWaProof
-- ==== Proof.lean ====
module

public import proofs.«01_k».proof.Defs
public import proofs.«01_k».proof.Proof.Gen.WaReferenceIdeal.Run
public import proofs.«01_k».proof.Proof.Gen.WaReferenceIdeal.Read
public import proofs.«01_k».proof.Proof.Gen.WaKernelIdeal.Value
public import proofs.«01_k».proof.Proof.WaValue
public import proofs.«01_k».proof.Proof.Gen.WaKernel
public import proofs.«01_k».proof.Proof.Gen.WaKernel.Skeleton
public import proofs.«01_k».proof.Proof.Gen.WaKernel.Launch
public import proofs.«01_k».proof.Proof.Gen.WaKernel.Points
public import proofs.«01_k».proof.Proof.Gen.WaKernel.Frame
public import proofs.«01_k».proof.Proof.Gen.WaKernelIdeal
public import proofs.«01_k».proof.Proof.Gen.WaKernelIdeal.Skeleton
public import proofs.«01_k».proof.Proof.Gen.WaKernelIdeal.Launch
public import proofs.«01_k».proof.Proof.Gen.WaKernelIdeal.Points
public import proofs.«01_k».proof.Proof.Gen.WaKernelIdeal.Frame
public import proofs.«01_k».proof.Proof.Gen.WaReferenceIdeal
public import proofs.«01_k».proof.Proof.Gen.Pre_wa_finite
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Pre_post_finite
public import proofs.«01_k».proof.Proof.Gen.PreKernel
public import proofs.«01_k».proof.Proof.Gen.PreKernel.Skeleton
public import proofs.«01_k».proof.Proof.Gen.PreKernel.Launch
public import proofs.«01_k».proof.Proof.Gen.PreKernel.Points
public import proofs.«01_k».proof.Proof.Gen.PreKernel.Frame
public import proofs.«01_k».proof.Proof.Gen.PreKernelIdeal
public import proofs.«01_k».proof.Proof.Gen.PreKernelIdeal.Skeleton
public import proofs.«01_k».proof.Proof.Gen.PreKernelIdeal.Launch
public import proofs.«01_k».proof.Proof.Gen.PreKernelIdeal.Points
public import proofs.«01_k».proof.Proof.Gen.PreKernelIdeal.Frame
public import proofs.«01_k».proof.Proof.Gen.PreKernelIdeal.Value
public import proofs.«01_k».proof.Proof.Gen.PreReferenceIdeal
public import proofs.«01_k».proof.Proof.Gen.PreReferenceIdeal.Run
public import proofs.«01_k».proof.Proof.Gen.PreReferenceIdeal.Read
public import proofs.«01_k».proof.Proof.Gen.Pre_pre_finite
public import proofs.«01_k».proof.Proof.Gen.PostFirstKernel
public import proofs.«01_k».proof.Proof.Gen.PostFirstKernel.Skeleton
public import proofs.«01_k».proof.Proof.Gen.PostFirstKernel.Launch
public import proofs.«01_k».proof.Proof.Gen.PostFirstKernel.Points
public import proofs.«01_k».proof.Proof.Gen.PostFirstKernel.Frame
public import proofs.«01_k».proof.Proof.Gen.PostFirstKernelIdeal
public import proofs.«01_k».proof.Proof.Gen.PostFirstKernelIdeal.Skeleton
public import proofs.«01_k».proof.Proof.Gen.PostFirstKernelIdeal.Launch
public import proofs.«01_k».proof.Proof.Gen.PostFirstKernelIdeal.Points
public import proofs.«01_k».proof.Proof.Gen.PostFirstKernelIdeal.Frame
public import proofs.«01_k».proof.Proof.Gen.PostFirstKernelIdeal.Value
public import proofs.«01_k».proof.Proof.Gen.PostFirstReferenceIdeal
public import proofs.«01_k».proof.Proof.Gen.PostFirstReferenceIdeal.Run
public import proofs.«01_k».proof.Proof.Gen.PostFirstReferenceIdeal.Read
public import proofs.«01_k».proof.Proof.Gen.Pre_post_first_finite
public import proofs.«01_k».proof.Proof.Gen.PreFirstKernel
public import proofs.«01_k».proof.Proof.Gen.PreFirstKernel.Skeleton
public import proofs.«01_k».proof.Proof.Gen.PreFirstKernel.Launch
public import proofs.«01_k».proof.Proof.Gen.PreFirstKernel.Points
public import proofs.«01_k».proof.Proof.Gen.PreFirstKernel.Frame
public import proofs.«01_k».proof.Proof.Gen.PreFirstKernelIdeal
public import proofs.«01_k».proof.Proof.Gen.PreFirstKernelIdeal.Skeleton
public import proofs.«01_k».proof.Proof.Gen.PreFirstKernelIdeal.Launch
public import proofs.«01_k».proof.Proof.Gen.PreFirstKernelIdeal.Points
public import proofs.«01_k».proof.Proof.Gen.PreFirstKernelIdeal.Frame
public import proofs.«01_k».proof.Proof.Gen.PreFirstKernelIdeal.Value
public import proofs.«01_k».proof.Proof.Gen.PreFirstReferenceIdeal
public import proofs.«01_k».proof.Proof.Gen.PreFirstReferenceIdeal.Run
public import proofs.«01_k».proof.Proof.Gen.PreFirstReferenceIdeal.Read
public import proofs.«01_k».proof.Proof.Gen.QkvNaKernel
public import proofs.«01_k».proof.Proof.Gen.QkvNaKernel.Skeleton
public import proofs.«01_k».proof.Proof.Gen.QkvNaKernel.Launch
public import proofs.«01_k».proof.Proof.Gen.QkvNaKernel.Points
public import proofs.«01_k».proof.Proof.Gen.QkvNaKernel.Frame
public import proofs.«01_k».proof.Proof.Gen.QkvNaKernelIdeal
public import proofs.«01_k».proof.Proof.Gen.QkvNaKernelIdeal.Skeleton
public import proofs.«01_k».proof.Proof.Gen.QkvNaKernelIdeal.Launch
public import proofs.«01_k».proof.Proof.Gen.QkvNaKernelIdeal.Points
public import proofs.«01_k».proof.Proof.Gen.QkvNaKernelIdeal.Frame
public import proofs.«01_k».proof.Proof.Gen.QkvNaKernelIdeal.Value
public import proofs.«01_k».proof.Proof.Gen.QkvNaReferenceIdeal
public import proofs.«01_k».proof.Proof.Gen.QkvNaReferenceIdeal.Run
public import proofs.«01_k».proof.Proof.Gen.QkvNaReferenceIdeal.Read
public import proofs.«01_k».proof.Proof.Gen.QkvWaKernel
public import proofs.«01_k».proof.Proof.Gen.QkvWaKernel.Skeleton
public import proofs.«01_k».proof.Proof.Gen.QkvWaKernel.Launch
public import proofs.«01_k».proof.Proof.Gen.QkvWaKernel.Points
public import proofs.«01_k».proof.Proof.Gen.QkvWaKernel.Frame
public import proofs.«01_k».proof.Proof.Gen.QkvWaKernelIdeal
public import proofs.«01_k».proof.Proof.Gen.QkvWaKernelIdeal.Skeleton
public import proofs.«01_k».proof.Proof.Gen.QkvWaKernelIdeal.Launch
public import proofs.«01_k».proof.Proof.Gen.QkvWaKernelIdeal.Points
public import proofs.«01_k».proof.Proof.Gen.QkvWaKernelIdeal.Frame
public import proofs.«01_k».proof.Proof.Gen.QkvWaKernelIdeal.Value
public import proofs.«01_k».proof.Proof.Gen.QkvWaReferenceIdeal
public import proofs.«01_k».proof.Proof.Gen.QkvWaReferenceIdeal.Run
public import proofs.«01_k».proof.Proof.Gen.QkvWaReferenceIdeal.Read
public import proofs.«01_k».proof.Proof.Gen.Pre_pre_first_finite
public import proofs.«01_k».proof.Proof.PostValue
public import proofs.«01_k».proof.Proof.PreValue
public import proofs.«01_k».proof.Proof.PostFirstValue
public import proofs.«01_k».proof.Proof.PreFirstValue
public import proofs.«01_k».proof.Proof.QkvNaValue
public import proofs.«01_k».proof.Proof.QkvWaValue
public import Idealize.ShloMosaic.Adequacy
public import Idealize.ShloMosaic.Init

@[expose] public section

noncomputable section

namespace Cert.Proof

open Idealize.ShloMosaic Idealize.SL.Sem Cert.WaKernel

/-- The reference ends with its arguments unchanged and, having no semaphores, with none counted up. -/
theorem reference_frame : Cert.quiescent_WaReferenceIdeal (hWaReferenceIdeal := Cert.WaReferenceIdeal.Gen.facts) := fun m ρ _ =>
  (θ_run (Cert.WaReferenceIdeal.defs (F := Ideal)) _ _).mono (fun r h => ⟨fun c => (h c).2, sem_eq_zero_of_no_sems (by decide) r.2⟩)
    (Cert.WaReferenceIdeal.Value.run (F := Ideal) m ρ)

/-- The kernel's array and the reference's are one, whenever the sinks, queries and keys are finite. -/
theorem algebraic : Cert.algebraic_WaKernelIdeal_WaReferenceIdeal_pre_wa_finite (hWaKernelIdeal := Cert.WaKernelIdeal.Gen.facts)
    (hWaReferenceIdeal := Cert.WaReferenceIdeal.Gen.facts) (hPre_wa_finite := Cert.Pre_wa_finite.Gen.facts) := by
  intro m ρ m' ρ' hpre hag
  refine ⟨fun c => (Cert.WaKernelIdeal.Gen.dats m 0 c).arrAt 6 Cert.WaKernelIdeal.cfg0.N, Cert.WaKernelIdeal.Value.run_blocks m ρ, ?_⟩
  refine (θ_run (Cert.WaReferenceIdeal.defs (F := Ideal)) _ _).mono (fun r h c => ⟨(h c).1.trans ?_, (h c).2⟩) (Cert.WaReferenceIdeal.Value.run (F := Ideal) m' ρ')
  obtain ⟨a0, a1, a2, a3⟩ := hag c
  obtain ⟨f0, f1, f2⟩ := hpre c
  rw [Cert.WaReferenceIdeal.Read.val_main_v62_eq, a0, a1, a2, a3]
  exact (Cert.WaProof.final m c (Cert.WaProof.sinks_real _ _ _ _ f0) (Cert.WaProof.queries_real _ _ _ _ f1) (Cert.WaProof.keys_real _ _ _ _ f2)).symm

/-- The second reference ends with its arguments unchanged and no semaphore counted up. -/
theorem post_reference_frame : Cert.quiescent_PostReferenceIdeal (hPostReferenceIdeal := Cert.PostReferenceIdeal.Gen.facts) := fun m ρ _ =>
  (θ_run (Cert.PostReferenceIdeal.defs (F := Ideal)) _ _).mono (fun r h => ⟨fun c => (h c).2, sem_eq_zero_of_no_sems (by decide) r.2⟩)
    (Cert.PostReferenceIdeal.Value.run (F := Ideal) m ρ)

/-- The array `post_1` leaves and the reference's are one, whenever what enters the layer normalisations is finite. -/
theorem post_algebraic : Cert.algebraic_PostKernelIdeal_PostReferenceIdeal_pre_post_finite (hPostKernelIdeal := Cert.PostKernelIdeal.Gen.facts)
    (hPostReferenceIdeal := Cert.PostReferenceIdeal.Gen.facts) (hPre_post_finite := Cert.Pre_post_finite.Gen.facts) := by
  intro m ρ m' ρ' hpre hag
  refine ⟨fun c => (Cert.PostKernelIdeal.Gen.dats m 0 c).arrAt 8 Cert.PostKernelIdeal.cfg0.N, Cert.PostKernelIdeal.Value.run_blocks m ρ, ?_⟩
  refine (θ_run (Cert.PostReferenceIdeal.defs (F := Ideal)) _ _).mono (fun r h c => ⟨(h c).1.trans ?_, (h c).2⟩) (Cert.PostReferenceIdeal.Value.run (F := Ideal) m' ρ')
  obtain ⟨a0, a1, a2, a3, a4, a5, a6, a7⟩ := hag c
  rw [Cert.PostReferenceIdeal.Read.val_main_v115_eq]
  change Cert.PostReferenceIdeal.Read.val_main_v115 (F := Ideal) (m' (c.tc.loc Cert.PostReferenceIdeal.main_arg0)) (m' (c.tc.loc Cert.PostReferenceIdeal.main_arg1))
    (m' (c.tc.loc Cert.PostReferenceIdeal.main_arg2)) (m' (c.tc.loc Cert.PostReferenceIdeal.main_arg3)) (m' (c.tc.loc Cert.PostReferenceIdeal.main_arg4))
    (m' (c.tc.loc Cert.PostReferenceIdeal.main_arg5)) (m' (c.tc.loc Cert.PostReferenceIdeal.main_arg6)) (m' (c.tc.loc Cert.PostReferenceIdeal.main_arg7)) = _
  rw [a0, a1, a2, a3, a4, a5, a6, a7]
  exact (Cert.PostProof.final m c (Cert.PostProof.finite_of _ _ _ _ _ _ _ _ (hpre c))).symm

/-- The third reference ends with its arguments unchanged and no semaphore counted up. -/
theorem pre_reference_frame : Cert.quiescent_PreReferenceIdeal (hPreReferenceIdeal := Cert.PreReferenceIdeal.Gen.facts) := fun m ρ _ =>
  (θ_run (Cert.PreReferenceIdeal.defs (F := Ideal)) _ _).mono (fun r h => ⟨fun c => (h c).2.2.2.2.2, sem_eq_zero_of_no_sems (by decide) r.2⟩)
    (Cert.PreReferenceIdeal.Value.run (F := Ideal) m ρ)

/-- The arrays `ffn_pre_1` leaves and the reference's are one, whenever what enters the layer normalisation is finite. -/
theorem pre_algebraic : Cert.algebraic_PreKernelIdeal_PreReferenceIdeal_pre_pre_finite (hPreKernelIdeal := Cert.PreKernelIdeal.Gen.facts)
    (hPreReferenceIdeal := Cert.PreReferenceIdeal.Gen.facts) (hPre_pre_finite := Cert.Pre_pre_finite.Gen.facts) := by
  intro m ρ m' ρ' hpre hag
  refine ⟨fun c => (Cert.PreKernelIdeal.Gen.dats m 0 c).arrAt 10 Cert.PreKernelIdeal.cfg0.N, fun c => (Cert.PreKernelIdeal.Gen.dats m 0 c).arrAt 11 Cert.PreKernelIdeal.cfg0.N,
    fun c => (Cert.PreKernelIdeal.Gen.dats m 0 c).arrAt 12 Cert.PreKernelIdeal.cfg0.N, fun c => (Cert.PreKernelIdeal.Gen.dats m 0 c).arrAt 13 Cert.PreKernelIdeal.cfg0.N,
    fun c => (Cert.PreKernelIdeal.Gen.dats m 0 c).arrAt 14 Cert.PreKernelIdeal.cfg0.N, Cert.PreKernelIdeal.Value.run_blocks m ρ, ?_⟩
  refine (θ_run (Cert.PreReferenceIdeal.defs (F := Ideal)) _ _).mono (fun r h c => ?_) (Cert.PreReferenceIdeal.Value.run (F := Ideal) m' ρ')
  obtain ⟨a0, a1, a2, a3, a4, a5, a6, a7, a8, a9⟩ := hag c
  obtain ⟨r0, r1, r2, r3, r4, rest⟩ := h c
  refine ⟨r0.trans ?_, r1.trans ?_, r2.trans ?_, r3.trans ?_, r4.trans ?_, rest⟩
  · rw [Cert.PreReferenceIdeal.Read.val_main_v120_eq, a0, a1, a2, a3, a4, a5]
    exact (Cert.PreProof.final m c (Cert.PreProof.finite_of _ _ _ _ _ _ _ _ _ _ (hpre c))).symm
  · rw [Cert.PreReferenceIdeal.Read.val_main_v123_eq, a6]
    exact (Cert.PreProof.wide_final m c).symm
  · rw [Cert.PreReferenceIdeal.Read.val_main_v126_eq, a7]
    exact (Cert.PreProof.back_final m c).symm
  · rw [Cert.PreReferenceIdeal.Read.val_main_v128_eq, a8]
    exact (Cert.PreProof.mixerIn_final m c).symm
  · rw [Cert.PreReferenceIdeal.Read.val_main_v130_eq, a9]
    exact (Cert.PreProof.mixerOut_final m c).symm

/-- The fourth reference ends with its arguments unchanged and no semaphore counted up. -/
theorem post_first_reference_frame : Cert.quiescent_PostFirstReferenceIdeal (hPostFirstReferenceIdeal := Cert.PostFirstReferenceIdeal.Gen.facts) := fun m ρ _ =>
  (θ_run (Cert.PostFirstReferenceIdeal.defs (F := Ideal)) _ _).mono (fun r h => ⟨fun c => (h c).2.2.2, sem_eq_zero_of_no_sems (by decide) r.2⟩)
    (Cert.PostFirstReferenceIdeal.Value.run (F := Ideal) m ρ)

/-- The arrays `post_0` leaves and the reference's are one, whenever what enters the layer normalisations is finite. -/
theorem post_first_algebraic : Cert.algebraic_PostFirstKernelIdeal_PostFirstReferenceIdeal_pre_post_first_finite
    (hPostFirstKernelIdeal := Cert.PostFirstKernelIdeal.Gen.facts) (hPostFirstReferenceIdeal := Cert.PostFirstReferenceIdeal.Gen.facts)
    (hPre_post_first_finite := Cert.Pre_post_first_finite.Gen.facts) := by
  intro m ρ m' ρ' hpre hag
  refine ⟨fun c => (Cert.PostFirstKernelIdeal.Gen.dats m 0 c).arrAt 11 Cert.PostFirstKernelIdeal.cfg0.N,
    fun c => (Cert.PostFirstKernelIdeal.Gen.dats m 0 c).arrAt 12 Cert.PostFirstKernelIdeal.cfg0.N,
    fun c => (Cert.PostFirstKernelIdeal.Gen.dats m 0 c).arrAt 13 Cert.PostFirstKernelIdeal.cfg0.N, Cert.PostFirstKernelIdeal.Value.run_blocks m ρ, ?_⟩
  refine (θ_run (Cert.PostFirstReferenceIdeal.defs (F := Ideal)) _ _).mono (fun r h c => ?_) (Cert.PostFirstReferenceIdeal.Value.run (F := Ideal) m' ρ')
  obtain ⟨a0, a1, a2, a3, a4, a5, a6, a7, a8, a9, a10⟩ := hag c
  obtain ⟨r0, r1, r2, rest⟩ := h c
  refine ⟨r0.trans ?_, r1.trans ?_, r2.trans ?_, rest⟩
  · rw [Cert.PostFirstReferenceIdeal.Read.val_main_v207_eq]
    change Cert.PostFirstReferenceIdeal.Read.val_main_v207 (F := Ideal) (m' (c.tc.loc Cert.PostFirstReferenceIdeal.main_arg0)) (m' (c.tc.loc Cert.PostFirstReferenceIdeal.main_arg1)) (m' (c.tc.loc Cert.PostFirstReferenceIdeal.main_arg2)) (m' (c.tc.loc Cert.PostFirstReferenceIdeal.main_arg3)) (m' (c.tc.loc Cert.PostFirstReferenceIdeal.main_arg4)) (m' (c.tc.loc Cert.PostFirstReferenceIdeal.main_arg5)) (m' (c.tc.loc Cert.PostFirstReferenceIdeal.main_arg6)) (m' (c.tc.loc Cert.PostFirstReferenceIdeal.main_arg7)) (m' (c.tc.loc Cert.PostFirstReferenceIdeal.main_arg8)) = _
    rw [a0, a1, a2, a3, a4, a5, a6, a7, a8]
    exact (Cert.PostFirstProof.final m c (Cert.PostFirstProof.finite_of _ _ _ _ _ _ _ _ _ _ _ (hpre c))).symm
  · rw [Cert.PostFirstReferenceIdeal.Read.val_main_v210_eq]
    change Cert.PostFirstReferenceIdeal.Read.val_main_v210 (F := Ideal) (m' (c.tc.loc Cert.PostFirstReferenceIdeal.main_arg9)) = _
    rw [a9]
    exact (Cert.PostFirstProof.wide_final m c).symm
  · rw [Cert.PostFirstReferenceIdeal.Read.val_main_v213_eq]
    change Cert.PostFirstReferenceIdeal.Read.val_main_v213 (F := Ideal) (m' (c.tc.loc Cert.PostFirstReferenceIdeal.main_arg10)) = _
    rw [a10]
    exact (Cert.PostFirstProof.back_final m c).symm

/-- The fifth reference ends with its arguments unchanged and no semaphore counted up. -/
theorem pre_first_reference_frame : Cert.quiescent_PreFirstReferenceIdeal (hPreFirstReferenceIdeal := Cert.PreFirstReferenceIdeal.Gen.facts) := fun m ρ _ =>
  (θ_run (Cert.PreFirstReferenceIdeal.defs (F := Ideal)) _ _).mono (fun r h => ⟨fun c => (h c).2.2.2.2.2, sem_eq_zero_of_no_sems (by decide) r.2⟩)
    (Cert.PreFirstReferenceIdeal.Value.run (F := Ideal) m ρ)

/-- The arrays `ffn_pre_0` leaves and the reference's are one, whenever what enters the layer normalisation is finite. -/
theorem pre_first_algebraic : Cert.algebraic_PreFirstKernelIdeal_PreFirstReferenceIdeal_pre_pre_first_finite
    (hPreFirstKernelIdeal := Cert.PreFirstKernelIdeal.Gen.facts) (hPreFirstReferenceIdeal := Cert.PreFirstReferenceIdeal.Gen.facts)
    (hPre_pre_first_finite := Cert.Pre_pre_first_finite.Gen.facts) := by
  intro m ρ m' ρ' hpre hag
  refine ⟨fun c => (Cert.PreFirstKernelIdeal.Gen.dats m 0 c).arrAt 11 Cert.PreFirstKernelIdeal.cfg0.N, fun c => (Cert.PreFirstKernelIdeal.Gen.dats m 0 c).arrAt 12 Cert.PreFirstKernelIdeal.cfg0.N,
    fun c => (Cert.PreFirstKernelIdeal.Gen.dats m 0 c).arrAt 13 Cert.PreFirstKernelIdeal.cfg0.N, fun c => (Cert.PreFirstKernelIdeal.Gen.dats m 0 c).arrAt 14 Cert.PreFirstKernelIdeal.cfg0.N,
    fun c => (Cert.PreFirstKernelIdeal.Gen.dats m 0 c).arrAt 15 Cert.PreFirstKernelIdeal.cfg0.N, Cert.PreFirstKernelIdeal.Value.run_blocks m ρ, ?_⟩
  refine (θ_run (Cert.PreFirstReferenceIdeal.defs (F := Ideal)) _ _).mono (fun r h c => ?_) (Cert.PreFirstReferenceIdeal.Value.run (F := Ideal) m' ρ')
  obtain ⟨a0, a1, a2, a3, a4, a5, a6, a7, a8, a9, a10⟩ := hag c
  obtain ⟨r0, r1, r2, r3, r4, rest⟩ := h c
  refine ⟨r0.trans ?_, r1.trans ?_, r2.trans ?_, r3.trans ?_, r4.trans ?_, rest⟩
  · rw [Cert.PreFirstReferenceIdeal.Read.val_main_v118_eq]
    change Cert.PreFirstReferenceIdeal.Read.val_main_v118 (F := Ideal) (m' (c.tc.loc Cert.PreFirstReferenceIdeal.main_arg0)) (m' (c.tc.loc Cert.PreFirstReferenceIdeal.main_arg1)) (m' (c.tc.loc Cert.PreFirstReferenceIdeal.main_arg2)) (m' (c.tc.loc Cert.PreFirstReferenceIdeal.main_arg3)) (m' (c.tc.loc Cert.PreFirstReferenceIdeal.main_arg4)) (m' (c.tc.loc Cert.PreFirstReferenceIdeal.main_arg5)) (m' (c.tc.loc Cert.PreFirstReferenceIdeal.main_arg6)) = _
    rw [a0, a1, a2, a3, a4, a5, a6]
    exact (Cert.PreFirstProof.final m c (Cert.PreFirstProof.finite_of _ _ _ _ _ _ _ _ _ _ _ (hpre c))).symm
  · rw [Cert.PreFirstReferenceIdeal.Read.val_main_v121_eq]
    change Cert.PreFirstReferenceIdeal.Read.val_main_v121 (F := Ideal) (m' (c.tc.loc Cert.PreFirstReferenceIdeal.main_arg7)) = _
    rw [a7]
    exact (Cert.PreFirstProof.wide_final m c).symm
  · rw [Cert.PreFirstReferenceIdeal.Read.val_main_v124_eq]
    change Cert.PreFirstReferenceIdeal.Read.val_main_v124 (F := Ideal) (m' (c.tc.loc Cert.PreFirstReferenceIdeal.main_arg8)) = _
    rw [a8]
    exact (Cert.PreFirstProof.back_final m c).symm
  · rw [Cert.PreFirstReferenceIdeal.Read.val_main_v126_eq]
    change Cert.PreFirstReferenceIdeal.Read.val_main_v126 (F := Ideal) (m' (c.tc.loc Cert.PreFirstReferenceIdeal.main_arg9)) = _
    rw [a9]
    exact (Cert.PreFirstProof.mixerIn_final m c).symm
  · rw [Cert.PreFirstReferenceIdeal.Read.val_main_v128_eq]
    change Cert.PreFirstReferenceIdeal.Read.val_main_v128 (F := Ideal) (m' (c.tc.loc Cert.PreFirstReferenceIdeal.main_arg10)) = _
    rw [a10]
    exact (Cert.PreFirstProof.mixerOut_final m c).symm

/-- The sixth reference ends with its arguments unchanged and no semaphore counted up. -/
theorem qkv_na_reference_frame : Cert.quiescent_QkvNaReferenceIdeal (hQkvNaReferenceIdeal := Cert.QkvNaReferenceIdeal.Gen.facts) := fun m ρ _ =>
  (θ_run (Cert.QkvNaReferenceIdeal.defs (F := Ideal)) _ _).mono (fun r h => ⟨fun c => (h c).2.2.2, sem_eq_zero_of_no_sems (by decide) r.2⟩)
    (Cert.QkvNaReferenceIdeal.Value.run (F := Ideal) m ρ)

/-- The arrays `qkv_na_0` leaves and the reference's are one. -/
theorem qkv_na_algebraic : Cert.algebraic_QkvNaKernelIdeal_QkvNaReferenceIdeal (hQkvNaKernelIdeal := Cert.QkvNaKernelIdeal.Gen.facts)
    (hQkvNaReferenceIdeal := Cert.QkvNaReferenceIdeal.Gen.facts) := by
  intro m ρ m' ρ' _ hag
  refine ⟨fun c => (Cert.QkvNaKernelIdeal.Gen.dats m 0 c).arrAt 3 Cert.QkvNaKernelIdeal.cfg0.N, fun c => (Cert.QkvNaKernelIdeal.Gen.dats m 0 c).arrAt 4 Cert.QkvNaKernelIdeal.cfg0.N,
    fun c => (Cert.QkvNaKernelIdeal.Gen.dats m 0 c).arrAt 5 Cert.QkvNaKernelIdeal.cfg0.N, Cert.QkvNaKernelIdeal.Value.run_blocks m ρ, ?_⟩
  refine (θ_run (Cert.QkvNaReferenceIdeal.defs (F := Ideal)) _ _).mono (fun r h c => ?_) (Cert.QkvNaReferenceIdeal.Value.run (F := Ideal) m' ρ')
  obtain ⟨a0, a1, a2⟩ := hag c
  obtain ⟨r0, r1, r2, rest⟩ := h c
  refine ⟨r0.trans ?_, r1.trans ?_, r2.trans ?_, rest⟩
  · rw [Cert.QkvNaReferenceIdeal.Read.val_main_v41_eq, a0, a1, a2]
    exact (Cert.QkvNaProof.queries_final m c).symm
  · rw [Cert.QkvNaReferenceIdeal.Read.val_main_v44_eq, a0, a1, a2]
    exact (Cert.QkvNaProof.keys_final m c).symm
  · rw [Cert.QkvNaReferenceIdeal.Read.val_main_v47_eq, a0, a1, a2]
    exact (Cert.QkvNaProof.values_final m c).symm

/-- The seventh reference ends with its arguments unchanged and no semaphore counted up. -/
theorem qkv_wa_reference_frame : Cert.quiescent_QkvWaReferenceIdeal (hQkvWaReferenceIdeal := Cert.QkvWaReferenceIdeal.Gen.facts) := fun m ρ _ =>
  (θ_run (Cert.QkvWaReferenceIdeal.defs (F := Ideal)) _ _).mono (fun r h => ⟨fun c => (h c).2.2.2, sem_eq_zero_of_no_sems (by decide) r.2⟩)
    (Cert.QkvWaReferenceIdeal.Value.run (F := Ideal) m ρ)

/-- The arrays `qkv_wa_1` leaves and the reference's are one. -/
theorem qkv_wa_algebraic : Cert.algebraic_QkvWaKernelIdeal_QkvWaReferenceIdeal (hQkvWaKernelIdeal := Cert.QkvWaKernelIdeal.Gen.facts)
    (hQkvWaReferenceIdeal := Cert.QkvWaReferenceIdeal.Gen.facts) := by
  intro m ρ m' ρ' _ hag
  refine ⟨fun c => (Cert.QkvWaKernelIdeal.Gen.dats m 0 c).arrAt 5 Cert.QkvWaKernelIdeal.cfg0.N, fun c => (Cert.QkvWaKernelIdeal.Gen.dats m 0 c).arrAt 6 Cert.QkvWaKernelIdeal.cfg0.N,
    fun c => (Cert.QkvWaKernelIdeal.Gen.dats m 0 c).arrAt 7 Cert.QkvWaKernelIdeal.cfg0.N, Cert.QkvWaKernelIdeal.Value.run_blocks m ρ, ?_⟩
  refine (θ_run (Cert.QkvWaReferenceIdeal.defs (F := Ideal)) _ _).mono (fun r h c => ?_) (Cert.QkvWaReferenceIdeal.Value.run (F := Ideal) m' ρ')
  obtain ⟨a0, a1, a2⟩ := hag c
  obtain ⟨r0, r1, r2, rest⟩ := h c
  refine ⟨r0.trans ?_, r1.trans ?_, r2.trans ?_, rest⟩
  · rw [Cert.QkvWaReferenceIdeal.Read.val_main_v115_eq, a0, a1, a2]
    exact (Cert.QkvWaProof.queries_final m c).symm
  · rw [Cert.QkvWaReferenceIdeal.Read.val_main_v111_eq, a0, a1, a2]
    exact (Cert.QkvWaProof.keys_final m c).symm
  · rw [Cert.QkvWaReferenceIdeal.Read.val_main_v114_eq, a0, a1, a2]
    exact (Cert.QkvWaProof.values_final m c).symm

/-- All the claims. -/
theorem claim : Cert.Claim := ⟨Cert.WaKernel.Gen.facts, Cert.WaKernelIdeal.Gen.facts, Cert.WaReferenceIdeal.Gen.facts,
  Cert.PostKernel.Gen.facts, Cert.PostKernelIdeal.Gen.facts, Cert.PostReferenceIdeal.Gen.facts,
  Cert.PreKernel.Gen.facts, Cert.PreKernelIdeal.Gen.facts, Cert.PreReferenceIdeal.Gen.facts,
  Cert.PostFirstKernel.Gen.facts, Cert.PostFirstKernelIdeal.Gen.facts, Cert.PostFirstReferenceIdeal.Gen.facts,
  Cert.PreFirstKernel.Gen.facts, Cert.PreFirstKernelIdeal.Gen.facts, Cert.PreFirstReferenceIdeal.Gen.facts,
  Cert.QkvNaKernel.Gen.facts, Cert.QkvNaKernelIdeal.Gen.facts, Cert.QkvNaReferenceIdeal.Gen.facts,
  Cert.QkvWaKernel.Gen.facts, Cert.QkvWaKernelIdeal.Gen.facts, Cert.QkvWaReferenceIdeal.Gen.facts,
  Cert.Pre_wa_finite.Gen.facts, Cert.Pre_post_finite.Gen.facts, Cert.Pre_pre_finite.Gen.facts, Cert.Pre_post_first_finite.Gen.facts, Cert.Pre_pre_first_finite.Gen.facts,
  fun m ρ _ => Cert.WaKernel.Gen.frame m ρ,
  fun m ρ _ => Cert.WaKernelIdeal.Gen.frame m ρ,
  fun m ρ _ => Cert.WaKernelIdeal.Gen.frame m ρ,
  fun m ρ _ => reference_frame m ρ trivial,
  fun m ρ _ => reference_frame m ρ trivial,
  fun m ρ _ => Cert.PostKernel.Gen.frame m ρ,
  fun m ρ _ => Cert.PostKernelIdeal.Gen.frame m ρ,
  fun m ρ _ => Cert.PostKernelIdeal.Gen.frame m ρ,
  fun m ρ _ => post_reference_frame m ρ trivial,
  fun m ρ _ => post_reference_frame m ρ trivial,
  fun m ρ _ => Cert.PreKernel.Gen.frame m ρ,
  fun m ρ _ => Cert.PreKernelIdeal.Gen.frame m ρ,
  fun m ρ _ => Cert.PreKernelIdeal.Gen.frame m ρ,
  fun m ρ _ => pre_reference_frame m ρ trivial,
  fun m ρ _ => pre_reference_frame m ρ trivial,
  fun m ρ _ => Cert.PostFirstKernel.Gen.frame m ρ,
  fun m ρ _ => Cert.PostFirstKernelIdeal.Gen.frame m ρ,
  fun m ρ _ => Cert.PostFirstKernelIdeal.Gen.frame m ρ,
  fun m ρ _ => post_first_reference_frame m ρ trivial,
  fun m ρ _ => post_first_reference_frame m ρ trivial,
  fun m ρ _ => Cert.PreFirstKernel.Gen.frame m ρ,
  fun m ρ _ => Cert.PreFirstKernelIdeal.Gen.frame m ρ,
  fun m ρ _ => Cert.PreFirstKernelIdeal.Gen.frame m ρ,
  fun m ρ _ => pre_first_reference_frame m ρ trivial,
  fun m ρ _ => pre_first_reference_frame m ρ trivial,
  fun m ρ _ => Cert.QkvNaKernel.Gen.frame m ρ,
  fun m ρ _ => Cert.QkvNaKernelIdeal.Gen.frame m ρ,
  fun m ρ _ => qkv_na_reference_frame m ρ trivial,
  fun m ρ _ => Cert.QkvWaKernel.Gen.frame m ρ,
  fun m ρ _ => Cert.QkvWaKernelIdeal.Gen.frame m ρ,
  fun m ρ _ => qkv_wa_reference_frame m ρ trivial,
  ⟨IdealRules.named_const.statement Cert.WaKernelIdeal.κ "mask" .f32 0xF149F2CA#32 ⊥ rfl,
    IdealRules.named_const.statement Cert.WaKernelIdeal.κ "log2e" .f32 0x3FB8AA3B#32 (((Real.log 2)⁻¹ : ℝ) : EReal) rfl⟩,
  algebraic, trivial, post_algebraic, trivial, pre_algebraic, trivial, post_first_algebraic, trivial, pre_first_algebraic,
  IdealRules.named_const.statement Cert.QkvNaKernelIdeal.κ "qscale" .f32 0x3E38AA3B#32 (((8 * (Real.log 2))⁻¹ : ℝ) : EReal) rfl, qkv_na_algebraic,
  IdealRules.named_const.statement Cert.QkvWaKernelIdeal.κ "qscale" .f32 0x3E38AA3B#32 (((8 * (Real.log 2))⁻¹ : ℝ) : EReal) rfl, qkv_wa_algebraic⟩

end Cert.Proof

end
